-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Wff (m : (ℓ : Loc Cert.Wff.nD Cert.Wff.τ Cert.Wff.sig) → Buf (Elt Bits) ℓ) : Prop :=
  True

def Pre_WffIdeal (m : (ℓ : Loc Cert.WffIdeal.nD Cert.WffIdeal.τ Cert.WffIdeal.sig) → Buf (Elt Ideal) ℓ) : Prop :=
  True

def Pre_WffRefIdeal (m : (ℓ : Loc Cert.WffRefIdeal.nD Cert.WffRefIdeal.τ Cert.WffRefIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_Wmix (m : (ℓ : Loc Cert.Wmix.nD Cert.Wmix.τ Cert.Wmix.sig) → Buf (Elt Bits) ℓ) : Prop :=
  True

def Pre_WmixIdeal (m : (ℓ : Loc Cert.WmixIdeal.nD Cert.WmixIdeal.τ Cert.WmixIdeal.sig) → Buf (Elt Ideal) ℓ) : Prop :=
  True

def Pre_WmixRefIdeal (m : (ℓ : Loc Cert.WmixRefIdeal.nD Cert.WmixRefIdeal.τ Cert.WmixRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Ffn [hPre_finite_ffn : Cert.Pre_finite_ffn.Facts] (m : (ℓ : Loc Cert.Ffn.nD Cert.Ffn.τ Cert.Ffn.sig) → Buf (Elt Bits) ℓ) : Prop :=
  ∀ c : Dev Cert.Ffn.nD,
    (Cert.Pre_finite_ffn.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6))) = (fun _ => 1#1)

def Pre_FfnIdeal [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Wpool (m : (ℓ : Loc Cert.Wpool.nD Cert.Wpool.τ Cert.Wpool.sig) → Buf (Elt Bits) ℓ) : Prop :=
  True

def Pre_WpoolIdeal (m : (ℓ : Loc Cert.WpoolIdeal.nD Cert.WpoolIdeal.τ Cert.WpoolIdeal.sig) → Buf (Elt Ideal) ℓ) : Prop :=
  True

def Pre_WpoolRefIdeal (m : (ℓ : Loc Cert.WpoolRefIdeal.nD Cert.WpoolRefIdeal.τ Cert.WpoolRefIdeal.sig) → Buf (Elt Ideal) ℓ) : Prop :=
  True

def Pre_InProj [hPre_slots : Cert.Pre_slots.Facts] (m : (ℓ : Loc Cert.InProj.nD Cert.InProj.τ Cert.InProj.sig) → Buf (Elt Bits) ℓ) : Prop :=
  ∀ c : Dev Cert.InProj.nD,
    (Cert.Pre_slots.fn (F := Bits) (m ((c.tc : Thread Cert.InProj.nD Cert.InProj.τ).loc Cert.InProj.main_arg0)) (m ((c.tc : Thread Cert.InProj.nD Cert.InProj.τ).loc Cert.InProj.main_arg1)) (m ((c.tc : Thread Cert.InProj.nD Cert.InProj.τ).loc Cert.InProj.main_arg2)) (m ((c.tc : Thread Cert.InProj.nD Cert.InProj.τ).loc Cert.InProj.main_arg3)) (m ((c.tc : Thread Cert.InProj.nD Cert.InProj.τ).loc Cert.InProj.main_arg4))) = (fun _ => 1#1)

def Pre_InProjIdeal [hPre_slots : Cert.Pre_slots.Facts] (m : (ℓ : Loc Cert.InProjIdeal.nD Cert.InProjIdeal.τ Cert.InProjIdeal.sig) → Buf (Elt Ideal) ℓ) : Prop :=
  ∀ c : Dev Cert.InProjIdeal.nD,
    (Cert.Pre_slots.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjRefIdeal [hPre_slots : Cert.Pre_slots.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_slots.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))) = (fun _ => 1#1)

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Wff [hWff : Cert.Wff.Facts] : Prop :=
  ∀ (m : (ℓ : Loc Cert.Wff.nD Cert.Wff.τ Cert.Wff.sig) → Buf (Elt Bits) ℓ) (g : Dev Cert.Wff.nD → PrngReg), Pre_Wff m →
    θ_run (Cert.Wff.defs (F := Bits)) (onTc (τ := Cert.Wff.τ) (Cert.Wff.main (F := Bits))) ⟨m, fun _ => 0, g⟩ (fun r => (∀ c : Dev Cert.Wff.nD,
      r.2.mem ((c.tc : Thread Cert.Wff.nD Cert.Wff.τ).loc Cert.Wff.main_arg0) = m ((c.tc : Thread Cert.Wff.nD Cert.Wff.τ).loc Cert.Wff.main_arg0)
      ∧ r.2.mem ((c.tc : Thread Cert.Wff.nD Cert.Wff.τ).loc Cert.Wff.main_arg1) = m ((c.tc : Thread Cert.Wff.nD Cert.Wff.τ).loc Cert.Wff.main_arg1))
      ∧ r.2.sem = fun _ => 0)

def quiescent_WffIdeal [hWffIdeal : Cert.WffIdeal.Facts] : Prop :=
  ∀ (m : (ℓ : Loc Cert.WffIdeal.nD Cert.WffIdeal.τ Cert.WffIdeal.sig) → Buf (Elt Ideal) ℓ) (g : Dev Cert.WffIdeal.nD → PrngReg), Pre_WffIdeal m →
    θ_run (Cert.WffIdeal.defs (F := Ideal)) (onTc (τ := Cert.WffIdeal.τ) (Cert.WffIdeal.main (F := Ideal))) ⟨m, fun _ => 0, g⟩ (fun r => (∀ c : Dev Cert.WffIdeal.nD,
      r.2.mem ((c.tc : Thread Cert.WffIdeal.nD Cert.WffIdeal.τ).loc Cert.WffIdeal.main_arg0) = m ((c.tc : Thread Cert.WffIdeal.nD Cert.WffIdeal.τ).loc Cert.WffIdeal.main_arg0)
      ∧ r.2.mem ((c.tc : Thread Cert.WffIdeal.nD Cert.WffIdeal.τ).loc Cert.WffIdeal.main_arg1) = m ((c.tc : Thread Cert.WffIdeal.nD Cert.WffIdeal.τ).loc Cert.WffIdeal.main_arg1))
      ∧ r.2.sem = fun _ => 0)

def quiescent_WffRefIdeal [hWffRefIdeal : Cert.WffRefIdeal.Facts] : Prop :=
  ∀ (m : (ℓ : Loc Cert.WffRefIdeal.nD Cert.WffRefIdeal.τ Cert.WffRefIdeal.sig) → Buf (Elt Ideal) ℓ) (g : Dev Cert.WffRefIdeal.nD → PrngReg), Pre_WffRefIdeal m →
    θ_run (Cert.WffRefIdeal.defs (F := Ideal)) (onTc (τ := Cert.WffRefIdeal.τ) (Cert.WffRefIdeal.main (F := Ideal))) ⟨m, fun _ => 0, g⟩ (fun r => (∀ c : Dev Cert.WffRefIdeal.nD,
      r.2.mem ((c.tc : Thread Cert.WffRefIdeal.nD Cert.WffRefIdeal.τ).loc Cert.WffRefIdeal.main_arg0) = m ((c.tc : Thread Cert.WffRefIdeal.nD Cert.WffRefIdeal.τ).loc Cert.WffRefIdeal.main_arg0)
      ∧ r.2.mem ((c.tc : Thread Cert.WffRefIdeal.nD Cert.WffRefIdeal.τ).loc Cert.WffRefIdeal.main_arg1) = m ((c.tc : Thread Cert.WffRefIdeal.nD Cert.WffRefIdeal.τ).loc Cert.WffRefIdeal.main_arg1))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1))
      ∧ r.2.sem = fun _ => 0)

def quiescent_Wmix [hWmix : Cert.Wmix.Facts] : Prop :=
  ∀ (m : (ℓ : Loc Cert.Wmix.nD Cert.Wmix.τ Cert.Wmix.sig) → Buf (Elt Bits) ℓ) (g : Dev Cert.Wmix.nD → PrngReg), Pre_Wmix m →
    θ_run (Cert.Wmix.defs (F := Bits)) (onTc (τ := Cert.Wmix.τ) (Cert.Wmix.main (F := Bits))) ⟨m, fun _ => 0, g⟩ (fun r => (∀ c : Dev Cert.Wmix.nD,
      r.2.mem ((c.tc : Thread Cert.Wmix.nD Cert.Wmix.τ).loc Cert.Wmix.main_arg0) = m ((c.tc : Thread Cert.Wmix.nD Cert.Wmix.τ).loc Cert.Wmix.main_arg0)
      ∧ r.2.mem ((c.tc : Thread Cert.Wmix.nD Cert.Wmix.τ).loc Cert.Wmix.main_arg1) = m ((c.tc : Thread Cert.Wmix.nD Cert.Wmix.τ).loc Cert.Wmix.main_arg1))
      ∧ r.2.sem = fun _ => 0)

def quiescent_WmixIdeal [hWmixIdeal : Cert.WmixIdeal.Facts] : Prop :=
  ∀ (m : (ℓ : Loc Cert.WmixIdeal.nD Cert.WmixIdeal.τ Cert.WmixIdeal.sig) → Buf (Elt Ideal) ℓ) (g : Dev Cert.WmixIdeal.nD → PrngReg), Pre_WmixIdeal m →
    θ_run (Cert.WmixIdeal.defs (F := Ideal)) (onTc (τ := Cert.WmixIdeal.τ) (Cert.WmixIdeal.main (F := Ideal))) ⟨m, fun _ => 0, g⟩ (fun r => (∀ c : Dev Cert.WmixIdeal.nD,
      r.2.mem ((c.tc : Thread Cert.WmixIdeal.nD Cert.WmixIdeal.τ).loc Cert.WmixIdeal.main_arg0) = m ((c.tc : Thread Cert.WmixIdeal.nD Cert.WmixIdeal.τ).loc Cert.WmixIdeal.main_arg0)
      ∧ r.2.mem ((c.tc : Thread Cert.WmixIdeal.nD Cert.WmixIdeal.τ).loc Cert.WmixIdeal.main_arg1) = m ((c.tc : Thread Cert.WmixIdeal.nD Cert.WmixIdeal.τ).loc Cert.WmixIdeal.main_arg1))
      ∧ r.2.sem = fun _ => 0)

def quiescent_WmixRefIdeal [hWmixRefIdeal : Cert.WmixRefIdeal.Facts] : Prop :=
  ∀ (m : (ℓ : Loc Cert.WmixRefIdeal.nD Cert.WmixRefIdeal.τ Cert.WmixRefIdeal.sig) → Buf (Elt Ideal) ℓ) (g : Dev Cert.WmixRefIdeal.nD → PrngReg), Pre_WmixRefIdeal m →
    θ_run (Cert.WmixRefIdeal.defs (F := Ideal)) (onTc (τ := Cert.WmixRefIdeal.τ) (Cert.WmixRefIdeal.main (F := Ideal))) ⟨m, fun _ => 0, g⟩ (fun r => (∀ c : Dev Cert.WmixRefIdeal.nD,
      r.2.mem ((c.tc : Thread Cert.WmixRefIdeal.nD Cert.WmixRefIdeal.τ).loc Cert.WmixRefIdeal.main_arg0) = m ((c.tc : Thread Cert.WmixRefIdeal.nD Cert.WmixRefIdeal.τ).loc Cert.WmixRefIdeal.main_arg0)
      ∧ r.2.mem ((c.tc : Thread Cert.WmixRefIdeal.nD Cert.WmixRefIdeal.τ).loc Cert.WmixRefIdeal.main_arg1) = m ((c.tc : Thread Cert.WmixRefIdeal.nD Cert.WmixRefIdeal.τ).loc Cert.WmixRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_Ffn [hFfn : Cert.Ffn.Facts] [hPre_finite_ffn : Cert.Pre_finite_ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Wpool [hWpool : Cert.Wpool.Facts] : Prop :=
  ∀ (m : (ℓ : Loc Cert.Wpool.nD Cert.Wpool.τ Cert.Wpool.sig) → Buf (Elt Bits) ℓ) (g : Dev Cert.Wpool.nD → PrngReg), Pre_Wpool m →
    θ_run (Cert.Wpool.defs (F := Bits)) (onTc (τ := Cert.Wpool.τ) (Cert.Wpool.main (F := Bits))) ⟨m, fun _ => 0, g⟩ (fun r => (∀ c : Dev Cert.Wpool.nD,
      r.2.mem ((c.tc : Thread Cert.Wpool.nD Cert.Wpool.τ).loc Cert.Wpool.main_arg0) = m ((c.tc : Thread Cert.Wpool.nD Cert.Wpool.τ).loc Cert.Wpool.main_arg0)
      ∧ r.2.mem ((c.tc : Thread Cert.Wpool.nD Cert.Wpool.τ).loc Cert.Wpool.main_arg1) = m ((c.tc : Thread Cert.Wpool.nD Cert.Wpool.τ).loc Cert.Wpool.main_arg1))
      ∧ r.2.sem = fun _ => 0)

def quiescent_WpoolIdeal [hWpoolIdeal : Cert.WpoolIdeal.Facts] : Prop :=
  ∀ (m : (ℓ : Loc Cert.WpoolIdeal.nD Cert.WpoolIdeal.τ Cert.WpoolIdeal.sig) → Buf (Elt Ideal) ℓ) (g : Dev Cert.WpoolIdeal.nD → PrngReg), Pre_WpoolIdeal m →
    θ_run (Cert.WpoolIdeal.defs (F := Ideal)) (onTc (τ := Cert.WpoolIdeal.τ) (Cert.WpoolIdeal.main (F := Ideal))) ⟨m, fun _ => 0, g⟩ (fun r => (∀ c : Dev Cert.WpoolIdeal.nD,
      r.2.mem ((c.tc : Thread Cert.WpoolIdeal.nD Cert.WpoolIdeal.τ).loc Cert.WpoolIdeal.main_arg0) = m ((c.tc : Thread Cert.WpoolIdeal.nD Cert.WpoolIdeal.τ).loc Cert.WpoolIdeal.main_arg0)
      ∧ r.2.mem ((c.tc : Thread Cert.WpoolIdeal.nD Cert.WpoolIdeal.τ).loc Cert.WpoolIdeal.main_arg1) = m ((c.tc : Thread Cert.WpoolIdeal.nD Cert.WpoolIdeal.τ).loc Cert.WpoolIdeal.main_arg1))
      ∧ r.2.sem = fun _ => 0)

def quiescent_WpoolRefIdeal [hWpoolRefIdeal : Cert.WpoolRefIdeal.Facts] : Prop :=
  ∀ (m : (ℓ : Loc Cert.WpoolRefIdeal.nD Cert.WpoolRefIdeal.τ Cert.WpoolRefIdeal.sig) → Buf (Elt Ideal) ℓ) (g : Dev Cert.WpoolRefIdeal.nD → PrngReg), Pre_WpoolRefIdeal m →
    θ_run (Cert.WpoolRefIdeal.defs (F := Ideal)) (onTc (τ := Cert.WpoolRefIdeal.τ) (Cert.WpoolRefIdeal.main (F := Ideal))) ⟨m, fun _ => 0, g⟩ (fun r => (∀ c : Dev Cert.WpoolRefIdeal.nD,
      r.2.mem ((c.tc : Thread Cert.WpoolRefIdeal.nD Cert.WpoolRefIdeal.τ).loc Cert.WpoolRefIdeal.main_arg0) = m ((c.tc : Thread Cert.WpoolRefIdeal.nD Cert.WpoolRefIdeal.τ).loc Cert.WpoolRefIdeal.main_arg0)
      ∧ r.2.mem ((c.tc : Thread Cert.WpoolRefIdeal.nD Cert.WpoolRefIdeal.τ).loc Cert.WpoolRefIdeal.main_arg1) = m ((c.tc : Thread Cert.WpoolRefIdeal.nD Cert.WpoolRefIdeal.τ).loc Cert.WpoolRefIdeal.main_arg1))
      ∧ r.2.sem = fun _ => 0)

def quiescent_InProj [hInProj : Cert.InProj.Facts] [hPre_slots : Cert.Pre_slots.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] [hPre_slots : Cert.Pre_slots.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] [hPre_slots : Cert.Pre_slots.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)) (v4 : (c : Dev Cert.KernelIdeal.nD) → Buf (Elt Ideal) ((c.tc : Thread Cert.KernelIdeal.nD Cert.KernelIdeal.τ).loc Cert.KernelIdeal.main_v47_4)) (v5 : (c : Dev Cert.KernelIdeal.nD) → Buf (Elt Ideal) ((c.tc : Thread Cert.KernelIdeal.nD Cert.KernelIdeal.τ).loc Cert.KernelIdeal.main_v47_5)) (v6 : (c : Dev Cert.KernelIdeal.nD) → Buf (Elt Ideal) ((c.tc : Thread Cert.KernelIdeal.nD Cert.KernelIdeal.τ).loc Cert.KernelIdeal.main_v47_6)) (v7 : (c : Dev Cert.KernelIdeal.nD) → Buf (Elt Ideal) ((c.tc : Thread Cert.KernelIdeal.nD Cert.KernelIdeal.τ).loc Cert.KernelIdeal.main_v47_7)) (v8 : (c : Dev Cert.KernelIdeal.nD) → Buf (Elt Ideal) ((c.tc : Thread Cert.KernelIdeal.nD Cert.KernelIdeal.τ).loc Cert.KernelIdeal.main_v47_8)) (v9 : (c : Dev Cert.KernelIdeal.nD) → Buf (Elt Ideal) ((c.tc : Thread Cert.KernelIdeal.nD Cert.KernelIdeal.τ).loc Cert.KernelIdeal.main_v47_9)) (v10 : (c : Dev Cert.KernelIdeal.nD) → Buf (Elt Ideal) ((c.tc : Thread Cert.KernelIdeal.nD Cert.KernelIdeal.τ).loc Cert.KernelIdeal.main_v47_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_v47_4) = v4 c
          ∧ r.2.mem ((c.tc : Thread Cert.KernelIdeal.nD Cert.KernelIdeal.τ).loc Cert.KernelIdeal.main_v47_5) = v5 c
          ∧ r.2.mem ((c.tc : Thread Cert.KernelIdeal.nD Cert.KernelIdeal.τ).loc Cert.KernelIdeal.main_v47_6) = v6 c
          ∧ r.2.mem ((c.tc : Thread Cert.KernelIdeal.nD Cert.KernelIdeal.τ).loc Cert.KernelIdeal.main_v47_7) = v7 c
          ∧ r.2.mem ((c.tc : Thread Cert.KernelIdeal.nD Cert.KernelIdeal.τ).loc Cert.KernelIdeal.main_v47_8) = v8 c
          ∧ r.2.mem ((c.tc : Thread Cert.KernelIdeal.nD Cert.KernelIdeal.τ).loc Cert.KernelIdeal.main_v47_9) = v9 c
          ∧ r.2.mem ((c.tc : Thread Cert.KernelIdeal.nD Cert.KernelIdeal.τ).loc Cert.KernelIdeal.main_v47_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v143) = v3 c
          ∧ r.2.mem ((c.tc : Thread Cert.ReferenceIdeal.nD Cert.ReferenceIdeal.τ).loc Cert.ReferenceIdeal.main_v175) = v4 c
          ∧ r.2.mem ((c.tc : Thread Cert.ReferenceIdeal.nD Cert.ReferenceIdeal.τ).loc Cert.ReferenceIdeal.main_v171) = v5 c
          ∧ r.2.mem ((c.tc : Thread Cert.ReferenceIdeal.nD Cert.ReferenceIdeal.τ).loc Cert.ReferenceIdeal.main_v77) = v6 c
          ∧ r.2.mem ((c.tc : Thread Cert.ReferenceIdeal.nD Cert.ReferenceIdeal.τ).loc Cert.ReferenceIdeal.main_v145) = v7 c
          ∧ r.2.mem ((c.tc : Thread Cert.ReferenceIdeal.nD Cert.ReferenceIdeal.τ).loc Cert.ReferenceIdeal.main_v144) = v8 c
          ∧ r.2.mem ((c.tc : Thread Cert.ReferenceIdeal.nD Cert.ReferenceIdeal.τ).loc Cert.ReferenceIdeal.main_v149) = v9 c
          ∧ r.2.mem ((c.tc : Thread Cert.ReferenceIdeal.nD Cert.ReferenceIdeal.τ).loc Cert.ReferenceIdeal.main_v162) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Wff_WffIdeal : Prop :=
  True

def algebraic_WffIdeal_WffRefIdeal [hWffIdeal : Cert.WffIdeal.Facts] [hWffRefIdeal : Cert.WffRefIdeal.Facts] : Prop :=
  ∀ (m : (ℓ : Loc Cert.WffIdeal.nD Cert.WffIdeal.τ Cert.WffIdeal.sig) → Buf (Elt Ideal) ℓ) (g : Dev Cert.WffIdeal.nD → PrngReg)
    (m' : (ℓ : Loc Cert.WffRefIdeal.nD Cert.WffRefIdeal.τ Cert.WffRefIdeal.sig) → Buf (Elt Ideal) ℓ) (g' : Dev Cert.WffRefIdeal.nD → PrngReg), Pre_WffIdeal m →
    (∀ c : Dev Cert.WffIdeal.nD,
      m' ((c.tc : Thread Cert.WffRefIdeal.nD Cert.WffRefIdeal.τ).loc Cert.WffRefIdeal.main_arg0) = m ((c.tc : Thread Cert.WffIdeal.nD Cert.WffIdeal.τ).loc Cert.WffIdeal.main_arg0)
      ∧ m' ((c.tc : Thread Cert.WffRefIdeal.nD Cert.WffRefIdeal.τ).loc Cert.WffRefIdeal.main_arg1) = m ((c.tc : Thread Cert.WffIdeal.nD Cert.WffIdeal.τ).loc Cert.WffIdeal.main_arg1)) →
    ∃ (v0 : (c : Dev Cert.WffIdeal.nD) → Buf (Elt Ideal) ((c.tc : Thread Cert.WffIdeal.nD Cert.WffIdeal.τ).loc Cert.WffIdeal.main_v0_0)) (v1 : (c : Dev Cert.WffIdeal.nD) → Buf (Elt Ideal) ((c.tc : Thread Cert.WffIdeal.nD Cert.WffIdeal.τ).loc Cert.WffIdeal.main_v0_1)),
      θ_run (Cert.WffIdeal.defs (F := Ideal)) (onTc (τ := Cert.WffIdeal.τ) (Cert.WffIdeal.main (F := Ideal))) ⟨m, fun _ => 0, g⟩ (fun r => ∀ c : Dev Cert.WffIdeal.nD,
          r.2.mem ((c.tc : Thread Cert.WffIdeal.nD Cert.WffIdeal.τ).loc Cert.WffIdeal.main_v0_0) = v0 c
          ∧ r.2.mem ((c.tc : Thread Cert.WffIdeal.nD Cert.WffIdeal.τ).loc Cert.WffIdeal.main_v0_1) = v1 c
          ∧ r.2.mem ((c.tc : Thread Cert.WffIdeal.nD Cert.WffIdeal.τ).loc Cert.WffIdeal.main_arg0) = m ((c.tc : Thread Cert.WffIdeal.nD Cert.WffIdeal.τ).loc Cert.WffIdeal.main_arg0)
          ∧ r.2.mem ((c.tc : Thread Cert.WffIdeal.nD Cert.WffIdeal.τ).loc Cert.WffIdeal.main_arg1) = m ((c.tc : Thread Cert.WffIdeal.nD Cert.WffIdeal.τ).loc Cert.WffIdeal.main_arg1))
      ∧ θ_run (Cert.WffRefIdeal.defs (F := Ideal)) (onTc (τ := Cert.WffRefIdeal.τ) (Cert.WffRefIdeal.main (F := Ideal))) ⟨m', fun _ => 0, g'⟩ (fun r => ∀ c : Dev Cert.WffRefIdeal.nD,
          r.2.mem ((c.tc : Thread Cert.WffRefIdeal.nD Cert.WffRefIdeal.τ).loc Cert.WffRefIdeal.main_v7) = v0 c
          ∧ r.2.mem ((c.tc : Thread Cert.WffRefIdeal.nD Cert.WffRefIdeal.τ).loc Cert.WffRefIdeal.main_v8) = v1 c
          ∧ r.2.mem ((c.tc : Thread Cert.WffRefIdeal.nD Cert.WffRefIdeal.τ).loc Cert.WffRefIdeal.main_arg0) = m' ((c.tc : Thread Cert.WffRefIdeal.nD Cert.WffRefIdeal.τ).loc Cert.WffRefIdeal.main_arg0)
          ∧ r.2.mem ((c.tc : Thread Cert.WffRefIdeal.nD Cert.WffRefIdeal.τ).loc Cert.WffRefIdeal.main_arg1) = m' ((c.tc : Thread Cert.WffRefIdeal.nD Cert.WffRefIdeal.τ).loc Cert.WffRefIdeal.main_arg1))

def algebraic_WffIdeal_WdownRefIdeal [hWffIdeal : Cert.WffIdeal.Facts] [hWdownRefIdeal : Cert.WdownRefIdeal.Facts] : Prop :=
  ∀ (m : (ℓ : Loc Cert.WffIdeal.nD Cert.WffIdeal.τ Cert.WffIdeal.sig) → Buf (Elt Ideal) ℓ) (g : Dev Cert.WffIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WffIdeal m →
    (∀ c : Dev Cert.WffIdeal.nD,
      m' ((c.tc : Thread Cert.WdownRefIdeal.nD Cert.WdownRefIdeal.τ).loc Cert.WdownRefIdeal.main_arg0) = m ((c.tc : Thread Cert.WffIdeal.nD Cert.WffIdeal.τ).loc Cert.WffIdeal.main_arg0)
      ∧ m' ((c.tc : Thread Cert.WdownRefIdeal.nD Cert.WdownRefIdeal.τ).loc Cert.WdownRefIdeal.main_arg1) = m ((c.tc : Thread Cert.WffIdeal.nD Cert.WffIdeal.τ).loc Cert.WffIdeal.main_arg1)) →
    ∃ (v0 : (c : Dev Cert.WffIdeal.nD) → Buf (Elt Ideal) ((c.tc : Thread Cert.WffIdeal.nD Cert.WffIdeal.τ).loc Cert.WffIdeal.main_v0_0)) (v1 : (c : Dev Cert.WffIdeal.nD) → Buf (Elt Ideal) ((c.tc : Thread Cert.WffIdeal.nD Cert.WffIdeal.τ).loc Cert.WffIdeal.main_v0_1)),
      θ_run (Cert.WffIdeal.defs (F := Ideal)) (onTc (τ := Cert.WffIdeal.τ) (Cert.WffIdeal.main (F := Ideal))) ⟨m, fun _ => 0, g⟩ (fun r => ∀ c : Dev Cert.WffIdeal.nD,
          r.2.mem ((c.tc : Thread Cert.WffIdeal.nD Cert.WffIdeal.τ).loc Cert.WffIdeal.main_v0_0) = v0 c
          ∧ r.2.mem ((c.tc : Thread Cert.WffIdeal.nD Cert.WffIdeal.τ).loc Cert.WffIdeal.main_v0_1) = v1 c
          ∧ r.2.mem ((c.tc : Thread Cert.WffIdeal.nD Cert.WffIdeal.τ).loc Cert.WffIdeal.main_arg0) = m ((c.tc : Thread Cert.WffIdeal.nD Cert.WffIdeal.τ).loc Cert.WffIdeal.main_arg0)
          ∧ r.2.mem ((c.tc : Thread Cert.WffIdeal.nD Cert.WffIdeal.τ).loc Cert.WffIdeal.main_arg1) = m ((c.tc : Thread Cert.WffIdeal.nD Cert.WffIdeal.τ).loc Cert.WffIdeal.main_arg1))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v5) = v0 c
          ∧ r.2.mem ((c.tc : Thread Cert.WdownRefIdeal.nD Cert.WdownRefIdeal.τ).loc Cert.WdownRefIdeal.main_v6) = v1 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1))

def preserves_Wmix_WmixIdeal : Prop :=
  True

def algebraic_WmixIdeal_WmixRefIdeal [hWmixIdeal : Cert.WmixIdeal.Facts] [hWmixRefIdeal : Cert.WmixRefIdeal.Facts] : Prop :=
  ∀ (m : (ℓ : Loc Cert.WmixIdeal.nD Cert.WmixIdeal.τ Cert.WmixIdeal.sig) → Buf (Elt Ideal) ℓ) (g : Dev Cert.WmixIdeal.nD → PrngReg)
    (m' : (ℓ : Loc Cert.WmixRefIdeal.nD Cert.WmixRefIdeal.τ Cert.WmixRefIdeal.sig) → Buf (Elt Ideal) ℓ) (g' : Dev Cert.WmixRefIdeal.nD → PrngReg), Pre_WmixIdeal m →
    (∀ c : Dev Cert.WmixIdeal.nD,
      m' ((c.tc : Thread Cert.WmixRefIdeal.nD Cert.WmixRefIdeal.τ).loc Cert.WmixRefIdeal.main_arg0) = m ((c.tc : Thread Cert.WmixIdeal.nD Cert.WmixIdeal.τ).loc Cert.WmixIdeal.main_arg0)
      ∧ m' ((c.tc : Thread Cert.WmixRefIdeal.nD Cert.WmixRefIdeal.τ).loc Cert.WmixRefIdeal.main_arg1) = m ((c.tc : Thread Cert.WmixIdeal.nD Cert.WmixIdeal.τ).loc Cert.WmixIdeal.main_arg1)) →
    ∃ (v0 : (c : Dev Cert.WmixIdeal.nD) → Buf (Elt Ideal) ((c.tc : Thread Cert.WmixIdeal.nD Cert.WmixIdeal.τ).loc Cert.WmixIdeal.main_v0_0)) (v1 : (c : Dev Cert.WmixIdeal.nD) → Buf (Elt Ideal) ((c.tc : Thread Cert.WmixIdeal.nD Cert.WmixIdeal.τ).loc Cert.WmixIdeal.main_v0_1)),
      θ_run (Cert.WmixIdeal.defs (F := Ideal)) (onTc (τ := Cert.WmixIdeal.τ) (Cert.WmixIdeal.main (F := Ideal))) ⟨m, fun _ => 0, g⟩ (fun r => ∀ c : Dev Cert.WmixIdeal.nD,
          r.2.mem ((c.tc : Thread Cert.WmixIdeal.nD Cert.WmixIdeal.τ).loc Cert.WmixIdeal.main_v0_0) = v0 c
          ∧ r.2.mem ((c.tc : Thread Cert.WmixIdeal.nD Cert.WmixIdeal.τ).loc Cert.WmixIdeal.main_v0_1) = v1 c
          ∧ r.2.mem ((c.tc : Thread Cert.WmixIdeal.nD Cert.WmixIdeal.τ).loc Cert.WmixIdeal.main_arg0) = m ((c.tc : Thread Cert.WmixIdeal.nD Cert.WmixIdeal.τ).loc Cert.WmixIdeal.main_arg0)
          ∧ r.2.mem ((c.tc : Thread Cert.WmixIdeal.nD Cert.WmixIdeal.τ).loc Cert.WmixIdeal.main_arg1) = m ((c.tc : Thread Cert.WmixIdeal.nD Cert.WmixIdeal.τ).loc Cert.WmixIdeal.main_arg1))
      ∧ θ_run (Cert.WmixRefIdeal.defs (F := Ideal)) (onTc (τ := Cert.WmixRefIdeal.τ) (Cert.WmixRefIdeal.main (F := Ideal))) ⟨m', fun _ => 0, g'⟩ (fun r => ∀ c : Dev Cert.WmixRefIdeal.nD,
          r.2.mem ((c.tc : Thread Cert.WmixRefIdeal.nD Cert.WmixRefIdeal.τ).loc Cert.WmixRefIdeal.main_v5) = v0 c
          ∧ r.2.mem ((c.tc : Thread Cert.WmixRefIdeal.nD Cert.WmixRefIdeal.τ).loc Cert.WmixRefIdeal.main_v6) = v1 c
          ∧ r.2.mem ((c.tc : Thread Cert.WmixRefIdeal.nD Cert.WmixRefIdeal.τ).loc Cert.WmixRefIdeal.main_arg0) = m' ((c.tc : Thread Cert.WmixRefIdeal.nD Cert.WmixRefIdeal.τ).loc Cert.WmixRefIdeal.main_arg0)
          ∧ r.2.mem ((c.tc : Thread Cert.WmixRefIdeal.nD Cert.WmixRefIdeal.τ).loc Cert.WmixRefIdeal.main_arg1) = m' ((c.tc : Thread Cert.WmixRefIdeal.nD Cert.WmixRefIdeal.τ).loc Cert.WmixRefIdeal.main_arg1))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v0_0)) (v1 : (c : Dev Cert.WinIdeal.nD) → Buf (Elt Ideal) ((c.tc : Thread Cert.WinIdeal.nD Cert.WinIdeal.τ).loc Cert.WinIdeal.main_v0_1)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0_0) = v0 c
          ∧ r.2.mem ((c.tc : Thread Cert.WinIdeal.nD Cert.WinIdeal.τ).loc Cert.WinIdeal.main_v0_1) = v1 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v9) = v0 c
          ∧ r.2.mem ((c.tc : Thread Cert.WinRefIdeal.nD Cert.WinRefIdeal.τ).loc Cert.WinRefIdeal.main_v10) = v1 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_Ffn_FfnIdeal : Prop :=
  True

def algebraic_FfnIdeal_FfnRefIdeal [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)) (v4 : (c : Dev Cert.FfnIdeal.nD) → Buf (Elt Ideal) ((c.tc : Thread Cert.FfnIdeal.nD Cert.FfnIdeal.τ).loc Cert.FfnIdeal.main_v0_4)) (v5 : (c : Dev Cert.FfnIdeal.nD) → Buf (Elt Ideal) ((c.tc : Thread Cert.FfnIdeal.nD Cert.FfnIdeal.τ).loc Cert.FfnIdeal.main_v0_5)) (v6 : (c : Dev Cert.FfnIdeal.nD) → Buf (Elt Ideal) ((c.tc : Thread Cert.FfnIdeal.nD Cert.FfnIdeal.τ).loc Cert.FfnIdeal.main_v0_6)) (v7 : (c : Dev Cert.FfnIdeal.nD) → Buf (Elt Ideal) ((c.tc : Thread Cert.FfnIdeal.nD Cert.FfnIdeal.τ).loc Cert.FfnIdeal.main_v0_7)) (v8 : (c : Dev Cert.FfnIdeal.nD) → Buf (Elt Ideal) ((c.tc : Thread Cert.FfnIdeal.nD Cert.FfnIdeal.τ).loc Cert.FfnIdeal.main_v0_8)) (v9 : (c : Dev Cert.FfnIdeal.nD) → Buf (Elt Ideal) ((c.tc : Thread Cert.FfnIdeal.nD Cert.FfnIdeal.τ).loc Cert.FfnIdeal.main_v0_9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_v0_4) = v4 c
          ∧ r.2.mem ((c.tc : Thread Cert.FfnIdeal.nD Cert.FfnIdeal.τ).loc Cert.FfnIdeal.main_v0_5) = v5 c
          ∧ r.2.mem ((c.tc : Thread Cert.FfnIdeal.nD Cert.FfnIdeal.τ).loc Cert.FfnIdeal.main_v0_6) = v6 c
          ∧ r.2.mem ((c.tc : Thread Cert.FfnIdeal.nD Cert.FfnIdeal.τ).loc Cert.FfnIdeal.main_v0_7) = v7 c
          ∧ r.2.mem ((c.tc : Thread Cert.FfnIdeal.nD Cert.FfnIdeal.τ).loc Cert.FfnIdeal.main_v0_8) = v8 c
          ∧ r.2.mem ((c.tc : Thread Cert.FfnIdeal.nD Cert.FfnIdeal.τ).loc Cert.FfnIdeal.main_v0_9) = v9 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v111) = v0 c
          ∧ r.2.mem ((c.tc : Thread Cert.FfnRefIdeal.nD Cert.FfnRefIdeal.τ).loc Cert.FfnRefIdeal.main_v112) = v1 c
          ∧ r.2.mem ((c.tc : Thread Cert.FfnRefIdeal.nD Cert.FfnRefIdeal.τ).loc Cert.FfnRefIdeal.main_v113) = v2 c
          ∧ r.2.mem ((c.tc : Thread Cert.FfnRefIdeal.nD Cert.FfnRefIdeal.τ).loc Cert.FfnRefIdeal.main_v114) = v3 c
          ∧ r.2.mem ((c.tc : Thread Cert.FfnRefIdeal.nD Cert.FfnRefIdeal.τ).loc Cert.FfnRefIdeal.main_v115) = v4 c
          ∧ r.2.mem ((c.tc : Thread Cert.FfnRefIdeal.nD Cert.FfnRefIdeal.τ).loc Cert.FfnRefIdeal.main_v116) = v5 c
          ∧ r.2.mem ((c.tc : Thread Cert.FfnRefIdeal.nD Cert.FfnRefIdeal.τ).loc Cert.FfnRefIdeal.main_v117) = v6 c
          ∧ r.2.mem ((c.tc : Thread Cert.FfnRefIdeal.nD Cert.FfnRefIdeal.τ).loc Cert.FfnRefIdeal.main_v118) = v7 c
          ∧ r.2.mem ((c.tc : Thread Cert.FfnRefIdeal.nD Cert.FfnRefIdeal.τ).loc Cert.FfnRefIdeal.main_v110) = v8 c
          ∧ r.2.mem ((c.tc : Thread Cert.FfnRefIdeal.nD Cert.FfnRefIdeal.τ).loc Cert.FfnRefIdeal.main_v82) = v9 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Wpool_WpoolIdeal : Prop :=
  True

def algebraic_WpoolIdeal_WpoolRefIdeal [hWpoolIdeal : Cert.WpoolIdeal.Facts] [hWpoolRefIdeal : Cert.WpoolRefIdeal.Facts] : Prop :=
  ∀ (m : (ℓ : Loc Cert.WpoolIdeal.nD Cert.WpoolIdeal.τ Cert.WpoolIdeal.sig) → Buf (Elt Ideal) ℓ) (g : Dev Cert.WpoolIdeal.nD → PrngReg)
    (m' : (ℓ : Loc Cert.WpoolRefIdeal.nD Cert.WpoolRefIdeal.τ Cert.WpoolRefIdeal.sig) → Buf (Elt Ideal) ℓ) (g' : Dev Cert.WpoolRefIdeal.nD → PrngReg), Pre_WpoolIdeal m →
    (∀ c : Dev Cert.WpoolIdeal.nD,
      m' ((c.tc : Thread Cert.WpoolRefIdeal.nD Cert.WpoolRefIdeal.τ).loc Cert.WpoolRefIdeal.main_arg0) = m ((c.tc : Thread Cert.WpoolIdeal.nD Cert.WpoolIdeal.τ).loc Cert.WpoolIdeal.main_arg0)
      ∧ m' ((c.tc : Thread Cert.WpoolRefIdeal.nD Cert.WpoolRefIdeal.τ).loc Cert.WpoolRefIdeal.main_arg1) = m ((c.tc : Thread Cert.WpoolIdeal.nD Cert.WpoolIdeal.τ).loc Cert.WpoolIdeal.main_arg1)) →
    ∃ (v0 : (c : Dev Cert.WpoolIdeal.nD) → Buf (Elt Ideal) ((c.tc : Thread Cert.WpoolIdeal.nD Cert.WpoolIdeal.τ).loc Cert.WpoolIdeal.main_v0_0)) (v1 : (c : Dev Cert.WpoolIdeal.nD) → Buf (Elt Ideal) ((c.tc : Thread Cert.WpoolIdeal.nD Cert.WpoolIdeal.τ).loc Cert.WpoolIdeal.main_v0_1)),
      θ_run (Cert.WpoolIdeal.defs (F := Ideal)) (onTc (τ := Cert.WpoolIdeal.τ) (Cert.WpoolIdeal.main (F := Ideal))) ⟨m, fun _ => 0, g⟩ (fun r => ∀ c : Dev Cert.WpoolIdeal.nD,
          r.2.mem ((c.tc : Thread Cert.WpoolIdeal.nD Cert.WpoolIdeal.τ).loc Cert.WpoolIdeal.main_v0_0) = v0 c
          ∧ r.2.mem ((c.tc : Thread Cert.WpoolIdeal.nD Cert.WpoolIdeal.τ).loc Cert.WpoolIdeal.main_v0_1) = v1 c
          ∧ r.2.mem ((c.tc : Thread Cert.WpoolIdeal.nD Cert.WpoolIdeal.τ).loc Cert.WpoolIdeal.main_arg0) = m ((c.tc : Thread Cert.WpoolIdeal.nD Cert.WpoolIdeal.τ).loc Cert.WpoolIdeal.main_arg0)
          ∧ r.2.mem ((c.tc : Thread Cert.WpoolIdeal.nD Cert.WpoolIdeal.τ).loc Cert.WpoolIdeal.main_arg1) = m ((c.tc : Thread Cert.WpoolIdeal.nD Cert.WpoolIdeal.τ).loc Cert.WpoolIdeal.main_arg1))
      ∧ θ_run (Cert.WpoolRefIdeal.defs (F := Ideal)) (onTc (τ := Cert.WpoolRefIdeal.τ) (Cert.WpoolRefIdeal.main (F := Ideal))) ⟨m', fun _ => 0, g'⟩ (fun r => ∀ c : Dev Cert.WpoolRefIdeal.nD,
          r.2.mem ((c.tc : Thread Cert.WpoolRefIdeal.nD Cert.WpoolRefIdeal.τ).loc Cert.WpoolRefIdeal.main_v10) = v0 c
          ∧ r.2.mem ((c.tc : Thread Cert.WpoolRefIdeal.nD Cert.WpoolRefIdeal.τ).loc Cert.WpoolRefIdeal.main_v11) = v1 c
          ∧ r.2.mem ((c.tc : Thread Cert.WpoolRefIdeal.nD Cert.WpoolRefIdeal.τ).loc Cert.WpoolRefIdeal.main_arg0) = m' ((c.tc : Thread Cert.WpoolRefIdeal.nD Cert.WpoolRefIdeal.τ).loc Cert.WpoolRefIdeal.main_arg0)
          ∧ r.2.mem ((c.tc : Thread Cert.WpoolRefIdeal.nD Cert.WpoolRefIdeal.τ).loc Cert.WpoolRefIdeal.main_arg1) = m' ((c.tc : Thread Cert.WpoolRefIdeal.nD Cert.WpoolRefIdeal.τ).loc Cert.WpoolRefIdeal.main_arg1))

def preserves_InProj_InProjIdeal : Prop :=
  True

def algebraic_InProjIdeal_InProjRefIdeal [hInProjIdeal : Cert.InProjIdeal.Facts] [hInProjRefIdeal : Cert.InProjRefIdeal.Facts] [hPre_slots : Cert.Pre_slots.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v21) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def Claim : Prop :=
  ∃ (hKernel : Cert.Kernel.Facts) (hKernelIdeal : Cert.KernelIdeal.Facts) (hReferenceIdeal : Cert.ReferenceIdeal.Facts) (hWff : Cert.Wff.Facts) (hWffIdeal : Cert.WffIdeal.Facts) (hWffRefIdeal : Cert.WffRefIdeal.Facts) (hWdownRefIdeal : Cert.WdownRefIdeal.Facts) (hWmix : Cert.Wmix.Facts) (hWmixIdeal : Cert.WmixIdeal.Facts) (hWmixRefIdeal : Cert.WmixRefIdeal.Facts) (hWin : Cert.Win.Facts) (hWinIdeal : Cert.WinIdeal.Facts) (hWinRefIdeal : Cert.WinRefIdeal.Facts) (hFfn : Cert.Ffn.Facts) (hFfnIdeal : Cert.FfnIdeal.Facts) (hFfnRefIdeal : Cert.FfnRefIdeal.Facts) (hWpool : Cert.Wpool.Facts) (hWpoolIdeal : Cert.WpoolIdeal.Facts) (hWpoolRefIdeal : Cert.WpoolRefIdeal.Facts) (hInProj : Cert.InProj.Facts) (hInProjIdeal : Cert.InProjIdeal.Facts) (hInProjRefIdeal : Cert.InProjRefIdeal.Facts) (hPre_finite : Cert.Pre_finite.Facts) (hPre_finite_ffn : Cert.Pre_finite_ffn.Facts) (hPre_slots : Cert.Pre_slots.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Wff (hWff := hWff)
    ∧ quiescent_WffIdeal (hWffIdeal := hWffIdeal)
    ∧ quiescent_WffRefIdeal (hWffRefIdeal := hWffRefIdeal)
    ∧ quiescent_WdownRefIdeal (hWdownRefIdeal := hWdownRefIdeal)
    ∧ quiescent_Wmix (hWmix := hWmix)
    ∧ quiescent_WmixIdeal (hWmixIdeal := hWmixIdeal)
    ∧ quiescent_WmixRefIdeal (hWmixRefIdeal := hWmixRefIdeal)
    ∧ quiescent_Win (hWin := hWin)
    ∧ quiescent_WinIdeal (hWinIdeal := hWinIdeal)
    ∧ quiescent_WinRefIdeal (hWinRefIdeal := hWinRefIdeal)
    ∧ quiescent_Ffn (hFfn := hFfn) (hPre_finite_ffn := hPre_finite_ffn)
    ∧ quiescent_FfnIdeal (hFfnIdeal := hFfnIdeal) (hPre_finite_ffn := hPre_finite_ffn)
    ∧ quiescent_FfnRefIdeal (hFfnRefIdeal := hFfnRefIdeal) (hPre_finite_ffn := hPre_finite_ffn)
    ∧ quiescent_Wpool (hWpool := hWpool)
    ∧ quiescent_WpoolIdeal (hWpoolIdeal := hWpoolIdeal)
    ∧ quiescent_WpoolRefIdeal (hWpoolRefIdeal := hWpoolRefIdeal)
    ∧ quiescent_InProj (hInProj := hInProj) (hPre_slots := hPre_slots)
    ∧ quiescent_InProjIdeal (hInProjIdeal := hInProjIdeal) (hPre_slots := hPre_slots)
    ∧ quiescent_InProjRefIdeal (hInProjRefIdeal := hInProjRefIdeal) (hPre_slots := hPre_slots)
    ∧ preserves_Kernel_KernelIdeal
    ∧ algebraic_KernelIdeal_ReferenceIdeal (hKernelIdeal := hKernelIdeal) (hReferenceIdeal := hReferenceIdeal) (hPre_finite := hPre_finite)
    ∧ preserves_Wff_WffIdeal
    ∧ algebraic_WffIdeal_WffRefIdeal (hWffIdeal := hWffIdeal) (hWffRefIdeal := hWffRefIdeal)
    ∧ algebraic_WffIdeal_WdownRefIdeal (hWffIdeal := hWffIdeal) (hWdownRefIdeal := hWdownRefIdeal)
    ∧ preserves_Wmix_WmixIdeal
    ∧ algebraic_WmixIdeal_WmixRefIdeal (hWmixIdeal := hWmixIdeal) (hWmixRefIdeal := hWmixRefIdeal)
    ∧ preserves_Win_WinIdeal
    ∧ algebraic_WinIdeal_WinRefIdeal (hWinIdeal := hWinIdeal) (hWinRefIdeal := hWinRefIdeal)
    ∧ preserves_Ffn_FfnIdeal
    ∧ algebraic_FfnIdeal_FfnRefIdeal (hFfnIdeal := hFfnIdeal) (hFfnRefIdeal := hFfnRefIdeal) (hPre_finite_ffn := hPre_finite_ffn)
    ∧ preserves_Wpool_WpoolIdeal
    ∧ algebraic_WpoolIdeal_WpoolRefIdeal (hWpoolIdeal := hWpoolIdeal) (hWpoolRefIdeal := hWpoolRefIdeal)
    ∧ preserves_InProj_InProjIdeal
    ∧ algebraic_InProjIdeal_InProjRefIdeal (hInProjIdeal := hInProjIdeal) (hInProjRefIdeal := hInProjRefIdeal) (hPre_slots := hPre_slots)
-- ==== Pre_finite.lean ====
abbrev S4352x1024 : Shape := ⟨2, ![4352, 1024]⟩
abbrev S4352x5120 : Shape := ⟨2, ![4352, 5120]⟩
abbrev S1x2048 : Shape := ⟨2, ![1, 2048]⟩
abbrev S1x1024 : Shape := ⟨2, ![1, 1024]⟩
abbrev S4x256x256 : Shape := ⟨3, ![4, 256, 256]⟩
abbrev S1024x1024 : Shape := ⟨2, ![1024, 1024]⟩
abbrev S8x128 : Shape := ⟨2, ![8, 128]⟩
abbrev S_ : Shape := ⟨0, ![]⟩

class Facts : Prop where
  bitsLt_bf16_f32 : FTy.bits .bf16 < FTy.bits .f32
  bcast_S_S4352x1024 : S_.BroadcastsInDim S4352x1024 (![] : Fin 0 → Fin S4352x1024.rank)
  reducesTo_S4352x1024_S_d0_1 : S4352x1024.ReducesTo [0, 1] S_
  h_S_ : 0 < S_.numel
  bcast_S_S4352x5120 : S_.BroadcastsInDim S4352x5120 (![] : Fin 0 → Fin S4352x5120.rank)
  reducesTo_S4352x5120_S_d0_1 : S4352x5120.ReducesTo [0, 1] S_
  bcast_S_S1x2048 : S_.BroadcastsInDim S1x2048 (![] : Fin 0 → Fin S1x2048.rank)
  reducesTo_S1x2048_S_d0_1 : S1x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_v4 : FVec F S1024x1024 .f32) (main_v5 : FVec F S1024x1024 .f32) (main_v9 : IVec S_ 1) (main_v13 : IVec S_ 1) (main_v17 : IVec S_ 1) (main_v21 : IVec S_ 1) (main_v25 : IVec S_ 1) (main_v29 : IVec S_ 1) (main_v33 : IVec S_ 1) (main_v37 : IVec S_ 1) (main_v41 : IVec S_ 1) (main_v45 : IVec S_ 1) (main_v49 : IVec S_ 1) : IVec S_ 1 :=
  let main_v50 : FVec F S1024x1024 .f32 := subf main_v4 main_v4
  let main_cst_20 : FVec F S_ .f32 := constant S_ .f32 0x00000000#32
  let main_v51 : FVec F S1024x1024 .f32 := broadcastInDim S1024x1024 ![] bcast_S_S1024x1024 main_cst_20
  let main_v52 : IVec S1024x1024 1 := cmpf .oeq main_v50 main_v51
  let main_c_21 : IVec S_ 1 := constantI S_ 1 1#1
  let main_v53 : IVec S_ 1 := (fun x v => Host.reduce IntOp.andi x v reducesTo_S1024x1024_S_d0_1 h_S_) main_v52 main_c_21
  let main_v54 : FVec F S1024x1024 .f32 := subf main_v5 main_v5
  let main_cst_22 : FVec F S_ .f32 := constant S_ .f32 0x00000000#32
  let main_v55 : FVec F S1024x1024 .f32 := broadcastInDim S1024x1024 ![] bcast_S_S1024x1024 main_cst_22
  let main_v56 : IVec S1024x1024 1 := cmpf .oeq main_v54 main_v55
  let main_c_23 : IVec S_ 1 := constantI S_ 1 1#1
  let main_v57 : IVec S_ 1 := (fun x v => Host.reduce IntOp.andi x v reducesTo_S1024x1024_S_d0_1 h_S_) main_v56 main_c_23
  let main_v58 : IVec S_ 1 := andi main_v9 main_v13
  let main_v59 : IVec S_ 1 := andi main_v58 main_v17
  let main_v60 : IVec S_ 1 := andi main_v59 main_v21
  let main_v61 : IVec S_ 1 := andi main_v60 main_v25
  let main_v62 : IVec S_ 1 := andi main_v61 main_v29
  let main_v63 : IVec S_ 1 := andi main_v62 main_v33
  let main_v64 : IVec S_ 1 := andi main_v63 main_v37
  let main_v65 : IVec S_ 1 := andi main_v64 main_v41
  let main_v66 : IVec S_ 1 := andi main_v65 main_v45
  let main_v67 : IVec S_ 1 := andi main_v66 main_v49
  let main_v68 : IVec S_ 1 := andi main_v67 main_v53
  let main_v69 : IVec S_ 1 := andi main_v68 main_v57
  main_v69

def fn_part2 {F : FTy → Type} [FloatOps F] (main_arg9 : FVec F S1x1024 .f32) (main_v1 : FVec F S4352x1024 .f32) (main_v2 : FVec F S4x256x256 .f32) (main_v3 : FVec F S1024x1024 .f32) (main_v4 : FVec F S1024x1024 .f32) (main_v5 : FVec F S1024x1024 .f32) (main_v9 : IVec S_ 1) (main_v13 : IVec S_ 1) (main_v17 : IVec S_ 1) (main_v21 : IVec S_ 1) (main_v25 : IVec S_ 1) (main_v29 : IVec S_ 1) (main_v33 : IVec S_ 1) : IVec S_ 1 :=
  let main_v34 : FVec F S4352x1024 .f32 := subf main_v1 main_v1
  let main_cst_12 : FVec F S_ .f32 := constant S_ .f32 0x00000000#32
  let main_v35 : FVec F S4352x1024 .f32 := broadcastInDim S4352x1024 ![] bcast_S_S4352x1024 main_cst_12
  let main_v36 : IVec S4352x1024 1 := cmpf .oeq main_v34 main_v35
  let main_c_13 : IVec S_ 1 := constantI S_ 1 1#1
  let main_v37 : IVec S_ 1 := (fun x v => Host.reduce IntOp.andi x v reducesTo_S4352x1024_S_d0_1 h_S_) main_v36 main_c_13
  let main_v38 : FVec F S4x256x256 .f32 := subf main_v2 main_v2
  let main_cst_14 : FVec F S_ .f32 := constant S_ .f32 0x00000000#32
  let main_v39 : FVec F S4x256x256 .f32 := broadcastInDim S4x256x256 ![] bcast_S_S4x256x256 main_cst_14
  let main_v40 : IVec S4x256x256 1 := cmpf .oeq main_v38 main_v39
  let main_c_15 : IVec S_ 1 := constantI S_ 1 1#1
  let main_v41 : IVec S_ 1 := (fun x v => Host.reduce IntOp.andi x v reducesTo_S4x256x256_S_d0_1_2 h_S_) main_v40 main_c_15
  let main_v42 : FVec F S1x1024 .f32 := subf main_arg9 main_arg9
  let main_cst_16 : FVec F S_ .f32 := constant S_ .f32 0x00000000#32
  let main_v43 : FVec F S1x1024 .f32 := broadcastInDim S1x1024 ![] bcast_S_S1x1024 main_cst_16
  let main_v44 : IVec S1x1024 1 := cmpf .oeq main_v42 main_v43
  let main_c_17 : IVec S_ 1 := constantI S_ 1 1#1
  let main_v45 : IVec S_ 1 := (fun x v => Host.reduce IntOp.andi x v reducesTo_S1x1024_S_d0_1 h_S_) main_v44 main_c_17
  let main_v46 : FVec F S1024x1024 .f32 := subf main_v3 main_v3
  let main_cst_18 : FVec F S_ .f32 := constant S_ .f32 0x00000000#32
  let main_v47 : FVec F S1024x1024 .f32 := broadcastInDim S1024x1024 ![] bcast_S_S1024x1024 main_cst_18
  let main_v48 : IVec S1024x1024 1 := cmpf .oeq main_v46 main_v47
  let main_c_19 : IVec S_ 1 := constantI S_ 1 1#1
  let main_v49 : IVec S_ 1 := (fun x v => Host.reduce IntOp.andi x v reducesTo_S1024x1024_S_d0_1 h_S_) main_v48 main_c_19
  fn_part3 (F := F) main_v4 main_v5 main_v9 main_v13 main_v17 main_v21 main_v25 main_v29 main_v33 main_v37 main_v41 main_v45 main_v49

def fn_part1 {F : FTy → Type} [FloatOps F] (main_arg3 : FVec F S4352x1024 .f32) (main_arg4 : FVec F S1x1024 .f32) (main_arg5 : FVec F S1x1024 .f32) (main_arg6 : FVec F S1x1024 .f32) (main_arg9 : FVec F S1x1024 .f32) (main_v1 : FVec F S4352x1024 .f32) (main_v2 : FVec F S4x256x256 .f32) (main_v3 : FVec F S1024x1024 .f32) (main_v4 : FVec F S1024x1024 .f32) (main_v5 : FVec F S1024x1024 .f32) (main_v9 : IVec S_ 1) (main_v13 : IVec S_ 1) (main_v17 : IVec S_ 1) : IVec S_ 1 :=
  let main_v18 : FVec F S4352x1024 .f32 := subf main_arg3 main_arg3
  let main_cst_4 : FVec F S_ .f32 := constant S_ .f32 0x00000000#32
  let main_v19 : FVec F S4352x1024 .f32 := broadcastInDim S4352x1024 ![] bcast_S_S4352x1024 main_cst_4
  let main_v20 : IVec S4352x1024 1 := cmpf .oeq main_v18 main_v19
  let main_c_5 : IVec S_ 1 := constantI S_ 1 1#1
  let main_v21 : IVec S_ 1 := (fun x v => Host.reduce IntOp.andi x v reducesTo_S4352x1024_S_d0_1 h_S_) main_v20 main_c_5
  let main_v22 : FVec F S1x1024 .f32 := subf main_arg4 main_arg4
  let main_cst_6 : FVec F S_ .f32 := constant S_ .f32 0x00000000#32
  let main_v23 : FVec F S1x1024 .f32 := broadcastInDim S1x1024 ![] bcast_S_S1x1024 main_cst_6
  let main_v24 : IVec S1x1024 1 := cmpf .oeq main_v22 main_v23
  let main_c_7 : IVec S_ 1 := constantI S_ 1 1#1
  let main_v25 : IVec S_ 1 := (fun x v => Host.reduce IntOp.andi x v reducesTo_S1x1024_S_d0_1 h_S_) main_v24 main_c_7
  let main_v26 : FVec F S1x1024 .f32 := subf main_arg5 main_arg5
  let main_cst_8 : FVec F S_ .f32 := constant S_ .f32 0x00000000#32
  let main_v27 : FVec F S1x1024 .f32 := broadcastInDim S1x1024 ![] bcast_S_S1x1024 main_cst_8
  let main_v28 : IVec S1x1024 1 := cmpf .oeq main_v26 main_v27
  let main_c_9 : IVec S_ 1 := constantI S_ 1 1#1
  let main_v29 : IVec S_ 1 := (fun x v => Host.reduce IntOp.andi x v reducesTo_S1x1024_S_d0_1 h_S_) main_v28 main_c_9
  let main_v30 : FVec F S1x1024 .f32 := subf main_arg6 main_arg6
  let main_cst_10 : FVec F S_ .f32 := constant S_ .f32 0x00000000#32
  let main_v31 : FVec F S1x1024 .f32 := broadcastInDim S1x1024 ![] bcast_S_S1x1024 main_cst_10
  let main_v32 : IVec S1x1024 1 := cmpf .oeq main_v30 main_v31
  let main_c_11 : IVec S_ 1 := constantI S_ 1 1#1
  let main_v33 : IVec S_ 1 := (fun x v => Host.reduce IntOp.andi x v reducesTo_S1x1024_S_d0_1 h_S_) main_v32 main_c_11
  fn_part2 (F := F) main_arg9 main_v1 main_v2 main_v3 main_v4 main_v5 main_v9 main_v13 main_v17 main_v21 main_v25 main_v29 main_v33

def fn {F : FTy → Type} [FloatOps F] (main_arg0 : FVec F S4352x1024 .bf16) (main_arg1 : FVec F S4352x5120 .f32) (main_arg2 : FVec F S1x2048 .f32) (main_arg3 : FVec F S4352x1024 .f32) (main_arg4 : FVec F S1x1024 .f32) (main_arg5 : FVec F S1x1024 .f32) (main_arg6 : FVec F S1x1024 .f32) (main_arg7 : FVec F S4352x1024 .bf16) (main_arg8 : FVec F S4x256x256 .bf16) (main_arg9 : FVec F S1x1024 .f32) (main_arg10 : FVec F S1024x1024 .bf16) (main_arg11 : FVec F S1024x1024 .bf16) (main_arg12 : FVec F S1024x1024 .bf16) (main_arg13 : FVec F S8x128 .f32) : IVec S_ 1 :=
  let main_v0 : FVec F S4352x1024 .f32 := (extf .f32 · bitsLt_bf16_f32) main_arg0
  let main_v1 : FVec F S4352x1024 .f32 := (extf .f32 · bitsLt_bf16_f32) main_arg7
  let main_v2 : FVec F S4x256x256 .f32 := (extf .f32 · bitsLt_bf16_f32) main_arg8
  let main_v3 : FVec F S1024x1024 .f32 := (extf .f32 · bitsLt_bf16_f32) main_arg10
  let main_v4 : FVec F S1024x1024 .f32 := (extf .f32 · bitsLt_bf16_f32) main_arg11
  let main_v5 : FVec F S1024x1024 .f32 := (extf .f32 · bitsLt_bf16_f32) main_arg12
  let main_v6 : FVec F S4352x1024 .f32 := subf main_v0 main_v0
  let main_cst : FVec F S_ .f32 := constant S_ .f32 0x00000000#32
  let main_v7 : FVec F S4352x1024 .f32 := broadcastInDim S4352x1024 ![] bcast_S_S4352x1024 main_cst
  let main_v8 : IVec S4352x1024 1 := cmpf .oeq main_v6 main_v7
  let main_c : IVec S_ 1 := constantI S_ 1 1#1
  let main_v9 : IVec S_ 1 := (fun x v => Host.reduce IntOp.andi x v reducesTo_S4352x1024_S_d0_1 h_S_) main_v8 main_c
  let main_v10 : FVec F S4352x5120 .f32 := subf main_arg1 main_arg1
  let main_cst_0 : FVec F S_ .f32 := constant S_ .f32 0x00000000#32
  let main_v11 : FVec F S4352x5120 .f32 := broadcastInDim S4352x5120 ![] bcast_S_S4352x5120 main_cst_0
  let main_v12 : IVec S4352x5120 1 := cmpf .oeq main_v10 main_v11
  let main_c_1 : IVec S_ 1 := constantI S_ 1 1#1
  let main_v13 : IVec S_ 1 := (fun x v => Host.reduce IntOp.andi x v reducesTo_S4352x5120_S_d0_1 h_S_) main_v12 main_c_1
  let main_v14 : FVec F S1x2048 .f32 := subf main_arg2 main_arg2
  let main_cst_2 : FVec F S_ .f32 := constant S_ .f32 0x00000000#32
  let main_v15 : FVec F S1x2048 .f32 := broadcastInDim S1x2048 ![] bcast_S_S1x2048 main_cst_2
  let main_v16 : IVec S1x2048 1 := cmpf .oeq main_v14 main_v15
  let main_c_3 : IVec S_ 1 := constantI S_ 1 1#1
  let main_v17 : IVec S_ 1 := (fun x v => Host.reduce IntOp.andi x v reducesTo_S1x2048_S_d0_1 h_S_) main_v16 main_c_3
  fn_part1 (F := F) main_arg3 main_arg4 main_arg5 main_arg6 main_arg9 main_v1 main_v2 main_v3 main_v4 main_v5 main_v9 main_v13 main_v17
-- ==== Pre_finite_ffn.lean ====
abbrev S4352x1024 : Shape := ⟨2, ![4352, 1024]⟩
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩

class Facts : Prop where
  bitsLt_bf16_f32 : FTy.bits .bf16 < FTy.bits .f32
  bcast_S_S4352x1024 : S_.BroadcastsInDim S4352x1024 (![] : Fin 0 → Fin S4352x1024.rank)
  reducesTo_S4352x1024_S_d0_1 : S4352x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v22 : IVec S_ 1) (main_v26 : IVec S_ 1) (main_v30 : IVec S_ 1) (main_v33 : IVec S_ 1) : IVec S_ 1 :=
  let main_v34 : IVec S_ 1 := andi main_v33 main_v22
  let main_v35 : IVec S_ 1 := andi main_v34 main_v26
  let main_v36 : IVec S_ 1 := andi main_v35 main_v30
  main_v36

def fn_part1 {F : FTy → Type} [FloatOps F] (main_v0 : FVec F S2816x1024 .f32) (main_v1 : FVec F S2816x1024 .f32) (main_v2 : FVec F S2816x1024 .f32) (main_v6 : IVec S_ 1) (main_v10 : IVec S_ 1) (main_v14 : IVec S_ 1) (main_v15 : FVec F S1x1024 .f32) (main_v16 : FVec F S1x1024 .f32) : IVec S_ 1 :=
  let main_v17 : IVec S1x1024 1 := cmpf .oeq main_v15 main_v16
  let main_c_5 : IVec S_ 1 := constantI S_ 1 1#1
  let main_v18 : IVec S_ 1 := (fun x v => Host.reduce IntOp.andi x v reducesTo_S1x1024_S_d0_1 h_S_) main_v17 main_c_5
  let main_v19 : FVec F S2816x1024 .f32 := subf main_v0 main_v0
  let main_cst_6 : FVec F S_ .f32 := constant S_ .f32 0x00000000#32
  let main_v20 : FVec F S2816x1024 .f32 := broadcastInDim S2816x1024 ![] bcast_S_S2816x1024 main_cst_6
  let main_v21 : IVec S2816x1024 1 := cmpf .oeq main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : FVec F S2816x1024 .f32 := subf main_v1 main_v1
  let main_cst_8 : FVec F S_ .f32 := constant S_ .f32 0x00000000#32
  let main_v24 : FVec F S2816x1024 .f32 := broadcastInDim S2816x1024 ![] bcast_S_S2816x1024 main_cst_8
  let main_v25 : IVec S2816x1024 1 := cmpf .oeq main_v23 main_v24
  let main_c_9 : IVec S_ 1 := constantI S_ 1 1#1
  let main_v26 : IVec S_ 1 := (fun x v => Host.reduce IntOp.andi x v reducesTo_S2816x1024_S_d0_1 h_S_) main_v25 main_c_9
  let main_v27 : FVec F S2816x1024 .f32 := subf main_v2 main_v2
  let main_cst_10 : FVec F S_ .f32 := constant S_ .f32 0x00000000#32
  let main_v28 : FVec F S2816x1024 .f32 := broadcastInDim S2816x1024 ![] bcast_S_S2816x1024 main_cst_10
  let main_v29 : IVec S2816x1024 1 := cmpf .oeq main_v27 main_v28
  let main_c_11 : IVec S_ 1 := constantI S_ 1 1#1
  let main_v30 : IVec S_ 1 := (fun x v => Host.reduce IntOp.andi x v reducesTo_S2816x1024_S_d0_1 h_S_) main_v29 main_c_11
  let main_v31 : IVec S_ 1 := andi main_v6 main_v10
  let main_v32 : IVec S_ 1 := andi main_v31 main_v14
  let main_v33 : IVec S_ 1 := andi main_v32 main_v18
  fn_part2 (F := F) main_v22 main_v26 main_v30 main_v33

def fn {F : FTy → Type} [FloatOps F] (main_arg0 : FVec F S4352x1024 .f32) (main_arg1 : FVec F S4096x1024 .f32) (main_arg2 : FVec F S1x1024 .f32) (main_arg3 : FVec F S1x1024 .f32) (main_arg4 : FVec F S2816x1024 .bf16) (main_arg5 : FVec F S2816x1024 .bf16) (main_arg6 : FVec F S2816x1024 .bf16) : IVec S_ 1 :=
  let main_v0 : FVec F S2816x1024 .f32 := (extf .f32 · bitsLt_bf16_f32) main_arg4
  let main_v1 : FVec F S2816x1024 .f32 := (extf .f32 · bitsLt_bf16_f32) main_arg5
  let main_v2 : FVec F S2816x1024 .f32 := (extf .f32 · bitsLt_bf16_f32) main_arg6
  let main_v3 : FVec F S4352x1024 .f32 := subf main_arg0 main_arg0
  let main_cst : FVec F S_ .f32 := constant S_ .f32 0x00000000#32
  let main_v4 : FVec F S4352x1024 .f32 := broadcastInDim S4352x1024 ![] bcast_S_S4352x1024 main_cst
  let main_v5 : IVec S4352x1024 1 := cmpf .oeq main_v3 main_v4
  let main_c : IVec S_ 1 := constantI S_ 1 1#1
  let main_v6 : IVec S_ 1 := (fun x v => Host.reduce IntOp.andi x v reducesTo_S4352x1024_S_d0_1 h_S_) main_v5 main_c
  let main_v7 : FVec F S4096x1024 .f32 := subf main_arg1 main_arg1
  let main_cst_0 : FVec F S_ .f32 := constant S_ .f32 0x00000000#32
  let main_v8 : FVec F S4096x1024 .f32 := broadcastInDim S4096x1024 ![] bcast_S_S4096x1024 main_cst_0
  let main_v9 : IVec S4096x1024 1 := cmpf .oeq main_v7 main_v8
  let main_c_1 : IVec S_ 1 := constantI S_ 1 1#1
  let main_v10 : IVec S_ 1 := (fun x v => Host.reduce IntOp.andi x v reducesTo_S4096x1024_S_d0_1 h_S_) main_v9 main_c_1
  let main_v11 : FVec F S1x1024 .f32 := subf main_arg2 main_arg2
  let main_cst_2 : FVec F S_ .f32 := constant S_ .f32 0x00000000#32
  let main_v12 : FVec F S1x1024 .f32 := broadcastInDim S1x1024 ![] bcast_S_S1x1024 main_cst_2
  let main_v13 : IVec S1x1024 1 := cmpf .oeq main_v11 main_v12
  let main_c_3 : IVec S_ 1 := constantI S_ 1 1#1
  let main_v14 : IVec S_ 1 := (fun x v => Host.reduce IntOp.andi x v reducesTo_S1x1024_S_d0_1 h_S_) main_v13 main_c_3
  let main_v15 : FVec F S1x1024 .f32 := subf main_arg3 main_arg3
  let main_cst_4 : FVec F S_ .f32 := constant S_ .f32 0x00000000#32
  let main_v16 : FVec F S1x1024 .f32 := broadcastInDim S1x1024 ![] bcast_S_S1x1024 main_cst_4
  fn_part1 (F := F) main_v0 main_v1 main_v2 main_v6 main_v10 main_v14 main_v15 main_v16
-- ==== Pre_slots.lean ====
abbrev S4352x1024 : Shape := ⟨2, ![4352, 1024]⟩
abbrev S4x1024x1280 : Shape := ⟨3, ![4, 1024, 1280]⟩
abbrev S4352x5120 : Shape := ⟨2, ![4352, 5120]⟩
abbrev S5 : Shape := ⟨1, ![5]⟩
abbrev S8x128 : Shape := ⟨2, ![8, 128]⟩
abbrev S1 : Shape := ⟨1, ![1]⟩
abbrev S_ : Shape := ⟨0, ![]⟩

class Facts : Prop where
  slices_S5_S1_1 : S5.Slices ![1] S1
  shapeCasts_S1_S_ : S1.ShapeCasts S_
  slices_S5_S1_2 : S5.Slices ![2] S1
  slices_S5_S1_3 : S5.Slices ![3] S1

variable [Facts]

def fn_part1 {F : FTy → Type} [FloatOps F] (main_v14 : IVec S_ 1) (main_v17 : IVec S_ 1) (main_v18 : IVec S1 32) : IVec S_ 1 :=
  let main_v19 : IVec S_ 32 := shapeCast S_ main_v18 shapeCasts_S1_S_
  let main_c_4 : IVec S_ 32 := constantI S_ 32 4#32
  let main_v20 : IVec S_ 1 := cmpi .slt main_v19 main_c_4
  let main_v21 : IVec S_ 1 := andi main_v17 main_v20
  let main_v22 : IVec S_ 1 := andi main_v14 main_v21
  main_v22

def fn {F : FTy → Type} [FloatOps F] (main_arg0 : FVec F S4352x1024 .bf16) (main_arg1 : FVec F S4x1024x1280 .bf16) (main_arg2 : FVec F S4352x5120 .f32) (main_arg3 : IVec S5 32) (main_arg4 : FVec F S8x128 .f32) : IVec S_ 1 :=
  let main_v0 : IVec S1 32 := (extractStridedSlice S1 ![1] · slices_S5_S1_1) main_arg3
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S5_S1_1) main_arg3
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![2] · slices_S5_S1_2) main_arg3
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![2] · slices_S5_S1_2) main_arg3
  let main_v11 : IVec S_ 32 := shapeCast S_ main_v10 shapeCasts_S1_S_
  let main_c_2 : IVec S_ 32 := constantI S_ 32 4#32
  let main_v12 : IVec S_ 1 := cmpi .slt main_v11 main_c_2
  let main_v13 : IVec S_ 1 := andi main_v9 main_v12
  let main_v14 : IVec S_ 1 := andi main_v6 main_v13
  let main_v15 : IVec S1 32 := (extractStridedSlice S1 ![3] · slices_S5_S1_3) main_arg3
  let main_v16 : IVec S_ 32 := shapeCast S_ main_v15 shapeCasts_S1_S_
  let main_c_3 : IVec S_ 32 := constantI S_ 32 0#32
  let main_v17 : IVec S_ 1 := cmpi .sge main_v16 main_c_3
  let main_v18 : IVec S1 32 := (extractStridedSlice S1 ![3] · slices_S5_S1_3) main_arg3
  fn_part1 (F := F) main_v14 main_v17 main_v18
-- ==== Kernel.lean ====
abbrev S4352x1024 : Shape := ⟨2, ![4352, 1024]⟩
abbrev S4352x5120 : Shape := ⟨2, ![4352, 5120]⟩
abbrev S1x2048 : Shape := ⟨2, ![1, 2048]⟩
abbrev S1x1024 : Shape := ⟨2, ![1, 1024]⟩
abbrev S4x256x256 : Shape := ⟨3, ![4, 256, 256]⟩
abbrev S1024x1024 : Shape := ⟨2, ![1024, 1024]⟩
abbrev S8x128 : Shape := ⟨2, ![8, 128]⟩
abbrev S1024 : Shape := ⟨1, ![1024]⟩
abbrev S_ : Shape := ⟨0, ![]⟩
abbrev S4352 : Shape := ⟨1, ![4352]⟩
abbrev S4352x1 : Shape := ⟨2, ![4352, 1]⟩
abbrev S4352x4x256 : Shape := ⟨3, ![4352, 4, 256]⟩
abbrev S4x256x4352 : Shape := ⟨3, ![4, 256, 4352]⟩
abbrev S4352x2048 : Shape := ⟨2, ![4352, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 85
  | .vmem => 39
  | .smem => 0
  | _ => 0

abbrev bufTy : (tb : Table) → Fin (tcTables nBuf tb) → BufTy
  | .hbm, ⟨0, _⟩ => ⟨S4352x1024, .bf16⟩
  | .hbm, ⟨1, _⟩ => ⟨S4352x5120, .f32⟩
  | .hbm, ⟨2, _⟩ => ⟨S1x2048, .f32⟩
  | .hbm, ⟨3, _⟩ => ⟨S4352x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4352x1024, .bf16⟩
  | .hbm, ⟨8, _⟩ => ⟨S4x256x256, .bf16⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S8x128, .f32⟩
  | .hbm, ⟨14, _⟩ => ⟨S1024x1024, .f32⟩
  | .hbm, ⟨15, _⟩ => ⟨S1024, .f32⟩
  | .hbm, ⟨16, _⟩ => ⟨S1x1024, .f32⟩
  | .hbm, ⟨17, _⟩ => ⟨S4352x1024, .f32⟩
  | .hbm, ⟨18, _⟩ => ⟨S4352x1024, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S4352, .f32⟩
  | .hbm, ⟨23, _⟩ => ⟨S4352x1, .f32⟩
  | .hbm, ⟨24, _⟩ => ⟨S_, .f32⟩
  | .hbm, ⟨25, _⟩ => ⟨S4352x1, .f32⟩
  | .hbm, ⟨26, _⟩ => ⟨S4352x1, .f32⟩
  | .hbm, ⟨27, _⟩ => ⟨S4352x1024, .f32⟩
  | .hbm, ⟨28, _⟩ => ⟨S4352x1024, .f32⟩
  | .hbm, ⟨29, _⟩ => ⟨S4352x1024, .f32⟩
  | .hbm, ⟨30, _⟩ => ⟨S_, .f32⟩
  | .hbm, ⟨31, _⟩ => ⟨S4352, .f32⟩
  | .hbm, ⟨32, _⟩ => ⟨S4352x1, .f32⟩
  | .hbm, ⟨33, _⟩ => ⟨S_, .f32⟩
  | .hbm, ⟨34, _⟩ => ⟨S4352x1, .f32⟩
  | .hbm, ⟨35, _⟩ => ⟨S4352x1, .f32⟩
  | .hbm, ⟨36, _⟩ => ⟨S_, .f32⟩
  | .hbm, ⟨37, _⟩ => ⟨S4352x1, .f32⟩
  | .hbm, ⟨38, _⟩ => ⟨S4352x1, .f32⟩
  | .hbm, ⟨39, _⟩ => ⟨S4352x1, .f32⟩
  | .hbm, ⟨40, _⟩ => ⟨S4352x1024, .f32⟩
  | .hbm, ⟨41, _⟩ => ⟨S4352x1024, .f32⟩
  | .hbm, ⟨42, _⟩ => ⟨S1x1024, .f32⟩
  | .hbm, ⟨43, _⟩ => ⟨S4352x1024, .f32⟩
  | .hbm, ⟨44, _⟩ => ⟨S4352x1024, .f32⟩
  | .hbm, ⟨45, _⟩ => ⟨S1x1024, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x1024, .f32⟩
  | .hbm, ⟨50, _⟩ => ⟨S_, .f32⟩
  | .hbm, ⟨51, _⟩ => ⟨S4352x1024, .f32⟩
  | .hbm, ⟨52, _⟩ => ⟨S4352x1024, .f32⟩
  | .hbm, ⟨53, _⟩ => ⟨S_, .f32⟩
  | .hbm, ⟨54, _⟩ => ⟨S4352x1024, .f32⟩
  | .hbm, ⟨55, _⟩ => ⟨S4352x1024, .f32⟩
  | .hbm, ⟨56, _⟩ => ⟨S4352x1024, .f32⟩
  | .hbm, ⟨57, _⟩ => ⟨S4352x1024, .f32⟩
  | .hbm, ⟨58, _⟩ => ⟨S4352x1024, .f32⟩
  | .hbm, ⟨59, _⟩ => ⟨S4x256x256, .f32⟩
  | .hbm, ⟨60, _⟩ => ⟨S4352x4x256, .f32⟩
  | .hbm, ⟨61, _⟩ => ⟨S4x256x4352, .f32⟩
  | .hbm, ⟨62, _⟩ => ⟨S4352x4x256, .f32⟩
  | .hbm, ⟨63, _⟩ => ⟨S4352x1024, .f32⟩
  | .hbm, ⟨64, _⟩ => ⟨S1024x1024, .f32⟩
  | .hbm, ⟨65, _⟩ => ⟨S1024, .f32⟩
  | .hbm, ⟨66, _⟩ => ⟨S1x1024, .f32⟩
  | .hbm, ⟨67, _⟩ => ⟨S4352x1024, .f32⟩
  | .hbm, ⟨68, _⟩ => ⟨S4352x1024, .f32⟩
  | .hbm, ⟨69, _⟩ => ⟨S4352x1024, .f32⟩
  | .hbm, ⟨70, _⟩ => ⟨S1024, .f32⟩
  | .hbm, ⟨71, _⟩ => ⟨S1x1024, .f32⟩
  | .hbm, ⟨72, _⟩ => ⟨S4352x1024, .f32⟩
  | .hbm, ⟨73, _⟩ => ⟨S4352x1024, .f32⟩
  | .hbm, ⟨74, _⟩ => ⟨S4352x1024, .bf16⟩
  | .hbm, ⟨75, _⟩ => ⟨S4352x1024, .bf16⟩
  | .hbm, ⟨76, _⟩ => ⟨S4352x2048, .bf16⟩
  | .hbm, ⟨77, _⟩ => ⟨S4352x1024, .f32⟩
  | .hbm, ⟨78, _⟩ => ⟨S4352x1024, .bf16⟩
  | .hbm, ⟨79, _⟩ => ⟨S4352x1024, .f32⟩
  | .hbm, ⟨80, _⟩ => ⟨S1x2048, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x2048, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S4x256x256, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x2048, .bf16⟩
  | .local _ .vmem, ⟨27, _⟩ => ⟨S256x2048, .bf16⟩
  | .local _ .vmem, ⟨28, _⟩ => ⟨S256x1024, .f32⟩
  | .local _ .vmem, ⟨29, _⟩ => ⟨S256x1024, .f32⟩
  | .local _ .vmem, ⟨30, _⟩ => ⟨S256x1024, .bf16⟩
  | .local _ .vmem, ⟨31, _⟩ => ⟨S256x1024, .bf16⟩
  | .local _ .vmem, ⟨32, _⟩ => ⟨S256x1024, .f32⟩
  | .local _ .vmem, ⟨33, _⟩ => ⟨S256x1024, .f32⟩
  | .local _ .vmem, ⟨34, _⟩ => ⟨S1x2048, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47_0 : Ref sig .tc := ⟨.hbm, 74, rfl⟩
abbrev main_v47_1 : Ref sig .tc := ⟨.hbm, 75, rfl⟩
abbrev main_v47_2 : Ref sig .tc := ⟨.hbm, 76, rfl⟩
abbrev main_v47_3 : Ref sig .tc := ⟨.hbm, 77, rfl⟩
abbrev main_v47_4 : Ref sig .tc := ⟨.hbm, 78, rfl⟩
abbrev main_v47_5 : Ref sig .tc := ⟨.hbm, 79, rfl⟩
abbrev main_v47_6 : Ref sig .tc := ⟨.hbm, 80, rfl⟩
abbrev main_v47_7 : Ref sig .tc := ⟨.hbm, 81, rfl⟩
abbrev main_v47_8 : Ref sig .tc := ⟨.hbm, 82, rfl⟩
abbrev main_v47_9 : Ref sig .tc := ⟨.hbm, 83, rfl⟩
abbrev main_v47_10 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_stg25_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem22_0 : DmaSem sig := 35
abbrev cc0_sem23_0 : DmaSem sig := 36
abbrev cc0_sem24_0 : DmaSem sig := 37
abbrev cc0_sem25_0 : DmaSem sig := 38

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceIdeal.lean ====
abbrev S4352x1024 : Shape := ⟨2, ![4352, 1024]⟩
abbrev S4352x5120 : Shape := ⟨2, ![4352, 5120]⟩
abbrev S1x2048 : Shape := ⟨2, ![1, 2048]⟩
abbrev S1x1024 : Shape := ⟨2, ![1, 1024]⟩
abbrev S4x256x256 : Shape := ⟨3, ![4, 256, 256]⟩
abbrev S1024x1024 : Shape := ⟨2, ![1024, 1024]⟩
abbrev S8x128 : Shape := ⟨2, ![8, 128]⟩
abbrev S1024 : Shape := ⟨1, ![1024]⟩
abbrev S_ : Shape := ⟨0, ![]⟩
abbrev S4352 : Shape := ⟨1, ![4352]⟩
abbrev S4352x1 : Shape := ⟨2, ![4352, 1]⟩
abbrev S4352x4x256 : Shape := ⟨3, ![4352, 4, 256]⟩
abbrev S4x256x4352 : Shape := ⟨3, ![4, 256, 4352]⟩
abbrev S4352x2048 : Shape := ⟨2, ![4352, 2048]⟩
abbrev S2048 : Shape := ⟨1, ![2048]⟩
abbrev S4x4352x256 : Shape := ⟨3, ![4, 4352, 256]⟩

abbrev nBuf : Space → Nat
  | .hbm => 245
  | .vmem => 0
  | .smem => 0
  | _ => 0

abbrev hbmTy0_0 (i : Nat) : BufTy := match i % 128 with
  | 0 => ⟨S4352x1024, .bf16⟩
  | 1 => ⟨S4352x5120, .f32⟩
  | 2 => ⟨S1x2048, .f32⟩
  | 3 => ⟨S4352x1024, .f32⟩
  | 4 => ⟨S1x1024, .f32⟩
  | 5 => ⟨S1x1024, .f32⟩
  | 6 => ⟨S1x1024, .f32⟩
  | 7 => ⟨S4352x1024, .bf16⟩
  | 8 => ⟨S4x256x256, .bf16⟩
  | 9 => ⟨S1x1024, .f32⟩
  | 10 => ⟨S1024x1024, .bf16⟩
  | 11 => ⟨S1024x1024, .bf16⟩
  | 12 => ⟨S1024x1024, .bf16⟩
  | 13 => ⟨S8x128, .f32⟩
  | 14 => ⟨S4352x1024, .f32⟩
  | 15 => ⟨S4352x1024, .f32⟩
  | 16 => ⟨S4x256x256, .f32⟩
  | 17 => ⟨S1024x1024, .f32⟩
  | 18 => ⟨S1024x1024, .f32⟩
  | 19 => ⟨S1024x1024, .f32⟩
  | 20 => ⟨S1024, .f32⟩
  | 21 => ⟨S1x1024, .f32⟩
  | 22 => ⟨S4352x1024, .f32⟩
  | 23 => ⟨S4352x1024, .f32⟩
  | 24 => ⟨S1024, .f32⟩
  | 25 => ⟨S1024, .f32⟩
  | 26 => ⟨S_, .f32⟩
  | 27 => ⟨S4352, .f32⟩
  | 28 => ⟨S4352x1, .f32⟩
  | 29 => ⟨S_, .f32⟩
  | 30 => ⟨S4352x1, .f32⟩
  | 31 => ⟨S4352x1, .f32⟩
  | 32 => ⟨S4352x1024, .f32⟩
  | 33 => ⟨S4352x1024, .f32⟩
  | 34 => ⟨S4352x1024, .f32⟩
  | 35 => ⟨S_, .f32⟩
  | 36 => ⟨S4352, .f32⟩
  | 37 => ⟨S4352x1, .f32⟩
  | 38 => ⟨S_, .f32⟩
  | 39 => ⟨S4352x1, .f32⟩
  | 40 => ⟨S4352x1, .f32⟩
  | 41 => ⟨S_, .f32⟩
  | 42 => ⟨S4352x1, .f32⟩
  | 43 => ⟨S4352x1, .f32⟩
  | 44 => ⟨S4352x1, .f32⟩
  | 45 => ⟨S4352x1024, .f32⟩
  | 46 => ⟨S4352x1024, .f32⟩
  | 47 => ⟨S1x1024, .f32⟩
  | 48 => ⟨S4352x1024, .f32⟩
  | 49 => ⟨S4352x1024, .f32⟩
  | 50 => ⟨S1x1024, .f32⟩
  | 51 => ⟨S4352x1024, .f32⟩
  | 52 => ⟨S4352x1024, .f32⟩
  | 53 => ⟨S4352x1024, .f32⟩
  | 54 => ⟨S4352x1024, .f32⟩
  | 55 => ⟨S_, .f32⟩
  | 56 => ⟨S4352x1024, .f32⟩
  | 57 => ⟨S4352x1024, .f32⟩
  | 58 => ⟨S_, .f32⟩
  | 59 => ⟨S4352x1024, .f32⟩
  | 60 => ⟨S4352x1024, .f32⟩
  | 61 => ⟨S4352x1024, .f32⟩
  | 62 => ⟨S4352x1024, .f32⟩
  | 63 => ⟨S4352x4x256, .f32⟩
  | 64 => ⟨S4x256x4352, .f32⟩
  | 65 => ⟨S4352x4x256, .f32⟩
  | 66 => ⟨S4352x1024, .f32⟩
  | 67 => ⟨S1024, .f32⟩
  | 68 => ⟨S1x1024, .f32⟩
  | 69 => ⟨S4352x1024, .f32⟩
  | 70 => ⟨S4352x1024, .f32⟩
  | 71 => ⟨S4352x1024, .f32⟩
  | 72 => ⟨S4352x2048, .f32⟩
  | 73 => ⟨S2048, .f32⟩
  | 74 => ⟨S1x2048, .f32⟩
  | 75 => ⟨S4352x2048, .f32⟩
  | 76 => ⟨S4352x2048, .f32⟩
  | 77 => ⟨S4352x2048, .f32⟩
  | 78 => ⟨S4352x2048, .f32⟩
  | 79 => ⟨S_, .f32⟩
  | 80 => ⟨S4352x2048, .f32⟩
  | 81 => ⟨S4352x2048, .f32⟩
  | 82 => ⟨S_, .f32⟩
  | 83 => ⟨S4352x2048, .f32⟩
  | 84 => ⟨S4352x2048, .f32⟩
  | 85 => ⟨S_, .f32⟩
  | 86 => ⟨S4352x2048, .f32⟩
  | 87 => ⟨S4352x2048, .f32⟩
  | 88 => ⟨S4352x2048, .f32⟩
  | 89 => ⟨S4352x1024, .f32⟩
  | 90 => ⟨S4352x1024, .f32⟩
  | 91 => ⟨S4352x1024, .f32⟩
  | 92 => ⟨S4352x1024, .f32⟩
  | 93 => ⟨S4352x1024, .f32⟩
  | 94 => ⟨S4352x1024, .f32⟩
  | 95 => ⟨S4352x1024, .f32⟩
  | 96 => ⟨S4352x1024, .f32⟩
  | 97 => ⟨S4352x1024, .f32⟩
  | 98 => ⟨S_, .f32⟩
  | 99 => ⟨S4352x2048, .f32⟩
  | 100 => ⟨S4352x1024, .f32⟩
  | 101 => ⟨S4352x1024, .f32⟩
  | 102 => ⟨S_, .f32⟩
  | 103 => ⟨S4352x2048, .f32⟩
  | 104 => ⟨S4352x2048, .f32⟩
  | 105 => ⟨S4352x2048, .f32⟩
  | 106 => ⟨S_, .f32⟩
  | 107 => ⟨S2048, .f32⟩
  | 108 => ⟨S1x2048, .f32⟩
  | 109 => ⟨S_, .f32⟩
  | 110 => ⟨S2048, .f32⟩
  | 111 => ⟨S1x2048, .f32⟩
  | 112 => ⟨S1024, .f32⟩
  | 113 => ⟨S1x1024, .f32⟩
  | 114 => ⟨S4352x1024, .f32⟩
  | 115 => ⟨S4352x1024, .f32⟩
  | 116 => ⟨S1024, .f32⟩
  | 117 => ⟨S1024, .f32⟩
  | 118 => ⟨S_, .f32⟩
  | 119 => ⟨S4352, .f32⟩
  | 120 => ⟨S4352x1, .f32⟩
  | 121 => ⟨S_, .f32⟩
  | 122 => ⟨S4352x1, .f32⟩
  | 123 => ⟨S4352x1, .f32⟩
  | 124 => ⟨S4352x1024, .f32⟩
  | 125 => ⟨S4352x1024, .f32⟩
  | 126 => ⟨S4352x1024, .f32⟩
  | 127 => ⟨S_, .f32⟩
  | _ => ⟨S4352x1024, .bf16⟩

abbrev hbmTy0_1 (i : Nat) : BufTy := match i % 128 with
  | 0 => ⟨S4352, .f32⟩
  | 1 => ⟨S4352x1, .f32⟩
  | 2 => ⟨S_, .f32⟩
  | 3 => ⟨S4352x1, .f32⟩
  | 4 => ⟨S4352x1, .f32⟩
  | 5 => ⟨S_, .f32⟩
  | 6 => ⟨S4352x1, .f32⟩
  | 7 => ⟨S4352x1, .f32⟩
  | 8 => ⟨S4352x1, .f32⟩
  | 9 => ⟨S4352x1, .f32⟩
  | 10 => ⟨S_, .f32⟩
  | 11 => ⟨S4352x1, .f32⟩
  | 12 => ⟨S4352x1, .f32⟩
  | 13 => ⟨S4352x1024, .f32⟩
  | 14 => ⟨S4352x1024, .f32⟩
  | 15 => ⟨S1x1024, .f32⟩
  | 16 => ⟨S4352x1024, .f32⟩
  | 17 => ⟨S4352x1024, .f32⟩
  | 18 => ⟨S1x1024, .f32⟩
  | 19 => ⟨S4352x1024, .f32⟩
  | 20 => ⟨S4352x1024, .f32⟩
  | 21 => ⟨S4352x1024, .f32⟩
  | 22 => ⟨S4352x1024, .f32⟩
  | 23 => ⟨S_, .f32⟩
  | 24 => ⟨S4352x1024, .f32⟩
  | 25 => ⟨S4352x1024, .f32⟩
  | 26 => ⟨S_, .f32⟩
  | 27 => ⟨S4352x1024, .f32⟩
  | 28 => ⟨S4352x1024, .f32⟩
  | 29 => ⟨S_, .f32⟩
  | 30 => ⟨S4352x1024, .f32⟩
  | 31 => ⟨S4352x1024, .f32⟩
  | 32 => ⟨S4352x1024, .f32⟩
  | 33 => ⟨S4352x1024, .f32⟩
  | 34 => ⟨S4352x1024, .f32⟩
  | 35 => ⟨S4352x1024, .f32⟩
  | 36 => ⟨S4352x1024, .f32⟩
  | 37 => ⟨S4352x1024, .f32⟩
  | 38 => ⟨S4352x1024, .f32⟩
  | 39 => ⟨S4352x1024, .f32⟩
  | 40 => ⟨S_, .f32⟩
  | 41 => ⟨S1024, .f32⟩
  | 42 => ⟨S1x1024, .f32⟩
  | 43 => ⟨S_, .f32⟩
  | 44 => ⟨S1024, .f32⟩
  | 45 => ⟨S4352x1024, .f32⟩
  | 46 => ⟨S_, .f32⟩
  | 47 => ⟨S1024, .f32⟩
  | 48 => ⟨S1x1024, .f32⟩
  | 49 => ⟨S4352x1024, .f32⟩
  | 50 => ⟨S4352x1024, .f32⟩
  | 51 => ⟨S_, .f32⟩
  | 52 => ⟨S1024, .f32⟩
  | 53 => ⟨S4352x1024, .f32⟩
  | 54 => ⟨S_, .f32⟩
  | 55 => ⟨S4352, .f32⟩
  | 56 => ⟨S4352x1, .f32⟩
  | 57 => ⟨S4352x1024, .f32⟩
  | 58 => ⟨S4352x1024, .f32⟩
  | 59 => ⟨S4352x1, .f32⟩
  | 60 => ⟨S_, .f32⟩
  | 61 => ⟨S4352x1, .f32⟩
  | 62 => ⟨S4352x1, .f32⟩
  | 63 => ⟨S_, .f32⟩
  | 64 => ⟨S4352, .f32⟩
  | 65 => ⟨S4352x1024, .f32⟩
  | 66 => ⟨S4352x1024, .f32⟩
  | 67 => ⟨S4352x1024, .f32⟩
  | 68 => ⟨S4352x1024, .f32⟩
  | 69 => ⟨S4352x1024, .f32⟩
  | 70 => ⟨S4352x1024, .f32⟩
  | 71 => ⟨S_, .f32⟩
  | 72 => ⟨S4352, .f32⟩
  | 73 => ⟨S4352x1, .f32⟩
  | 74 => ⟨S_, .f32⟩
  | 75 => ⟨S4352x1, .f32⟩
  | 76 => ⟨S4352x1, .f32⟩
  | 77 => ⟨S_, .f32⟩
  | 78 => ⟨S4352, .f32⟩
  | 79 => ⟨S4352x1024, .f32⟩
  | 80 => ⟨S4352x1024, .f32⟩
  | 81 => ⟨S1x1024, .f32⟩
  | 82 => ⟨S1x1024, .f32⟩
  | 83 => ⟨S_, .f32⟩
  | 84 => ⟨S1024, .f32⟩
  | 85 => ⟨S1x1024, .f32⟩
  | 86 => ⟨S_, .f32⟩
  | 87 => ⟨S1024, .f32⟩
  | 88 => ⟨S1x1024, .f32⟩
  | 89 => ⟨S1024, .f32⟩
  | 90 => ⟨S1x1024, .f32⟩
  | 91 => ⟨S4352x1024, .f32⟩
  | 92 => ⟨S4352x1024, .f32⟩
  | 93 => ⟨S4352x1024, .f32⟩
  | 94 => ⟨S4352x1024, .f32⟩
  | 95 => ⟨S4352x1024, .f32⟩
  | 96 => ⟨S_, .f32⟩
  | 97 => ⟨S1024, .f32⟩
  | 98 => ⟨S1x1024, .f32⟩
  | 99 => ⟨S4352x1024, .f32⟩
  | 100 => ⟨S4352x1024, .f32⟩
  | 101 => ⟨S_, .f32⟩
  | 102 => ⟨S1024, .f32⟩
  | 103 => ⟨S1x1024, .f32⟩
  | 104 => ⟨S4352x4x256, .f32⟩
  | 105 => ⟨S4x256x4352, .f32⟩
  | 106 => ⟨S4352x4x256, .f32⟩
  | 107 => ⟨S4352x1024, .f32⟩
  | 108 => ⟨S4352x4x256, .f32⟩
  | 109 => ⟨S4x256x4352, .f32⟩
  | 110 => ⟨S4x4352x256, .f32⟩
  | 111 => ⟨S4352x4x256, .f32⟩
  | 112 => ⟨S4352x1024, .f32⟩
  | 113 => ⟨S4352x1024, .bf16⟩
  | 114 => ⟨S4352x1024, .bf16⟩
  | 115 => ⟨S4352x2048, .bf16⟩
  | 116 => ⟨S4352x1024, .bf16⟩
  | _ => ⟨S4352x1024, .bf16⟩

abbrev hbmTy (i : Nat) : BufTy := match i / 128 with
  | 0 => hbmTy0_0 i
  | 1 => hbmTy0_1 i
  | _ => ⟨S4352x1024, .bf16⟩

abbrev bufTy : (tb : Table) → Fin (tcTables nBuf tb) → BufTy
  | .hbm, ⟨i, _⟩ => hbmTy i
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_4 : Ref sig .tc := ⟨.hbm, 79, rfl⟩
abbrev main_v52 : Ref sig .tc := ⟨.hbm, 80, rfl⟩
abbrev main_v53 : Ref sig .tc := ⟨.hbm, 81, rfl⟩
abbrev main_cst_5 : Ref sig .tc := ⟨.hbm, 82, rfl⟩
abbrev main_v54 : Ref sig .tc := ⟨.hbm, 83, rfl⟩
abbrev main_v55 : Ref sig .tc := ⟨.hbm, 84, rfl⟩
abbrev main_cst_6 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_7 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_8 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_9 : Ref sig .tc := ⟨.hbm, 106, rfl⟩
abbrev main_v74 : Ref sig .tc := ⟨.hbm, 107, rfl⟩
abbrev main_v75 : Ref sig .tc := ⟨.hbm, 108, rfl⟩
abbrev main_cst_10 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_11 : Ref sig .tc := ⟨.hbm, 118, rfl⟩
abbrev main_v84 : Ref sig .tc := ⟨.hbm, 119, rfl⟩
abbrev main_v85 : Ref sig .tc := ⟨.hbm, 120, rfl⟩
abbrev main_cst_12 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_13 : Ref sig .tc := ⟨.hbm, 127, rfl⟩
abbrev main_v91 : Ref sig .tc := ⟨.hbm, 128, rfl⟩
abbrev main_v92 : Ref sig .tc := ⟨.hbm, 129, rfl⟩
abbrev main_cst_14 : Ref sig .tc := ⟨.hbm, 130, rfl⟩
abbrev main_v93 : Ref sig .tc := ⟨.hbm, 131, rfl⟩
abbrev main_v94 : Ref sig .tc := ⟨.hbm, 132, rfl⟩
abbrev main_cst_15 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_16 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_call1_v0 : Ref sig .tc := ⟨.hbm, 149, rfl⟩
abbrev main_call1_v1 : Ref sig .tc := ⟨.hbm, 150, rfl⟩
abbrev main_call1_cst : Ref sig .tc := ⟨.hbm, 151, rfl⟩
abbrev main_call1_v2 : Ref sig .tc := ⟨.hbm, 152, rfl⟩
abbrev main_call1_v3 : Ref sig .tc := ⟨.hbm, 153, rfl⟩
abbrev main_call1_cst_0 : Ref sig .tc := ⟨.hbm, 154, rfl⟩
abbrev main_call1_v4 : Ref sig .tc := ⟨.hbm, 155, rfl⟩
abbrev main_v109_2 : Ref sig .tc := ⟨.hbm, 156, rfl⟩
abbrev main_call1_cst_1 : Ref sig .tc := ⟨.hbm, 157, rfl⟩
abbrev main_call1_v6 : Ref sig .tc := ⟨.hbm, 158, rfl⟩
abbrev main_call1_v7 : Ref sig .tc := ⟨.hbm, 159, rfl⟩
abbrev main_v109_1 : Ref sig .tc := ⟨.hbm, 160, rfl⟩
abbrev main_v109_0 : Ref sig .tc := ⟨.hbm, 161, rfl⟩
abbrev main_v110 : Ref sig .tc := ⟨.hbm, 162, rfl⟩
abbrev main_v111 : Ref sig .tc := ⟨.hbm, 163, rfl⟩
abbrev main_call2_v0 : Ref sig .tc := ⟨.hbm, 164, rfl⟩
abbrev main_call2_v1 : Ref sig .tc := ⟨.hbm, 165, rfl⟩
abbrev main_call2_v2 : Ref sig .tc := ⟨.hbm, 166, rfl⟩
abbrev main_v112 : Ref sig .tc := ⟨.hbm, 167, rfl⟩
abbrev main_cst_17 : Ref sig .tc := ⟨.hbm, 168, rfl⟩
abbrev main_v113 : Ref sig .tc := ⟨.hbm, 169, rfl⟩
abbrev main_v114 : Ref sig .tc := ⟨.hbm, 170, rfl⟩
abbrev main_cst_18 : Ref sig .tc := ⟨.hbm, 171, rfl⟩
abbrev main_v115 : Ref sig .tc := ⟨.hbm, 172, rfl⟩
abbrev main_v116 : Ref sig .tc := ⟨.hbm, 173, rfl⟩
abbrev main_cst_19 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_cst_20 : Ref sig .tc := ⟨.hbm, 179, rfl⟩
abbrev main_v121 : Ref sig .tc := ⟨.hbm, 180, rfl⟩
abbrev main_v122 : Ref sig .tc := ⟨.hbm, 181, rfl⟩
abbrev main_cst_21 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_22 : Ref sig .tc := ⟨.hbm, 188, rfl⟩
abbrev main_v128 : Ref sig .tc := ⟨.hbm, 189, rfl⟩
abbrev main_v129 : Ref sig .tc := ⟨.hbm, 190, rfl⟩
abbrev main_cst_23 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_cst_24 : Ref sig .tc := ⟨.hbm, 199, rfl⟩
abbrev main_v137 : Ref sig .tc := ⟨.hbm, 200, rfl⟩
abbrev main_v138 : Ref sig .tc := ⟨.hbm, 201, rfl⟩
abbrev main_cst_25 : Ref sig .tc := ⟨.hbm, 202, rfl⟩
abbrev main_v139 : Ref sig .tc := ⟨.hbm, 203, rfl⟩
abbrev main_v140 : Ref sig .tc := ⟨.hbm, 204, rfl⟩
abbrev main_cst_26 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_cst_27 : Ref sig .tc := ⟨.hbm, 211, rfl⟩
abbrev main_v146 : Ref sig .tc := ⟨.hbm, 212, rfl⟩
abbrev main_v147 : Ref sig .tc := ⟨.hbm, 213, rfl⟩
abbrev main_cst_28 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_cst_29 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_30 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩

abbrev nD : Nat := 1
abbrev τ : Topo := Topo.v7x

variable {F : FTy → Type} [FloatOps F]
-- ==== Wff.lean ====
abbrev S4352x2816 : Shape := ⟨2, ![4352, 2816]⟩
abbrev S4352x1024 : Shape := ⟨2, ![4352, 1024]⟩
abbrev S2816x1024 : Shape := ⟨2, ![2816, 1024]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S2816x1024, .f32⟩
  | .hbm, ⟨3, _⟩ => ⟨S2816x1024, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WffRefIdeal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S_, .f32⟩
  | .hbm, ⟨3, _⟩ => ⟨S2816x1024, .f32⟩
  | .hbm, ⟨4, _⟩ => ⟨S4352x1024, .f32⟩
  | .hbm, ⟨5, _⟩ => ⟨S1024x2816, .f32⟩
  | .hbm, ⟨6, _⟩ => ⟨S4352x2816, .f32⟩
  | .hbm, ⟨7, _⟩ => ⟨S4352x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WdownRefIdeal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S_, .f32⟩
  | .hbm, ⟨3, _⟩ => ⟨S2816x1024, .f32⟩
  | .hbm, ⟨4, _⟩ => ⟨S4352x2816, .f32⟩
  | .hbm, ⟨5, _⟩ => ⟨S4352x1024, .f32⟩
  | .hbm, ⟨6, _⟩ => ⟨S4352x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Wmix.lean ====
abbrev S4352x1024 : Shape := ⟨2, ![4352, 1024]⟩
abbrev S1024x1024 : Shape := ⟨2, ![1024, 1024]⟩
abbrev S2176x1024 : Shape := ⟨2, ![2176, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .f32⟩
  | .hbm, ⟨3, _⟩ => ⟨S1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== WmixRefIdeal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Win.lean ====
abbrev S4352x1024 : Shape := ⟨2, ![4352, 1024]⟩
abbrev S4352x5120 : Shape := ⟨2, ![4352, 5120]⟩
abbrev S8x128 : Shape := ⟨2, ![8, 128]⟩
abbrev S4x1024x1280 : Shape := ⟨3, ![4, 1024, 1280]⟩
abbrev S2176x1024 : Shape := ⟨2, ![2176, 1024]⟩
abbrev S2176x1280 : Shape := ⟨2, ![2176, 1280]⟩
abbrev S1x1024x1280 : Shape := ⟨3, ![1, 1024, 1280]⟩
abbrev S1024x1280 : Shape := ⟨2, ![1024, 1280]⟩

abbrev nBuf : Space → Nat
  | .hbm => 5
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S4352x5120, .bf16⟩
  | .hbm, ⟨2, _⟩ => ⟨S8x128, .f32⟩
  | .hbm, ⟨3, _⟩ => ⟨S4x1024x1280, .f32⟩
  | .hbm, ⟨4, _⟩ => ⟨S4x1024x1280, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1280, .bf16⟩
  | .local _ .vmem, ⟨3, _⟩ => ⟨S2176x1280, .bf16⟩
  | .local _ .vmem, ⟨4, _⟩ => ⟨S1x1024x1280, .f32⟩
  | .local _ .vmem, ⟨5, _⟩ => ⟨S1x1024x1280, .f32⟩
  | .local _ .vmem, ⟨6, _⟩ => ⟨S1x1024x1280, .bf16⟩
  | .local _ .vmem, ⟨7, _⟩ => ⟨S1x1024x1280, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WinRefIdeal.lean ====
abbrev S4352x1024 : Shape := ⟨2, ![4352, 1024]⟩
abbrev S4352x5120 : Shape := ⟨2, ![4352, 5120]⟩
abbrev S8x128 : Shape := ⟨2, ![8, 128]⟩
abbrev S_ : Shape := ⟨0, ![]⟩
abbrev S4x1024x1280 : Shape := ⟨3, ![4, 1024, 1280]⟩
abbrev S1024x4x1280 : Shape := ⟨3, ![1024, 4, 1280]⟩
abbrev S1024x5120 : Shape := ⟨2, ![1024, 5120]⟩
abbrev S5120x1024 : Shape := ⟨2, ![5120, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x5120, .bf16⟩
  | .hbm, ⟨2, _⟩ => ⟨S8x128, .f32⟩
  | .hbm, ⟨3, _⟩ => ⟨S_, .f32⟩
  | .hbm, ⟨4, _⟩ => ⟨S4x1024x1280, .f32⟩
  | .hbm, ⟨5, _⟩ => ⟨S4352x1024, .f32⟩
  | .hbm, ⟨6, _⟩ => ⟨S1024x4x1280, .f32⟩
  | .hbm, ⟨7, _⟩ => ⟨S1024x5120, .f32⟩
  | .hbm, ⟨8, _⟩ => ⟨S4352x5120, .f32⟩
  | .hbm, ⟨9, _⟩ => ⟨S4352x5120, .f32⟩
  | .hbm, ⟨10, _⟩ => ⟨S5120x1024, .f32⟩
  | .hbm, ⟨11, _⟩ => ⟨S1024x5120, .f32⟩
  | .hbm, ⟨12, _⟩ => ⟨S1024x4x1280, .f32⟩
  | .hbm, ⟨13, _⟩ => ⟨S4x1024x1280, .f32⟩
  | .hbm, ⟨14, _⟩ => ⟨S4x1024x1280, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Ffn.lean ====
abbrev S4352x1024 : Shape := ⟨2, ![4352, 1024]⟩
abbrev S4096x1024 : Shape := ⟨2, ![4096, 1024]⟩
abbrev S1x1024 : Shape := ⟨2, ![1, 1024]⟩
abbrev S2816x1024 : Shape := ⟨2, ![2816, 1024]⟩
abbrev S4352x2816 : Shape := ⟨2, ![4352, 2816]⟩
abbrev S1x1 : Shape := ⟨2, ![1, 1]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S_ : Shape := ⟨0, ![]⟩
abbrev S256 : Shape := ⟨1, ![256]⟩
abbrev S256x1 : Shape := ⟨2, ![256, 1]⟩
abbrev S1x256x1 : Shape := ⟨3, ![1, 256, 1]⟩
abbrev S1x1x1 : Shape := ⟨3, ![1, 1, 1]⟩
abbrev S1024 : Shape := ⟨1, ![1024]⟩

abbrev nBuf : Space → Nat
  | .hbm => 17
  | .vmem => 26
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S4352x1024, .f32⟩
  | .hbm, ⟨8, _⟩ => ⟨S4352x1024, .bf16⟩
  | .hbm, ⟨9, _⟩ => ⟨S4352x1024, .bf16⟩
  | .hbm, ⟨10, _⟩ => ⟨S4352x2816, .bf16⟩
  | .hbm, ⟨11, _⟩ => ⟨S4352x2816, .bf16⟩
  | .hbm, ⟨12, _⟩ => ⟨S4352x2816, .bf16⟩
  | .hbm, ⟨13, _⟩ => ⟨S4352x1024, .bf16⟩
  | .hbm, ⟨14, _⟩ => ⟨S1x1, .f32⟩
  | .hbm, ⟨15, _⟩ => ⟨S1x1024, .f32⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S1x1, .f32⟩
  | .local _ .vmem, ⟨21, _⟩ => ⟨S1x1024, .f32⟩
  | .local _ .vmem, ⟨22, _⟩ => ⟨S1x1024, .f32⟩
  | .local _ .vmem, ⟨23, _⟩ => ⟨S2816x1024, .bf16⟩
  | .local _ .vmem, ⟨24, _⟩ => ⟨S2816x1024, .bf16⟩
  | .local _ .vmem, ⟨25, _⟩ => ⟨S2816x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev main_v0_9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S4352x1024 : Shape := ⟨2, ![4352, 1024]⟩
abbrev S4096x1024 : Shape := ⟨2, ![4096, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S4352 : Shape := ⟨1, ![4352]⟩
abbrev S4352x1 : Shape := ⟨2, ![4352, 1]⟩
abbrev S1024x2816 : Shape := ⟨2, ![1024, 2816]⟩
abbrev S4352x2816 : Shape := ⟨2, ![4352, 2816]⟩
abbrev S4096 : Shape := ⟨1, ![4096]⟩
abbrev S1x1 : Shape := ⟨2, ![1, 1]⟩

abbrev nBuf : Space → Nat
  | .hbm => 168
  | .vmem => 0
  | .smem => 0
  | _ => 0

abbrev hbmTy0_0 (i : Nat) : BufTy := match i % 128 with
  | 0 => ⟨S4352x1024, .f32⟩
  | 1 => ⟨S4096x1024, .f32⟩
  | 2 => ⟨S1x1024, .f32⟩
  | 3 => ⟨S1x1024, .f32⟩
  | 4 => ⟨S2816x1024, .bf16⟩
  | 5 => ⟨S2816x1024, .bf16⟩
  | 6 => ⟨S2816x1024, .bf16⟩
  | 7 => ⟨S2816x1024, .f32⟩
  | 8 => ⟨S2816x1024, .f32⟩
  | 9 => ⟨S2816x1024, .f32⟩
  | 10 => ⟨S1024, .f32⟩
  | 11 => ⟨S4352x1024, .f32⟩
  | 12 => ⟨S_, .f32⟩
  | 13 => ⟨S4352, .f32⟩
  | 14 => ⟨S4352x1, .f32⟩
  | 15 => ⟨S_, .f32⟩
  | 16 => ⟨S4352x1, .f32⟩
  | 17 => ⟨S4352x1, .f32⟩
  | 18 => ⟨S_, .f32⟩
  | 19 => ⟨S4352x1, .f32⟩
  | 20 => ⟨S4352x1, .f32⟩
  | 21 => ⟨S4352x1, .f32⟩
  | 22 => ⟨S4352x1, .f32⟩
  | 23 => ⟨S_, .f32⟩
  | 24 => ⟨S4352x1, .f32⟩
  | 25 => ⟨S4352x1, .f32⟩
  | 26 => ⟨S4352x1024, .f32⟩
  | 27 => ⟨S4352x1024, .f32⟩
  | 28 => ⟨S1x1024, .f32⟩
  | 29 => ⟨S4352x1024, .f32⟩
  | 30 => ⟨S4352x1024, .f32⟩
  | 31 => ⟨S1024x2816, .f32⟩
  | 32 => ⟨S4352x2816, .f32⟩
  | 33 => ⟨S1024x2816, .f32⟩
  | 34 => ⟨S4352x2816, .f32⟩
  | 35 => ⟨S4352x2816, .f32⟩
  | 36 => ⟨S4352x2816, .f32⟩
  | 37 => ⟨S_, .f32⟩
  | 38 => ⟨S4352x2816, .f32⟩
  | 39 => ⟨S4352x2816, .f32⟩
  | 40 => ⟨S_, .f32⟩
  | 41 => ⟨S4352x2816, .f32⟩
  | 42 => ⟨S4352x2816, .f32⟩
  | 43 => ⟨S_, .f32⟩
  | 44 => ⟨S4352x2816, .f32⟩
  | 45 => ⟨S4352x2816, .f32⟩
  | 46 => ⟨S4352x2816, .f32⟩
  | 47 => ⟨S4352x2816, .f32⟩
  | 48 => ⟨S4352x2816, .f32⟩
  | 49 => ⟨S4352x1024, .f32⟩
  | 50 => ⟨S4352x1024, .f32⟩
  | 51 => ⟨S1024, .f32⟩
  | 52 => ⟨S4352x1024, .f32⟩
  | 53 => ⟨S_, .f32⟩
  | 54 => ⟨S4352, .f32⟩
  | 55 => ⟨S4352x1, .f32⟩
  | 56 => ⟨S_, .f32⟩
  | 57 => ⟨S4352x1, .f32⟩
  | 58 => ⟨S4352x1, .f32⟩
  | 59 => ⟨S_, .f32⟩
  | 60 => ⟨S4352x1, .f32⟩
  | 61 => ⟨S4352x1, .f32⟩
  | 62 => ⟨S4352x1, .f32⟩
  | 63 => ⟨S4352x1, .f32⟩
  | 64 => ⟨S_, .f32⟩
  | 65 => ⟨S4352x1, .f32⟩
  | 66 => ⟨S4352x1, .f32⟩
  | 67 => ⟨S4352x1024, .f32⟩
  | 68 => ⟨S4352x1024, .f32⟩
  | 69 => ⟨S1x1024, .f32⟩
  | 70 => ⟨S4352x1024, .f32⟩
  | 71 => ⟨S4352x1024, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S_, .f32⟩
  | 79 => ⟨S4096, .f32⟩
  | 80 => ⟨S_, .f32⟩
  | 81 => ⟨S4096, .f32⟩
  | 82 => ⟨S4096, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S4096, .f32⟩
  | 91 => ⟨S_, .f32⟩
  | 92 => ⟨S4096, .f32⟩
  | 93 => ⟨S4096, .f32⟩
  | 94 => ⟨S4096x1024, .f32⟩
  | 95 => ⟨S4096x1024, .f32⟩
  | 96 => ⟨S_, .f32⟩
  | 97 => ⟨S4352x1024, .f32⟩
  | 98 => ⟨S4352x1024, .f32⟩
  | 99 => ⟨S_, .f32⟩
  | 100 => ⟨S1024, .f32⟩
  | 101 => ⟨S1x1024, .f32⟩
  | 102 => ⟨S4352x1024, .f32⟩
  | 103 => ⟨S4352x1024, .f32⟩
  | 104 => ⟨S_, .f32⟩
  | 105 => ⟨S1024, .f32⟩
  | 106 => ⟨S4352x1024, .f32⟩
  | 107 => ⟨S_, .f32⟩
  | 108 => ⟨S4352, .f32⟩
  | 109 => ⟨S4352x1, .f32⟩
  | 110 => ⟨S4352x1024, .f32⟩
  | 111 => ⟨S4352x1024, .f32⟩
  | 112 => ⟨S4352x1, .f32⟩
  | 113 => ⟨S_, .f32⟩
  | 114 => ⟨S4352x1, .f32⟩
  | 115 => ⟨S4352x1, .f32⟩
  | 116 => ⟨S_, .f32⟩
  | 117 => ⟨S4352, .f32⟩
  | 118 => ⟨S4352x1024, .f32⟩
  | 119 => ⟨S4352x1024, .f32⟩
  | 120 => ⟨S4352x1024, .f32⟩
  | 121 => ⟨S4352x1024, .f32⟩
  | 122 => ⟨S4352x1024, .f32⟩
  | 123 => ⟨S1x1024, .f32⟩
  | 124 => ⟨S4352x2816, .f32⟩
  | 125 => ⟨S4352x2816, .f32⟩
  | 126 => ⟨S4352x2816, .f32⟩
  | 127 => ⟨S4352x2816, .f32⟩
  | _ => ⟨S4352x1024, .f32⟩

abbrev hbmTy0_1 (i : Nat) : BufTy := match i % 128 with
  | 0 => ⟨S4352x2816, .f32⟩
  | 1 => ⟨S4352x2816, .f32⟩
  | 2 => ⟨S4352x2816, .f32⟩
  | 3 => ⟨S4352x1024, .f32⟩
  | 4 => ⟨S4352x1024, .f32⟩
  | 5 => ⟨S4352x1024, .f32⟩
  | 6 => ⟨S4352x1024, .f32⟩
  | 7 => ⟨S_, .f32⟩
  | 8 => ⟨S1024, .f32⟩
  | 9 => ⟨S1x1024, .f32⟩
  | 10 => ⟨S4352x1024, .f32⟩
  | 11 => ⟨S4352x1024, .f32⟩
  | 12 => ⟨S_, .f32⟩
  | 13 => ⟨S1024, .f32⟩
  | 14 => ⟨S4352x1024, .f32⟩
  | 15 => ⟨S_, .f32⟩
  | 16 => ⟨S4352, .f32⟩
  | 17 => ⟨S4352x1, .f32⟩
  | 18 => ⟨S4352x1024, .f32⟩
  | 19 => ⟨S4352x1024, .f32⟩
  | 20 => ⟨S4352x1, .f32⟩
  | 21 => ⟨S_, .f32⟩
  | 22 => ⟨S4352x1, .f32⟩
  | 23 => ⟨S4352x1, .f32⟩
  | 24 => ⟨S_, .f32⟩
  | 25 => ⟨S4352, .f32⟩
  | 26 => ⟨S4352x1024, .f32⟩
  | 27 => ⟨S4352x1024, .f32⟩
  | 28 => ⟨S4352x1024, .f32⟩
  | 29 => ⟨S4352x1024, .f32⟩
  | 30 => ⟨S4352x1024, .f32⟩
  | 31 => ⟨S1x1024, .f32⟩
  | 32 => ⟨S4352x1024, .f32⟩
  | 33 => ⟨S4352x1024, .bf16⟩
  | 34 => ⟨S4352x1024, .bf16⟩
  | 35 => ⟨S4352x2816, .bf16⟩
  | 36 => ⟨S4352x2816, .bf16⟩
  | 37 => ⟨S4352x2816, .bf16⟩
  | 38 => ⟨S4352x1024, .bf16⟩
  | 39 => ⟨S1x1, .f32⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v24_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v24_1 : Ref sig .tc := ⟨.hbm, 46, rfl⟩
abbrev main_v24_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_cst_12 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_15 : Ref sig .tc := ⟨.hbm, 96, rfl⟩
abbrev main_v61 : Ref sig .tc := ⟨.hbm, 97, rfl⟩
abbrev main_v62 : Ref sig .tc := ⟨.hbm, 98, rfl⟩
abbrev main_cst_16 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_17 : Ref sig .tc := ⟨.hbm, 104, rfl⟩
abbrev main_v67 : Ref sig .tc := ⟨.hbm, 105, rfl⟩
abbrev main_v68 : Ref sig .tc := ⟨.hbm, 106, rfl⟩
abbrev main_cst_18 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_19 : Ref sig .tc := ⟨.hbm, 113, rfl⟩
abbrev main_v74 : Ref sig .tc := ⟨.hbm, 114, rfl⟩
abbrev main_v75 : Ref sig .tc := ⟨.hbm, 115, rfl⟩
abbrev main_cst_20 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_21 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_22 : Ref sig .tc := ⟨.hbm, 140, rfl⟩
abbrev main_v95 : Ref sig .tc := ⟨.hbm, 141, rfl⟩
abbrev main_v96 : Ref sig .tc := ⟨.hbm, 142, rfl⟩
abbrev main_cst_23 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_24 : Ref sig .tc := ⟨.hbm, 149, rfl⟩
abbrev main_v102 : Ref sig .tc := ⟨.hbm, 150, rfl⟩
abbrev main_v103 : Ref sig .tc := ⟨.hbm, 151, rfl⟩
abbrev main_cst_25 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩

abbrev nD : Nat := 1
abbrev τ : Topo := Topo.v7x

variable {F : FTy → Type} [FloatOps F]
-- ==== Wpool.lean ====
abbrev S4352x1024 : Shape := ⟨2, ![4352, 1024]⟩
abbrev S1024x256 : Shape := ⟨2, ![1024, 256]⟩
abbrev S4352x256 : Shape := ⟨2, ![4352, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x256, .f32⟩
  | .hbm, ⟨3, _⟩ => ⟨S1024x256, .bf16⟩
  | .local _ .vmem, ⟨0, _⟩ => ⟨S4352x256, .bf16⟩
  | .local _ .vmem, ⟨1, _⟩ => ⟨S4352x256, .bf16⟩
  | .local _ .vmem, ⟨2, _⟩ => ⟨S4352x256, .bf16⟩
  | .local _ .vmem, ⟨3, _⟩ => ⟨S4352x256, .bf16⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v10 : BitVec 1 := Scalar.cmpi .eq arg2 c0_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== WpoolRefIdeal.lean ====
abbrev S4352x1024 : Shape := ⟨2, ![4352, 1024]⟩
abbrev S_ : Shape := ⟨0, ![]⟩
abbrev S4x256x256 : Shape := ⟨3, ![4, 256, 256]⟩
abbrev S4352x4x256 : Shape := ⟨3, ![4352, 4, 256]⟩
abbrev S4x256x4352 : Shape := ⟨3, ![4, 256, 4352]⟩
abbrev S1024x256 : Shape := ⟨2, ![1024, 256]⟩

abbrev nBuf : Space → Nat
  | .hbm => 15
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S4x256x256, .f32⟩
  | .hbm, ⟨4, _⟩ => ⟨S4352x1024, .f32⟩
  | .hbm, ⟨5, _⟩ => ⟨S4352x4x256, .f32⟩
  | .hbm, ⟨6, _⟩ => ⟨S4x256x4352, .f32⟩
  | .hbm, ⟨7, _⟩ => ⟨S4352x4x256, .f32⟩
  | .hbm, ⟨8, _⟩ => ⟨S4352x1024, .f32⟩
  | .hbm, ⟨9, _⟩ => ⟨S4352x4x256, .f32⟩
  | .hbm, ⟨10, _⟩ => ⟨S4x256x4352, .f32⟩
  | .hbm, ⟨11, _⟩ => ⟨S4x256x256, .f32⟩
  | .hbm, ⟨12, _⟩ => ⟨S4x256x256, .f32⟩
  | .hbm, ⟨13, _⟩ => ⟨S1024x256, .f32⟩
  | .hbm, ⟨14, _⟩ => ⟨S1024x256, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== InProj.lean ====
abbrev S4352x1024 : Shape := ⟨2, ![4352, 1024]⟩
abbrev S4x1024x1280 : Shape := ⟨3, ![4, 1024, 1280]⟩
abbrev S4352x5120 : Shape := ⟨2, ![4352, 5120]⟩
abbrev S5 : Shape := ⟨1, ![5]⟩
abbrev S8x128 : Shape := ⟨2, ![8, 128]⟩
abbrev S2176x1024 : Shape := ⟨2, ![2176, 1024]⟩
abbrev S1x1024x1280 : Shape := ⟨3, ![1, 1024, 1280]⟩
abbrev S1 : Shape := ⟨1, ![1]⟩
abbrev S2176x1280 : Shape := ⟨2, ![2176, 1280]⟩
abbrev S1024x1280 : Shape := ⟨2, ![1024, 1280]⟩

abbrev nBuf : Space → Nat
  | .hbm => 5
  | .vmem => 6
  | .smem => 1
  | _ => 0

abbrev bufTy : (tb : Table) → Fin (tcTables nBuf tb) → BufTy
  | .hbm, ⟨0, _⟩ => ⟨S4352x1024, .bf16⟩
  | .hbm, ⟨1, _⟩ => ⟨S4x1024x1280, .bf16⟩
  | .hbm, ⟨2, _⟩ => ⟨S4352x5120, .f32⟩
  | .hbm, ⟨3, _⟩ => ⟨S8x128, .f32⟩
  | .hbm, ⟨4, _⟩ => ⟨S4352x5120, .f32⟩
  | .local _ .vmem, ⟨0, _⟩ => ⟨S2176x1024, .bf16⟩
  | .local _ .vmem, ⟨1, _⟩ => ⟨S2176x1024, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S2176x1280, .f32⟩
  | .local _ .vmem, ⟨5, _⟩ => ⟨S2176x1280, .f32⟩
  | .local _ .smem, ⟨0, _⟩ => ⟨S5, .i32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c1_i32 : BitVec 32 := 1#32
  let arg0 : BitVec 32 := BitVec.ofNat 32 (i 0).val
  let v0 : BitVec 32 := Scalar.addi c1_i32 arg0
  let v1 : Index := Scalar.indexCast v0
  ![v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S5) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ a, (k0_off1 i) a + S1.size a ≤ S5.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let v1 : Index := Scalar.indexCast v0
  let v2 : BitVec 32 := pf.at 0 (Rect.unit (s := S5) ![v1.toNat] S1.size (k0_off1_inb i)) numel1_S1
  let c0_i32 : BitVec 32 := 0#32
  ![arg1.toNat, v2.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4352x1024 : Shape := ⟨2, ![4352, 1024]⟩
abbrev S4x1024x1280 : Shape := ⟨3, ![4, 1024, 1280]⟩
abbrev S4352x5120 : Shape := ⟨2, ![4352, 5120]⟩
abbrev S5 : Shape := ⟨1, ![5]⟩
abbrev S8x128 : Shape := ⟨2, ![8, 128]⟩
abbrev S4 : Shape := ⟨1, ![4]⟩
abbrev S1 : Shape := ⟨1, ![1]⟩
abbrev S_ : Shape := ⟨0, ![]⟩
abbrev S4352x4x1280 : Shape := ⟨3, ![4352, 4, 1280]⟩
abbrev S1x4x1 : Shape := ⟨3, ![1, 4, 1]⟩

abbrev nBuf : Space → Nat
  | .hbm => 28
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4x1024x1280, .bf16⟩
  | .hbm, ⟨2, _⟩ => ⟨S4352x5120, .f32⟩
  | .hbm, ⟨3, _⟩ => ⟨S5, .i32⟩
  | .hbm, ⟨4, _⟩ => ⟨S8x128, .f32⟩
  | .hbm, ⟨5, _⟩ => ⟨S4, .i32⟩
  | .hbm, ⟨6, _⟩ => ⟨S1, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S1, .i32⟩
  | .hbm, ⟨11, _⟩ => ⟨S_, .i32⟩
  | .hbm, ⟨12, _⟩ => ⟨S4, .i32⟩
  | .hbm, ⟨13, _⟩ => ⟨S4, .i1⟩
  | .hbm, ⟨14, _⟩ => ⟨S4, .i1⟩
  | .hbm, ⟨15, _⟩ => ⟨S1, .i32⟩
  | .hbm, ⟨16, _⟩ => ⟨S_, .i32⟩
  | .hbm, ⟨17, _⟩ => ⟨S4, .i32⟩
  | .hbm, ⟨18, _⟩ => ⟨S4, .i1⟩
  | .hbm, ⟨19, _⟩ => ⟨S4, .i1⟩
  | .hbm, ⟨20, _⟩ => ⟨S4352x1024, .f32⟩
  | .hbm, ⟨21, _⟩ => ⟨S4x1024x1280, .f32⟩
  | .hbm, ⟨22, _⟩ => ⟨S4352x4x1280, .f32⟩
  | .hbm, ⟨23, _⟩ => ⟨S1x4x1, .i1⟩
  | .hbm, ⟨24, _⟩ => ⟨S4352x4x1280, .f32⟩
  | .hbm, ⟨25, _⟩ => ⟨S4352x4x1280, .i1⟩
  | .hbm, ⟨26, _⟩ => ⟨S4352x4x1280, .f32⟩
  | .hbm, ⟨27, _⟩ => ⟨S4352x5120, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Proof.Wgrad.Sum.lean ====
/- A sum over the rows, taken half by half; and the gradient of a weight as such a sum. -/
module

public import Idealize.ShloMosaic.Lib.Pointwise

@[expose] public section

noncomputable section

namespace Cert.Wgrad

open Idealize.ShloMosaic hiding ix0 ix1 ix2 ix3 eq_ix1 eq_ix2
open Idealize.ShloMosaic.ValueIdx

/-- All rows are the first half and the second half. -/
theorem halves (f : Fin 4352 → EReal) {a b : Fin 2176 → Fin 4352} (ha : ∀ p, (a p).val = p.val) (hb : ∀ p, (b p).val = 2176 + p.val) :
    0 + ∑ p, f (a p) + ∑ p, f (b p) = ∑ r, f r := by
  rw [zero_add, show ∑ r, f r = _ from Fin.sum_univ_add (a := 2176) (b := 2176) f]
  exact congrArg₂ (· + ·) (Finset.sum_congr rfl fun p _ => congrArg f (Fin.ext (ha p))) (Finset.sum_congr rfl fun p _ => congrArg f (Fin.ext (hb p)))

/-- The gradient of a weight `w` of `x · w` where `x` is given and `y` is the gradient of the product: entry (i, j) is
    the sum over the rows of `x`'s column `i` times `y`'s column `j`. -/
def grad {m n : ℕ} (x : (⟨2, ![4352, m]⟩ : Shape).Idx → EReal) (y : (⟨2, ![4352, n]⟩ : Shape).Idx → EReal) (i : Fin m) (j : Fin n) : EReal :=
  ∑ r : Fin 4352, x (ix2 r i) * y (ix2 r j)

end Cert.Wgrad
-- ==== Proof.Wgrad.Pool.lean ====
/- The gradient of the pool's map: what the call leaves in its two result arrays. -/
module

public import proofs.«01_k».proof.Proof.Gen.WpoolIdeal.Frame
public import proofs.«01_k».proof.Proof.Wgrad.Sum
public import Idealize.ShloMosaic.Lib.Pipeline.ValueKit
public import Idealize.ShloMosaic.Lib.Pointwise

@[expose] public section

set_option maxRecDepth 16384

noncomputable section

namespace Cert.WpoolIdeal.Wgrad

open Cert.WpoolIdeal Cert.WpoolIdeal.Gen
open Idealize.ShloMosaic hiding ix0 ix1 ix2 ix3 eq_ix1 eq_ix2
open Idealize.ShloMosaic.ValueIdx
open Idealize.ShloMosaic.TcCoe Idealize.ShloMosaic.Pipeline Idealize.ShloMosaic.Tactic Idealize.SL.Sem

/-- No offset along either axis. -/
theorem at_origin : (![0, 0] : Fin 2 → Nat) = fun _ => 0 := funext fun a => by fin_cases a <;> rfl

section Blocks

variable {F : FTy → Type} [FloatOps F]

variable (c : Dev nD) (i : grid0.Coords) (a3 : Memref sig .tc .vmem S4352x256 .bf16) (h3 : a3.IsWhole) (a4 : Memref sig .tc .vmem S4352x256 .bf16)
  (h4 : a4.IsWhole) (a5 : Memref sig .tc .vmem S256x256 .f32) (h5 : a5.IsWhole) (a6 : Memref sig .tc .vmem S256x256 .bf16) (h6 : a6.IsWhole)
  (x : Vec F S4352x256 .bf16) (y : Vec F S4352x256 .bf16)

/-- The product of the two groups of columns, added to zeros. -/
theorem whole (k0 : cond0_0 i) (k1 : cond0_1 i) : out0_A_2 c i a3 h3 a4 h4 a5 h5 a6 h6 k0 k1 x y = k0_pay2 k0_pay1 x y := by
  unfold out0_A_2
  rw [View.read_writes_eq_canon _ _ _ (cover0_A_2 c i a3 h3 a4 h4 a5 h5 a6 h6 k0 k1 x y)]
  unfold kernelRun0_A
  dsimp only
  sl_unfold_words
  rw [View.canon_cons_unit_zero (S := S256x256) at_origin, View.readCov_unit_zero (S := S256x256) _ at_origin]
  simp only [View.readAt_eq_ld, h3.read_unread, h4.read_unread, View.ld_unit_zero (S := S4352x256) at_origin]

/-- The second result is the first, rounded. -/
theorem whole_rounded (k0 : cond0_0 i) (k1 : cond0_1 i) : out0_A_3 c i a3 h3 a4 h4 a5 h5 a6 h6 k0 k1 x y = k0_pay3 (k0_pay2 k0_pay1 x y) := by
  unfold out0_A_3
  rw [View.read_writes_eq_canon _ _ _ (cover0_A_3 c i a3 h3 a4 h4 a5 h5 a6 h6 k0 k1 x y)]
  unfold kernelRun0_A
  dsimp only
  sl_unfold_words
  rw [View.canon_unit_zero at_origin, View.readCov_cons_toLoadRect, View.readCov_unit_zero (S := S256x256) _ at_origin]
  simp only [View.readAt_eq_ld, h3.read_unread, h4.read_unread, View.ld_unit_zero (S := S4352x256) at_origin]

variable (m : (ℓ : Loc nD τ sig) → Buf (Elt F) ℓ)

theorem block_holds (t : Fin cfg0.N) :
    outsAt0 m c t = (k0_pay2 k0_pay1 (iblk m c 0 t) (iblk m c 1 t), k0_pay3 (k0_pay2 k0_pay1 (iblk m c 0 t) (iblk m c 1 t))) := by
  unfold outsAt0
  rw [whole, whole_rounded]

end Blocks

/-! ## The entries -/

theorem idx_0 : ∀ t : Fin cfg0.N, win0_0.index t = ![0, t.val] := (by decide +kernel : ∀ t : Fin grid0.N, _)
theorem idx_1 : ∀ t : Fin cfg0.N, win0_1.index t = ![0, t.val] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)

theorem lt_four (t : Fin cfg0.N) : t.val < 4 := lt_of_lt_of_eq t.isLt N_0

/-- Channel `q` of the group that point `t` takes. -/
def chan (t : Fin cfg0.N) (q : Fin 256) : Fin 1024 := ⟨256 * t.val + q.val, by have := lt_four t; omega⟩

theorem add_product (s : Vec Ideal S256x256 .f32) (x : Vec Ideal S4352x256 .bf16) (y : Vec Ideal S4352x256 .bf16) (p : Fin 256) (q : Fin 256) :
    (k0_pay2 s x y : FVec Ideal S256x256 .f32) (ix2 p q) = s (ix2 p q) + ∑ r : Fin 4352, x (ix2 r p) * y (ix2 r q) := by
  unfold k0_pay2
  pointwise []
  rfl

theorem zeros (p : Fin 256) (q : Fin 256) : (k0_pay1 : FVec Ideal S256x256 .f32) (ix2 p q) = 0 := by
  unfold k0_pay1
  pointwise []

theorem rounded (s : Vec Ideal S256x256 .f32) (p : Fin 256) (q : Fin 256) : (k0_pay3 s : FVec Ideal S256x256 .bf16) (ix2 p q) = s (ix2 p q) := by
  unfold k0_pay3
  pointwise []

variable (m : (ℓ : Loc nD τ sig) → Buf (Elt Ideal) ℓ) (c : Dev nD)

theorem read_0 (t : Fin cfg0.N) (p : Fin 4352) (q : Fin 256) : iblk m c 0 t (ix2 p q) = V m c main_arg0 (ix2 p (chan t q)) := by
  unfold iblk; blk_ext [idx_0, chan]
  · show t.val * 256 + q.val = _; omega

theorem read_1 (t : Fin cfg0.N) (p : Fin 4352) (q : Fin 256) : iblk m c 1 t (ix2 p q) = V m c main_arg1 (ix2 p (chan t q)) := by
  unfold iblk; blk_ext [idx_1, chan]
  · show t.val * 256 + q.val = _; omega

/-- Row `i` of the result belongs to the group of channel `i`: it pairs with the same group's channel `j`. -/
def partner (i : Fin 1024) (j : Fin 256) : Fin 1024 := ⟨256 * (i.val / 256) + j.val, by omega⟩

theorem partner_chan (t : Fin cfg0.N) (p q : Fin 256) : partner (chan t p) q = chan t q := Fin.ext (by
  show 256 * ((256 * t.val + p.val) / 256) + q.val = 256 * t.val + q.val; omega)

theorem block_sum (t : Fin cfg0.N) (p : Fin 256) (q : Fin 256) :
    (outsAt0 m c t).1 (ix2 p q) = Cert.Wgrad.grad (V m c main_arg0) (V m c main_arg1) (chan t p) (partner (chan t p) q) := by
  rw [block_holds c m t]
  dsimp only
  rw [add_product, zeros, zero_add, partner_chan]
  simp only [read_0, read_1]
  rfl

theorem block_rounded (t : Fin cfg0.N) (p : Fin 256) (q : Fin 256) :
    (outsAt0 m c t).2 (ix2 p q) = Cert.Wgrad.grad (V m c main_arg0) (V m c main_arg1) (chan t p) (partner (chan t p) q) := by
  refine Eq.trans ?_ (block_sum m c t p q)
  rw [block_holds c m t]
  exact rounded _ p q

/-- The first result. -/
theorem final_2 : (dats m 0 c).arrAt 2 cfg0.N = fun y : S1024x256.Idx => Cert.Wgrad.grad (V m c main_arg0) (V m c main_arg1) (y 0) (partner (y 0) (y 1)) := by
  refine (dats m 0 c).arrAt_eq_of_covers 2 _ (by decide +kernel) fun t _ y => ?_
  blk_simp
  rw [after0_2]
  obtain ⟨p, q, rfl⟩ : ∃ (p : Fin 256) (q : Fin 256), y = ix2 p q := ⟨y 0, y 1, eq_ix2 y⟩
  refine (block_sum m c t p q).trans ?_
  congr 1
  · apply Fin.ext; blk_simp [idx_2, chan]; show 256 * t.val + p.val = t.val * 256 + p.val; omega
  · refine congrArg₂ partner (Fin.ext ?_) (Fin.ext ?_)
    · blk_simp [idx_2, chan]; show 256 * t.val + p.val = t.val * 256 + p.val; omega
    · blk_simp [idx_2]

/-- The second result. -/
theorem final_3 : (dats m 0 c).arrAt 3 cfg0.N = fun y : S1024x256.Idx => Cert.Wgrad.grad (V m c main_arg0) (V m c main_arg1) (y 0) (partner (y 0) (y 1)) := by
  refine (dats m 0 c).arrAt_eq_of_covers 3 _ (by decide +kernel) fun t _ y => ?_
  blk_simp
  rw [after0_3]
  obtain ⟨p, q, rfl⟩ : ∃ (p : Fin 256) (q : Fin 256), y = ix2 p q := ⟨y 0, y 1, eq_ix2 y⟩
  refine (block_rounded m c t p q).trans ?_
  congr 1
  · apply Fin.ext; blk_simp [idx_3, chan]; show 256 * t.val + p.val = t.val * 256 + p.val; omega
  · refine congrArg₂ partner (Fin.ext ?_) (Fin.ext ?_)
    · blk_simp [idx_3, chan]; show 256 * t.val + p.val = t.val * 256 + p.val; omega
    · blk_simp [idx_3]

variable (ρ : Dev nD → PrngReg)

/-- Every run of the call ends with both results at the gradient and the arguments as they were. -/
theorem ends : θ_run (defs (F := Ideal)) (onTc (τ := τ) (main (F := Ideal))) ⟨m, fun _ => 0, ρ⟩ (fun r => ∀ c : Dev nD,
      r.2.mem ((c.tc : Thread nD τ).loc main_v0_0) = (fun y : S1024x256.Idx => Cert.Wgrad.grad (m ((c.tc : Thread nD τ).loc main_arg0)) (m ((c.tc : Thread nD τ).loc main_arg1)) (y 0) (partner (y 0) (y 1)))
      ∧ r.2.mem ((c.tc : Thread nD τ).loc main_v0_1) = (fun y : S1024x256.Idx => Cert.Wgrad.grad (m ((c.tc : Thread nD τ).loc main_arg0)) (m ((c.tc : Thread nD τ).loc main_arg1)) (y 0) (partner (y 0) (y 1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1.out_eq c 2).trans (final_2 m c), (h.1.out_eq c 3).trans (final_3 m c), h.2 c⟩)
    (θ_run_and (run_main m ρ) (unchanged m ρ))

end Cert.WpoolIdeal.Wgrad
-- ==== Proof.Wgrad.PoolRef.lean ====
/- The gradient of the pool's map: what the reference leaves. -/
module

public import proofs.«01_k».proof.Proof.Gen.WpoolRefIdeal.Run
public import proofs.«01_k».proof.Proof.Wgrad.Sum
public import Idealize.ShloMosaic.Lib.Pointwise

@[expose] public section

set_option maxRecDepth 16384

noncomputable section

open Idealize.ShloMosaic hiding ix0 ix1 ix2 ix3 eq_ix1 eq_ix2
open Idealize.ShloMosaic.ValueIdx
open Idealize.ShloMosaic.TcCoe Idealize.SL.Sem

namespace Cert.WpoolRefIdeal.Wgrad

open Cert.WpoolRefIdeal Cert.WpoolRefIdeal.Gen

/-- Row `i` of the result belongs to the group of channel `i`: it pairs with the same group's channel `j`. -/
def partner (i : Fin 1024) (j : Fin 256) : Fin 1024 := ⟨256 * (i.val / 256) + j.val, by omega⟩

/-- The gradient of each group's `w` in `x · w`. -/
theorem value (x : FVec Ideal S4352x1024 .bf16) (y : FVec Ideal S4352x1024 .bf16) :
    shapeCast S1024x256 (transpose S4x256x256 [0, 2, 1] (Host.dotGeneral dot_S4x256x4352_S4352x4x256_S4x256x256_2_0_1_2_0_1 none
      (transpose S4x256x4352 [1, 2, 0] (shapeCast S4352x4x256 (extf .f32 y bitsLt_bf16_f32) shapeCasts_S4352x1024_S4352x4x256) transposes_S4352x4x256_S4x256x4352_1_2_0)
      (shapeCast S4352x4x256 (extf .f32 x bitsLt_bf16_f32) shapeCasts_S4352x1024_S4352x4x256)) transposes_S4x256x256_S4x256x256_0_2_1) shapeCasts_S4x256x256_S1024x256
      = (fun i => Cert.Wgrad.grad x y (i 0) (partner (i 0) (i 1)) : FVec Ideal S1024x256 .f32) := by
  funext i
  obtain ⟨p, q, rfl⟩ : ∃ (p : Fin 1024) (q : Fin 256), i = ix2 p q := ⟨i 0, i 1, eq_ix2 i⟩
  pointwise []
  refine (Finset.sum_congr rfl fun r _ => ?_).trans (b := ∑ r : Fin 4352, x (ix2 r p) * y (ix2 r (partner p q))) rfl
  rw [mul_comm]
  exact congrArg (fun k => x (ix2 r p) * y (ix2 r k)) (Fin.ext (by show p.val / 256 * 256 + q.val = 256 * (p.val / 256) + q.val; omega))

/-- Every run of the reference ends with both results at the gradient and the arguments as they were. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10) = (fun y : S1024x256.Idx => Cert.Wgrad.grad (m ((c.tc : Thread nD τ).loc main_arg0)) (m ((c.tc : Thread nD τ).loc main_arg1)) (y 0) (partner (y 0) (y 1)))
      ∧ r.2.mem ((c.tc : Thread nD τ).loc main_v11) = (fun y : S1024x256.Idx => Cert.Wgrad.grad (m ((c.tc : Thread nD τ).loc main_arg0)) (m ((c.tc : Thread nD τ).loc main_arg1)) (y 0) (partner (y 0) (y 1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (value _ _), (h c).2.1.trans (value _ _), (h c).2.2⟩) (Value.run m ρ)

end Cert.WpoolRefIdeal.Wgrad
-- ==== Proof.Slabs.Word.lean ====
/- The precondition on the table: its slots name slabs of the weight. -/
module

public import proofs.«01_k».proof.Proof.Gen.Pre_slots
public import Idealize.ShloMosaic.Lib.Pointwise
public import Idealize.ShloMosaic.Lib.Pipeline.ValueKit

@[expose] public section

set_option maxRecDepth 16384

open Idealize.ShloMosaic hiding ix0 ix1 ix2 ix3 eq_ix1 eq_ix2
open Idealize.ShloMosaic.ValueIdx
open Idealize.ShloMosaic.TcCoe Idealize.SL.Sem

namespace Cert.Slabs

/-- A word between 0 and 3, read as a number. -/
theorem word_lt (v : BitVec 32) (h0 : IntOp.cmpi .sge v 0#32 = 1#1) (h4 : IntOp.cmpi .slt v 4#32 = 1#1) : v.toNat < 4 := by
  have ofBool_eq_one (p : Bool) : (BitVec.ofBool p = 1#1) ↔ p = true := by cases p <;> decide
  simp only [ofBool_eq_one, IntOp.cmpi, BitVec.sle, BitVec.slt, decide_eq_true_eq, BitVec.toInt, BitVec.toNat_ofNat] at h0 h4
  simp at h0 h4
  omega

/-- The precondition: each slot after the first names one of the weight's four slabs. -/
theorem slots_lt {F : FTy → Type} [FloatOps F] {u w z idx d} (h : Cert.Pre_slots.fn (F := F) u w z idx d = fun _ => 1#1) :
    (idx (ix1 (1 : Fin 5))).toNat < 4 ∧ (idx (ix1 (2 : Fin 5))).toNat < 4 ∧ (idx (ix1 (3 : Fin 5))).toNat < 4 := by
  have andi_one (a b : BitVec 1) : IntOp.andi a b = 1#1 ↔ a = 1#1 ∧ b = 1#1 := by revert a b; decide
  have pre := congrFun h ix0
  simp only [Cert.Pre_slots.fn, Cert.Pre_slots.fn_part1, constantI, cmpi, andi, andi_one] at pre
  obtain ⟨⟨⟨a0, a1⟩, ⟨b0, b1⟩⟩, ⟨c0, c1⟩⟩ := pre
  have at_slot (k : Nat) (n : Fin 5) (e : n.val = k) (hs : Cert.Pre_slots.S5.Slices ![k] Cert.Pre_slots.S1) (hc) :
      shapeCast Cert.Pre_slots.S_ (extractStridedSlice Cert.Pre_slots.S1 ![k] idx hs) hc ix0 = idx (ix1 n) := by
    subst e
    pointwise []
    rfl
  rw [at_slot 1 1 rfl] at a0 a1
  rw [at_slot 2 2 rfl] at b0 b1
  rw [at_slot 3 3 rfl] at c0 c1
  exact ⟨word_lt _ a0 a1, word_lt _ b0 b1, word_lt _ c0 c1⟩

end Cert.Slabs
-- ==== Proof.Slabs.Admits.lean ====
/- The call's table under the precondition: every block lies inside its array. -/
module

public import proofs.«01_k».proof.Proof.Slabs.Word
public import proofs.«01_k».proof.Proof.Gen.InProj.Frame
public import Idealize.ShloMosaic.Lib.Pipeline.Covers

@[expose] public section

set_option maxRecDepth 16384

noncomputable section

namespace Cert.InProj.Slabs

open Cert.InProj Cert.InProj.Gen
open Idealize.ShloMosaic hiding ix0 ix1 ix2 ix3 eq_ix1 eq_ix2
open Idealize.ShloMosaic.ValueIdx
open Idealize.ShloMosaic.TcCoe Idealize.ShloMosaic.Pipeline Idealize.ShloMosaic.Tactic Idealize.SL.Sem

variable {F : FTy → Type} [FloatOps F]

/-! ## Which blocks a point takes -/

/-- The table's slot that point `t` reads. -/
def slot (t : Fin grid0.N) : Fin 5 := ⟨1 + t.val / 2, by have := lt_of_lt_of_eq t.isLt N_0; omega⟩

theorem reads_slot (t : Fin grid0.N) : k0_off1 (grid0.coords t) 0 = (slot t).val :=
  (by decide +kernel : ∀ t : Fin grid0.N, k0_off1 (grid0.coords t) 0 = 1 + t.val / 2) t

theorem at_slot (pf : pre0.Contents (Elt F)) (t : Fin grid0.N) :
    pf.at 0 (Rect.unit (s := S5) (k0_off1 (grid0.coords t)) S1.size (k0_off1_inb (grid0.coords t))) numel1_S1 = (pf 0 : S5.Idx → BitVec 32) (ix1 (slot t)) := by
  show (pf 0 : S5.Idx → BitVec 32) _ = _
  refine congrArg (pf 0 : S5.Idx → BitVec 32) (funext fun a => Fin.ext ?_)
  fin_cases a
  exact (Nat.add_zero _).trans (reads_slot t)

theorem map_1 (pf : pre0.Contents (Elt F)) (t : Fin grid0.N) :
    cc0_transform_1 k0_off1_inb numel1_S1 pf (grid0.coords t) = ![((pf 0 : S5.Idx → BitVec 32) (ix1 (slot t))).toNat, 0, 0] := by
  rw [← at_slot pf t]; rfl

theorem half (t : Fin grid0.N) : (BitVec.ofNat 32 (grid0.coords t 1).val).toNat = t.val % 2 :=
  (by decide +kernel : ∀ t : Fin grid0.N, (BitVec.ofNat 32 (grid0.coords t 1).val).toNat = t.val % 2) t

theorem map_2 (pf : pre0.Contents (Elt F)) (t : Fin grid0.N) :
    cc0_transform_4 k0_off1_inb numel1_S1 pf (grid0.coords t) = ![t.val % 2, ((pf 0 : S5.Idx → BitVec 32) (ix1 (slot t))).toNat] := by
  rw [← at_slot pf t, ← half t]; rfl

/-- Tables whose read slots name slabs are tables that the pipeline takes. -/
theorem admitted (pf : pre0.Contents (Elt F)) (h : ∀ t : Fin grid0.N, ((pf 0 : S5.Idx → BitVec 32) (ix1 (slot t))).toNat < 4) : ok0 pf := by
  refine ⟨fun i => ?_, fun i => ?_⟩
  · obtain ⟨t, rfl⟩ := grid0.coords_surjective i
    refine ⟨fun a => ?_, .inr (Affine.block_words_dvd (of_decide_eq_true rfl) (by decide))⟩
    rw [map_1]
    have := h t
    fin_cases a
    · show (((pf 0 : S5.Idx → BitVec 32) (ix1 (slot t))).toNat + 1) * 1 ≤ 4
      omega
    · show (0 + 1) * 1024 ≤ 1024
      omega
    · show (0 + 1) * 1280 ≤ 1280
      omega
  · obtain ⟨t, rfl⟩ := grid0.coords_surjective i
    refine ⟨fun a => ?_, .inl rfl⟩
    rw [map_2]
    have := h t
    fin_cases a
    · show (t.val % 2 + 1) * 2176 ≤ 4352
      omega
    · show (((pf 0 : S5.Idx → BitVec 32) (ix1 (slot t))).toNat + 1) * 1280 ≤ 5120
      omega

variable (m : (ℓ : Loc nD τ sig) → Buf (Elt F) ℓ)

/-- The precondition makes the call's table one that the pipeline takes. -/
theorem ok (u w z d) (h : Cert.Pre_slots.fn (F := F) u w z (m (((0 : Dev nD).tc : Thread nD τ).loc main_arg3)) d = fun _ => 1#1) : Ok m := by
  obtain ⟨h1, h2, h3⟩ := Cert.Slabs.slots_lt h
  have e : (tbl m 0 : S5.Idx → BitVec 32) = m (((0 : Dev nD).tc : Thread nD τ).loc main_arg3) := V_main_arg3 m 0
  refine admitted _ fun t => ?_
  rw [e]
  have ht : t.val < 6 := lt_of_lt_of_eq t.isLt N_0
  rcases (by omega : t.val / 2 = 0 ∨ t.val / 2 = 1 ∨ t.val / 2 = 2) with q | q | q
  · rw [show slot t = 1 from Fin.ext (by show 1 + t.val / 2 = 1; omega)]; exact h1
  · rw [show slot t = 2 from Fin.ext (by show 1 + t.val / 2 = 2; omega)]; exact h2
  · rw [show slot t = 3 from Fin.ext (by show 1 + t.val / 2 = 3; omega)]; exact h3

end Cert.InProj.Slabs
-- ==== Proof.Slabs.Sum.lean ====
/- The input projection taken slab by slab: what the columns of the slabs named by a table hold, and what the others hold. -/
module

public import Idealize.ShloMosaic.Lib.Pointwise

@[expose] public section

noncomputable section

namespace Cert.Slabs

open Idealize.ShloMosaic hiding ix0 ix1 ix2 ix3 eq_ix1 eq_ix2
open Idealize.ShloMosaic.ValueIdx

/-- Slab `s` of the weight is one of the three that the table's slots 1, 2 and 3 name. -/
def Taken (idx : (⟨1, ![5]⟩ : Shape).Idx → BitVec 32) (s : ℕ) : Prop :=
  (idx (ix1 (1 : Fin 5))).toNat = s ∨ (idx (ix1 (2 : Fin 5))).toNat = s ∨ (idx (ix1 (3 : Fin 5))).toNat = s

instance (idx : (⟨1, ![5]⟩ : Shape).Idx → BitVec 32) (s : ℕ) : Decidable (Taken idx s) := by unfold Taken; infer_instance

/-- Row `r` of the activations times column `f` of the weight's slab `s`. -/
def product (u : (⟨2, ![4352, 1024]⟩ : Shape).Idx → EReal) (w : (⟨3, ![4, 1024, 1280]⟩ : Shape).Idx → EReal) (r : Fin 4352) (s : Fin 4) (f : Fin 1280) : EReal :=
  ∑ k : Fin 1024, u (ix2 r k) * w (ix3 s k f)

/-- The projection: a column of a slab that the table names holds the product, every other what it held. -/
def projected (u : (⟨2, ![4352, 1024]⟩ : Shape).Idx → EReal) (w : (⟨3, ![4, 1024, 1280]⟩ : Shape).Idx → EReal)
    (z : (⟨2, ![4352, 5120]⟩ : Shape).Idx → EReal) (idx : (⟨1, ![5]⟩ : Shape).Idx → BitVec 32) (r : Fin 4352) (j : Fin 5120) : EReal :=
  if Taken idx (j.val / 1280) then product u w r ⟨j.val / 1280, by omega⟩ ⟨j.val % 1280, by omega⟩ else z (ix2 r j)

end Cert.Slabs
-- ==== Proof.Slabs.Kernel.lean ====
/- The input projection's call: what it leaves in its result. -/
module

public import proofs.«01_k».proof.Proof.Gen.InProjIdeal.Frame
public import proofs.«01_k».proof.Proof.Slabs.Sum
public import Idealize.ShloMosaic.Lib.Pipeline.ValueKit
public import Idealize.ShloMosaic.Lib.Pointwise

@[expose] public section

set_option maxRecDepth 16384

noncomputable section

namespace Cert.InProjIdeal.Slabs

open Cert.InProjIdeal Cert.InProjIdeal.Gen
open Idealize.ShloMosaic hiding ix0 ix1 ix2 ix3 eq_ix1 eq_ix2
open Idealize.ShloMosaic.ValueIdx
open Idealize.ShloMosaic.TcCoe Idealize.ShloMosaic.Pipeline Idealize.ShloMosaic.Tactic Idealize.SL.Sem

/-- No offset along either axis. -/
theorem at_origin : (![0, 0] : Fin 2 → Nat) = fun _ => 0 := funext fun a => by fin_cases a <;> rfl
theorem at_origin3 : (![0, 0, 0] : Fin 3 → Nat) = fun _ => 0 := funext fun a => by fin_cases a <;> rfl

section Blocks

variable {F : FTy → Type} [FloatOps F]

/-! ## Which blocks a point takes -/

/-- The table's slot that point `t` reads. -/
def slot (t : Fin grid0.N) : Fin 5 := ⟨1 + t.val / 2, by have := lt_of_lt_of_eq t.isLt N_0; omega⟩

theorem reads_slot (t : Fin grid0.N) : k0_off1 (grid0.coords t) 0 = (slot t).val :=
  (by decide +kernel : ∀ t : Fin grid0.N, k0_off1 (grid0.coords t) 0 = 1 + t.val / 2) t

theorem at_slot (pf : pre0.Contents (Elt F)) (t : Fin grid0.N) :
    pf.at 0 (Rect.unit (s := S5) (k0_off1 (grid0.coords t)) S1.size (k0_off1_inb (grid0.coords t))) numel1_S1 = (pf 0 : S5.Idx → BitVec 32) (ix1 (slot t)) := by
  show (pf 0 : S5.Idx → BitVec 32) _ = _
  refine congrArg (pf 0 : S5.Idx → BitVec 32) (funext fun a => Fin.ext ?_)
  fin_cases a
  exact (Nat.add_zero _).trans (reads_slot t)

theorem map_1 (pf : pre0.Contents (Elt F)) (t : Fin grid0.N) :
    cc0_transform_1 k0_off1_inb numel1_S1 pf (grid0.coords t) = ![((pf 0 : S5.Idx → BitVec 32) (ix1 (slot t))).toNat, 0, 0] := by
  rw [← at_slot pf t]; rfl

theorem half (t : Fin grid0.N) : (BitVec.ofNat 32 (grid0.coords t 1).val).toNat = t.val % 2 :=
  (by decide +kernel : ∀ t : Fin grid0.N, (BitVec.ofNat 32 (grid0.coords t 1).val).toNat = t.val % 2) t

theorem map_2 (pf : pre0.Contents (Elt F)) (t : Fin grid0.N) :
    cc0_transform_4 k0_off1_inb numel1_S1 pf (grid0.coords t) = ![t.val % 2, ((pf 0 : S5.Idx → BitVec 32) (ix1 (slot t))).toNat] := by
  rw [← at_slot pf t, ← half t]; rfl

variable (m : (ℓ : Loc nD τ sig) → Buf (Elt F) ℓ) (hO : Ok m) (c : Dev nD)

theorem idx_0 (t : Fin (cfgM m hO).N) : ((cfgM m hO).win 0).index t = ![t.val % 2, 0] :=
  (by decide +kernel : ∀ t : Fin grid0.N, cc0_transform_0 (grid0.coords t) = ![t.val % 2, 0]) t

theorem idx_1 (t : Fin (cfgM m hO).N) : ((cfgM m hO).win 1).index t = ![((tbl m 0 : S5.Idx → BitVec 32) (ix1 (slot t))).toNat, 0, 0] := map_1 (tbl m) t

theorem idx_2 (t : Fin (cfgM m hO).N) : ((cfgM m hO).win 2).index t = ![t.val % 2, ((tbl m 0 : S5.Idx → BitVec 32) (ix1 (slot t))).toNat] := map_2 (tbl m) t

/-- Every point's result is written back: the next point takes the other half of the rows. -/
theorem flush_2 (t : Fin (cfgM m hO).N) : ((cfgM m hO).win 2).flush t = true := by
  unfold Window.flush
  rw [show ((cfgM m hO).win 2).isOut = true from rfl, Bool.true_and, Bool.or_eq_true]
  by_cases h : t.val + 1 = (cfgM m hO).N
  · exact .inl (decide_eq_true h)
  · refine .inr (decide_eq_true ⟨Nat.lt_of_le_of_ne (Nat.succ_le_of_lt t.isLt) h, fun e => ?_⟩)
    rw [idx_2, idx_2] at e
    have := congrFun e 0
    change (t.val + 1) % 2 = t.val % 2 at this
    omega

variable (i : grid0.Coords) (a3 : Memref sig .tc .vmem S2176x1024 .bf16) (h3 : a3.IsWhole) (a4 : Memref sig .tc .vmem S1x1024x1280 .bf16)
  (h4 : a4.IsWhole) (a7 : Memref sig .tc .vmem S2176x1280 .f32) (h7 : a7.IsWhole) (x : Vec F S2176x1024 .bf16) (y : Vec F S1x1024x1280 .bf16) (tb : TbBuf0 (F := F) c tbM0_0)

theorem whole : out0_A_2 c i a3 h3 a4 h4 a7 h7 x y tb = k0_pay1 x y := by
  unfold out0_A_2
  rw [View.read_writes_eq_canon _ _ _ (cover0_A_2 c i a3 h3 a4 h4 a7 h7 x y tb)]
  unfold kernelRun0_A
  dsimp only
  sl_unfold_words
  rw [View.canon_unit_zero at_origin]
  simp only [View.readAt_eq_ld, h3.read_unread, h4.read_unread, View.ld_unit_zero (S := S2176x1024) at_origin, View.ld_unit_zero (S := S1x1024x1280) at_origin3]

end Blocks

theorem entry (x : Vec Ideal S2176x1024 .bf16) (y : Vec Ideal S1x1024x1280 .bf16) (p : Fin 2176) (q : Fin 1280) :
    (k0_pay1 x y : FVec Ideal S2176x1280 .f32) (ix2 p q) = ∑ k : Fin 1024, x (ix2 p k) * y (ix3 (0 : Fin 1) k q) := by
  unfold k0_pay1
  pointwise []
  rfl

variable (m : (ℓ : Loc nD τ sig) → Buf (Elt Ideal) ℓ) (hO : Ok m) (c : Dev nD)

/-- The slab that point `t` takes is one of the weight's four. -/
theorem slab_lt (t : Fin (cfgM m hO).N) : ((tbl m 0 : S5.Idx → BitVec 32) (ix1 (slot t))).toNat < 4 := by
  obtain ⟨h, -⟩ := hO.1 (grid0.coords t)
  have := h 0
  rw [map_1] at this
  have e : (((tbl m 0 : S5.Idx → BitVec 32) (ix1 (slot t))).toNat + 1) * 1 ≤ 4 := this
  omega

/-- The slab, and the row that row `p` of point `t`'s block is. -/
def slab (t : Fin (cfgM m hO).N) : Fin 4 := ⟨_, slab_lt m hO t⟩
def row (t : Fin (cfgM m hO).N) (p : Fin 2176) : Fin 4352 := ⟨2176 * (t.val % 2) + p.val, by omega⟩

theorem read_0 (t : Fin (cfgM m hO).N) (p : Fin 2176) (k : Fin 1024) : iblk m hO c 0 t (ix2 p k) = V m c main_arg0 (ix2 (row m hO t p) k) := by
  unfold iblk; blk_ext [row]
  · show ((cfgM m hO).win 0).index t (0 : Fin 2) * 2176 + p.val = 2176 * (t.val % 2) + p.val
    rw [idx_0]; show t.val % 2 * 2176 + _ = _; omega
  · show ((cfgM m hO).win 0).index t (1 : Fin 2) * 1024 + k.val = k.val
    rw [idx_0]; show 0 * 1024 + _ = _; omega

theorem read_1 (t : Fin (cfgM m hO).N) (k : Fin 1024) (q : Fin 1280) : iblk m hO c 1 t (ix3 (0 : Fin 1) k q) = V m c main_arg1 (ix3 (slab m hO t) k q) := by
  unfold iblk; blk_ext [slab]
  · show ((cfgM m hO).win 1).index t (0 : Fin 3) = _
    rw [idx_1]; rfl
  · show ((cfgM m hO).win 1).index t (1 : Fin 3) * 1024 + k.val = k.val
    rw [idx_1]; show 0 * 1024 + _ = _; omega
  · show ((cfgM m hO).win 1).index t (2 : Fin 3) * 1280 + q.val = q.val
    rw [idx_1]; show 0 * 1280 + _ = _; omega

/-- A block's entry is the product's. -/
theorem block_product (t : Fin (cfgM m hO).N) (p : Fin 2176) (q : Fin 1280) :
    outsAt0 m hO c t (ix2 p q) = Cert.Slabs.product (V m c main_arg0) (V m c main_arg1) (row m hO t p) (slab m hO t) q := by
  unfold outsAt0
  refine (congrFun (whole c (grid0.coords t) _ (hs0_0 m hO t) _ (hs0_1 m hO t) _ (hs0_2 m hO t) (iblk m hO c 0 t) (iblk m hO c 1 t) (tbl m 0)) (ix2 p q)).trans ?_
  refine (entry _ _ p q).trans ?_
  exact Finset.sum_congr rfl fun k _ => congrArg₂ (· * ·) (read_0 m hO c t p k) (read_1 m hO c t k q)

/-- Which entries of the result lie in the block of point `t`. -/
theorem covered (t : Fin (cfgM m hO).N) (r : Fin 4352) (j : Fin 5120) :
    (ix2 r j : S4352x5120.Idx) ∈ (((cfgM m hO).win 2).blk t).view.set ↔ r.val / 2176 = t.val % 2 ∧ j.val / 1280 = (slab m hO t).val := by
  refine (((cfgM m hO).win 2).emb_mem_blk_iff t (ix2 r j : S4352x5120.Idx) rfl).trans ?_
  rw [idx_2]
  constructor
  · intro h
    have h0 := h (0 : Fin 2)
    have h1 := h (1 : Fin 2)
    change t.val % 2 * 2176 ≤ r.val ∧ r.val < t.val % 2 * 2176 + 2176 at h0
    change (slab m hO t).val * 1280 ≤ j.val ∧ j.val < (slab m hO t).val * 1280 + 1280 at h1
    omega
  · rintro ⟨h0, h1⟩ a
    fin_cases a
    · show t.val % 2 * 2176 ≤ r.val ∧ r.val < t.val % 2 * 2176 + 2176
      omega
    · show (slab m hO t).val * 1280 ≤ j.val ∧ j.val < (slab m hO t).val * 1280 + 1280
      omega

/-- The projected entry of an index. -/
def want (i : S4352x5120.Idx) : EReal :=
  Cert.Slabs.product (V m c main_arg0) (V m c main_arg1) (i 0) ⟨(i 1).val / 1280, by have := (i 1).isLt; change _ < 5120 at this; omega⟩ ⟨(i 1).val % 1280, by omega⟩

theorem want_eq (i : S4352x5120.Idx) (r : Fin 4352) (s : Fin 4) (q : Fin 1280) (e0 : (i 0).val = r.val) (e1 : (i 1).val = 1280 * s.val + q.val) :
    want m c i = Cert.Slabs.product (V m c main_arg0) (V m c main_arg1) r s q := by
  unfold want
  have a0 : i 0 = r := Fin.ext e0
  have a1 : (⟨(i 1).val / 1280, by have := (i 1).isLt; change _ < 5120 at this; omega⟩ : Fin 4) = s := Fin.ext (by show (i 1).val / 1280 = s.val; omega)
  have a2 : (⟨(i 1).val % 1280, by omega⟩ : Fin 1280) = q := Fin.ext (by show (i 1).val % 1280 = q.val; omega)
  rw [a0, a1, a2]

/-- An index of a named slab lies in some point's block. -/
theorem point (r : Fin 4352) (j : Fin 5120) (h : Cert.Slabs.Taken (tbl m 0) (j.val / 1280)) :
    ∃ t : Fin (cfgM m hO).N, r.val / 2176 = t.val % 2 ∧ j.val / 1280 = (slab m hO t).val := by
  have hr : r.val / 2176 < 2 := by omega
  have hN : (cfgM m hO).N = 6 := N_0
  rcases h with h | h | h
  · exact ⟨⟨r.val / 2176, by omega⟩, by show _ = r.val / 2176 % 2; omega, h.symm.trans (congrArg (fun s => ((tbl m 0 : S5.Idx → BitVec 32) (ix1 s)).toNat) (Fin.ext (by show 1 = 1 + r.val / 2176 / 2; omega)))⟩
  · exact ⟨⟨2 + r.val / 2176, by omega⟩, by show _ = (2 + r.val / 2176) % 2; omega, h.symm.trans (congrArg (fun s => ((tbl m 0 : S5.Idx → BitVec 32) (ix1 s)).toNat) (Fin.ext (by show 2 = 1 + (2 + r.val / 2176) / 2; omega)))⟩
  · exact ⟨⟨4 + r.val / 2176, by omega⟩, by show _ = (4 + r.val / 2176) % 2; omega, h.symm.trans (congrArg (fun s => ((tbl m 0 : S5.Idx → BitVec 32) (ix1 s)).toNat) (Fin.ext (by show 3 = 1 + (4 + r.val / 2176) / 2; omega)))⟩

/-- Every index of a point's block is of a named slab. -/
theorem named (t : Fin (cfgM m hO).N) (s : Nat) (hs : s = (slab m hO t).val) : Cert.Slabs.Taken (tbl m 0) s := by
  have ht : t.val < 6 := lt_of_lt_of_eq t.isLt N_0
  have e : ∀ k : Fin 5, slot t = k → ((tbl m 0 : S5.Idx → BitVec 32) (ix1 k)).toNat = s := fun k es => by
    rw [← es]; exact hs.symm
  rcases (by omega : t.val / 2 = 0 ∨ t.val / 2 = 1 ∨ t.val / 2 = 2) with q | q | q
  · exact .inl (e 1 (Fin.ext (by show 1 + t.val / 2 = 1; omega)))
  · exact .inr (.inl (e 2 (Fin.ext (by show 1 + t.val / 2 = 2; omega))))
  · exact .inr (.inr (e 3 (Fin.ext (by show 1 + t.val / 2 = 3; omega))))

end Cert.InProjIdeal.Slabs
-- ==== Proof.Slabs.AdmitsIdeal.lean ====
/- The call's table under the precondition: every block lies inside its array, over the extended reals. -/
module

public import proofs.«01_k».proof.Proof.Slabs.Word
public import proofs.«01_k».proof.Proof.Slabs.Kernel
public import Idealize.ShloMosaic.Lib.Pipeline.Covers

@[expose] public section

set_option maxRecDepth 16384

noncomputable section

namespace Cert.InProjIdeal.Slabs

open Cert.InProjIdeal Cert.InProjIdeal.Gen
open Idealize.ShloMosaic hiding ix0 ix1 ix2 ix3 eq_ix1 eq_ix2
open Idealize.ShloMosaic.ValueIdx
open Idealize.ShloMosaic.TcCoe Idealize.ShloMosaic.Pipeline Idealize.ShloMosaic.Tactic Idealize.SL.Sem

variable {F : FTy → Type} [FloatOps F]

/-- Tables whose read slots name slabs are tables that the pipeline takes. -/
theorem admitted (pf : pre0.Contents (Elt F)) (h : ∀ t : Fin grid0.N, ((pf 0 : S5.Idx → BitVec 32) (ix1 (slot t))).toNat < 4) : ok0 pf := by
  refine ⟨fun i => ?_, fun i => ?_⟩
  · obtain ⟨t, rfl⟩ := grid0.coords_surjective i
    refine ⟨fun a => ?_, .inr (Affine.block_words_dvd (of_decide_eq_true rfl) (by decide))⟩
    rw [map_1]
    have := h t
    fin_cases a
    · show (((pf 0 : S5.Idx → BitVec 32) (ix1 (slot t))).toNat + 1) * 1 ≤ 4
      omega
    · show (0 + 1) * 1024 ≤ 1024
      omega
    · show (0 + 1) * 1280 ≤ 1280
      omega
  · obtain ⟨t, rfl⟩ := grid0.coords_surjective i
    refine ⟨fun a => ?_, .inl rfl⟩
    rw [map_2]
    have := h t
    fin_cases a
    · show (t.val % 2 + 1) * 2176 ≤ 4352
      omega
    · show (((pf 0 : S5.Idx → BitVec 32) (ix1 (slot t))).toNat + 1) * 1280 ≤ 5120
      omega

variable (m : (ℓ : Loc nD τ sig) → Buf (Elt F) ℓ)

/-- The precondition makes the call's table one that the pipeline takes. -/
theorem ok (u w z d) (h : Cert.Pre_slots.fn (F := F) u w z (m (((0 : Dev nD).tc : Thread nD τ).loc main_arg3)) d = fun _ => 1#1) : Ok m := by
  obtain ⟨h1, h2, h3⟩ := Cert.Slabs.slots_lt h
  have e : (tbl m 0 : S5.Idx → BitVec 32) = m (((0 : Dev nD).tc : Thread nD τ).loc main_arg3) := V_main_arg3 m 0
  refine admitted _ fun t => ?_
  rw [e]
  have ht : t.val < 6 := lt_of_lt_of_eq t.isLt N_0
  rcases (by omega : t.val / 2 = 0 ∨ t.val / 2 = 1 ∨ t.val / 2 = 2) with q | q | q
  · rw [show slot t = 1 from Fin.ext (by show 1 + t.val / 2 = 1; omega)]; exact h1
  · rw [show slot t = 2 from Fin.ext (by show 1 + t.val / 2 = 2; omega)]; exact h2
  · rw [show slot t = 3 from Fin.ext (by show 1 + t.val / 2 = 3; omega)]; exact h3

end Cert.InProjIdeal.Slabs
-- ==== Proof.Slabs.Ends.lean ====
/- The input projection: what the call leaves. -/
module

public import proofs.«01_k».proof.Proof.Slabs.Kernel

@[expose] public section

set_option maxRecDepth 16384

noncomputable section

namespace Cert.InProjIdeal.Slabs

open Cert.InProjIdeal Cert.InProjIdeal.Gen
open Idealize.ShloMosaic hiding ix0 ix1 ix2 ix3 eq_ix1 eq_ix2
open Idealize.ShloMosaic.ValueIdx
open Idealize.ShloMosaic.TcCoe Idealize.ShloMosaic.Pipeline Idealize.ShloMosaic.Tactic Idealize.SL.Sem

variable (m : (ℓ : Loc nD τ sig) → Buf (Elt Ideal) ℓ) (hO : Ok m) (c : Dev nD)

/-- What a point writes back is the projected entry of the index it is written to. -/
theorem written_at (t : Fin (cfgM m hO).N) (y : (((cfgM m hO).win 2).xblock ((cfgM m hO).grid.coords t)).Idx) :
    outsAt0 m hO c t (((cfgM m hO).win 2).xinj ((cfgM m hO).grid.coords t) y) = want m c ((((cfgM m hO).win 2).blk t).view.emb y) := by
  suffices e : ∀ y' : S2176x1280.Idx, (y' 0).val = (y (0 : Fin 2)).val → (y' 1).val = (y (1 : Fin 2)).val →
      outsAt0 m hO c t y' = want m c ((((cfgM m hO).win 2).blk t).view.emb y) from e _ rfl rfl
  intro y' y0 y1
  obtain ⟨p, q, rfl⟩ : ∃ (p : Fin 2176) (q : Fin 1280), y' = ix2 p q := ⟨y' 0, y' 1, eq_ix2 y'⟩
  refine (block_product m hO c t p q).trans (want_eq m c _ (row m hO t p) (slab m hO t) q ?_ ?_).symm
  · show ((cfgM m hO).win 2).index t (0 : Fin 2) * 2176 + 1 * (y (0 : Fin 2)).val = 2176 * (t.val % 2) + p.val
    rw [← y0, idx_2]; show t.val % 2 * 2176 + 1 * p.val = _; omega
  · show ((cfgM m hO).win 2).index t (1 : Fin 2) * 1280 + 1 * (y (1 : Fin 2)).val = 1280 * (slab m hO t).val + q.val
    rw [← y1, idx_2]; show (slab m hO t).val * 1280 + 1 * q.val = _; omega

/-- An entry of a named slab ends at the projected one. -/
theorem final_named (r : Fin 4352) (j : Fin 5120) (h : Cert.Slabs.Taken (tbl m 0) (j.val / 1280)) :
    ((dats m hO 0 c).arrAt 2 (cfgM m hO).N : S4352x5120.Idx → EReal) (ix2 r j) = want m c (ix2 r j) := by
  obtain ⟨t, ht⟩ := point m hO r j h
  have all : ∀ (t : Fin (cfgM m hO).N), ((cfgM m hO).win 2).flush t = true → ∀ y : (((cfgM m hO).win 2).xblock ((cfgM m hO).grid.coords t)).Idx,
      _root_.cast (congrArg (Elt Ideal) (((cfgM m hO).win 2).blk t).view.elt_eq.symm) ((dats m hO 0 c).flushed 2 t y) = want m c ((((cfgM m hO).win 2).blk t).view.emb y) := by
    intro t _ y
    rw [Dat.flushed_apply, after0_2]
    have key := written_at m hO c t y
    revert key
    generalize outsAt0 m hO c t (((cfgM m hO).win 2).xinj ((cfgM m hO).grid.coords t) y) = v
    intro key
    exact key
  exact (dats m hO 0 c).arrAt_forall_of_flushed 2 (fun (i : S4352x5120.Idx) (v : EReal) => v = want m c i)
    all _ t (ix2 r j : S4352x5120.Idx) t.isLt (flush_2 m hO t) ((covered m hO t r j).mpr ht)

/-- An entry of any other slab ends as it was. -/
theorem final_other (r : Fin 4352) (j : Fin 5120) (h : ¬ Cert.Slabs.Taken (tbl m 0) (j.val / 1280)) :
    ((dats m hO 0 c).arrAt 2 (cfgM m hO).N : S4352x5120.Idx → EReal) (ix2 r j) = V m c main_v0 (ix2 r j) :=
  (dats m hO 0 c).arrAt_apply_of_forall_not_mem 2 _ (ix2 r j : S4352x5120.Idx) fun t _ _ hm => h (named m hO t _ ((covered m hO t r j).mp hm).2)

/-- The result. -/
theorem final : (dats m hO 0 c).arrAt 2 (cfgM m hO).N = fun y : S4352x5120.Idx =>
    Cert.Slabs.projected (V m c main_arg0) (V m c main_arg1) (V m c main_v0) (tbl m 0) (y 0) (y 1) := by
  refine funext fun (y : S4352x5120.Idx) => ?_
  obtain ⟨r, j, rfl⟩ : ∃ (r : Fin 4352) (j : Fin 5120), y = ix2 r j := ⟨y 0, y 1, eq_ix2 y⟩
  show _ = Cert.Slabs.projected (V m c main_arg0) (V m c main_arg1) (V m c main_v0) (tbl m 0) r j
  by_cases h : Cert.Slabs.Taken (tbl m 0) (j.val / 1280)
  · refine (final_named m hO c r j h).trans ?_
    exact (if_pos h).symm
  · refine (final_other m hO c r j h).trans ?_
    exact (if_neg h).symm

/-- What the call is handed for its result's columns. -/
theorem V_main_v0 : V m c main_v0 = m ((c : Thread nD τ).loc main_arg2) := by
  show StableHlo.after [StableHlo.unary main_arg2 main_v0 id] (fun b => m (c, b)) main_v0 = _
  after_results <;> rfl

theorem tbl_eq : (tbl m 0 : S5.Idx → BitVec 32) = m ((c : Thread nD τ).loc main_arg3) := by
  obtain rfl : c = 0 := Subsingleton.elim _ _
  exact V_main_arg3 m 0

variable (ρ : Dev nD → PrngReg)

include hO in
/-- Every run of the call ends with its result at the projection and the arguments as they were. -/
theorem ends : θ_run (defs (F := Ideal)) (onTc (τ := τ) (main (F := Ideal))) ⟨m, fun _ => 0, ρ⟩ (fun r => ∀ c : Dev nD,
      r.2.mem ((c.tc : Thread nD τ).loc main_v0) = (fun y : S4352x5120.Idx => Cert.Slabs.projected (m ((c.tc : Thread nD τ).loc main_arg0)) (m ((c.tc : Thread nD τ).loc main_arg1)) (m ((c.tc : Thread nD τ).loc main_arg2)) (m ((c.tc : Thread nD τ).loc main_arg3)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 2).trans ((final m hO c).trans (by rw [V_main_arg0, V_main_arg1, V_main_v0, tbl_eq m c])), h.2 c⟩)
    (θ_run_and (run_main m ρ hO) (unchanged m ρ hO))

end Cert.InProjIdeal.Slabs
-- ==== Proof.Slabs.Ref.lean ====
/- The input projection: what the reference leaves. -/
module

public import proofs.«01_k».proof.Proof.Gen.InProjRefIdeal.Run
public import proofs.«01_k».proof.Proof.Slabs.Sum
public import Idealize.ShloMosaic.Lib.Pointwise

@[expose] public section

set_option maxRecDepth 16384

noncomputable section

open Idealize.ShloMosaic hiding ix0 ix1 ix2 ix3 eq_ix1 eq_ix2
open Idealize.ShloMosaic.ValueIdx
open Idealize.ShloMosaic.TcCoe Idealize.SL.Sem

namespace Cert.InProjRefIdeal.Slabs

open Cert.InProjRefIdeal Cert.InProjRefIdeal.Gen

/-- The slabs' numbers compared with the word in one slot of the table. -/
def named (n : Fin 1 → Nat) (h : S5.Slices n S1) (idx : IVec S5 32) : IVec S4 1 :=
  cmpi .eq (iotaInDim S4 32 0) (broadcastInDim S4 ![] bcast_S_S4 (shapeCast S_ (extractStridedSlice S1 n idx h) shapeCasts_S1_S_))

theorem named_at (k : Nat) (n : Fin 5) (e : n.val = k) (h : S5.Slices ![k] S1) (idx : IVec S5 32) (s : Fin 4) :
    named ![k] h idx (ix1 s) = 1#1 ↔ (idx (ix1 n)).toNat = s.val := by
  unfold named
  pointwise []
  subst e
  have ofBool_eq_one (p : Bool) : (BitVec.ofBool p = 1#1) ↔ p = true := by cases p <;> decide
  show BitVec.ofBool (BitVec.ofNat 32 s.val == idx (ix1 n)) = 1#1 ↔ _
  rw [ofBool_eq_one, beq_iff_eq, ← BitVec.toNat_inj, BitVec.toNat_ofNat, Nat.mod_eq_of_lt (by omega)]
  exact eq_comm

/-- The slabs that the table names. -/
def mask (idx : IVec S5 32) : IVec S4 1 := ori (ori (named ![1] slices_S5_S1_1 idx) (named ![2] slices_S5_S1_2 idx)) (named ![3] slices_S5_S1_3 idx)

theorem mask_at (idx : IVec S5 32) (s : Fin 4) : mask idx (ix1 s) = 1#1 ↔ Cert.Slabs.Taken idx s.val := by
  have or_one (a b : BitVec 1) : IntOp.ori a b = 1#1 ↔ a = 1#1 ∨ b = 1#1 := by revert a b; decide
  unfold mask Cert.Slabs.Taken
  show IntOp.ori (IntOp.ori _ _) _ = 1#1 ↔ _
  rw [or_one, or_one, named_at 1 1 rfl, named_at 2 2 rfl, named_at 3 3 rfl, or_assoc]

theorem value (x : FVec Ideal S4352x1024 .bf16) (w : FVec Ideal S4x1024x1280 .bf16) (z : FVec Ideal S4352x5120 .f32) (idx : IVec S5 32) :
    shapeCast S4352x5120 (select (broadcastInDim S4352x4x1280 ![0, 1, 2] bcast_S1x4x1_S4352x4x1280_0_1_2 (broadcastInDim S1x4x1 ![1] bcast_S4_S1x4x1_1 (mask idx)))
      (Host.dotGeneral dot_S4352x1024_S4x1024x1280_S4352x4x1280_1_1_0_02_n_n none (extf .f32 x bitsLt_bf16_f32) (extf .f32 w bitsLt_bf16_f32))
      (shapeCast S4352x4x1280 z shapeCasts_S4352x5120_S4352x4x1280)) shapeCasts_S4352x4x1280_S4352x5120
      = (fun y => Cert.Slabs.projected x w z idx (y 0) (y 1) : FVec Ideal S4352x5120 .f32) := by
  funext y
  obtain ⟨r, j, rfl⟩ : ∃ (r : Fin 4352) (j : Fin 5120), y = ix2 r j := ⟨y 0, y 1, eq_ix2 y⟩
  pointwise []
  show (if mask idx (ix1 (⟨j.val / 1280, by omega⟩ : Fin 4)) = 1#1 then Cert.Slabs.product x w r ⟨j.val / 1280, by omega⟩ ⟨j.val % 1280, by omega⟩ else z (ix2 r j))
    = if Cert.Slabs.Taken idx (j.val / 1280) then Cert.Slabs.product x w r ⟨j.val / 1280, by omega⟩ ⟨j.val % 1280, by omega⟩ else z (ix2 r j)
  by_cases h : Cert.Slabs.Taken idx (j.val / 1280)
  · rw [if_pos h, if_pos ((mask_at idx ⟨j.val / 1280, by omega⟩).mpr h)]
  · rw [if_neg h, if_neg (fun e => h ((mask_at idx ⟨j.val / 1280, by omega⟩).mp e))]

/-- Every run of the reference ends with its result at the projection and the arguments as they were. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = (fun y : S4352x5120.Idx => Cert.Slabs.projected (m ((c.tc : Thread nD τ).loc main_arg0)) (m ((c.tc : Thread nD τ).loc main_arg1)) (m ((c.tc : Thread nD τ).loc main_arg2)) (m ((c.tc : Thread nD τ).loc main_arg3)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (value _ _ _ _), (h c).2⟩) (Value.run m ρ)

end Cert.InProjRefIdeal.Slabs
-- ==== Proof.Rows.Blocks.lean ====
module

public import proofs.«01_k».proof.Proof.Gen.KernelIdeal.Frame.Runs
public import Idealize.ShloMosaic.Lib.Pipeline.ValueKit

/-!
What the row pass makes of one row block, over the body's own values.
-/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What one row block of the pass reads: a block of each staged array, in the order of the call's operands. -/
structure Ins (F : FTy → Type) [FloatOps F] where
  dh : Vec F S256x1024 .bf16
  yc : Vec F S256x1024 .f32
  yp : Vec F S256x1024 .f32
  za : Vec F S256x1024 .f32
  zb : Vec F S256x1024 .f32
  bg : Vec F S1x2048 .f32
  cv : Vec F S256x1024 .f32
  lg : Vec F S1x1024 .f32
  lb : Vec F S1x1024 .f32
  mw : Vec F S256x1024 .f32
  ps : Vec F S1x1024 .f32
  wo : Vec F S1024x1024 .bf16
  wc : Vec F S1024x1024 .bf16
  wp : Vec F S1024x1024 .bf16
  wl : Vec F S4x256x256 .bf16

/-- The five running sums, as the block before left them. -/
structure Sums (F : FTy → Type) [FloatOps F] where
  bg : Vec F S1x2048 .f32
  lg : Vec F S1x1024 .f32
  lb : Vec F S1x1024 .f32
  dw : Vec F S1x1024 .f32
  ps : Vec F S1x1024 .f32

/-- The first half of a row of the two gates' width. -/
abbrev lo (x : Vec F S1x2048 .f32) : Vec F S1x1024 .f32 := View.ld x (Rect.unit (s := S1x2048) ![0, 0] S1x1024.size inb_S1x2048_S1x1024_0_0)
/-- The second half. -/
abbrev hi (x : Vec F S1x2048 .f32) : Vec F S1x1024 .f32 := View.ld x (Rect.unit (s := S1x2048) ![0, 1024] S1x1024.size inb_S1x2048_S1x1024_0_1024)
/-- Group 0 of the four pool matrices. -/
abbrev grp0 (x : Vec F S4x256x256 .bf16) : Vec F S1x256x256 .bf16 := View.ld x (Rect.unit (s := S4x256x256) ![0, 0, 0] S1x256x256.size inb_S4x256x256_S1x256x256_0_0_0)
/-- Group 1 of the four pool matrices. -/
abbrev grp1 (x : Vec F S4x256x256 .bf16) : Vec F S1x256x256 .bf16 := View.ld x (Rect.unit (s := S4x256x256) ![1, 0, 0] S1x256x256.size inb_S4x256x256_S1x256x256_1_0_0)
/-- Group 2 of the four pool matrices. -/
abbrev grp2 (x : Vec F S4x256x256 .bf16) : Vec F S1x256x256 .bf16 := View.ld x (Rect.unit (s := S4x256x256) ![2, 0, 0] S1x256x256.size inb_S4x256x256_S1x256x256_2_0_0)
/-- Group 3 of the four pool matrices. -/
abbrev grp3 (x : Vec F S4x256x256 .bf16) : Vec F S1x256x256 .bf16 := View.ld x (Rect.unit (s := S4x256x256) ![3, 0, 0] S1x256x256.size inb_S4x256x256_S1x256x256_3_0_0)
/-- Two column halves put side by side. -/
abbrev cols2 (a b : Vec F S256x1024 .bf16) : Vec F S256x2048 .bf16 :=
  View.canon [⟨(Rect.unit (s := S256x2048) ![0, 1024] S256x1024.size inb_S256x2048_S256x1024_0_1024), b⟩, ⟨(Rect.unit (s := S256x2048) ![0, 0] S256x1024.size inb_S256x2048_S256x1024_0_0), a⟩]
/-- The same of one row. -/
abbrev row2 (a b : Vec F S1x1024 .f32) : Vec F S1x2048 .f32 :=
  View.canon [⟨(Rect.unit (s := S1x2048) ![0, 1024] S1x1024.size inb_S1x2048_S1x1024_0_1024), b⟩, ⟨(Rect.unit (s := S1x2048) ![0, 0] S1x1024.size inb_S1x2048_S1x1024_0_0), a⟩]
/-- Four column quarters put side by side. -/
abbrev cols4 (a b d e : Vec F S256x256 .f32) : Vec F S256x1024 .f32 :=
  View.canon [⟨(Rect.unit (s := S256x1024) ![0, 768] S256x256.size inb_S256x1024_S256x256_0_768), e⟩, ⟨(Rect.unit (s := S256x1024) ![0, 512] S256x256.size inb_S256x1024_S256x256_0_512), d⟩, ⟨(Rect.unit (s := S256x1024) ![0, 256] S256x256.size inb_S256x1024_S256x256_0_256), b⟩, ⟨(Rect.unit (s := S256x1024) ![0, 0] S256x256.size inb_S256x1024_S256x256_0_0), a⟩]

/-- The gradient at the merged rows. -/
abbrev Ins.dmg (b : Ins F) := k0_pay8 b.dh b.wo
/-- The first gate. -/
abbrev Ins.ga (b : Ins F) := k0_pay9 b.za (lo b.bg)
/-- The second gate. -/
abbrev Ins.gb (b : Ins F) := k0_pay10 b.zb (hi b.bg)
/-- The gradient of the convolution branch's output. -/
abbrev Ins.dyc (b : Ins F) : Vec F S256x1024 .bf16 := k0_pay11 b.dh b.wo b.za (lo b.bg)
/-- The gradient of the pool branch's output. -/
abbrev Ins.dyp (b : Ins F) : Vec F S256x1024 .bf16 := k0_pay12 b.dh b.wo b.zb (hi b.bg)
/-- The gradient of the gates' arguments. -/
abbrev Ins.dzg (b : Ins F) : Vec F S256x2048 .bf16 := cols2 (k0_pay15 b.dmg b.ga b.yc) (k0_pay16 b.dmg b.gb b.yp)
/-- The gradient at the normalised rows. -/
abbrev Ins.dln (b : Ins F) := k0_pay22 b.dyc b.wc b.cv b.lg b.lb
/-- The gradient at the convolution's output. -/
abbrev Ins.dcv (b : Ins F) : Vec F S256x1024 .f32 := k0_pay26 (k0_pay20 b.cv) (k0_pay21 b.cv) b.dln b.lg
/-- The gradient at the mapped pool rows. -/
abbrev Ins.dmw (b : Ins F) : Vec F S256x1024 .bf16 := k0_pay30 b.dyp b.wp b.ps
/-- The gradient at the pooled rows. -/
abbrev Ins.dm (b : Ins F) : Vec F S256x1024 .f32 :=
  cols4 (k0_pay31 b.dyp b.wp b.ps (grp0 b.wl)) (k0_pay32 b.dyp b.wp b.ps (grp1 b.wl))
    (k0_pay1 (k0_pay33 b.dyp b.wp b.ps) (grp2 b.wl)) (k0_pay2 b.dmw (grp3 b.wl))

/-- The running sums at the start. -/
abbrev Sums.zero : Sums F := ⟨k0_pay3, k0_pay4, k0_pay5, k0_pay6, k0_pay7⟩
/-- The running sums after one more row block. -/
abbrev Sums.step (b : Ins F) (a : Sums F) : Sums F where
  bg := row2 (k0_pay17 b.dmg b.ga b.yc (lo a.bg)) (k0_pay18 b.dmg b.gb b.yp (hi a.bg))
  lg := k0_pay24 (k0_pay21 b.cv) b.dln (k0_pay23 a.lg)
  lb := k0_pay25 b.dln a.lb
  dw := k0_pay27 (k0_pay20 b.cv) (k0_pay21 b.cv) b.dln b.lg a.dw
  ps := k0_pay29 b.dyp b.wp a.ps b.mw

end Cert.KernelIdeal.Rows
-- ==== Proof.Rows.Part1.lean ====
module

public import proofs.«01_k».proof.Proof.Rows.Blocks

/-!
The row pass, part 1 of its body, run once.
-/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x2048 .f32) (harg6 : arg6.IsWhole)
  (arg7 : Memref sig .tc .vmem S256x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x1024 .f32) (harg10 : arg10.IsWhole)
  (arg11 : Memref sig .tc .vmem S1x1024 .f32) (harg11 : arg11.IsWhole)
  (arg12 : Memref sig .tc .vmem S1024x1024 .bf16) (harg12 : arg12.IsWhole)
  (arg13 : Memref sig .tc .vmem S1024x1024 .bf16) (harg13 : arg13.IsWhole)
  (arg14 : Memref sig .tc .vmem S1024x1024 .bf16) (harg14 : arg14.IsWhole)
  (arg15 : Memref sig .tc .vmem S4x256x256 .bf16) (harg15 : arg15.IsWhole)
  (arg16 : Memref sig .tc .hbm S8x128 .f32) (harg16 : arg16.IsWhole)
  (arg17 : Memref sig .tc .vmem S256x1024 .bf16) (harg17 : arg17.IsWhole)
  (arg18 : Memref sig .tc .vmem S256x1024 .bf16) (harg18 : arg18.IsWhole)
  (arg19 : Memref sig .tc .vmem S256x2048 .bf16) (harg19 : arg19.IsWhole)
  (arg20 : Memref sig .tc .vmem S256x1024 .f32) (harg20 : arg20.IsWhole)
  (arg21 : Memref sig .tc .vmem S256x1024 .bf16) (harg21 : arg21.IsWhole)
  (arg22 : Memref sig .tc .vmem S256x1024 .f32) (harg22 : arg22.IsWhole)
  (arg23 : Memref sig .tc .vmem S1x2048 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1x1024 .f32) (harg26 : arg26.IsWhole)
  (arg27 : Memref sig .tc .vmem S1x1024 .f32) (harg27 : arg27.IsWhole)

/-- The first part at the first row block: the running sums are set to zero, the two gates and the gradients of the two branches' outputs computed, the first of these stored. -/
theorem part1_first {β : Type} (x0 : Vec F S256x1024 .bf16) (x3 x4 : Vec F S256x1024 .f32) (x5 : Vec F S1x2048 .f32) (x11 : Vec F S1024x1024 .bf16) (hc0 : cond0_0 i)
    (E : Set ℕ) (kk : (Σ' (v5 : FVec F S256x1024 .f32) (v16 : FVec F S256x1024 .f32) (v27 : FVec F S256x1024 .f32) (v29 : FVec F S256x1024 .bf16), FVec F S256x1024 .bf16) → Prog (TpuEff nD τ sig (Elt F) Λ₀ .tc) β) (K : β → sProp 𝕄) :
    iprop(owns (c : Thread nD τ) arg1 fullShare x0 ∗ owns (c : Thread nD τ) arg4 fullShare x3 ∗ owns (c : Thread nD τ) arg5 fullShare x4 ∗ owns (c : Thread nD τ) arg6 fullShare x5 ∗ owns (c : Thread nD τ) arg12 fullShare x11 ∗ (∃ d, owns (c : Thread nD τ) arg17 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
      ∗ (iprop(owns (c : Thread nD τ) arg1 fullShare x0 ∗ owns (c : Thread nD τ) arg4 fullShare x3 ∗ owns (c : Thread nD τ) arg5 fullShare x4 ∗ owns (c : Thread nD τ) arg6 fullShare x5 ∗ owns (c : Thread nD τ) arg12 fullShare x11 ∗ owns (c : Thread nD τ) arg17 fullShare (k0_pay11 x0 x11 x3 (lo x5)) ∗ owns (c : Thread nD τ) arg23 fullShare k0_pay3 ∗ owns (c : Thread nD τ) arg24 fullShare k0_pay4 ∗ owns (c : Thread nD τ) arg25 fullShare k0_pay5 ∗ owns (c : Thread nD τ) arg26 fullShare k0_pay6 ∗ owns (c : Thread nD τ) arg27 fullShare k0_pay7) -∗
        wp frame (wpE (defs₀ (F := F)) Variants.none c none) E (kk ⟨k0_pay8 x0 x11, k0_pay9 x3 (lo x5), k0_pay10 x4 (hi x5), k0_pay11 x0 x11 x3 (lo x5), k0_pay12 x0 x11 x4 (hi x5)⟩) K))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 >>= kk) K := by
  rw [k0_part1_eq_skeleton]
  unfold owns
  iintro ⟨⟨%f1, %hf1, H1⟩, ⟨%f4, %hf4, H4⟩, ⟨%f5, %hf5, H5⟩, ⟨%f6, %hf6, H6⟩, ⟨%f12, %hf12, H12⟩, ⟨%d17, %f17, -, H17⟩, ⟨%d23, %f23, -, H23⟩, ⟨%d24, %f24, -, H24⟩, ⟨%d25, %f25, -, H25⟩, ⟨%d26, %f26, -, H26⟩, ⟨%d27, %f27, -, H27⟩, Hk⟩
  obtain rfl := harg1.eq_unread hf1
  obtain rfl := harg4.eq_unread hf4
  obtain rfl := harg5.eq_unread hf5
  obtain rfl := harg6.eq_unread hf6
  obtain rfl := harg12.eq_unread hf12
  sl_exec (disch := first | sl_exact hc0)
  sl_unfold_words
  simp (disch := decide) only [View.readAt_eq_ld, Memref.IsWhole.read_unread, View.ld_unit_lit]
  iapply Hk
  isplitl [H1]
  · iexists _; isplitr; · ipureintro; exact harg1.read_unread _
    iexact H1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H12]
  · iexists _; isplitr; · ipureintro; exact harg12.read_unread _
    iexact H12
  isplitl [H17]
  · iexists _; isplitr
    swap; · iexact H17
    ipureintro
    refine (View.read_writes_eq_canon _ _ _ ?_).trans ?_
    · exact View.cover_of_tiledBy _ ![256, 1024] (by sl_kernel_rfl)
    · sl_unfold_words
      simp (disch := decide) only [View.readAt_eq_ld, Memref.IsWhole.read_unread, View.ld_unit_lit, View.canon_cons_unit_lit, View.readCov_unit_lit]
  isplitl [H23]
  · iexists _; isplitr
    swap; · iexact H23
    ipureintro
    refine (View.read_writes_eq_canon _ _ _ ?_).trans ?_
    · exact View.cover_of_tiledBy _ ![1, 1024] (by sl_kernel_rfl)
    · sl_unfold_words
      simp (disch := decide) only [View.readAt_eq_ld, Memref.IsWhole.read_unread, View.ld_unit_lit, View.canon_cons_unit_lit, View.readCov_unit_lit]
  isplitl [H24]
  · iexists _; isplitr
    swap; · iexact H24
    ipureintro
    refine (View.read_writes_eq_canon _ _ _ ?_).trans ?_
    · exact View.cover_of_tiledBy _ ![1, 1024] (by sl_kernel_rfl)
    · sl_unfold_words
      simp (disch := decide) only [View.readAt_eq_ld, Memref.IsWhole.read_unread, View.ld_unit_lit, View.canon_cons_unit_lit, View.readCov_unit_lit]
  isplitl [H25]
  · iexists _; isplitr
    swap; · iexact H25
    ipureintro
    refine (View.read_writes_eq_canon _ _ _ ?_).trans ?_
    · exact View.cover_of_tiledBy _ ![1, 1024] (by sl_kernel_rfl)
    · sl_unfold_words
      simp (disch := decide) only [View.readAt_eq_ld, Memref.IsWhole.read_unread, View.ld_unit_lit, View.canon_cons_unit_lit, View.readCov_unit_lit]
  isplitl [H26]
  · iexists _; isplitr
    swap; · iexact H26
    ipureintro
    refine (View.read_writes_eq_canon _ _ _ ?_).trans ?_
    · exact View.cover_of_tiledBy _ ![1, 1024] (by sl_kernel_rfl)
    · sl_unfold_words
      simp (disch := decide) only [View.readAt_eq_ld, Memref.IsWhole.read_unread, View.ld_unit_lit, View.canon_cons_unit_lit, View.readCov_unit_lit]
  iexists _; isplitr
  swap; · iexact H27
  ipureintro
  refine (View.read_writes_eq_canon _ _ _ ?_).trans ?_
  · exact View.cover_of_tiledBy _ ![1, 1024] (by sl_kernel_rfl)
  · sl_unfold_words
    simp (disch := decide) only [View.readAt_eq_ld, Memref.IsWhole.read_unread, View.ld_unit_lit, View.canon_cons_unit_lit, View.readCov_unit_lit]

/-- The first part at any later row block: the running sums stay as they are. -/
theorem part1_later {β : Type} (x0 : Vec F S256x1024 .bf16) (x3 x4 : Vec F S256x1024 .f32) (x5 : Vec F S1x2048 .f32) (x11 : Vec F S1024x1024 .bf16) (hc0 : ¬ cond0_0 i)
    (E : Set ℕ) (kk : (Σ' (v5 : FVec F S256x1024 .f32) (v16 : FVec F S256x1024 .f32) (v27 : FVec F S256x1024 .f32) (v29 : FVec F S256x1024 .bf16), FVec F S256x1024 .bf16) → Prog (TpuEff nD τ sig (Elt F) Λ₀ .tc) β) (K : β → sProp 𝕄) :
    iprop(owns (c : Thread nD τ) arg1 fullShare x0 ∗ owns (c : Thread nD τ) arg4 fullShare x3 ∗ owns (c : Thread nD τ) arg5 fullShare x4 ∗ owns (c : Thread nD τ) arg6 fullShare x5 ∗ owns (c : Thread nD τ) arg12 fullShare x11 ∗ (∃ d, owns (c : Thread nD τ) arg17 fullShare d)
      ∗ (iprop(owns (c : Thread nD τ) arg1 fullShare x0 ∗ owns (c : Thread nD τ) arg4 fullShare x3 ∗ owns (c : Thread nD τ) arg5 fullShare x4 ∗ owns (c : Thread nD τ) arg6 fullShare x5 ∗ owns (c : Thread nD τ) arg12 fullShare x11 ∗ owns (c : Thread nD τ) arg17 fullShare (k0_pay11 x0 x11 x3 (lo x5))) -∗
        wp frame (wpE (defs₀ (F := F)) Variants.none c none) E (kk ⟨k0_pay8 x0 x11, k0_pay9 x3 (lo x5), k0_pay10 x4 (hi x5), k0_pay11 x0 x11 x3 (lo x5), k0_pay12 x0 x11 x4 (hi x5)⟩) K))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 >>= kk) K := by
  rw [k0_part1_eq_skeleton]
  unfold owns
  iintro ⟨⟨%f1, %hf1, H1⟩, ⟨%f4, %hf4, H4⟩, ⟨%f5, %hf5, H5⟩, ⟨%f6, %hf6, H6⟩, ⟨%f12, %hf12, H12⟩, ⟨%d17, %f17, -, H17⟩, Hk⟩
  obtain rfl := harg1.eq_unread hf1
  obtain rfl := harg4.eq_unread hf4
  obtain rfl := harg5.eq_unread hf5
  obtain rfl := harg6.eq_unread hf6
  obtain rfl := harg12.eq_unread hf12
  sl_exec (disch := first | sl_exact hc0)
  sl_unfold_words
  simp (disch := decide) only [View.readAt_eq_ld, Memref.IsWhole.read_unread, View.ld_unit_lit]
  iapply Hk
  isplitl [H1]
  · iexists _; isplitr; · ipureintro; exact harg1.read_unread _
    iexact H1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H12]
  · iexists _; isplitr; · ipureintro; exact harg12.read_unread _
    iexact H12
  iexists _; isplitr
  swap; · iexact H17
  ipureintro
  refine (View.read_writes_eq_canon _ _ _ ?_).trans ?_
  · exact View.cover_of_tiledBy _ ![256, 1024] (by sl_kernel_rfl)
  · sl_unfold_words
    simp (disch := decide) only [View.readAt_eq_ld, Memref.IsWhole.read_unread, View.ld_unit_lit, View.canon_cons_unit_lit, View.readCov_unit_lit]

end Cert.KernelIdeal.Rows
-- ==== Proof.Rows.Part2.lean ====
module

public import proofs.«01_k».proof.Proof.Rows.Blocks

/-!
The row pass, part 2 of its body, run once.
-/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x2048 .f32) (harg6 : arg6.IsWhole)
  (arg7 : Memref sig .tc .vmem S256x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x1024 .f32) (harg10 : arg10.IsWhole)
  (arg11 : Memref sig .tc .vmem S1x1024 .f32) (harg11 : arg11.IsWhole)
  (arg12 : Memref sig .tc .vmem S1024x1024 .bf16) (harg12 : arg12.IsWhole)
  (arg13 : Memref sig .tc .vmem S1024x1024 .bf16) (harg13 : arg13.IsWhole)
  (arg14 : Memref sig .tc .vmem S1024x1024 .bf16) (harg14 : arg14.IsWhole)
  (arg15 : Memref sig .tc .vmem S4x256x256 .bf16) (harg15 : arg15.IsWhole)
  (arg16 : Memref sig .tc .hbm S8x128 .f32) (harg16 : arg16.IsWhole)
  (arg17 : Memref sig .tc .vmem S256x1024 .bf16) (harg17 : arg17.IsWhole)
  (arg18 : Memref sig .tc .vmem S256x1024 .bf16) (harg18 : arg18.IsWhole)
  (arg19 : Memref sig .tc .vmem S256x2048 .bf16) (harg19 : arg19.IsWhole)
  (arg20 : Memref sig .tc .vmem S256x1024 .f32) (harg20 : arg20.IsWhole)
  (arg21 : Memref sig .tc .vmem S256x1024 .bf16) (harg21 : arg21.IsWhole)
  (arg22 : Memref sig .tc .vmem S256x1024 .f32) (harg22 : arg22.IsWhole)
  (arg23 : Memref sig .tc .vmem S1x2048 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1x1024 .f32) (harg26 : arg26.IsWhole)
  (arg27 : Memref sig .tc .vmem S1x1024 .f32) (harg27 : arg27.IsWhole)

/-- The second part: the gradient of the pool branch's output stored, the gradient of the gates' arguments, and its sum over the rows. -/
theorem part2 {β : Type} (v5 v16 v27 : FVec F S256x1024 .f32) (v31 : FVec F S256x1024 .bf16) (x1 x2 : Vec F S256x1024 .f32) (x12 : Vec F S1024x1024 .bf16) (a : Vec F S1x2048 .f32)
    (E : Set ℕ) (kk : (Vec F S1024x1024 .bf16) → Prog (TpuEff nD τ sig (Elt F) Λ₀ .tc) β) (K : β → sProp 𝕄) :
    iprop(owns (c : Thread nD τ) arg2 fullShare x1 ∗ owns (c : Thread nD τ) arg3 fullShare x2 ∗ owns (c : Thread nD τ) arg13 fullShare x12 ∗ (∃ d, owns (c : Thread nD τ) arg18 fullShare d) ∗ (∃ d, owns (c : Thread nD τ) arg19 fullShare d) ∗ owns (c : Thread nD τ) arg23 fullShare a
      ∗ (iprop(owns (c : Thread nD τ) arg2 fullShare x1 ∗ owns (c : Thread nD τ) arg3 fullShare x2 ∗ owns (c : Thread nD τ) arg13 fullShare x12 ∗ owns (c : Thread nD τ) arg18 fullShare v31 ∗ owns (c : Thread nD τ) arg19 fullShare (cols2 (k0_pay15 v5 v16 x1) (k0_pay16 v5 v27 x2)) ∗ owns (c : Thread nD τ) arg23 fullShare (row2 (k0_pay17 v5 v16 x1 (lo a)) (k0_pay18 v5 v27 x2 (hi a)))) -∗
        wp frame (wpE (defs₀ (F := F)) Variants.none c none) E (kk x12) K))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v5 v16 v27 v31 >>= kk) K := by
  rw [k0_part2_eq_skeleton]
  unfold owns
  iintro ⟨⟨%f2, %hf2, H2⟩, ⟨%f3, %hf3, H3⟩, ⟨%f13, %hf13, H13⟩, ⟨%d18, %f18, -, H18⟩, ⟨%d19, %f19, -, H19⟩, ⟨%f23, %hf23, H23⟩, Hk⟩
  obtain rfl := harg2.eq_unread hf2
  obtain rfl := harg3.eq_unread hf3
  obtain rfl := harg13.eq_unread hf13
  obtain rfl := harg23.eq_unread hf23
  sl_exec
  sl_unfold_words
  simp (disch := decide) only [View.readAt_eq_ld, Memref.IsWhole.read_unread, View.ld_unit_lit]
  iapply Hk
  isplitl [H2]
  · iexists _; isplitr; · ipureintro; exact harg2.read_unread _
    iexact H2
  isplitl [H3]
  · iexists _; isplitr; · ipureintro; exact harg3.read_unread _
    iexact H3
  isplitl [H13]
  · iexists _; isplitr; · ipureintro; exact harg13.read_unread _
    iexact H13
  isplitl [H18]
  · iexists _; isplitr
    swap; · iexact H18
    ipureintro
    refine (View.read_writes_eq_canon _ _ _ ?_).trans ?_
    · exact View.cover_of_tiledBy _ ![256, 1024] (by sl_kernel_rfl)
    · sl_unfold_words
      simp (disch := decide) only [View.readAt_eq_ld, Memref.IsWhole.read_unread, View.ld_unit_lit, View.canon_cons_unit_lit, View.readCov_unit_lit]
  isplitl [H19]
  · iexists _; isplitr
    swap; · iexact H19
    ipureintro
    refine (View.read_writes_eq_canon _ _ _ ?_).trans ?_
    · exact View.cover_of_tiledBy _ ![256, 1024] (by sl_kernel_rfl)
    · sl_unfold_words
      simp (disch := decide) only [View.readAt_eq_ld, Memref.IsWhole.read_unread, View.ld_unit_lit, View.canon_cons_unit_lit, View.readCov_unit_lit]
  iexists _; isplitr
  swap; · iexact H23
  ipureintro
  refine (View.read_writes_eq_canon _ _ _ ?_).trans ?_
  · exact View.cover_of_tiledBy _ ![1, 1024] (by sl_kernel_rfl)
  · sl_unfold_words
    simp (disch := decide) only [View.readAt_eq_ld, Memref.IsWhole.read_unread, View.ld_unit_lit, View.canon_cons_unit_lit, View.readCov_unit_lit]

end Cert.KernelIdeal.Rows
-- ==== Proof.Rows.Part3.lean ====
module

public import proofs.«01_k».proof.Proof.Rows.Blocks

/-!
The row pass, part 3 of its body, run once.
-/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x2048 .f32) (harg6 : arg6.IsWhole)
  (arg7 : Memref sig .tc .vmem S256x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x1024 .f32) (harg10 : arg10.IsWhole)
  (arg11 : Memref sig .tc .vmem S1x1024 .f32) (harg11 : arg11.IsWhole)
  (arg12 : Memref sig .tc .vmem S1024x1024 .bf16) (harg12 : arg12.IsWhole)
  (arg13 : Memref sig .tc .vmem S1024x1024 .bf16) (harg13 : arg13.IsWhole)
  (arg14 : Memref sig .tc .vmem S1024x1024 .bf16) (harg14 : arg14.IsWhole)
  (arg15 : Memref sig .tc .vmem S4x256x256 .bf16) (harg15 : arg15.IsWhole)
  (arg16 : Memref sig .tc .hbm S8x128 .f32) (harg16 : arg16.IsWhole)
  (arg17 : Memref sig .tc .vmem S256x1024 .bf16) (harg17 : arg17.IsWhole)
  (arg18 : Memref sig .tc .vmem S256x1024 .bf16) (harg18 : arg18.IsWhole)
  (arg19 : Memref sig .tc .vmem S256x2048 .bf16) (harg19 : arg19.IsWhole)
  (arg20 : Memref sig .tc .vmem S256x1024 .f32) (harg20 : arg20.IsWhole)
  (arg21 : Memref sig .tc .vmem S256x1024 .bf16) (harg21 : arg21.IsWhole)
  (arg22 : Memref sig .tc .vmem S256x1024 .f32) (harg22 : arg22.IsWhole)
  (arg23 : Memref sig .tc .vmem S1x2048 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1x1024 .f32) (harg26 : arg26.IsWhole)
  (arg27 : Memref sig .tc .vmem S1x1024 .f32) (harg27 : arg27.IsWhole)

/-- The third part: the normalisation of a row block again from its saved argument, and the gradient at its output. -/
theorem part3 {β : Type} (v29 : FVec F S256x1024 .bf16) (v64 : Vec F S1024x1024 .bf16) (x6 : Vec F S256x1024 .f32) (x7 x8 a : Vec F S1x1024 .f32)
    (E : Set ℕ) (kk : (Σ' (v81 : FVec F S256x1 .f32) (v83 : FVec F S256x1024 .f32) (v103 : FVec F S256x1024 .f32), FVec F S1x1024 .f32) → Prog (TpuEff nD τ sig (Elt F) Λ₀ .tc) β) (K : β → sProp 𝕄) :
    iprop(owns (c : Thread nD τ) arg7 fullShare x6 ∗ owns (c : Thread nD τ) arg8 fullShare x7 ∗ owns (c : Thread nD τ) arg9 fullShare x8 ∗ owns (c : Thread nD τ) arg24 fullShare a
      ∗ (iprop(owns (c : Thread nD τ) arg7 fullShare x6 ∗ owns (c : Thread nD τ) arg8 fullShare x7 ∗ owns (c : Thread nD τ) arg9 fullShare x8 ∗ owns (c : Thread nD τ) arg24 fullShare a) -∗
        wp frame (wpE (defs₀ (F := F)) Variants.none c none) E (kk ⟨k0_pay20 x6, k0_pay21 x6, k0_pay22 v29 v64 x6 x7 x8, k0_pay23 a⟩) K))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v29 v64 >>= kk) K := by
  rw [k0_part3_eq_skeleton]
  unfold owns
  iintro ⟨⟨%f7, %hf7, H7⟩, ⟨%f8, %hf8, H8⟩, ⟨%f9, %hf9, H9⟩, ⟨%f24, %hf24, H24⟩, Hk⟩
  obtain rfl := harg7.eq_unread hf7
  obtain rfl := harg8.eq_unread hf8
  obtain rfl := harg9.eq_unread hf9
  obtain rfl := harg24.eq_unread hf24
  sl_exec
  sl_unfold_words
  simp (disch := decide) only [View.readAt_eq_ld, Memref.IsWhole.read_unread, View.ld_unit_lit]
  iapply Hk
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; · ipureintro; exact harg24.read_unread _
  iexact H24

end Cert.KernelIdeal.Rows
-- ==== Proof.Rows.Part4.lean ====
module

public import proofs.«01_k».proof.Proof.Rows.Blocks

/-!
The row pass, part 4 of its body, run once.
-/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x2048 .f32) (harg6 : arg6.IsWhole)
  (arg7 : Memref sig .tc .vmem S256x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x1024 .f32) (harg10 : arg10.IsWhole)
  (arg11 : Memref sig .tc .vmem S1x1024 .f32) (harg11 : arg11.IsWhole)
  (arg12 : Memref sig .tc .vmem S1024x1024 .bf16) (harg12 : arg12.IsWhole)
  (arg13 : Memref sig .tc .vmem S1024x1024 .bf16) (harg13 : arg13.IsWhole)
  (arg14 : Memref sig .tc .vmem S1024x1024 .bf16) (harg14 : arg14.IsWhole)
  (arg15 : Memref sig .tc .vmem S4x256x256 .bf16) (harg15 : arg15.IsWhole)
  (arg16 : Memref sig .tc .hbm S8x128 .f32) (harg16 : arg16.IsWhole)
  (arg17 : Memref sig .tc .vmem S256x1024 .bf16) (harg17 : arg17.IsWhole)
  (arg18 : Memref sig .tc .vmem S256x1024 .bf16) (harg18 : arg18.IsWhole)
  (arg19 : Memref sig .tc .vmem S256x2048 .bf16) (harg19 : arg19.IsWhole)
  (arg20 : Memref sig .tc .vmem S256x1024 .f32) (harg20 : arg20.IsWhole)
  (arg21 : Memref sig .tc .vmem S256x1024 .bf16) (harg21 : arg21.IsWhole)
  (arg22 : Memref sig .tc .vmem S256x1024 .f32) (harg22 : arg22.IsWhole)
  (arg23 : Memref sig .tc .vmem S1x2048 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1x1024 .f32) (harg26 : arg26.IsWhole)
  (arg27 : Memref sig .tc .vmem S1x1024 .f32) (harg27 : arg27.IsWhole)

/-- The fourth part: the sums for the scale and the shift of the normalisation, and the gradient at the convolution's output. -/
theorem part4 {β : Type} (v81 : FVec F S256x1 .f32) (v83 v103 : FVec F S256x1024 .f32) (v105 : FVec F S1x1024 .f32) (x7 a24 a25 a26 : Vec F S1x1024 .f32)
    (E : Set ℕ) (kk : (FVec F S1x1024 .f32) → Prog (TpuEff nD τ sig (Elt F) Λ₀ .tc) β) (K : β → sProp 𝕄) :
    iprop(owns (c : Thread nD τ) arg8 fullShare x7 ∗ owns (c : Thread nD τ) arg26 fullShare a26 ∗ owns (c : Thread nD τ) arg24 fullShare a24 ∗ owns (c : Thread nD τ) arg25 fullShare a25 ∗ (∃ d, owns (c : Thread nD τ) arg20 fullShare d)
      ∗ (iprop(owns (c : Thread nD τ) arg8 fullShare x7 ∗ owns (c : Thread nD τ) arg26 fullShare a26 ∗ owns (c : Thread nD τ) arg24 fullShare (k0_pay24 v83 v103 v105) ∗ owns (c : Thread nD τ) arg25 fullShare (k0_pay25 v103 a25) ∗ owns (c : Thread nD τ) arg20 fullShare (k0_pay26 v81 v83 v103 x7)) -∗
        wp frame (wpE (defs₀ (F := F)) Variants.none c none) E (kk (k0_pay27 v81 v83 v103 x7 a26)) K))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v81 v83 v103 v105 >>= kk) K := by
  rw [k0_part4_eq_skeleton]
  unfold owns
  iintro ⟨⟨%f8, %hf8, H8⟩, ⟨%f26, %hf26, H26⟩, ⟨%f24, %hf24, H24⟩, ⟨%f25, %hf25, H25⟩, ⟨%d20, %f20, -, H20⟩, Hk⟩
  obtain rfl := harg8.eq_unread hf8
  obtain rfl := harg26.eq_unread hf26
  obtain rfl := harg24.eq_unread hf24
  obtain rfl := harg25.eq_unread hf25
  sl_exec
  sl_unfold_words
  simp (disch := decide) only [View.readAt_eq_ld, Memref.IsWhole.read_unread, View.ld_unit_lit]
  iapply Hk
  isplitl [H8]
  · iexists _; isplitr; · ipureintro; exact harg8.read_unread _
    iexact H8
  isplitl [H26]
  · iexists _; isplitr; · ipureintro; exact harg26.read_unread _
    iexact H26
  isplitl [H24]
  · iexists _; isplitr
    swap; · iexact H24
    ipureintro
    refine (View.read_writes_eq_canon _ _ _ ?_).trans ?_
    · exact View.cover_of_tiledBy _ ![1, 1024] (by sl_kernel_rfl)
    · sl_unfold_words
      simp (disch := decide) only [View.readAt_eq_ld, Memref.IsWhole.read_unread, View.ld_unit_lit, View.canon_cons_unit_lit, View.readCov_unit_lit]
  isplitl [H25]
  · iexists _; isplitr
    swap; · iexact H25
    ipureintro
    refine (View.read_writes_eq_canon _ _ _ ?_).trans ?_
    · exact View.cover_of_tiledBy _ ![1, 1024] (by sl_kernel_rfl)
    · sl_unfold_words
      simp (disch := decide) only [View.readAt_eq_ld, Memref.IsWhole.read_unread, View.ld_unit_lit, View.canon_cons_unit_lit, View.readCov_unit_lit]
  iexists _; isplitr
  swap; · iexact H20
  ipureintro
  refine (View.read_writes_eq_canon _ _ _ ?_).trans ?_
  · exact View.cover_of_tiledBy _ ![256, 1024] (by sl_kernel_rfl)
  · sl_unfold_words
    simp (disch := decide) only [View.readAt_eq_ld, Memref.IsWhole.read_unread, View.ld_unit_lit, View.canon_cons_unit_lit, View.readCov_unit_lit]

end Cert.KernelIdeal.Rows
-- ==== Proof.Rows.Part5.lean ====
module

public import proofs.«01_k».proof.Proof.Rows.Blocks

/-!
The row pass, part 5 of its body, run once.
-/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x2048 .f32) (harg6 : arg6.IsWhole)
  (arg7 : Memref sig .tc .vmem S256x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x1024 .f32) (harg10 : arg10.IsWhole)
  (arg11 : Memref sig .tc .vmem S1x1024 .f32) (harg11 : arg11.IsWhole)
  (arg12 : Memref sig .tc .vmem S1024x1024 .bf16) (harg12 : arg12.IsWhole)
  (arg13 : Memref sig .tc .vmem S1024x1024 .bf16) (harg13 : arg13.IsWhole)
  (arg14 : Memref sig .tc .vmem S1024x1024 .bf16) (harg14 : arg14.IsWhole)
  (arg15 : Memref sig .tc .vmem S4x256x256 .bf16) (harg15 : arg15.IsWhole)
  (arg16 : Memref sig .tc .hbm S8x128 .f32) (harg16 : arg16.IsWhole)
  (arg17 : Memref sig .tc .vmem S256x1024 .bf16) (harg17 : arg17.IsWhole)
  (arg18 : Memref sig .tc .vmem S256x1024 .bf16) (harg18 : arg18.IsWhole)
  (arg19 : Memref sig .tc .vmem S256x2048 .bf16) (harg19 : arg19.IsWhole)
  (arg20 : Memref sig .tc .vmem S256x1024 .f32) (harg20 : arg20.IsWhole)
  (arg21 : Memref sig .tc .vmem S256x1024 .bf16) (harg21 : arg21.IsWhole)
  (arg22 : Memref sig .tc .vmem S256x1024 .f32) (harg22 : arg22.IsWhole)
  (arg23 : Memref sig .tc .vmem S1x2048 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1x1024 .f32) (harg26 : arg26.IsWhole)
  (arg27 : Memref sig .tc .vmem S1x1024 .f32) (harg27 : arg27.IsWhole)

/-- The fifth part: the sum for the convolution's bias, the sum for the pool scale, the gradient at the mapped pool rows and two quarters of that at the pooled rows; what the other two hold then is what they held before. -/
theorem part5 {β : Type} (v31 : FVec F S256x1024 .bf16) (v141 : FVec F S1x1024 .f32) (x13 : Vec F S1024x1024 .bf16) (x9 : Vec F S256x1024 .f32) (x10 a26 a27 : Vec F S1x1024 .f32) (x14 : Vec F S4x256x256 .bf16)
    (E : Set ℕ) (kk : (Σ' (v157 : FVec F S256x1024 .bf16), FVec F S256x256 .bf16) → Prog (TpuEff nD τ sig (Elt F) Λ₀ .tc) β) (K : β → sProp 𝕄) :
    iprop(owns (c : Thread nD τ) arg10 fullShare x9 ∗ owns (c : Thread nD τ) arg11 fullShare x10 ∗ owns (c : Thread nD τ) arg14 fullShare x13 ∗ owns (c : Thread nD τ) arg15 fullShare x14 ∗ (∃ d, owns (c : Thread nD τ) arg21 fullShare d) ∗ owns (c : Thread nD τ) arg26 fullShare a26 ∗ owns (c : Thread nD τ) arg27 fullShare a27 ∗ (∃ d, owns (c : Thread nD τ) arg22 fullShare d)
      ∗ (iprop(owns (c : Thread nD τ) arg10 fullShare x9 ∗ owns (c : Thread nD τ) arg11 fullShare x10 ∗ owns (c : Thread nD τ) arg14 fullShare x13 ∗ owns (c : Thread nD τ) arg15 fullShare x14 ∗ owns (c : Thread nD τ) arg21 fullShare (k0_pay30 v31 x13 x10) ∗ owns (c : Thread nD τ) arg26 fullShare v141 ∗ owns (c : Thread nD τ) arg27 fullShare (k0_pay29 v31 x13 a27 x9) ∗ (∃ f, arg22.view.loc (c : Thread nD τ) ↦[arg22.view.set]{fullShare} arg22.view.writes (Elt F) f [⟨(Rect.unit (s := S256x1024) ![0, 256] S256x256.size inb_S256x1024_S256x256_0_256), k0_pay32 v31 x13 x10 (grp1 x14)⟩, ⟨(Rect.unit (s := S256x1024) ![0, 0] S256x256.size inb_S256x1024_S256x256_0_0), k0_pay31 v31 x13 x10 (grp0 x14)⟩])) -∗
        wp frame (wpE (defs₀ (F := F)) Variants.none c none) E (kk ⟨k0_pay30 v31 x13 x10, k0_pay33 v31 x13 x10⟩) K))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v31 v141 >>= kk) K := by
  rw [k0_part5_eq_skeleton]
  unfold owns
  iintro ⟨⟨%f10, %hf10, H10⟩, ⟨%f11, %hf11, H11⟩, ⟨%f14, %hf14, H14⟩, ⟨%f15, %hf15, H15⟩, ⟨%d21, %f21, -, H21⟩, ⟨%f26, %hf26, H26⟩, ⟨%f27, %hf27, H27⟩, ⟨%d22, %f22, -, H22⟩, Hk⟩
  obtain rfl := harg10.eq_unread hf10
  obtain rfl := harg11.eq_unread hf11
  obtain rfl := harg14.eq_unread hf14
  obtain rfl := harg15.eq_unread hf15
  obtain rfl := harg26.eq_unread hf26
  obtain rfl := harg27.eq_unread hf27
  sl_exec
  sl_unfold_words
  simp (disch := decide) only [View.readAt_eq_ld, Memref.IsWhole.read_unread, View.ld_unit_lit]
  iapply Hk
  isplitl [H10]
  · iexists _; isplitr; · ipureintro; exact harg10.read_unread _
    iexact H10
  isplitl [H11]
  · iexists _; isplitr; · ipureintro; exact harg11.read_unread _
    iexact H11
  isplitl [H14]
  · iexists _; isplitr; · ipureintro; exact harg14.read_unread _
    iexact H14
  isplitl [H15]
  · iexists _; isplitr; · ipureintro; exact harg15.read_unread _
    iexact H15
  isplitl [H21]
  · iexists _; isplitr
    swap; · iexact H21
    ipureintro
    refine (View.read_writes_eq_canon _ _ _ ?_).trans ?_
    · exact View.cover_of_tiledBy _ ![256, 1024] (by sl_kernel_rfl)
    · sl_unfold_words
      simp (disch := decide) only [View.readAt_eq_ld, Memref.IsWhole.read_unread, View.ld_unit_lit, View.canon_cons_unit_lit, View.readCov_unit_lit]
  isplitl [H26]
  · iexists _; isplitr
    swap; · iexact H26
    ipureintro
    refine (View.read_writes_eq_canon _ _ _ ?_).trans ?_
    · exact View.cover_of_tiledBy _ ![1, 1024] (by sl_kernel_rfl)
    · sl_unfold_words
      simp (disch := decide) only [View.readAt_eq_ld, Memref.IsWhole.read_unread, View.ld_unit_lit, View.canon_cons_unit_lit, View.readCov_unit_lit]
  isplitl [H27]
  · iexists _; isplitr
    swap; · iexact H27
    ipureintro
    refine (View.read_writes_eq_canon _ _ _ ?_).trans ?_
    · exact View.cover_of_tiledBy _ ![1, 1024] (by sl_kernel_rfl)
    · sl_unfold_words
      simp (disch := decide) only [View.readAt_eq_ld, Memref.IsWhole.read_unread, View.ld_unit_lit, View.canon_cons_unit_lit, View.readCov_unit_lit]
  iexists f22; iexact H22

end Cert.KernelIdeal.Rows
-- ==== Proof.Rows.Part6.lean ====
module

public import proofs.«01_k».proof.Proof.Rows.Blocks

/-!
The row pass, part 6 of its body, run once.
-/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x2048 .f32) (harg6 : arg6.IsWhole)
  (arg7 : Memref sig .tc .vmem S256x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x1024 .f32) (harg10 : arg10.IsWhole)
  (arg11 : Memref sig .tc .vmem S1x1024 .f32) (harg11 : arg11.IsWhole)
  (arg12 : Memref sig .tc .vmem S1024x1024 .bf16) (harg12 : arg12.IsWhole)
  (arg13 : Memref sig .tc .vmem S1024x1024 .bf16) (harg13 : arg13.IsWhole)
  (arg14 : Memref sig .tc .vmem S1024x1024 .bf16) (harg14 : arg14.IsWhole)
  (arg15 : Memref sig .tc .vmem S4x256x256 .bf16) (harg15 : arg15.IsWhole)
  (arg16 : Memref sig .tc .hbm S8x128 .f32) (harg16 : arg16.IsWhole)
  (arg17 : Memref sig .tc .vmem S256x1024 .bf16) (harg17 : arg17.IsWhole)
  (arg18 : Memref sig .tc .vmem S256x1024 .bf16) (harg18 : arg18.IsWhole)
  (arg19 : Memref sig .tc .vmem S256x2048 .bf16) (harg19 : arg19.IsWhole)
  (arg20 : Memref sig .tc .vmem S256x1024 .f32) (harg20 : arg20.IsWhole)
  (arg21 : Memref sig .tc .vmem S256x1024 .bf16) (harg21 : arg21.IsWhole)
  (arg22 : Memref sig .tc .vmem S256x1024 .f32) (harg22 : arg22.IsWhole)
  (arg23 : Memref sig .tc .vmem S1x2048 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1x1024 .f32) (harg26 : arg26.IsWhole)
  (arg27 : Memref sig .tc .vmem S1x1024 .f32) (harg27 : arg27.IsWhole)

include harg15 in
/-- The last statements: the other two quarters of the gradient at the pooled rows. -/
theorem part6 (q0 q1 : Vec F S256x256 .f32) (v157 : FVec F S256x1024 .bf16) (v169 : FVec F S256x256 .bf16) (x14 : Vec F S4x256x256 .bf16)
    (E : Set ℕ) (K : PUnit → sProp 𝕄) :
    iprop(owns (c : Thread nD τ) arg15 fullShare x14 ∗ (∃ f, arg22.view.loc (c : Thread nD τ) ↦[arg22.view.set]{fullShare} arg22.view.writes (Elt F) f [⟨(Rect.unit (s := S256x1024) ![0, 256] S256x256.size inb_S256x1024_S256x256_0_256), q1⟩, ⟨(Rect.unit (s := S256x1024) ![0, 0] S256x256.size inb_S256x1024_S256x256_0_0), q0⟩])
      ∗ (iprop(owns (c : Thread nD τ) arg15 fullShare x14 ∗ owns (c : Thread nD τ) arg22 fullShare (cols4 q0 q1 (k0_pay1 v169 (grp2 x14)) (k0_pay2 v157 (grp3 x14)))) -∗ K ⟨⟩))
      ⊢ wp frame (wpE (defs₀ (F := F)) Variants.none c none) E (do
        let v170 : Vec F S1x256x256 .bf16 ← Prog.lift (.load arg15 (Rect.unit (s := S4x256x256) ![2, 0, 0] S1x256x256.size inb_S4x256x256_S1x256x256_2_0_0).toLoadRect (View.loadsAt_vmem h_S1x256x256))
        let v173 : Vec F S256x256 .f32 ← Prog.lift (.load arg22 (Rect.unit (s := S256x1024) ![0, 512] S256x256.size inb_S256x1024_S256x256_0_512).toLoadRect (View.loadsAt_vmem h_S256x256))
        Prog.lift (.store arg22 (Rect.unit (s := S256x1024) ![0, 512] S256x256.size inb_S256x1024_S256x256_0_512) (k0_pay1 v169 v170) Finset.univ (View.stores_vmem_bits_univ h_S256x256 rfl) (.inl rfl))
        let v175 : Vec F S1x256x256 .bf16 ← Prog.lift (.load arg15 (Rect.unit (s := S4x256x256) ![3, 0, 0] S1x256x256.size inb_S4x256x256_S1x256x256_3_0_0).toLoadRect (View.loadsAt_vmem h_S1x256x256))
        let v178 : Vec F S256x256 .f32 ← Prog.lift (.load arg22 (Rect.unit (s := S256x1024) ![0, 768] S256x256.size inb_S256x1024_S256x256_0_768).toLoadRect (View.loadsAt_vmem h_S256x256))
        Prog.lift (.store arg22 (Rect.unit (s := S256x1024) ![0, 768] S256x256.size inb_S256x1024_S256x256_0_768) (k0_pay2 v157 v175) Finset.univ (View.stores_vmem_bits_univ h_S256x256 rfl) (.inl rfl))
        pure ⟨⟩ ) K := by
  unfold owns
  iintro ⟨⟨%f15, %hf15, H15⟩, ⟨%f22, H22⟩, Hk⟩
  obtain rfl := harg15.eq_unread hf15
  sl_exec
  sl_step
  iapply Hk
  isplitl [H15]
  · iexists _; isplitr; · ipureintro; exact harg15.read_unread _
    iexact H15
  iexists _; isplitr
  swap; · iexact H22
  ipureintro
  refine (View.read_writes_eq_canon _ _ _ ?_).trans ?_
  · exact View.cover_of_tiledBy _ ![256, 256] (by sl_kernel_rfl)
  · sl_unfold_words
    simp (disch := decide) only [View.readAt_eq_ld, Memref.IsWhole.read_unread, View.ld_unit_lit, View.canon_cons_unit_lit, View.readCov_unit_lit]

end Cert.KernelIdeal.Rows
-- ==== Proof.Rows.Body.lean ====
module

public import proofs.«01_k».proof.Proof.Rows.Part1
public import proofs.«01_k».proof.Proof.Rows.Part2
public import proofs.«01_k».proof.Proof.Rows.Part3
public import proofs.«01_k».proof.Proof.Rows.Part4
public import proofs.«01_k».proof.Proof.Rows.Part5
public import proofs.«01_k».proof.Proof.Rows.Part6

/-!
The whole body of the row pass, from its parts.
-/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x2048 .f32) (harg6 : arg6.IsWhole)
  (arg7 : Memref sig .tc .vmem S256x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x1024 .f32) (harg10 : arg10.IsWhole)
  (arg11 : Memref sig .tc .vmem S1x1024 .f32) (harg11 : arg11.IsWhole)
  (arg12 : Memref sig .tc .vmem S1024x1024 .bf16) (harg12 : arg12.IsWhole)
  (arg13 : Memref sig .tc .vmem S1024x1024 .bf16) (harg13 : arg13.IsWhole)
  (arg14 : Memref sig .tc .vmem S1024x1024 .bf16) (harg14 : arg14.IsWhole)
  (arg15 : Memref sig .tc .vmem S4x256x256 .bf16) (harg15 : arg15.IsWhole)
  (arg17 : Memref sig .tc .vmem S256x1024 .bf16) (harg17 : arg17.IsWhole)
  (arg18 : Memref sig .tc .vmem S256x1024 .bf16) (harg18 : arg18.IsWhole)
  (arg19 : Memref sig .tc .vmem S256x2048 .bf16) (harg19 : arg19.IsWhole)
  (arg20 : Memref sig .tc .vmem S256x1024 .f32) (harg20 : arg20.IsWhole)
  (arg21 : Memref sig .tc .vmem S256x1024 .bf16) (harg21 : arg21.IsWhole)
  (arg22 : Memref sig .tc .vmem S256x1024 .f32) (harg22 : arg22.IsWhole)
  (arg23 : Memref sig .tc .vmem S1x2048 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1x1024 .f32) (harg26 : arg26.IsWhole)
  (arg27 : Memref sig .tc .vmem S1x1024 .f32) (harg27 : arg27.IsWhole)

/-- The body at the first row block. -/
theorem body_first (b : Ins F) (hc0 : cond0_0 i) (E : Set ℕ) (K : PUnit → sProp 𝕄) :
    iprop(owns (c : Thread nD τ) arg1 fullShare b.dh ∗ owns (c : Thread nD τ) arg2 fullShare b.yc ∗ owns (c : Thread nD τ) arg3 fullShare b.yp ∗ owns (c : Thread nD τ) arg4 fullShare b.za ∗ owns (c : Thread nD τ) arg5 fullShare b.zb ∗ owns (c : Thread nD τ) arg6 fullShare b.bg ∗ owns (c : Thread nD τ) arg7 fullShare b.cv ∗ owns (c : Thread nD τ) arg8 fullShare b.lg ∗ owns (c : Thread nD τ) arg9 fullShare b.lb ∗ owns (c : Thread nD τ) arg10 fullShare b.mw ∗ owns (c : Thread nD τ) arg11 fullShare b.ps ∗ owns (c : Thread nD τ) arg12 fullShare b.wo ∗ owns (c : Thread nD τ) arg13 fullShare b.wc ∗ owns (c : Thread nD τ) arg14 fullShare b.wp ∗ owns (c : Thread nD τ) arg15 fullShare b.wl ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
      ∗ (iprop(owns (c : Thread nD τ) arg1 fullShare b.dh ∗ owns (c : Thread nD τ) arg2 fullShare b.yc ∗ owns (c : Thread nD τ) arg3 fullShare b.yp ∗ owns (c : Thread nD τ) arg4 fullShare b.za ∗ owns (c : Thread nD τ) arg5 fullShare b.zb ∗ owns (c : Thread nD τ) arg6 fullShare b.bg ∗ owns (c : Thread nD τ) arg7 fullShare b.cv ∗ owns (c : Thread nD τ) arg8 fullShare b.lg ∗ owns (c : Thread nD τ) arg9 fullShare b.lb ∗ owns (c : Thread nD τ) arg10 fullShare b.mw ∗ owns (c : Thread nD τ) arg11 fullShare b.ps ∗ owns (c : Thread nD τ) arg12 fullShare b.wo ∗ owns (c : Thread nD τ) arg13 fullShare b.wc ∗ owns (c : Thread nD τ) arg14 fullShare b.wp ∗ owns (c : Thread nD τ) arg15 fullShare b.wl ∗ owns (c : Thread nD τ) arg17 fullShare b.dyc ∗ owns (c : Thread nD τ) arg18 fullShare b.dyp ∗ owns (c : Thread nD τ) arg19 fullShare b.dzg ∗ owns (c : Thread nD τ) arg20 fullShare b.dcv ∗ owns (c : Thread nD τ) arg21 fullShare b.dmw ∗ owns (c : Thread nD τ) arg22 fullShare b.dm ∗ owns (c : Thread nD τ) arg23 fullShare (Sums.step b Sums.zero).bg ∗ owns (c : Thread nD τ) arg24 fullShare (Sums.step b Sums.zero).lg ∗ owns (c : Thread nD τ) arg25 fullShare (Sums.step b Sums.zero).lb ∗ owns (c : Thread nD τ) arg26 fullShare (Sums.step b Sums.zero).dw ∗ owns (c : Thread nD τ) arg27 fullShare (Sums.step b Sums.zero).ps) -∗ K ⟨⟩))
      ⊢ wp frame (wpE (defs₀ (F := F)) Variants.none c none) E (cc0_mixers_bwd_rows i arg1 harg1 arg2 harg2 arg3 harg3 arg4 harg4 arg5 harg5 arg6 harg6 arg7 harg7 arg8 harg8 arg9 harg9 arg10 harg10 arg11 harg11 arg12 harg12 arg13 harg13 arg14 harg14 arg15 harg15 (Memref.whole main_arg13) (Memref.isWhole_whole _) arg17 harg17 arg18 harg18 arg19 harg19 arg20 harg20 arg21 harg21 arg22 harg22 arg23 harg23 arg24 harg24 arg25 harg25 arg26 harg26 arg27 harg27) K := by
  rw [cc0_mixers_bwd_rows_eq_skeleton]
  unfold cc0_mixers_bwd_rows_skel
  iintro ⟨H1, H2, H3, H4, H5, H6, H7, H8, H9, H10, H11, H12, H13, H14, H15, H17, H18, H19, H20, H21, H22, H23, H24, H25, H26, H27, Hk⟩
  iapply (part1_first c i _ _ _ _ _ _ _ _ _ _ _ _ _ _ _ _ _ _ _ _ _ _ _ _ _ _ _ _ _ _ _ _ _ _ _ _ _ _ _ _ _ _ _ _ _ _ _ _ _ _ _ _ _ _ b.dh b.za b.zb b.bg b.wo hc0 E _ K)
  isplitl [H1]; · iexact H1
  isplitl [H4]; · iexact H4
  isplitl [H5]; · iexact H5
  isplitl [H6]; · iexact H6
  isplitl [H12]; · iexact H12
  isplitl [H17]; · iexact H17
  isplitl [H23]; · iexact H23
  isplitl [H24]; · iexact H24
  isplitl [H25]; · iexact H25
  isplitl [H26]; · iexact H26
  isplitl [H27]; · iexact H27
  iintro ⟨H1, H4, H5, H6, H12, H17, H23, H24, H25, H26, H27⟩
  dsimp only
  iapply (part2 c i _ _ _ _ _ _ _ _ _ _ _ _ _ _ _ _ _ _ _ _ _ _ _ _ _ _ _ _ _ _ _ _ _ _ _ _ _ _ _ _ _ _ _ _ _ _ _ _ _ _ _ _ _ _ b.dmg b.ga b.gb b.dyp b.yc b.yp b.wc (Sums.zero (F := F)).bg E _ K)
  isplitl [H2]; · iexact H2
  isplitl [H3]; · iexact H3
  isplitl [H13]; · iexact H13
  isplitl [H18]; · iexact H18
  isplitl [H19]; · iexact H19
  isplitl [H23]; · iexact H23
  iintro ⟨H2, H3, H13, H18, H19, H23⟩
  dsimp only
  iapply (part3 c i _ _ _ _ _ _ _ _ _ _ _ _ _ _ _ _ _ _ _ _ _ _ _ _ _ _ _ _ _ _ _ _ _ _ _ _ _ _ _ _ _ _ _ _ _ _ _ _ _ _ _ _ _ _ b.dyc b.wc b.cv b.lg b.lb (Sums.zero (F := F)).lg E _ K)
  isplitl [H7]; · iexact H7
  isplitl [H8]; · iexact H8
  isplitl [H9]; · iexact H9
  isplitl [H24]; · iexact H24
  iintro ⟨H7, H8, H9, H24⟩
  dsimp only
  iapply (part4 c i _ _ _ _ _ _ _ _ _ _ _ _ _ _ _ _ _ _ _ _ _ _ _ _ _ _ _ _ _ _ _ _ _ _ _ _ _ _ _ _ _ _ _ _ _ _ _ _ _ _ _ _ _ _ (k0_pay20 b.cv) (k0_pay21 b.cv) b.dln (k0_pay23 (Sums.zero (F := F)).lg) b.lg (Sums.zero (F := F)).lg (Sums.zero (F := F)).lb (Sums.zero (F := F)).dw E _ K)
  isplitl [H8]; · iexact H8
  isplitl [H26]; · iexact H26
  isplitl [H24]; · iexact H24
  isplitl [H25]; · iexact H25
  isplitl [H20]; · iexact H20
  iintro ⟨H8, H26, H24, H25, H20⟩
  dsimp only
  iapply (part5 c i _ _ _ _ _ _ _ _ _ _ _ _ _ _ _ _ _ _ _ _ _ _ _ _ _ _ _ _ _ _ _ _ _ _ _ _ _ _ _ _ _ _ _ _ _ _ _ _ _ _ _ _ _ _ b.dyp (k0_pay27 (k0_pay20 b.cv) (k0_pay21 b.cv) b.dln b.lg (Sums.zero (F := F)).dw) b.wp b.mw b.ps (Sums.zero (F := F)).dw (Sums.zero (F := F)).ps b.wl E _ K)
  isplitl [H10]; · iexact H10
  isplitl [H11]; · iexact H11
  isplitl [H14]; · iexact H14
  isplitl [H15]; · iexact H15
  isplitl [H21]; · iexact H21
  isplitl [H26]; · iexact H26
  isplitl [H27]; · iexact H27
  isplitl [H22]; · iexact H22
  iintro ⟨H10, H11, H14, H15, H21, H26, H27, H22⟩
  dsimp only
  iapply (part6 c _ harg15 _ _ _ b.dmw (k0_pay33 b.dyp b.wp b.ps) b.wl E K)
  isplitl [H15]; · iexact H15
  isplitl [H22]; · iexact H22
  iintro ⟨H15, H22⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body at a later row block, over the sums the block before left. -/
theorem body_later (b : Ins F) (hc0 : ¬ cond0_0 i) (a : Sums F) (E : Set ℕ) (K : PUnit → sProp 𝕄) :
    iprop(owns (c : Thread nD τ) arg1 fullShare b.dh ∗ owns (c : Thread nD τ) arg2 fullShare b.yc ∗ owns (c : Thread nD τ) arg3 fullShare b.yp ∗ owns (c : Thread nD τ) arg4 fullShare b.za ∗ owns (c : Thread nD τ) arg5 fullShare b.zb ∗ owns (c : Thread nD τ) arg6 fullShare b.bg ∗ owns (c : Thread nD τ) arg7 fullShare b.cv ∗ owns (c : Thread nD τ) arg8 fullShare b.lg ∗ owns (c : Thread nD τ) arg9 fullShare b.lb ∗ owns (c : Thread nD τ) arg10 fullShare b.mw ∗ owns (c : Thread nD τ) arg11 fullShare b.ps ∗ owns (c : Thread nD τ) arg12 fullShare b.wo ∗ owns (c : Thread nD τ) arg13 fullShare b.wc ∗ owns (c : Thread nD τ) arg14 fullShare b.wp ∗ owns (c : Thread nD τ) arg15 fullShare b.wl ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare a.bg ∗ owns (c : Thread nD τ) arg24 fullShare a.lg ∗ owns (c : Thread nD τ) arg25 fullShare a.lb ∗ owns (c : Thread nD τ) arg26 fullShare a.dw ∗ owns (c : Thread nD τ) arg27 fullShare a.ps
      ∗ (iprop(owns (c : Thread nD τ) arg1 fullShare b.dh ∗ owns (c : Thread nD τ) arg2 fullShare b.yc ∗ owns (c : Thread nD τ) arg3 fullShare b.yp ∗ owns (c : Thread nD τ) arg4 fullShare b.za ∗ owns (c : Thread nD τ) arg5 fullShare b.zb ∗ owns (c : Thread nD τ) arg6 fullShare b.bg ∗ owns (c : Thread nD τ) arg7 fullShare b.cv ∗ owns (c : Thread nD τ) arg8 fullShare b.lg ∗ owns (c : Thread nD τ) arg9 fullShare b.lb ∗ owns (c : Thread nD τ) arg10 fullShare b.mw ∗ owns (c : Thread nD τ) arg11 fullShare b.ps ∗ owns (c : Thread nD τ) arg12 fullShare b.wo ∗ owns (c : Thread nD τ) arg13 fullShare b.wc ∗ owns (c : Thread nD τ) arg14 fullShare b.wp ∗ owns (c : Thread nD τ) arg15 fullShare b.wl ∗ owns (c : Thread nD τ) arg17 fullShare b.dyc ∗ owns (c : Thread nD τ) arg18 fullShare b.dyp ∗ owns (c : Thread nD τ) arg19 fullShare b.dzg ∗ owns (c : Thread nD τ) arg20 fullShare b.dcv ∗ owns (c : Thread nD τ) arg21 fullShare b.dmw ∗ owns (c : Thread nD τ) arg22 fullShare b.dm ∗ owns (c : Thread nD τ) arg23 fullShare (Sums.step b a).bg ∗ owns (c : Thread nD τ) arg24 fullShare (Sums.step b a).lg ∗ owns (c : Thread nD τ) arg25 fullShare (Sums.step b a).lb ∗ owns (c : Thread nD τ) arg26 fullShare (Sums.step b a).dw ∗ owns (c : Thread nD τ) arg27 fullShare (Sums.step b a).ps) -∗ K ⟨⟩))
      ⊢ wp frame (wpE (defs₀ (F := F)) Variants.none c none) E (cc0_mixers_bwd_rows i arg1 harg1 arg2 harg2 arg3 harg3 arg4 harg4 arg5 harg5 arg6 harg6 arg7 harg7 arg8 harg8 arg9 harg9 arg10 harg10 arg11 harg11 arg12 harg12 arg13 harg13 arg14 harg14 arg15 harg15 (Memref.whole main_arg13) (Memref.isWhole_whole _) arg17 harg17 arg18 harg18 arg19 harg19 arg20 harg20 arg21 harg21 arg22 harg22 arg23 harg23 arg24 harg24 arg25 harg25 arg26 harg26 arg27 harg27) K := by
  rw [cc0_mixers_bwd_rows_eq_skeleton]
  unfold cc0_mixers_bwd_rows_skel
  iintro ⟨H1, H2, H3, H4, H5, H6, H7, H8, H9, H10, H11, H12, H13, H14, H15, H17, H18, H19, H20, H21, H22, H23, H24, H25, H26, H27, Hk⟩
  iapply (part1_later c i _ _ _ _ _ _ _ _ _ _ _ _ _ _ _ _ _ _ _ _ _ _ _ _ _ _ _ _ _ _ _ _ _ _ _ _ _ _ _ _ _ _ _ _ _ _ _ _ _ _ _ _ _ _ b.dh b.za b.zb b.bg b.wo hc0 E _ K)
  isplitl [H1]; · iexact H1
  isplitl [H4]; · iexact H4
  isplitl [H5]; · iexact H5
  isplitl [H6]; · iexact H6
  isplitl [H12]; · iexact H12
  isplitl [H17]; · iexact H17
  iintro ⟨H1, H4, H5, H6, H12, H17⟩
  dsimp only
  iapply (part2 c i _ _ _ _ _ _ _ _ _ _ _ _ _ _ _ _ _ _ _ _ _ _ _ _ _ _ _ _ _ _ _ _ _ _ _ _ _ _ _ _ _ _ _ _ _ _ _ _ _ _ _ _ _ _ b.dmg b.ga b.gb b.dyp b.yc b.yp b.wc a.bg E _ K)
  isplitl [H2]; · iexact H2
  isplitl [H3]; · iexact H3
  isplitl [H13]; · iexact H13
  isplitl [H18]; · iexact H18
  isplitl [H19]; · iexact H19
  isplitl [H23]; · iexact H23
  iintro ⟨H2, H3, H13, H18, H19, H23⟩
  dsimp only
  iapply (part3 c i _ _ _ _ _ _ _ _ _ _ _ _ _ _ _ _ _ _ _ _ _ _ _ _ _ _ _ _ _ _ _ _ _ _ _ _ _ _ _ _ _ _ _ _ _ _ _ _ _ _ _ _ _ _ b.dyc b.wc b.cv b.lg b.lb a.lg E _ K)
  isplitl [H7]; · iexact H7
  isplitl [H8]; · iexact H8
  isplitl [H9]; · iexact H9
  isplitl [H24]; · iexact H24
  iintro ⟨H7, H8, H9, H24⟩
  dsimp only
  iapply (part4 c i _ _ _ _ _ _ _ _ _ _ _ _ _ _ _ _ _ _ _ _ _ _ _ _ _ _ _ _ _ _ _ _ _ _ _ _ _ _ _ _ _ _ _ _ _ _ _ _ _ _ _ _ _ _ (k0_pay20 b.cv) (k0_pay21 b.cv) b.dln (k0_pay23 a.lg) b.lg a.lg a.lb a.dw E _ K)
  isplitl [H8]; · iexact H8
  isplitl [H26]; · iexact H26
  isplitl [H24]; · iexact H24
  isplitl [H25]; · iexact H25
  isplitl [H20]; · iexact H20
  iintro ⟨H8, H26, H24, H25, H20⟩
  dsimp only
  iapply (part5 c i _ _ _ _ _ _ _ _ _ _ _ _ _ _ _ _ _ _ _ _ _ _ _ _ _ _ _ _ _ _ _ _ _ _ _ _ _ _ _ _ _ _ _ _ _ _ _ _ _ _ _ _ _ _ b.dyp (k0_pay27 (k0_pay20 b.cv) (k0_pay21 b.cv) b.dln b.lg a.dw) b.wp b.mw b.ps a.dw a.ps b.wl E _ K)
  isplitl [H10]; · iexact H10
  isplitl [H11]; · iexact H11
  isplitl [H14]; · iexact H14
  isplitl [H15]; · iexact H15
  isplitl [H21]; · iexact H21
  isplitl [H26]; · iexact H26
  isplitl [H27]; · iexact H27
  isplitl [H22]; · iexact H22
  iintro ⟨H10, H11, H14, H15, H21, H26, H27, H22⟩
  dsimp only
  iapply (part6 c _ harg15 _ _ _ b.dmw (k0_pay33 b.dyp b.wp b.ps) b.wl E K)
  isplitl [H15]; · iexact H15
  isplitl [H22]; · iexact H22
  iintro ⟨H15, H22⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

end Cert.KernelIdeal.Rows
-- ==== Proof.Rows.Data.lean ====
module

public import proofs.«01_k».proof.Proof.Rows.Body
public import Idealize.ShloMosaic.Lib.Claim

/-!
What every window of the row pass holds, block by block.
-/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The fifteen blocks the pass reads at row block `t`. -/
def ins (c : Dev nD) (t : Fin cfg0.N) : Ins F where
  dh := iblk m c 0 t
  yc := iblk m c 1 t
  yp := iblk m c 2 t
  za := iblk m c 3 t
  zb := iblk m c 4 t
  bg := iblk m c 5 t
  cv := iblk m c 6 t
  lg := iblk m c 7 t
  lb := iblk m c 8 t
  mw := iblk m c 9 t
  ps := iblk m c 10 t
  wo := iblk m c 11 t
  wc := iblk m c 12 t
  wp := iblk m c 13 t
  wl := iblk m c 14 t

/-- The running sums after row block `n`. -/
def sums (c : Dev nD) : (n : ℕ) → n < cfg0.N → Sums F
  | 0, h => Sums.step (ins m c ⟨0, h⟩) Sums.zero
  | n + 1, h => Sums.step (ins m c ⟨n + 1, h⟩) (sums c n (Nat.lt_of_succ_lt h))

/-- The running sums after the first row block. -/
theorem sums_first (c : Dev nD) (t : Fin cfg0.N) (h : t.val = 0) :
    sums m c t.val t.isLt = Sums.step (ins m c t) Sums.zero := by
  obtain ⟨n, hn⟩ := t
  obtain rfl : n = 0 := h
  rfl

/-- The running sums after a later row block. -/
theorem sums_later (c : Dev nD) (t : Fin cfg0.N) (h : t.val ≠ 0) :
    sums m c t.val t.isLt = Sums.step (ins m c t) (sums m c (t.val - 1) (Nat.lt_of_le_of_lt (Nat.sub_le _ _) t.isLt)) := by
  obtain ⟨n, hn⟩ := t
  cases n with
  | zero => exact absurd rfl h
  | succ n => rfl

/-- What every window holds once the body has run at row block `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (ins m c t).dyc
    | ⟨16, _⟩ => (ins m c t).dyp
    | ⟨17, _⟩ => (ins m c t).dzg
    | ⟨18, _⟩ => (ins m c t).dcv
    | ⟨19, _⟩ => (ins m c t).dmw
    | ⟨20, _⟩ => (ins m c t).dm
    | ⟨21, _⟩ => (sums m c t.val t.isLt).bg
    | ⟨22, _⟩ => (sums m c t.val t.isLt).lg
    | ⟨23, _⟩ => (sums m c t.val t.isLt).lb
    | ⟨24, _⟩ => (sums m c t.val t.isLt).dw
    | ⟨25, _⟩ => (sums m c t.val t.isLt).ps
    | ⟨_ + 26, h⟩ => absurd h (Nat.not_lt.2 (Nat.le_add_left _ _))
  Φ _ := Pipeline.ΦA spec0 c
  q w := Pipeline.shareOf spec0 w
  owed _ := 0

/-- The windows' arrays are the launch's. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = (ins m c t).dh := by dsimp only [dats, ins]
theorem before_0 (c : Dev nD) (t : Fin cfg0.N) (d) : (dats m 0 c).before 0 t d = (ins m c t).dh :=
  before0_0_of m (dats m 0 c) (A_eq m c 0) (after_0 m c) t d
theorem after_1 (c : Dev nD) (t : Fin cfg0.N) : (dats m 0 c).after 1 t = (ins m c t).yc := by dsimp only [dats, ins]
theorem before_1 (c : Dev nD) (t : Fin cfg0.N) (d) : (dats m 0 c).before 1 t d = (ins m c t).yc :=
  before0_1_of m (dats m 0 c) (A_eq m c 1) (after_1 m c) t d
theorem after_2 (c : Dev nD) (t : Fin cfg0.N) : (dats m 0 c).after 2 t = (ins m c t).yp := by dsimp only [dats, ins]
theorem before_2 (c : Dev nD) (t : Fin cfg0.N) (d) : (dats m 0 c).before 2 t d = (ins m c t).yp :=
  before0_2_of m (dats m 0 c) (A_eq m c 2) (after_2 m c) t d
theorem after_3 (c : Dev nD) (t : Fin cfg0.N) : (dats m 0 c).after 3 t = (ins m c t).za := by dsimp only [dats, ins]
theorem before_3 (c : Dev nD) (t : Fin cfg0.N) (d) : (dats m 0 c).before 3 t d = (ins m c t).za :=
  before0_3_of m (dats m 0 c) (A_eq m c 3) (after_3 m c) t d
theorem after_4 (c : Dev nD) (t : Fin cfg0.N) : (dats m 0 c).after 4 t = (ins m c t).zb := by dsimp only [dats, ins]
theorem before_4 (c : Dev nD) (t : Fin cfg0.N) (d) : (dats m 0 c).before 4 t d = (ins m c t).zb :=
  before0_4_of m (dats m 0 c) (A_eq m c 4) (after_4 m c) t d
theorem after_5 (c : Dev nD) (t : Fin cfg0.N) : (dats m 0 c).after 5 t = (ins m c t).bg := by dsimp only [dats, ins]
theorem before_5 (c : Dev nD) (t : Fin cfg0.N) (d) : (dats m 0 c).before 5 t d = (ins m c t).bg :=
  before0_5_of m (dats m 0 c) (A_eq m c 5) (after_5 m c) t d
theorem after_6 (c : Dev nD) (t : Fin cfg0.N) : (dats m 0 c).after 6 t = (ins m c t).cv := by dsimp only [dats, ins]
theorem before_6 (c : Dev nD) (t : Fin cfg0.N) (d) : (dats m 0 c).before 6 t d = (ins m c t).cv :=
  before0_6_of m (dats m 0 c) (A_eq m c 6) (after_6 m c) t d
theorem after_7 (c : Dev nD) (t : Fin cfg0.N) : (dats m 0 c).after 7 t = (ins m c t).lg := by dsimp only [dats, ins]
theorem before_7 (c : Dev nD) (t : Fin cfg0.N) (d) : (dats m 0 c).before 7 t d = (ins m c t).lg :=
  before0_7_of m (dats m 0 c) (A_eq m c 7) (after_7 m c) t d
theorem after_8 (c : Dev nD) (t : Fin cfg0.N) : (dats m 0 c).after 8 t = (ins m c t).lb := by dsimp only [dats, ins]
theorem before_8 (c : Dev nD) (t : Fin cfg0.N) (d) : (dats m 0 c).before 8 t d = (ins m c t).lb :=
  before0_8_of m (dats m 0 c) (A_eq m c 8) (after_8 m c) t d
theorem after_9 (c : Dev nD) (t : Fin cfg0.N) : (dats m 0 c).after 9 t = (ins m c t).mw := by dsimp only [dats, ins]
theorem before_9 (c : Dev nD) (t : Fin cfg0.N) (d) : (dats m 0 c).before 9 t d = (ins m c t).mw :=
  before0_9_of m (dats m 0 c) (A_eq m c 9) (after_9 m c) t d
theorem after_10 (c : Dev nD) (t : Fin cfg0.N) : (dats m 0 c).after 10 t = (ins m c t).ps := by dsimp only [dats, ins]
theorem before_10 (c : Dev nD) (t : Fin cfg0.N) (d) : (dats m 0 c).before 10 t d = (ins m c t).ps :=
  before0_10_of m (dats m 0 c) (A_eq m c 10) (after_10 m c) t d
theorem after_11 (c : Dev nD) (t : Fin cfg0.N) : (dats m 0 c).after 11 t = (ins m c t).wo := by dsimp only [dats, ins]
theorem before_11 (c : Dev nD) (t : Fin cfg0.N) (d) : (dats m 0 c).before 11 t d = (ins m c t).wo :=
  before0_11_of m (dats m 0 c) (A_eq m c 11) (after_11 m c) t d
theorem after_12 (c : Dev nD) (t : Fin cfg0.N) : (dats m 0 c).after 12 t = (ins m c t).wc := by dsimp only [dats, ins]
theorem before_12 (c : Dev nD) (t : Fin cfg0.N) (d) : (dats m 0 c).before 12 t d = (ins m c t).wc :=
  before0_12_of m (dats m 0 c) (A_eq m c 12) (after_12 m c) t d
theorem after_13 (c : Dev nD) (t : Fin cfg0.N) : (dats m 0 c).after 13 t = (ins m c t).wp := by dsimp only [dats, ins]
theorem before_13 (c : Dev nD) (t : Fin cfg0.N) (d) : (dats m 0 c).before 13 t d = (ins m c t).wp :=
  before0_13_of m (dats m 0 c) (A_eq m c 13) (after_13 m c) t d
theorem after_14 (c : Dev nD) (t : Fin cfg0.N) : (dats m 0 c).after 14 t = (ins m c t).wl := by dsimp only [dats, ins]
theorem before_14 (c : Dev nD) (t : Fin cfg0.N) (d) : (dats m 0 c).before 14 t d = (ins m c t).wl :=
  before0_14_of m (dats m 0 c) (A_eq m c 14) (after_14 m c) t d
theorem after_15 (c : Dev nD) (t : Fin cfg0.N) : (dats m 0 c).after 15 t = (ins m c t).dyc := by dsimp only [dats]
theorem after_16 (c : Dev nD) (t : Fin cfg0.N) : (dats m 0 c).after 16 t = (ins m c t).dyp := by dsimp only [dats]
theorem after_17 (c : Dev nD) (t : Fin cfg0.N) : (dats m 0 c).after 17 t = (ins m c t).dzg := by dsimp only [dats]
theorem after_18 (c : Dev nD) (t : Fin cfg0.N) : (dats m 0 c).after 18 t = (ins m c t).dcv := by dsimp only [dats]
theorem after_19 (c : Dev nD) (t : Fin cfg0.N) : (dats m 0 c).after 19 t = (ins m c t).dmw := by dsimp only [dats]
theorem after_20 (c : Dev nD) (t : Fin cfg0.N) : (dats m 0 c).after 20 t = (ins m c t).dm := by dsimp only [dats]
theorem after_21 (c : Dev nD) (t : Fin cfg0.N) : (dats m 0 c).after 21 t = (sums m c t.val t.isLt).bg := by dsimp only [dats]
theorem before_21 (c : Dev nD) (t : Fin cfg0.N) (h : t.val ≠ 0) (d) :
    (dats m 0 c).before 21 t d = (sums m c (t.val - 1) (Nat.lt_of_le_of_lt (Nat.sub_le _ _) t.isLt)).bg := by
  have hN : t.val < 17 := lt_of_lt_of_eq t.isLt (show cfg0.N = 17 from N_0)
  rw [Dat.before_out_kept _ 21 rfl t (by omega) (Bool.eq_false_iff.mpr fun h' => by have := (flush0_21 _).mp h'; dsimp only at this; omega) (fun _ => rfl) (fun _ _ => rfl)]
  dsimp only [dats]
theorem after_22 (c : Dev nD) (t : Fin cfg0.N) : (dats m 0 c).after 22 t = (sums m c t.val t.isLt).lg := by dsimp only [dats]
theorem before_22 (c : Dev nD) (t : Fin cfg0.N) (h : t.val ≠ 0) (d) :
    (dats m 0 c).before 22 t d = (sums m c (t.val - 1) (Nat.lt_of_le_of_lt (Nat.sub_le _ _) t.isLt)).lg := by
  have hN : t.val < 17 := lt_of_lt_of_eq t.isLt (show cfg0.N = 17 from N_0)
  rw [Dat.before_out_kept _ 22 rfl t (by omega) (Bool.eq_false_iff.mpr fun h' => by have := (flush0_22 _).mp h'; dsimp only at this; omega) (fun _ => rfl) (fun _ _ => rfl)]
  dsimp only [dats]
theorem after_23 (c : Dev nD) (t : Fin cfg0.N) : (dats m 0 c).after 23 t = (sums m c t.val t.isLt).lb := by dsimp only [dats]
theorem before_23 (c : Dev nD) (t : Fin cfg0.N) (h : t.val ≠ 0) (d) :
    (dats m 0 c).before 23 t d = (sums m c (t.val - 1) (Nat.lt_of_le_of_lt (Nat.sub_le _ _) t.isLt)).lb := by
  have hN : t.val < 17 := lt_of_lt_of_eq t.isLt (show cfg0.N = 17 from N_0)
  rw [Dat.before_out_kept _ 23 rfl t (by omega) (Bool.eq_false_iff.mpr fun h' => by have := (flush0_23 _).mp h'; dsimp only at this; omega) (fun _ => rfl) (fun _ _ => rfl)]
  dsimp only [dats]
theorem after_24 (c : Dev nD) (t : Fin cfg0.N) : (dats m 0 c).after 24 t = (sums m c t.val t.isLt).dw := by dsimp only [dats]
theorem before_24 (c : Dev nD) (t : Fin cfg0.N) (h : t.val ≠ 0) (d) :
    (dats m 0 c).before 24 t d = (sums m c (t.val - 1) (Nat.lt_of_le_of_lt (Nat.sub_le _ _) t.isLt)).dw := by
  have hN : t.val < 17 := lt_of_lt_of_eq t.isLt (show cfg0.N = 17 from N_0)
  rw [Dat.before_out_kept _ 24 rfl t (by omega) (Bool.eq_false_iff.mpr fun h' => by have := (flush0_24 _).mp h'; dsimp only at this; omega) (fun _ => rfl) (fun _ _ => rfl)]
  dsimp only [dats]
theorem after_25 (c : Dev nD) (t : Fin cfg0.N) : (dats m 0 c).after 25 t = (sums m c t.val t.isLt).ps := by dsimp only [dats]
theorem before_25 (c : Dev nD) (t : Fin cfg0.N) (h : t.val ≠ 0) (d) :
    (dats m 0 c).before 25 t d = (sums m c (t.val - 1) (Nat.lt_of_le_of_lt (Nat.sub_le _ _) t.isLt)).ps := by
  have hN : t.val < 17 := lt_of_lt_of_eq t.isLt (show cfg0.N = 17 from N_0)
  rw [Dat.before_out_kept _ 25 rfl t (by omega) (Bool.eq_false_iff.mpr fun h' => by have := (flush0_25 _).mp h'; dsimp only at this; omega) (fun _ => rfl) (fun _ _ => rfl)]
  dsimp only [dats]

end Cert.KernelIdeal.Rows
-- ==== Proof.Rows.Launch.lean ====
module

public import proofs.«01_k».proof.Proof.Rows.Data
public import Idealize.ShloMosaic.Lib.Claim

/-!
The launch of the row pass: what every window holds block by block, and the run.
-/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at row block `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- What it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 4000000 in
/-- The body at the first row block. -/
theorem sound_first (c : Dev nD) (t : Fin cfg0.N) (h0 : t.val = 0) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14]

  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, sums_first m c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (body_first c (grid0.coords t) _ _ _ _ _ _ _ _ _ _ _ _ _ _ _ _ _ _ _ _ _ _ _ _ _ _ _ _ _ _ _ _ _ _ _ _ _ _ _ _ _ _ _ _ _ _ _ _ _ _ _ _ (ins m c t) ((hcond0_0 t).mpr (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

set_option maxHeartbeats 4000000 in
/-- The body at a later row block. -/
theorem sound_later (c : Dev nD) (t : Fin cfg0.N) (h0 : t.val ≠ 0) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14]
  simp only [before_21 m c t h0, before_22 m c t h0, before_23 m c t h0, before_24 m c t h0, before_25 m c t h0]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, sums_later m c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (body_later c (grid0.coords t) _ _ _ _ _ _ _ _ _ _ _ _ _ _ _ _ _ _ _ _ _ _ _ _ _ _ _ _ _ _ _ _ _ _ _ _ _ _ _ _ _ _ _ _ _ _ _ _ _ _ _ _ (ins m c t) (fun h => h0 (by have := (hcond0_0 t).mp h; have := lt_of_lt_of_eq t.isLt (show cfg0.N = 17 from N_0); omega)) (sums m c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexact H21
  isplitl [H22]; · iexact H22
  isplitl [H23]; · iexact H23
  isplitl [H24]; · iexact H24
  isplitl [H25]; · iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The launch's call of the body at row block `t` is the body on the block's own memrefs. -/
theorem defs₀_row (t : Fin cfg0.N) :
    defs₀ (F := F) .tc cfg0.body (cfg0.bodyArgs t (cfg0.slots t)) = bodyAt0 t := by
  unfold defs₀; rw [Defs.onTc_tc]

/-- The body at any row block. -/
theorem sound (c : Dev nD) (t : Fin cfg0.N) :
    pre m c t ⊢ wp frame (wpE (defs₀ (F := F)) Variants.none c none) Set.univ (bodyAt0 t) (fun _ => post m c t) := by
  by_cases h0 : t.val = 0
  · exact sound_first m c t h0
  · exact sound_later m c t h0

set_option maxHeartbeats 4000000 in
/-- The body meets the launch's obligation at every row block. -/
theorem obligation (c : Dev nD) : BodyObligation (dats (F := F) m 0 c) (defs₀ (F := F)) Variants.none () Set.univ := fun t => by
  rw [bigSep_W0, bigSep_W0, defs₀_row]
  exact triple_restated (sound m c t) rfl .rfl fun _ => .rfl

set_option maxHeartbeats 4000000 in
set_option backward.isDefEq.respectTransparency.types false in
/-- The run: it ends, with every window's array holding what its blocks write and every counter at zero. -/
theorem run : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

set_option maxHeartbeats 4000000 in
/-- The run leaves the arguments as they were. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Rows
-- ==== Proof.Rows.Calc.lean ====
/- A small calculus of tables: `Tab x g` says the rank-2 array `x` holds, at every index, the real number `g` names, and
   `Lst x g` says it of a rank-1 array. Each operation of the kernel's body and of the host takes arrays that hold real
   numbers to one that holds the real number one expects. -/
module

public import Idealize.ShloMosaic.Lib.ValueIdx
public import Idealize.ShloMosaic.Lib.MatmulPlain
public import Idealize.ShloMosaic.Lib.KernelVsHost
public import Idealize.ShloMosaic.Lib.IdealHost
public import Idealize.ShloMosaic.Lib.Pointwise
public import Idealize.ShloMosaic.Lib.Pipeline.Value

@[expose] public section

open Idealize.ShloMosaic hiding ix0 ix1 ix2 ix3 eq_ix1 eq_ix2
open Idealize.ShloMosaic.ValueIdx

noncomputable section

namespace Cert.Rows

variable {m n k : ℕ} {φ ψ : FTy}

/-- The array holds the real table `g`. -/
def Tab (x : FVec Ideal ⟨2, ![m, n]⟩ φ) (g : Fin m → Fin n → ℝ) : Prop := ∀ i j, x (ix2 i j) = ((g i j : ℝ) : EReal)

/-- The array holds the real list `g`. -/
def Lst (x : FVec Ideal ⟨1, ![n]⟩ φ) (g : Fin n → ℝ) : Prop := ∀ i, x (ix1 i) = ((g i : ℝ) : EReal)

/-- The word of zero. -/
theorem zero_word : Ideal.ofBits .f32 0x00000000#32 = ((0 : ℝ) : EReal) := by
  simp [Ideal.ofBits, Ideal.ieee]

/-- The word of one half. -/
theorem half_word : Ideal.ofBits .f32 0x3F000000#32 = ((1 / 2 : ℝ) : EReal) := by
  simp [Ideal.ofBits, Ideal.ieee, -EReal.coe_mul]; norm_num

/-- The word of one. -/
theorem one_word : Ideal.ofBits .f32 0x3F800000#32 = ((1 : ℝ) : EReal) := by
  simp [Ideal.ofBits, Ideal.ieee, -EReal.coe_mul]; norm_num

/-- The word of the row's length. -/
theorem len_word : Ideal.ofBits .f32 0x44800000#32 = ((1024 : ℝ) : EReal) := by
  simp [Ideal.ofBits, Ideal.ieee, -EReal.coe_mul]; norm_num

/-- The word of minus one half. -/
theorem neg_half_word : Ideal.ofBits .f32 0xBF000000#32 = ((-(1 / 2) : ℝ) : EReal) := by
  simp [Ideal.ofBits, Ideal.ieee, -EReal.coe_mul]; norm_num

/-- What the normalisation adds to the variance: the rational its word is. -/
def eps : ℝ := 10995116 / 2 ^ 40

theorem eps_word : Ideal.ofBits .f32 0x3727C5AC#32 = (eps : EReal) := by
  unfold eps
  simp [Ideal.ofBits, Ideal.ieee, -EReal.coe_mul]; norm_num

theorem eps_pos : 0 < eps := by unfold eps; norm_num

namespace Tab

theorem congr {x : FVec Ideal ⟨2, ![m, n]⟩ φ} {g h : Fin m → Fin n → ℝ} (hx : Tab x g) (e : ∀ i j, g i j = h i j) : Tab x h :=
  fun i j => (hx i j).trans (congrArg _ (e i j))

/-- Two arrays holding the same table are equal. -/
theorem ext {x y : FVec Ideal ⟨2, ![m, n]⟩ φ} {g : Fin m → Fin n → ℝ} (hx : Tab x g) (hy : Tab y g) : x = y := by
  funext i
  rw [eq_ix2 i]
  exact (hx _ _).trans (hy _ _).symm

variable {x y : FVec Ideal ⟨2, ![m, n]⟩ φ} {g h : Fin m → Fin n → ℝ}

theorem add (hx : Tab x g) (hy : Tab y h) : Tab (addf x y) fun i j => g i j + h i j := fun i j => by
  show x (ix2 i j) + y (ix2 i j) = _
  rw [hx, hy, ← EReal.coe_add]

theorem sub (hx : Tab x g) (hy : Tab y h) : Tab (subf x y) fun i j => g i j - h i j := fun i j => by
  show x (ix2 i j) - y (ix2 i j) = _
  rw [hx, hy, ← EReal.coe_sub]

theorem mul (hx : Tab x g) (hy : Tab y h) : Tab (mulf x y) fun i j => g i j * h i j := fun i j => by
  show x (ix2 i j) * y (ix2 i j) = _
  rw [hx, hy, ← EReal.coe_mul]

theorem trunc (hx : Tab x g) (hb : FTy.bits ψ < FTy.bits φ) : Tab (truncf ψ x hb) g := hx

theorem ext' (hx : Tab x g) (hb : FTy.bits φ < FTy.bits ψ) : Tab (extf ψ x hb) g := hx

theorem tanh (hx : Tab x g) : Tab (Idealize.ShloMosaic.tanh x) fun i j => Real.tanh (g i j) := fun i j => by
  show Ideal.tanh (x (ix2 i j)) = _
  rw [hx, Ideal.tanh_coe]

/-- A quotient by a table of numbers that are not zero. -/
theorem div (hx : Tab x g) (hy : Tab y h) (h0 : ∀ i j, h i j ≠ 0) : Tab (divf x y) fun i j => g i j / h i j := fun i j => by
  show Ideal.div (x (ix2 i j)) (y (ix2 i j)) = _
  rw [hx, hy, Ideal.div_coe (h0 i j), ← EReal.coe_mul, mul_one_div]

theorem hostDiv (hx : Tab x g) (hy : Tab y h) (h0 : ∀ i j, h i j ≠ 0) : Tab (Host.divf x y) fun i j => g i j / h i j :=
  fun i j => by
  show Ideal.div (x (ix2 i j)) (y (ix2 i j)) = _
  rw [hx, hy, Ideal.div_coe (h0 i j), ← EReal.coe_mul, mul_one_div]

theorem rsqrt (hx : Tab x g) (h0 : ∀ i j, 0 < g i j) : Tab (Idealize.ShloMosaic.rsqrt x) fun i j => (Real.sqrt (g i j))⁻¹ := fun i j => by
  show Ideal.rsqrt (x (ix2 i j)) = _
  rw [hx, Ideal.rsqrt_coe, if_neg (not_lt.2 (h0 i j).le), if_neg (h0 i j).ne']

theorem hostRsqrt (hx : Tab x g) (h0 : ∀ i j, 0 < g i j) : Tab (Host.rsqrt x) fun i j => (Real.sqrt (g i j))⁻¹ := fun i j => by
  show Ideal.rsqrt (x (ix2 i j)) = _
  rw [hx, Ideal.rsqrt_coe, if_neg (not_lt.2 (h0 i j).le), if_neg (h0 i j).ne']

theorem hostExp (hx : Tab x g) : Tab (Host.exp x) fun i j => Real.exp (g i j) := fun i j => by
  show Ideal.exp (x (ix2 i j)) = _
  rw [hx, Ideal.exp_coe]

theorem hostNeg (hx : Tab x g) : Tab (Host.negf x) fun i j => -g i j := fun i j => by
  show -(x (ix2 i j)) = _
  rw [hx, EReal.coe_neg]

/-- A scalar splat. -/
theorem splat {v : Ideal φ} {r : ℝ} (hv : v = (r : EReal)) : Tab (broadcast (⟨2, ![m, n]⟩ : Shape) v : FVec Ideal ⟨2, ![m, n]⟩ φ) fun _ _ => r :=
  fun _ _ => hv

theorem hostSplat {v : FVec Ideal ⟨0, ![]⟩ φ} {r : ℝ} (hv : ∀ i, v i = (r : EReal))
    (hb : (⟨0, ![]⟩ : Shape).BroadcastsInDim ⟨2, ![m, n]⟩ ![]) : Tab (broadcastInDim ⟨2, ![m, n]⟩ ![] hb v : FVec Ideal ⟨2, ![m, n]⟩ φ) fun _ _ => r :=
  fun _ _ => hv _

theorem same (hx : Tab x g) (hc : (⟨2, ![m, n]⟩ : Shape).ShapeCasts ⟨2, ![m, n]⟩) : Tab (shapeCast (⟨2, ![m, n]⟩ : Shape) x hc : FVec Ideal _ φ) g :=
  fun i j => (shapeCast_apply x hc (ix2 i j) (ix2 i j) rfl).trans (hx i j)

/-- One row, repeated. -/
theorem row {x : FVec Ideal ⟨2, ![1, n]⟩ φ} {g : Fin 1 → Fin n → ℝ} (hx : Tab x g) (hb : (⟨2, ![1, n]⟩ : Shape).Broadcasts ⟨2, ![m, n]⟩) :
    Tab (broadcastTo (⟨2, ![m, n]⟩ : Shape) x hb : FVec Ideal _ φ) fun _ j => g 0 j := fun i j => by
  rw [broadcastTo_apply x hb (ix2 i j) (ix2 0 j), hx]
  intro a
  match a with
  | ⟨0, _⟩ => rfl
  | ⟨1, _⟩ =>
    show (j : ℕ) = if n = 1 then 0 else (j : ℕ)
    split_ifs with h
    · have := j.isLt; omega
    · rfl

/-- One column, repeated. -/
theorem col {x : FVec Ideal ⟨2, ![m, 1]⟩ φ} {g : Fin m → Fin 1 → ℝ} (hx : Tab x g) (hb : (⟨2, ![m, 1]⟩ : Shape).Broadcasts ⟨2, ![m, n]⟩) :
    Tab (broadcastTo (⟨2, ![m, n]⟩ : Shape) x hb : FVec Ideal _ φ) fun i _ => g i 0 := fun i j => by
  rw [broadcastTo_apply x hb (ix2 i j) (ix2 i 0), hx]
  intro a
  match a with
  | ⟨0, _⟩ =>
    show (i : ℕ) = if m = 1 then 0 else (i : ℕ)
    split_ifs with h
    · have := i.isLt; omega
    · rfl
  | ⟨1, _⟩ => rfl

theorem hostRow {x : FVec Ideal ⟨2, ![1, n]⟩ φ} {g : Fin 1 → Fin n → ℝ} (hx : Tab x g)
    (hb : (⟨2, ![1, n]⟩ : Shape).BroadcastsInDim ⟨2, ![m, n]⟩ ![0, 1]) :
    Tab (broadcastInDim (⟨2, ![m, n]⟩ : Shape) ![0, 1] hb x : FVec Ideal _ φ) fun _ j => g 0 j := fun i j => by
  rw [broadcastInDim_apply ![0, 1] hb x (ix2 i j) (ix2 0 j), hx]
  intro a
  match a with
  | ⟨0, _⟩ => rfl
  | ⟨1, _⟩ =>
    show (j : ℕ) = if n = 1 then 0 else (j : ℕ)
    split_ifs with h
    · have := j.isLt; omega
    · rfl

theorem hostCol {x : FVec Ideal ⟨2, ![m, 1]⟩ φ} {g : Fin m → Fin 1 → ℝ} (hx : Tab x g)
    (hb : (⟨2, ![m, 1]⟩ : Shape).BroadcastsInDim ⟨2, ![m, n]⟩ ![0, 1]) :
    Tab (broadcastInDim (⟨2, ![m, n]⟩ : Shape) ![0, 1] hb x : FVec Ideal _ φ) fun i _ => g i 0 := fun i j => by
  rw [broadcastInDim_apply ![0, 1] hb x (ix2 i j) (ix2 i 0), hx]
  intro a
  match a with
  | ⟨0, _⟩ =>
    show (i : ℕ) = if m = 1 then 0 else (i : ℕ)
    split_ifs with h
    · have := i.isLt; omega
    · rfl
  | ⟨1, _⟩ => rfl

/-- The sum of real numbers, read in the extended reals. -/
theorem _root_.Cert.Rows.coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The sum along each row. -/
theorem sumRow {x : FVec Ideal ⟨2, ![m, n]⟩ .f32} (hx : Tab x g) (h : (⟨2, ![m, n]⟩ : Shape).Reduces [1] ⟨1, ![m]⟩) (hφ : FKind.Formats .f32)
    (hacc : 0x00000000#32 = FKind.add.neutral .f32 hφ) :
    Lst (multiReduction .add [1] ⟨1, ![m]⟩ x 0x00000000#32 h hφ hacc) fun i => ∑ j, g i j := fun i => by
  rw [multiReduction_add_apply]
  show Ideal.reduceAdd h x (ix1 i) = _
  rw [Ideal.reduceAdd_r2_a1 h x (ix1 i), ← coe_sum]
  exact Finset.sum_congr rfl fun j _ => hx i j

/-- The sum down each column. -/
theorem sumCol {x : FVec Ideal ⟨2, ![m, n]⟩ .f32} (hx : Tab x g) (h : (⟨2, ![m, n]⟩ : Shape).Reduces [0] ⟨1, ![n]⟩) (hφ : FKind.Formats .f32)
    (hacc : 0x00000000#32 = FKind.add.neutral .f32 hφ) :
    Lst (multiReduction .add [0] ⟨1, ![n]⟩ x 0x00000000#32 h hφ hacc) fun j => ∑ i, g i j := fun j => by
  rw [multiReduction_add_apply]
  show Ideal.reduceAdd h x (ix1 j) = _
  rw [Ideal.reduceAdd_r2_a0 h x (ix1 j), ← coe_sum]
  exact Finset.sum_congr rfl fun i _ => hx i j

theorem hostSumRow {x : FVec Ideal ⟨2, ![m, n]⟩ .f32} (hx : Tab x g) {v : FVec Ideal ⟨0, ![]⟩ .f32} (hv : ∀ i, v i = ((0 : ℝ) : EReal))
    (h : (⟨2, ![m, n]⟩ : Shape).ReducesTo [1] ⟨1, ![m]⟩) (hu : 0 < (⟨0, ![]⟩ : Shape).numel) :
    Lst (Host.reduceAdd x v h hu) fun i => ∑ j, g i j := fun i => by
  rw [hostReduceAdd_apply, Ideal.hostReduceAdd_r2_a1, hv, EReal.coe_zero, zero_add, ← coe_sum]
  exact Finset.sum_congr rfl fun j _ => hx i j

theorem hostSumCol {x : FVec Ideal ⟨2, ![m, n]⟩ .f32} (hx : Tab x g) {v : FVec Ideal ⟨0, ![]⟩ .f32} (hv : ∀ i, v i = ((0 : ℝ) : EReal))
    (h : (⟨2, ![m, n]⟩ : Shape).ReducesTo [0] ⟨1, ![n]⟩) (hu : 0 < (⟨0, ![]⟩ : Shape).numel) :
    Lst (Host.reduceAdd x v h hu) fun j => ∑ i, g i j := fun j => by
  rw [hostReduceAdd_apply, Ideal.hostReduceAdd_r2_a0, hv, EReal.coe_zero, zero_add, ← coe_sum]
  exact Finset.sum_congr rfl fun i _ => hx i j

/-- A product with the second factor transposed, on top of zeros. -/
theorem dotT {x : FVec Ideal ⟨2, ![m, k]⟩ φ} {y : FVec Ideal ⟨2, ![n, k]⟩ ψ} {a : FVec Ideal ⟨2, ![m, n]⟩ .f32} {g : Fin m → Fin k → ℝ}
    {h : Fin n → Fin k → ℝ} (hx : Tab x g) (hy : Tab y h) (ha : Tab a fun _ _ => 0) :
    Tab (matmul (DotDims.transposedRhs m k n) none x y a) fun i j => ∑ q, g i q * h j q := fun i j => by
  refine (Ideal.matmul_transposedRhs_apply none x y a i j).trans ?_
  rw [ha, EReal.coe_zero, zero_add, ← coe_sum]
  exact Finset.sum_congr rfl fun q _ => by rw [hx, hy, EReal.coe_mul]

theorem hostDotT {x : FVec Ideal ⟨2, ![m, k]⟩ .f32} {y : FVec Ideal ⟨2, ![n, k]⟩ .f32} {g : Fin m → Fin k → ℝ}
    {h : Fin n → Fin k → ℝ} (hx : Tab x g) (hy : Tab y h) :
    Tab (Host.dotGeneral (DotDims.transposedRhs m k n) none x y) fun i j => ∑ q, g i q * h j q := by
  rw [← matmul_zero_eq_dotGeneral]
  exact dotT hx hy (fun _ _ => by rw [constant_apply]; exact zero_word)

/-- A plain product on the host. -/
theorem hostDot {x : FVec Ideal ⟨2, ![m, k]⟩ .f32} {y : FVec Ideal ⟨2, ![k, n]⟩ .f32} {g : Fin m → Fin k → ℝ}
    {h : Fin k → Fin n → ℝ} (hx : Tab x g) (hy : Tab y h) :
    Tab (Host.dotGeneral (DotDims.plain m k n) none x y) fun i j => ∑ q, g i q * h q j := fun i j => by
  rw [← matmul_zero_eq_dotGeneral]
  refine (Ideal.matmul_plain_apply none x y (constant (⟨2, ![m, n]⟩ : Shape) .f32 0x00000000#32) i j).trans ?_
  rw [constant_apply, zero_word, EReal.coe_zero, zero_add, ← coe_sum]
  exact Finset.sum_congr rfl fun q _ => by rw [hx, hy, EReal.coe_mul]

end Tab

namespace Lst

variable {x : FVec Ideal ⟨1, ![n]⟩ φ} {g : Fin n → ℝ}

theorem ext {y : FVec Ideal ⟨1, ![n]⟩ φ} (hx : Lst x g) (hy : Lst y g) : x = y := by
  funext i
  rw [eq_ix1 i]
  exact (hx _).trans (hy _).symm

/-- As a column. -/
theorem toCol (hx : Lst x g) (hc : (⟨1, ![n]⟩ : Shape).ShapeCasts ⟨2, ![n, 1]⟩) : Tab (shapeCast (⟨2, ![n, 1]⟩ : Shape) x hc : FVec Ideal _ φ) fun i _ => g i :=
  fun i j => by
  rw [shapeCast_apply x hc (ix2 i j) (ix1 i), hx]
  rw [rowMajor_val2 _ 1 rfl, rowMajor_val1]
  have := j.isLt
  show (i : ℕ) = i * 1 + j
  omega

/-- As a row. -/
theorem toRow (hx : Lst x g) (hc : (⟨1, ![n]⟩ : Shape).ShapeCasts ⟨2, ![1, n]⟩) : Tab (shapeCast (⟨2, ![1, n]⟩ : Shape) x hc : FVec Ideal _ φ) fun _ j => g j :=
  fun i j => by
  rw [shapeCast_apply x hc (ix2 i j) (ix1 j), hx]
  rw [rowMajor_val2 _ n rfl, rowMajor_val1]
  obtain rfl := Fin.fin_one_eq_zero i
  show (j : ℕ) = 0 * n + j
  omega

/-- A row, as a list. -/
theorem ofRow {x : FVec Ideal ⟨2, ![1, n]⟩ φ} {g : Fin 1 → Fin n → ℝ} (hx : Tab x g) (hc : (⟨2, ![1, n]⟩ : Shape).ShapeCasts ⟨1, ![n]⟩) :
    Lst (shapeCast (⟨1, ![n]⟩ : Shape) x hc : FVec Ideal _ φ) (g 0) := fun j => by
  rw [shapeCast_apply x hc (ix1 j) (ix2 0 j), hx]
  rw [rowMajor_val2 _ n rfl, rowMajor_val1]
  show 0 * n + (j : ℕ) = j
  omega

/-- A column, as a list. -/
theorem ofCol {x : FVec Ideal ⟨2, ![n, 1]⟩ φ} {g : Fin n → Fin 1 → ℝ} (hx : Tab x g) (hc : (⟨2, ![n, 1]⟩ : Shape).ShapeCasts ⟨1, ![n]⟩) :
    Lst (shapeCast (⟨1, ![n]⟩ : Shape) x hc : FVec Ideal _ φ) (fun i => g i 0) := fun j => by
  rw [shapeCast_apply x hc (ix1 j) (ix2 j 0), hx]
  rw [rowMajor_val2 _ 1 rfl, rowMajor_val1]
  show (j : ℕ) * 1 + 0 = j
  omega

theorem inRow (hx : Lst x g) (hb : (⟨1, ![n]⟩ : Shape).BroadcastsInDim ⟨2, ![m, n]⟩ ![1]) :
    Tab (broadcastInDim (⟨2, ![m, n]⟩ : Shape) ![1] hb x : FVec Ideal _ φ) fun _ j => g j := fun i j => by
  rw [broadcastInDim_apply ![1] hb x (ix2 i j) (ix1 j), hx]
  intro a
  match a with
  | ⟨0, _⟩ =>
    show (j : ℕ) = if n = 1 then 0 else (j : ℕ)
    split_ifs with h
    · have := j.isLt; omega
    · rfl

theorem inCol (hx : Lst x g) (hb : (⟨1, ![n]⟩ : Shape).BroadcastsInDim ⟨2, ![n, m]⟩ ![0]) :
    Tab (broadcastInDim (⟨2, ![n, m]⟩ : Shape) ![0] hb x : FVec Ideal _ φ) fun i _ => g i := fun i j => by
  rw [broadcastInDim_apply ![0] hb x (ix2 i j) (ix1 i), hx]
  intro a
  match a with
  | ⟨0, _⟩ =>
    show (i : ℕ) = if n = 1 then 0 else (i : ℕ)
    split_ifs with h
    · have := i.isLt; omega
    · rfl

end Lst

end Cert.Rows
-- ==== Proof.Rows.Math.lean ====
/- What the backward row pass computes, over the real numbers, row by row: the gradient through the output product, the
   two gates, the convolution branch's normalisation and activation, and the pool branch's map. -/
module

public import proofs.«01_k».proof.Proof.Rows.Calc

@[expose] public section

noncomputable section

namespace Cert.Rows

/-- The logistic function. -/
def logi (x : ℝ) : ℝ := 1 / (1 + Real.exp (-x))

/-- The logistic function written with the hyperbolic tangent. -/
theorem half_tanh (x : ℝ) : 1 / 2 * Real.tanh (1 / 2 * x) + 1 / 2 = logi x := by
  unfold logi
  rw [Real.tanh_eq_sinh_div_cosh, Real.sinh_eq, Real.cosh_eq]
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have p1 := Real.exp_pos (1 / 2 * x)
  have p2 := Real.exp_pos (-(1 / 2 * x))
  rw [h1]
  set a := Real.exp (1 / 2 * x)
  set b := Real.exp (-(1 / 2 * x))
  have : 1 + b * b ≠ 0 := by positivity
  have : a + b ≠ 0 := by positivity
  field_simp
  nlinarith [h2]

/-- A column of the first half. -/
def lcol (j : Fin 1024) : Fin 2048 := ⟨j, by omega⟩
/-- A column of the second half. -/
def rcol (j : Fin 1024) : Fin 2048 := ⟨1024 + j, by omega⟩
/-- Column `k` of group `g`. -/
def gcol (g : Fin 4) (k : Fin 256) : Fin 1024 := ⟨256 * g + k, by omega⟩
/-- The group of a column. -/
def grp (c : Fin 1024) : Fin 4 := ⟨c / 256, by omega⟩
/-- A column's place in its group. -/
def sub (c : Fin 1024) : Fin 256 := ⟨c % 256, Nat.mod_lt _ (by omega)⟩

theorem gcol_grp (c : Fin 1024) : gcol (grp c) (sub c) = c := Fin.ext (Nat.div_add_mod _ _)

theorem grp_gcol (g : Fin 4) (k : Fin 256) : grp (gcol g k) = g := Fin.ext (by show (256 * g.val + k.val) / 256 = g; omega)

theorem sub_gcol (g : Fin 4) (k : Fin 256) : sub (gcol g k) = k := Fin.ext (by show (256 * g.val + k.val) % 256 = k; omega)

/-- A row of the two halves side by side. -/
def halves (a b : Fin 1024 → ℝ) (c : Fin 2048) : ℝ :=
  if h : c.val < 1024 then a ⟨c, h⟩ else b ⟨c - 1024, by omega⟩

theorem halves_lcol (a b : Fin 1024 → ℝ) (j : Fin 1024) : halves a b (lcol j) = a j := dif_pos j.isLt

theorem halves_rcol (a b : Fin 1024 → ℝ) (j : Fin 1024) : halves a b (rcol j) = b j := by
  unfold halves rcol
  rw [dif_neg (by simp)]
  exact congrArg b (Fin.ext (by simp))

/-- Every column is of the first half or of the second. -/
theorem lcol_or_rcol (c : Fin 2048) : (∃ j, c = lcol j) ∨ ∃ j, c = rcol j := by
  by_cases h : c.val < 1024
  · exact .inl ⟨⟨c, h⟩, rfl⟩
  · exact .inr ⟨⟨c - 1024, by omega⟩, Fin.ext (by show c.val = 1024 + (c.val - 1024); omega)⟩

/-- What the pass takes, of `m` rows: the gradient `dh`, the two branches' outputs `yc`, `yp`, the gates' arguments `zg`, the
    convolution `cv`, the mapped pool rows `mw`; the gates' offset `bg`, the normalisation's `lg`, `lb`, the pool's scale
    `ps`; the three square matrices and the four pool matrices. -/
structure Data (m : ℕ) where
  dh : Fin m → Fin 1024 → ℝ
  yc : Fin m → Fin 1024 → ℝ
  yp : Fin m → Fin 1024 → ℝ
  zg : Fin m → Fin 2048 → ℝ
  cv : Fin m → Fin 1024 → ℝ
  mw : Fin m → Fin 1024 → ℝ
  bg : Fin 2048 → ℝ
  lg : Fin 1024 → ℝ
  lb : Fin 1024 → ℝ
  ps : Fin 1024 → ℝ
  wo : Fin 1024 → Fin 1024 → ℝ
  wc : Fin 1024 → Fin 1024 → ℝ
  wp : Fin 1024 → Fin 1024 → ℝ
  wl : Fin 4 → Fin 256 → Fin 256 → ℝ

namespace Data

variable {m : ℕ}

/-- The rows `e` alone. -/
def rows {n : ℕ} (d : Data m) (e : Fin n → Fin m) : Data n :=
  { d with dh := d.dh ∘ e, yc := d.yc ∘ e, yp := d.yp ∘ e, zg := d.zg ∘ e, cv := d.cv ∘ e, mw := d.mw ∘ e }

variable (d : Data m)

/-- The gradient at the merged rows. -/
def dmg (i : Fin m) (j : Fin 1024) : ℝ := ∑ q, d.dh i q * d.wo j q
/-- The gates. -/
def gate (i : Fin m) (c : Fin 2048) : ℝ := logi (d.zg i c + d.bg c)
/-- The gradient of the convolution branch's output. -/
def dyc (i : Fin m) (j : Fin 1024) : ℝ := d.dmg i j * d.gate i (lcol j)
/-- The gradient of the pool branch's output. -/
def dyp (i : Fin m) (j : Fin 1024) : ℝ := d.dmg i j * d.gate i (rcol j)
/-- The gradient of the gates' arguments. -/
def dzg (i : Fin m) (c : Fin 2048) : ℝ :=
  halves (fun j => d.dmg i j * d.yc i j) (fun j => d.dmg i j * d.yp i j) c * (d.gate i c * (1 - d.gate i c))
/-- The gradient of the activation. -/
def dca (i : Fin m) (j : Fin 1024) : ℝ := ∑ q, d.dyc i q * d.wc j q
/-- The convolution's row, centred. -/
def xc (i : Fin m) (j : Fin 1024) : ℝ := d.cv i j - (∑ q, d.cv i q) / 1024
/-- Its variance, and the small number. -/
def var (i : Fin m) : ℝ := (∑ q, d.xc i q * d.xc i q) / 1024 + eps
/-- One over its deviation. -/
def rs (i : Fin m) : ℝ := (Real.sqrt (d.var i))⁻¹
/-- The normalised row. -/
def xh (i : Fin m) (j : Fin 1024) : ℝ := d.xc i j * d.rs i
/-- The normalised row, scaled and moved. -/
def ln (i : Fin m) (j : Fin 1024) : ℝ := d.xh i j * d.lg j + d.lb j
/-- The gradient there. -/
def dln (i : Fin m) (j : Fin 1024) : ℝ := d.dca i j * (logi (d.ln i j) * (1 + d.ln i j * (1 - logi (d.ln i j))))
/-- The gradient of the normalised row. -/
def dxh (i : Fin m) (j : Fin 1024) : ℝ := d.dln i j * d.lg j
/-- The gradient of the convolution. -/
def dcv (i : Fin m) (j : Fin 1024) : ℝ :=
  d.rs i * (d.dxh i j - (∑ q, d.dxh i q) / 1024 - d.xh i j * ((∑ q, d.dxh i q * d.xh i q) / 1024))
/-- The gradient of the scaled pool rows. -/
def dsc (i : Fin m) (j : Fin 1024) : ℝ := ∑ q, d.dyp i q * d.wp j q
/-- The gradient of the mapped pool rows. -/
def dmw (i : Fin m) (j : Fin 1024) : ℝ := d.dsc i j * d.ps j
/-- The gradient of the pooled rows. -/
def dm (i : Fin m) (c : Fin 1024) : ℝ := ∑ q, d.dmw i (gcol (grp c) q) * d.wl (grp c) (sub c) q

theorem var_pos (i : Fin m) : 0 < d.var i := by
  unfold var
  have : 0 ≤ ∑ q, d.xc i q * d.xc i q := Finset.sum_nonneg fun q _ => mul_self_nonneg _
  have := eps_pos
  positivity

/-- The centred row sums to nothing. -/
theorem sum_xc (i : Fin m) : ∑ q, d.xc i q = 0 := by
  unfold xc
  rw [Finset.sum_sub_distrib]
  simp
  ring

/-- The gradient of the convolution as the plain rules of differentiation give it: through the mean of squares, then through
    the mean. -/
theorem dcv_rule (i : Fin m) (j : Fin 1024) :
    let w := (∑ q, d.xc i q * d.dxh i q) * (-(1 / 2) * (d.rs i / d.var i)) / 1024
    let u := fun q => d.dxh i q * d.rs i + d.xc i q * w + w * d.xc i q
    u j + (∑ q, -u q) / 1024 = d.dcv i j := by
  intro w u
  have hs : ∑ q, u q = (∑ q, d.dxh i q) * d.rs i := by
    simp only [u, Finset.sum_add_distrib, ← Finset.sum_mul, ← Finset.mul_sum, d.sum_xc]
    ring
  have hv := (d.var_pos i)
  have hr : d.rs i / d.var i = d.rs i * d.rs i * d.rs i := by
    have h : d.rs i * d.rs i = (d.var i)⁻¹ := by
      unfold rs
      rw [← mul_inv, Real.mul_self_sqrt hv.le]
    rw [mul_assoc, h, div_eq_mul_inv]
  have hx : ∑ q, d.dxh i q * d.xh i q = (∑ q, d.xc i q * d.dxh i q) * d.rs i := by
    rw [Finset.sum_mul]
    exact Finset.sum_congr rfl fun q _ => by unfold xh; ring
  rw [Finset.sum_neg_distrib, hs]
  unfold dcv
  rw [hx]
  simp only [u, w, hr]
  unfold xh
  ring

end Data

end Cert.Rows
-- ==== Proof.Ffn.Math.lean ====
/- What the feed-forward step and its gradient compute, over the real numbers, row by row: the first normalisation, the
   gated hidden units, the second normalisation, and all of it again backwards from the difference to the target. -/
module

public import proofs.«01_k».proof.Proof.Rows.Math

@[expose] public section

open Idealize.ShloMosaic hiding ix0 ix1 ix2 ix3 eq_ix1 eq_ix2

noncomputable section

namespace Cert.Ffn

/-- What the normalisations add to the mean square: the rational its word is. -/
def small : ℝ := 8796093 / 2 ^ 43

theorem small_word : Ideal.ofBits .f32 0x358637BD#32 = (small : EReal) := by
  unfold small
  simp [Ideal.ofBits, Ideal.ieee, -EReal.coe_mul]; norm_num

theorem small_pos : 0 < small := by unfold small; norm_num

/-- The word of the inverse of the row's length. -/
theorem inv_len_word : Ideal.ofBits .f32 0x3A800000#32 = ((1 / 1024 : ℝ) : EReal) := by
  simp [Ideal.ofBits, Ideal.ieee, -EReal.coe_mul]; norm_num

/-- The word of two. -/
theorem two_word : Ideal.ofBits .f32 0x40000000#32 = ((2 : ℝ) : EReal) := by
  simp [Ideal.ofBits, Ideal.ieee, -EReal.coe_mul]; norm_num

/-- The mean square of a row, and the small number. -/
def spread (x : Fin 1024 → ℝ) : ℝ := (∑ q, x q * x q) / 1024 + small

theorem spread_pos (x : Fin 1024 → ℝ) : 0 < spread x :=
  add_pos_of_nonneg_of_pos (div_nonneg (Finset.sum_nonneg fun q _ => mul_self_nonneg (x q)) (by norm_num)) small_pos

/-- The reciprocal root of a row's mean square. -/
def rms (x : Fin 1024 → ℝ) : ℝ := (Real.sqrt (spread x))⁻¹

/-- A row, normalised. -/
def unit (x : Fin 1024 → ℝ) (j : Fin 1024) : ℝ := x j * rms x

/-- The gradient `y` of a normalised row, taken back to the row. -/
def back (x y : Fin 1024 → ℝ) (j : Fin 1024) : ℝ := rms x * (y j - unit x j * ((∑ q, unit x q * y q) / 1024))

/-- The same as differentiating the mean square and the root one after the other. -/
theorem back_rule (x y : Fin 1024 → ℝ) (j : Fin 1024) :
    y j * rms x + x j * ((∑ q, x q * y q) * (-(1 / 2) * (rms x / spread x)) / 1024) + ((∑ q, x q * y q) * (-(1 / 2) * (rms x / spread x)) / 1024) * x j = back x y j := by
  have h : rms x / spread x = rms x * (rms x * rms x) := by
    have e : rms x * rms x = (spread x)⁻¹ := by
      unfold rms
      rw [← mul_inv, Real.mul_self_sqrt (spread_pos x).le]
    rw [e, div_eq_mul_inv]
  have s : (∑ q, unit x q * y q) = rms x * ∑ q, x q * y q := by
    rw [Finset.mul_sum]
    exact Finset.sum_congr rfl fun q _ => by unfold unit; ring
  rw [h]
  unfold back
  rw [s]
  unfold unit
  ring

/-- The gains of the two normalisations and the three matrices. -/
structure Weights where
  a : Fin 1024 → ℝ
  b : Fin 1024 → ℝ
  g : Fin 2816 → Fin 1024 → ℝ
  u : Fin 2816 → Fin 1024 → ℝ
  d : Fin 2816 → Fin 1024 → ℝ

namespace Weights

variable (W : Weights) (h e : Fin 1024 → ℝ)

/-- The normalised row with its gain. -/
def v (j : Fin 1024) : ℝ := unit h j * W.a j
/-- The gate before its activation. -/
def gate (p : Fin 2816) : ℝ := ∑ q, W.v h q * W.g p q
/-- The other half of the hidden units. -/
def up (p : Fin 2816) : ℝ := ∑ q, W.v h q * W.u p q
/-- The gate's logistic. -/
def sig (p : Fin 2816) : ℝ := Cert.Rows.logi (W.gate h p)
/-- The gate. -/
def act (p : Fin 2816) : ℝ := W.gate h p * W.sig h p
/-- The hidden units. -/
def hid (p : Fin 2816) : ℝ := W.act h p * W.up h p
/-- The row after the step. -/
def out (j : Fin 1024) : ℝ := h j + ∑ p, W.hid h p * W.d p j
/-- That row, normalised. -/
def y (j : Fin 1024) : ℝ := unit (W.out h) j
/-- The gradient of the loss where the row differs from its target by `e`. -/
def dy (j : Fin 1024) : ℝ := e j * (1 / 1024)
/-- The gradient at the row after the step. -/
def dout (j : Fin 1024) : ℝ := back (W.out h) (fun q => dy e q * W.b q) j
/-- The gradient of the hidden units. -/
def dhid (p : Fin 2816) : ℝ := ∑ q, W.dout h e q * W.d p q
/-- The gradient of the half without a gate. -/
def dup (p : Fin 2816) : ℝ := W.dhid h e p * W.act h p
/-- The gradient of the gate before its activation. -/
def dgate (p : Fin 2816) : ℝ := W.dhid h e p * W.up h p * (W.sig h p * (1 + W.gate h p * (1 - W.sig h p)))
/-- The gradient of the normalised row with its gain. -/
def dv (j : Fin 1024) : ℝ := (∑ p, W.dgate h e p * W.g p j) + ∑ p, W.dup h e p * W.u p j
/-- The gradient of the row. -/
def din (j : Fin 1024) : ℝ := W.dout h e j + back h (fun q => W.dv h e q * W.a q) j
/-- The row's share of the first gain's gradient. -/
def da (j : Fin 1024) : ℝ := W.dv h e j * unit h j
/-- The row's share of the last gain's gradient. -/
def db (j : Fin 1024) : ℝ := dy e j * W.y h j

end Weights

/-- The row's share of the loss. -/
def cost (e : Fin 1024 → ℝ) : ℝ := (∑ q, e q * e q) / 1024

end Cert.Ffn
-- ==== Proof.Ffn.Given.lean ====
/- The arguments of the feed-forward step as real tables, and what the step and its gradient make of them. -/
module

public import proofs.«01_k».proof.Proof.Ffn.Math

@[expose] public section

noncomputable section

namespace Cert.Ffn

/-- The arguments: the rows `h`, the targets `t` of all rows but the first 256, and the weights. -/
structure Given where
  h : Fin 4352 → Fin 1024 → ℝ
  t : Fin 4096 → Fin 1024 → ℝ
  w : Weights

namespace Given

variable (G : Given)

/-- How far a row is from its target: the first 256 rows have none. -/
def e (r : Fin 4352) (j : Fin 1024) : ℝ := if k : 256 ≤ r.val then G.w.y (G.h r) j * G.w.b j - G.t ⟨r.val - 256, by omega⟩ j else 0

/-- The gradient of the rows. -/
def din (r : Fin 4352) (j : Fin 1024) : ℝ := G.w.din (G.h r) (G.e r) j
/-- The normalised rows with their gain. -/
def v (r : Fin 4352) (j : Fin 1024) : ℝ := G.w.v (G.h r) j
/-- The hidden units. -/
def hid (r : Fin 4352) (p : Fin 2816) : ℝ := G.w.hid (G.h r) p
/-- The gradient of the gate before its activation. -/
def dgate (r : Fin 4352) (p : Fin 2816) : ℝ := G.w.dgate (G.h r) (G.e r) p
/-- The gradient of the half without a gate. -/
def dup (r : Fin 4352) (p : Fin 2816) : ℝ := G.w.dup (G.h r) (G.e r) p
/-- The gradient of the rows after the step. -/
def dout (r : Fin 4352) (j : Fin 1024) : ℝ := G.w.dout (G.h r) (G.e r) j
/-- The loss. -/
def loss : ℝ := 1 / 2 * ∑ r, cost (G.e r)
/-- The gradient of the first gain. -/
def da (j : Fin 1024) : ℝ := ∑ r, G.w.da (G.h r) (G.e r) j
/-- The gradient of the last gain. -/
def db (j : Fin 1024) : ℝ := ∑ r, G.w.db (G.h r) (G.e r) j

/-- A row with a target, counted among those. -/
theorem e_later (r : Fin 4096) (j : Fin 1024) : G.e ⟨256 + r.val, by omega⟩ j = G.w.y (G.h ⟨256 + r.val, by omega⟩) j * G.w.b j - G.t r j := by
  unfold e
  rw [dif_pos (show 256 ≤ 256 + r.val by omega)]
  exact congrArg (fun s => _ - G.t s j) (Fin.ext (show 256 + r.val - 256 = r.val by omega))

/-- A row without one. -/
theorem e_first {r : Fin 4352} (k : r.val < 256) : G.e r = fun _ => 0 := funext fun j => by
  unfold e
  rw [dif_neg (by omega)]

theorem cost_zero : cost (fun _ => 0) = 0 := by unfold cost; simp

/-- The loss counts the rows that have targets only. -/
theorem loss_later : G.loss = 1 / 2 * ∑ r : Fin 4096, cost (G.e ⟨256 + r.val, by omega⟩) := by
  unfold loss
  congr 1
  rw [Fin.sum_univ_add (a := 256) (b := 4096) (fun r : Fin (256 + 4096) => cost (G.e r)),
    Finset.sum_eq_zero fun r _ => by rw [e_first G (show (Fin.castAdd 4096 r : Fin (256 + 4096)).val < 256 from r.isLt)]; exact cost_zero, zero_add]
  rfl

end Given

/-- Row `p` of block `n`. -/
def row (n : ℕ) (hn : n < 17) (p : Fin 256) : Fin 4352 := ⟨256 * n + p.val, by omega⟩

/-- The sum over the rows of the first `n` blocks. -/
def upto (f : Fin 4352 → ℝ) : (n : ℕ) → n ≤ 17 → ℝ
  | 0, _ => 0
  | n + 1, hn => upto f n (Nat.le_of_succ_le hn) + ∑ p, f (row n hn p)

theorem upto_eq (f : Fin 4352 → ℝ) : ∀ (n : ℕ) (hn : n ≤ 17), upto f n hn = ∑ t : Fin n, ∑ p, f (row t.val (Nat.lt_of_lt_of_le t.isLt hn) p)
  | 0, _ => rfl
  | n + 1, hn => by
    show upto f n _ + _ = _
    rw [upto_eq f n]
    exact (Fin.sum_univ_castSucc fun t : Fin (n + 1) => ∑ p, f (row t.val (Nat.lt_of_lt_of_le t.isLt hn) p)).symm

/-- All rows are the rows of the blocks. -/
theorem upto_all (f : Fin 4352 → ℝ) : upto f 17 le_rfl = ∑ r, f r := by
  rw [upto_eq, ← Fintype.sum_prod_type']
  refine Fintype.sum_equiv (finProdFinEquiv (m := 17) (n := 256)) _ _ fun x => congrArg f (Fin.ext ?_)
  show 256 * x.1.val + x.2.val = x.2.val + 256 * x.1.val
  omega

end Cert.Ffn
-- ==== Proof.Ffn.Words.lean ====
/- What one point of the grid computes from what it loads, each array by its name. -/
module

public import proofs.«01_k».proof.Proof.Gen.FfnIdeal.Skeleton

@[expose] public section

noncomputable section

namespace Cert.FfnIdeal.Ffn

open Cert.FfnIdeal Cert.FfnIdeal.Gen
open Idealize.ShloMosaic

variable {F : FTy → Type} [FloatOps F]

/-- No offset along either axis. -/
theorem at_origin : (![0, 0] : Fin 2 → Nat) = fun _ => 0 := funext fun a => by fin_cases a <;> rfl

variable (n : BitVec 32) (h t : Vec F S256x1024 .f32) (a b : Vec F S1x1024 .f32) (g u d : Vec F S2816x1024 .bf16)

/-- The hidden units. -/
abbrev hidW : FVec F S256x2816 .bf16 := k0_pay15 h a g u
/-- The reciprocal root of the second normalisation. -/
abbrev r2W : FVec F S256x1 .f32 := k0_pay17 h (hidW h a g u) d
/-- The rows the second normalisation gives. -/
abbrev ynW : FVec F S256x1024 .f32 := k0_pay18 h (hidW h a g u) d
/-- The gradient of the loss with respect to the step's output. -/
abbrev dyW : FVec F S256x1024 .f32 := k0_pay21 n h (hidW h a g u) d b t
/-- The gradient that comes out of the second normalisation. -/
abbrev dh2W : FVec F S256x1024 .f32 := k0_pay23 (r2W h a g u d) (ynW h a g u d) (dyW n h t a b g u d) b
/-- The gradient of the ungated half of the hidden units. -/
abbrev dubW : FVec F S256x2816 .bf16 := k0_pay26 (k0_pay14 h a g) (r2W h a g u d) (ynW h a g u d) (dyW n h t a b g u d) b d
/-- The gradient of the gate's half. -/
abbrev dgbW : FVec F S256x2816 .bf16 := k0_pay27 (k0_pay11 h a g) (k0_pay12 h a u) (k0_pay13 h a g) (r2W h a g u d) (ynW h a g u d) (dyW n h t a b g u d) b d
/-- The gradient of the block's input. -/
abbrev dh1W : FVec F S256x1024 .f32 := k0_pay3 (k0_pay8 h) (k0_pay9 h) (dh2W n h t a b g u d) (dubW n h t a b g u d) (dgbW n h t a b g u d) g u a
/-- The same, rounded. -/
abbrev dh1bW : FVec F S256x1024 .bf16 := k0_pay4 (k0_pay8 h) (k0_pay9 h) (dh2W n h t a b g u d) (dubW n h t a b g u d) (dgbW n h t a b g u d) g u a
/-- The gradient that comes out of the second normalisation, rounded. -/
abbrev dh2bW : FVec F S256x1024 .bf16 := k0_pay24 (r2W h a g u d) (ynW h a g u d) (dyW n h t a b g u d) b
/-- The loss, with this block's share added. -/
abbrev lossW (s : Vec F S1x1 .f32) : FVec F S1x1 .f32 := k0_pay20 n h (hidW h a g u) d b t s
/-- The gradient of the first gain, with this block's share added. -/
abbrev daW (s : Vec F S1x1024 .f32) : FVec F S1x1024 .f32 := k0_pay2 (k0_pay9 h) (dubW n h t a b g u d) (dgbW n h t a b g u d) g u s
/-- The gradient of the last gain, with this block's share added. -/
abbrev dbW (s : Vec F S1x1024 .f32) : FVec F S1x1024 .f32 := k0_pay22 (ynW h a g u d) (dyW n h t a b g u d) s

end Cert.FfnIdeal.Ffn
-- ==== Proof.Ffn.Block.lean ====
/- One point of the grid over the real numbers: if what it loads holds real tables, each array it computes holds the table
   that the row-by-row description gives. -/
module

public import proofs.«01_k».proof.Proof.Ffn.Math
public import proofs.«01_k».proof.Proof.Ffn.Words

@[expose] public section

open Idealize.ShloMosaic hiding ix0 ix1 ix2 ix3 eq_ix1 eq_ix2
open Idealize.ShloMosaic.ValueIdx
open Cert.FfnIdeal Cert.FfnIdeal.Gen Cert.Rows Cert.Ffn

noncomputable section

namespace Cert.FfnIdeal.Ffn

theorem zeros_tab {m n : ℕ} : Tab (constant (F := Ideal) (⟨2, ![m, n]⟩ : Shape) .f32 0x00000000#32) fun _ _ => 0 :=
  fun _ _ => by rw [constant_apply]; exact zero_word

/-- A plain product on top of zeros. -/
theorem dot_tab {m n k : ℕ} {φ ψ : FTy} {x : FVec Ideal ⟨2, ![m, k]⟩ φ} {y : FVec Ideal ⟨2, ![k, n]⟩ ψ} {a : FVec Ideal ⟨2, ![m, n]⟩ .f32} {f : Fin m → Fin k → ℝ}
    {g : Fin k → Fin n → ℝ} (hx : Tab x f) (hy : Tab y g) (ha : Tab a fun _ _ => 0) :
    Tab (matmul (DotDims.plain m k n) none x y a) fun i j => ∑ q, f i q * g q j := fun i j => by
  refine (Ideal.matmul_plain_apply none x y a i j).trans ?_
  rw [ha, EReal.coe_zero, zero_add, ← coe_sum]
  exact Finset.sum_congr rfl fun q _ => by rw [hx, hy, EReal.coe_mul]

/-- The reciprocal root of each row's mean square. -/
theorem rms_tab {x : FVec Ideal S256x1024 .f32} {f : Fin 256 → Fin 1024 → ℝ} (hx : Tab x f) : Tab (φ := .f32) (k0_pay8 (F := Ideal) x) fun i _ => rms (f i) :=
  (((((hx.mul hx).sumRow reduces_S256x1024_S256 (.inl rfl) rfl).toCol shapeCasts_S256_S256x1).div (Tab.splat len_word) (fun _ _ => by norm_num)).add
    (Tab.splat small_word)).rsqrt fun i _ => spread_pos (f i)

/-- The gradient of a normalised array, taken back. -/
theorem back_tab {r : FVec Ideal S256x1 .f32} {x y : FVec Ideal S256x1024 .f32} {f k : Fin 256 → Fin 1024 → ℝ} (hr : Tab r fun i _ => rms (f i))
    (hx : Tab x fun i j => unit (f i) j) (hy : Tab y k) :
    Tab (mulf (broadcastTo S256x1024 r broadcasts_S256x1_S256x1024) (subf y (mulf x (broadcastTo S256x1024 (divf (shapeCast S256x1
      (multiReduction .add [1] S256 (mulf x y) 0x00000000#32 reduces_S256x1024_S256 (.inl rfl) rfl) shapeCasts_S256_S256x1)
      (broadcast S256x1 (Scalar.ofBits (F := Ideal) .f32 0x44800000#32))) broadcasts_S256x1_S256x1024))))
      fun i j => back (f i) (k i) j :=
  (hr.col broadcasts_S256x1_S256x1024).mul (hy.sub (hx.mul (((((hx.mul hy).sumRow reduces_S256x1024_S256 (.inl rfl) rfl).toCol shapeCasts_S256_S256x1).div
    (Tab.splat len_word) (fun _ _ => by norm_num)).col broadcasts_S256x1_S256x1024)))

variable {n : BitVec 32} {x0 x1 : Vec Ideal S256x1024 .f32} {x2 x3 : Vec Ideal S1x1024 .f32} {w0 w1 w2 : Vec Ideal S2816x1024 .bf16}
variable {W : Weights} {h e : Fin 256 → Fin 1024 → ℝ}

theorem unit_tab (hh : Tab (φ := .f32) x0 h) : Tab (φ := .f32) (k0_pay9 (F := Ideal) x0) fun i j => unit (h i) j :=
  Tab.mul (φ := .f32) hh ((rms_tab hh).col broadcasts_S256x1_S256x1024)

theorem v_tab (hh : Tab (φ := .f32) x0 h) (ha : Tab (φ := .f32) x2 fun _ => W.a) : Tab (φ := .bf16) (k0_pay10 (F := Ideal) x0 x2) fun i j => W.v (h i) j :=
  ((unit_tab hh).mul (Tab.row (φ := .f32) ha broadcasts_S1x1024_S256x1024)).trunc bitsLt_bf16_f32

theorem gate_tab (hh : Tab (φ := .f32) x0 h) (ha : Tab (φ := .f32) x2 fun _ => W.a) (hg : Tab (φ := .bf16) w0 W.g) :
    Tab (φ := .f32) (k0_pay11 (F := Ideal) x0 x2 w0) fun i p => W.gate (h i) p :=
  Tab.dotT (v_tab hh ha) hg zeros_tab

theorem up_tab (hh : Tab (φ := .f32) x0 h) (ha : Tab (φ := .f32) x2 fun _ => W.a) (hu : Tab (φ := .bf16) w1 W.u) :
    Tab (φ := .f32) (k0_pay12 (F := Ideal) x0 x2 w1) fun i p => W.up (h i) p :=
  Tab.dotT (v_tab hh ha) hu zeros_tab

theorem sig_tab (hh : Tab (φ := .f32) x0 h) (ha : Tab (φ := .f32) x2 fun _ => W.a) (hg : Tab (φ := .bf16) w0 W.g) :
    Tab (φ := .f32) (k0_pay13 (F := Ideal) x0 x2 w0) fun i p => W.sig (h i) p :=
  (((Tab.splat half_word).mul ((Tab.splat half_word).mul (gate_tab hh ha hg)).tanh).add (Tab.splat half_word)).congr fun _ _ => half_tanh _

theorem act_tab (hh : Tab (φ := .f32) x0 h) (ha : Tab (φ := .f32) x2 fun _ => W.a) (hg : Tab (φ := .bf16) w0 W.g) :
    Tab (φ := .f32) (k0_pay14 (F := Ideal) x0 x2 w0) fun i p => W.act (h i) p :=
  (gate_tab hh ha hg).mul (sig_tab hh ha hg)

/-- What a point loads: the rows `h`, the gains and the three matrices. -/
structure Loaded (W : Weights) (h : Fin 256 → Fin 1024 → ℝ) (x0 : Vec Ideal S256x1024 .f32) (x2 x3 : Vec Ideal S1x1024 .f32) (w0 w1 w2 : Vec Ideal S2816x1024 .bf16) : Prop where
  h : Tab (φ := .f32) x0 h
  a : Tab (φ := .f32) x2 fun _ => W.a
  b : Tab (φ := .f32) x3 fun _ => W.b
  g : Tab (φ := .bf16) w0 W.g
  u : Tab (φ := .bf16) w1 W.u
  d : Tab (φ := .bf16) w2 W.d

variable (L : Loaded W h x0 x2 x3 w0 w1 w2)
include L

theorem hid_tab : Tab (φ := .bf16) (hidW (F := Ideal) x0 x2 w0 w1) fun i p => W.hid (h i) p :=
  ((act_tab L.h L.a L.g).mul (up_tab L.h L.a L.u)).trunc bitsLt_bf16_f32

theorem out_tab : Tab (φ := .f32) (k0_pay16 (F := Ideal) x0 (hidW x0 x2 w0 w1) w2) fun i j => W.out (h i) j :=
  Tab.add (φ := .f32) L.h (dot_tab (hid_tab L) L.d zeros_tab)

theorem r2_tab : Tab (φ := .f32) (r2W (F := Ideal) x0 x2 w0 w1 w2) fun i _ => rms (W.out (h i)) :=
  (((((((out_tab L).mul (out_tab L)).sumRow reduces_S256x1024_S256 (.inl rfl) rfl).toCol shapeCasts_S256_S256x1).div (Tab.splat len_word) (fun _ _ => by norm_num)).add
    (Tab.splat small_word)).rsqrt fun i _ => spread_pos (W.out (h i)))

theorem y_tab : Tab (φ := .f32) (ynW (F := Ideal) x0 x2 w0 w1 w2) fun i j => W.y (h i) j :=
  (out_tab L).mul ((r2_tab L).col broadcasts_S256x1_S256x1024)

/-- A point after the first: the rows differ from their targets. -/
theorem diff_later {t : Fin 256 → Fin 1024 → ℝ} (ht : Tab (φ := .f32) x1 t) (hn : Scalar.cmpi .sgt n 0#32 = 1#1) :
    Tab (φ := .f32) (k0_pay19 (F := Ideal) n x0 (hidW x0 x2 w0 w1) w2 x3 x1) fun i j => W.y (h i) j * W.b j - t i j := by
  have k := ((y_tab L).mul (Tab.row (φ := .f32) L.b broadcasts_S1x1024_S256x1024)).sub (φ := .f32) ht
  intro i j
  refine Eq.trans ?_ (k i j)
  unfold k0_pay19
  rw [hn]
  rfl

omit L in
/-- The first point has no targets. -/
theorem diff_first (hn : Scalar.cmpi .sgt n 0#32 = 0#1) : Tab (φ := .f32) (k0_pay19 (F := Ideal) n x0 (hidW x0 x2 w0 w1) w2 x3 x1) fun _ _ => 0 := by
  intro i j
  refine Eq.trans ?_ zero_word
  unfold k0_pay19
  rw [hn]
  rfl

variable (E : Tab (φ := .f32) (k0_pay19 (F := Ideal) n x0 (hidW x0 x2 w0 w1) w2 x3 x1) e)
include E

omit L in
theorem dy_tab : Tab (φ := .f32) (dyW (F := Ideal) n x0 x1 x2 x3 w0 w1 w2) fun i j => Weights.dy (e i) j :=
  E.mul (Tab.splat inv_len_word)

theorem dout_tab : Tab (φ := .f32) (dh2W (F := Ideal) n x0 x1 x2 x3 w0 w1 w2) fun i j => W.dout (h i) (e i) j :=
  back_tab (r2_tab L) (y_tab L) ((dy_tab E).mul (Tab.row (φ := .f32) L.b broadcasts_S1x1024_S256x1024))

theorem doutb_tab : Tab (φ := .bf16) (dh2bW (F := Ideal) n x0 x1 x2 x3 w0 w1 w2) fun i j => W.dout (h i) (e i) j :=
  (dout_tab L E).trunc bitsLt_bf16_f32

theorem dhid_tab : Tab (φ := .f32) (k0_pay25 (F := Ideal) (r2W x0 x2 w0 w1 w2) (ynW x0 x2 w0 w1 w2) (dyW n x0 x1 x2 x3 w0 w1 w2) x3 w2) fun i p => W.dhid (h i) (e i) p :=
  Tab.dotT (doutb_tab L E) L.d zeros_tab

theorem dup_tab : Tab (φ := .bf16) (dubW (F := Ideal) n x0 x1 x2 x3 w0 w1 w2) fun i p => W.dup (h i) (e i) p :=
  ((dhid_tab L E).mul (act_tab L.h L.a L.g)).trunc bitsLt_bf16_f32

theorem dgate_tab : Tab (φ := .bf16) (dgbW (F := Ideal) n x0 x1 x2 x3 w0 w1 w2) fun i p => W.dgate (h i) (e i) p :=
  (((dhid_tab L E).mul (up_tab L.h L.a L.u)).mul ((sig_tab L.h L.a L.g).mul ((Tab.splat one_word).add
    ((gate_tab L.h L.a L.g).mul ((Tab.splat one_word).sub (sig_tab L.h L.a L.g)))))).trunc bitsLt_bf16_f32

theorem dv_tab : Tab (φ := .f32) (k0_pay1 (F := Ideal) (dubW n x0 x1 x2 x3 w0 w1 w2) (dgbW n x0 x1 x2 x3 w0 w1 w2) w0 w1) fun i j => W.dv (h i) (e i) j :=
  (dot_tab (dgate_tab L E) L.g zeros_tab).add (dot_tab (dup_tab L E) L.u zeros_tab)

theorem din_tab : Tab (φ := .f32) (dh1W (F := Ideal) n x0 x1 x2 x3 w0 w1 w2) fun i j => W.din (h i) (e i) j :=
  (dout_tab L E).add (back_tab (rms_tab L.h) (unit_tab L.h) ((dv_tab L E).mul (Tab.row (φ := .f32) L.a broadcasts_S1x1024_S256x1024)))

theorem dinb_tab : Tab (φ := .bf16) (dh1bW (F := Ideal) n x0 x1 x2 x3 w0 w1 w2) fun i j => W.din (h i) (e i) j :=
  (din_tab L E).trunc bitsLt_bf16_f32

/-- The first gain's gradient with this block's share. -/
theorem da_tab {s : Vec Ideal S1x1024 .f32} {k : Fin 1024 → ℝ} (hs : Tab (φ := .f32) s fun _ => k) :
    Tab (φ := .f32) (daW (F := Ideal) n x0 x1 x2 x3 w0 w1 w2 s) fun _ j => k j + ∑ i, W.da (h i) (e i) j :=
  (Tab.same (φ := .f32) hs shapeCasts_S1x1024_S1x1024).add ((((dv_tab L E).mul (unit_tab L.h)).sumCol reduces_S256x1024_S1024 (.inl rfl) rfl).toRow shapeCasts_S1024_S1x1024)

/-- The last gain's gradient with this block's share. -/
theorem db_tab {s : Vec Ideal S1x1024 .f32} {k : Fin 1024 → ℝ} (hs : Tab (φ := .f32) s fun _ => k) :
    Tab (φ := .f32) (dbW (F := Ideal) n x0 x1 x2 x3 w0 w1 w2 s) fun _ j => k j + ∑ i, W.db (h i) (e i) j :=
  (Tab.same (φ := .f32) hs shapeCasts_S1x1024_S1x1024).add ((((dy_tab E).mul (y_tab L)).sumCol reduces_S256x1024_S1024 (.inl rfl) rfl).toRow shapeCasts_S1024_S1x1024)

omit L E in
/-- All entries of a column, summed in one go. -/
theorem pile {x : FVec Ideal S256x1 .f32} {f : Fin 256 → ℝ} (hx : Tab x fun i _ => f i) (h : S1x256x1.Reduces [1, 2] S1) (hφ : FKind.Formats .f32)
    (hacc : 0x00000000#32 = FKind.add.neutral .f32 hφ) :
    extractAt ![0, 0, 0] (shapeCast S1x1x1 (multiReduction .add [1, 2] S1 (shapeCast S1x256x1 x shapeCasts_S256x1_S1x256x1) 0x00000000#32 h hφ hacc)
      shapeCasts_S1_S1x1x1) inpos_S1x1x1_p0_0_0 = ((∑ i, f i : ℝ) : EReal) := by
  rw [← coe_sum]
  refine Eq.trans (shapeCast_apply _ shapeCasts_S1_S1x1x1 _ (ix1 (0 : Fin 1)) rfl) ?_
  rw [multiReduction_add_apply]
  show Ideal.reduceAdd h (shapeCast S1x256x1 x shapeCasts_S256x1_S1x256x1) (ix1 0) = _
  rw [Ideal.reduceAdd_r3_a12 h]
  refine Finset.sum_congr rfl fun i _ => ?_
  rw [Fin.sum_univ_one]
  refine (shapeCast_apply x shapeCasts_S256x1_S1x256x1 _ (ix2 i (0 : Fin 1)) ?_).trans (hx i 0)
  rw [rowMajor_val2 _ 1 rfl, rowMajor_val3 _ 256 1 rfl rfl]
  show (i : ℕ) * 1 + 0 = 0 * 256 + (i : ℕ) * 1 + 0
  omega

omit L in
/-- The loss with this block's share. -/
theorem loss_tab {s : Vec Ideal S1x1 .f32} {k : ℝ} (hs : Tab (φ := .f32) s fun _ _ => k) :
    Tab (φ := .f32) (lossW (F := Ideal) n x0 x1 x2 x3 w0 w1 w2 s) fun _ _ => k + 1 / 2 * ∑ i, cost (e i) :=
  (Tab.same (φ := .f32) hs shapeCasts_S1x1_S1x1).add (Tab.splat ((congrArg₂ (fun a b : EReal => a * b) half_word
    (pile (f := fun i => cost (e i)) ((((E.mul E).sumRow reduces_S256x1024_S256 (.inl rfl) rfl).toCol shapeCasts_S256_S256x1).div (Tab.splat len_word) (fun _ _ => by norm_num)) reduces_S1x256x1_S1 (.inl rfl) rfl)).trans
    (EReal.coe_mul _ _).symm))

end Cert.FfnIdeal.Ffn
-- ==== Proof.Ffn.LaterPoints.lean ====
/- The points after the first: what each leaves in the arrays it stores, from what it loads. -/
module

public import proofs.«01_k».proof.Proof.Gen.FfnIdeal.Frame
public import proofs.«01_k».proof.Proof.Ffn.Words
public import Idealize.ShloMosaic.Lib.Pipeline.ValueKit

@[expose] public section

set_option maxRecDepth 16384

noncomputable section

namespace Cert.FfnIdeal.Ffn

open Cert.FfnIdeal Cert.FfnIdeal.Gen
open Idealize.ShloMosaic hiding ix0 ix1 ix2 ix3 eq_ix1 eq_ix2
open Idealize.ShloMosaic.TcCoe Idealize.ShloMosaic.Pipeline Idealize.ShloMosaic.Tactic Idealize.SL.Sem

variable {F : FTy → Type} [FloatOps F]

variable (c : Dev nD) (i : grid0.Coords) (a1 : Memref sig .tc .vmem S256x1024 .f32) (h1 : a1.IsWhole)
  (a2 : Memref sig .tc .vmem S256x1024 .f32) (h2 : a2.IsWhole)
  (a3 : Memref sig .tc .vmem S1x1024 .f32) (h3 : a3.IsWhole)
  (a4 : Memref sig .tc .vmem S1x1024 .f32) (h4 : a4.IsWhole)
  (a8 : Memref sig .tc .vmem S256x1024 .f32) (h8 : a8.IsWhole)
  (a9 : Memref sig .tc .vmem S256x1024 .bf16) (h9 : a9.IsWhole)
  (a10 : Memref sig .tc .vmem S256x1024 .bf16) (h10 : a10.IsWhole)
  (a11 : Memref sig .tc .vmem S256x2816 .bf16) (h11 : a11.IsWhole)
  (a12 : Memref sig .tc .vmem S256x2816 .bf16) (h12 : a12.IsWhole)
  (a13 : Memref sig .tc .vmem S256x2816 .bf16) (h13 : a13.IsWhole)
  (a14 : Memref sig .tc .vmem S256x1024 .bf16) (h14 : a14.IsWhole)
  (a15 : Memref sig .tc .vmem S1x1 .f32) (h15 : a15.IsWhole)
  (a16 : Memref sig .tc .vmem S1x1024 .f32) (h16 : a16.IsWhole)
  (a17 : Memref sig .tc .vmem S1x1024 .f32) (h17 : a17.IsWhole)
  (a18 : Memref sig .tc .vmem S2816x1024 .bf16) (h18 : a18.IsWhole)
  (a19 : Memref sig .tc .vmem S2816x1024 .bf16) (h19 : a19.IsWhole)
  (a20 : Memref sig .tc .vmem S2816x1024 .bf16) (h20 : a20.IsWhole)
  (x0 x1 : Vec F S256x1024 .f32) (x2 x3 : Vec F S1x1024 .f32) (y0 : Vec F S1x1 .f32) (y1 y2 : Vec F S1x1024 .f32) (g u d : Vec F S2816x1024 .bf16)
  (f0 : HbBuf0 (F := F) c hbM0_0) (f1 : HbBuf0 (F := F) c hbM0_1) (f2 : HbBuf0 (F := F) c hbM0_2)

theorem dh1_B (k : ¬cond0_0 i) : out0_B_4 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2
    = dh1W (BitVec.ofNat 32 (i 0).val) x0 x1 x2 x3 g u d := by
  unfold out0_B_4
  rw [View.read_writes_eq_canon _ _ _ (cover0_B_4 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2)]
  unfold kernelRun0_B
  dsimp only
  sl_unfold_words
  rw [View.canon_unit_zero at_origin]
  simp only [View.readAt_eq_ld, h1.read_unread, h2.read_unread, h3.read_unread, h4.read_unread, h15.read_unread, h16.read_unread, h17.read_unread, h18.read_unread, h19.read_unread, h20.read_unread, View.ld_unit_zero (S := S256x1024) at_origin, View.ld_unit_zero (S := S1x1024) at_origin, View.ld_unit_zero (S := S2816x1024) at_origin, View.ld_unit_zero (S := S1x1) at_origin]

theorem dh1b_B (k : ¬cond0_0 i) : out0_B_5 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2
    = dh1bW (BitVec.ofNat 32 (i 0).val) x0 x1 x2 x3 g u d := by
  unfold out0_B_5
  rw [View.read_writes_eq_canon _ _ _ (cover0_B_5 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2)]
  unfold kernelRun0_B
  dsimp only
  sl_unfold_words
  rw [View.canon_unit_zero at_origin]
  simp only [View.readAt_eq_ld, h1.read_unread, h2.read_unread, h3.read_unread, h4.read_unread, h15.read_unread, h16.read_unread, h17.read_unread, h18.read_unread, h19.read_unread, h20.read_unread, View.ld_unit_zero (S := S256x1024) at_origin, View.ld_unit_zero (S := S1x1024) at_origin, View.ld_unit_zero (S := S2816x1024) at_origin, View.ld_unit_zero (S := S1x1) at_origin]

theorem vb_B (k : ¬cond0_0 i) : out0_B_6 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2
    = k0_pay10 x0 x2 := by
  unfold out0_B_6
  rw [View.read_writes_eq_canon _ _ _ (cover0_B_6 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2)]
  unfold kernelRun0_B
  dsimp only
  sl_unfold_words
  rw [View.canon_unit_zero at_origin]
  simp only [View.readAt_eq_ld, h1.read_unread, h2.read_unread, h3.read_unread, h4.read_unread, h15.read_unread, h16.read_unread, h17.read_unread, h18.read_unread, h19.read_unread, h20.read_unread, View.ld_unit_zero (S := S256x1024) at_origin, View.ld_unit_zero (S := S1x1024) at_origin, View.ld_unit_zero (S := S2816x1024) at_origin, View.ld_unit_zero (S := S1x1) at_origin]

theorem hid_B (k : ¬cond0_0 i) : out0_B_7 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2
    = hidW x0 x2 g u := by
  unfold out0_B_7
  rw [View.read_writes_eq_canon _ _ _ (cover0_B_7 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2)]
  unfold kernelRun0_B
  dsimp only
  sl_unfold_words
  rw [View.canon_unit_zero at_origin]
  simp only [View.readAt_eq_ld, h1.read_unread, h2.read_unread, h3.read_unread, h4.read_unread, h15.read_unread, h16.read_unread, h17.read_unread, h18.read_unread, h19.read_unread, h20.read_unread, View.ld_unit_zero (S := S256x1024) at_origin, View.ld_unit_zero (S := S1x1024) at_origin, View.ld_unit_zero (S := S2816x1024) at_origin, View.ld_unit_zero (S := S1x1) at_origin]

theorem dgb_B (k : ¬cond0_0 i) : out0_B_8 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2
    = dgbW (BitVec.ofNat 32 (i 0).val) x0 x1 x2 x3 g u d := by
  unfold out0_B_8
  rw [View.read_writes_eq_canon _ _ _ (cover0_B_8 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2)]
  unfold kernelRun0_B
  dsimp only
  sl_unfold_words
  rw [View.canon_unit_zero at_origin]
  simp only [View.readAt_eq_ld, h1.read_unread, h2.read_unread, h3.read_unread, h4.read_unread, h15.read_unread, h16.read_unread, h17.read_unread, h18.read_unread, h19.read_unread, h20.read_unread, View.ld_unit_zero (S := S256x1024) at_origin, View.ld_unit_zero (S := S1x1024) at_origin, View.ld_unit_zero (S := S2816x1024) at_origin, View.ld_unit_zero (S := S1x1) at_origin]

theorem dub_B (k : ¬cond0_0 i) : out0_B_9 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2
    = dubW (BitVec.ofNat 32 (i 0).val) x0 x1 x2 x3 g u d := by
  unfold out0_B_9
  rw [View.read_writes_eq_canon _ _ _ (cover0_B_9 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2)]
  unfold kernelRun0_B
  dsimp only
  sl_unfold_words
  rw [View.canon_unit_zero at_origin]
  simp only [View.readAt_eq_ld, h1.read_unread, h2.read_unread, h3.read_unread, h4.read_unread, h15.read_unread, h16.read_unread, h17.read_unread, h18.read_unread, h19.read_unread, h20.read_unread, View.ld_unit_zero (S := S256x1024) at_origin, View.ld_unit_zero (S := S1x1024) at_origin, View.ld_unit_zero (S := S2816x1024) at_origin, View.ld_unit_zero (S := S1x1) at_origin]

theorem dh2b_B (k : ¬cond0_0 i) : out0_B_10 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2
    = dh2bW (BitVec.ofNat 32 (i 0).val) x0 x1 x2 x3 g u d := by
  unfold out0_B_10
  rw [View.read_writes_eq_canon _ _ _ (cover0_B_10 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2)]
  unfold kernelRun0_B
  dsimp only
  sl_unfold_words
  rw [View.canon_unit_zero at_origin]
  simp only [View.readAt_eq_ld, h1.read_unread, h2.read_unread, h3.read_unread, h4.read_unread, h15.read_unread, h16.read_unread, h17.read_unread, h18.read_unread, h19.read_unread, h20.read_unread, View.ld_unit_zero (S := S256x1024) at_origin, View.ld_unit_zero (S := S1x1024) at_origin, View.ld_unit_zero (S := S2816x1024) at_origin, View.ld_unit_zero (S := S1x1) at_origin]

theorem loss_B (k : ¬cond0_0 i) : out0_B_11 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2
    = lossW (BitVec.ofNat 32 (i 0).val) x0 x1 x2 x3 g u d y0 := by
  unfold out0_B_11
  rw [View.read_writes_eq_canon _ _ _ (cover0_B_11 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2)]
  unfold kernelRun0_B
  dsimp only
  sl_unfold_words
  rw [View.canon_unit_zero at_origin]
  simp only [View.readAt_eq_ld, h1.read_unread, h2.read_unread, h3.read_unread, h4.read_unread, h15.read_unread, h16.read_unread, h17.read_unread, h18.read_unread, h19.read_unread, h20.read_unread, View.ld_unit_zero (S := S256x1024) at_origin, View.ld_unit_zero (S := S1x1024) at_origin, View.ld_unit_zero (S := S2816x1024) at_origin, View.ld_unit_zero (S := S1x1) at_origin]

theorem da_B (k : ¬cond0_0 i) : out0_B_12 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2
    = daW (BitVec.ofNat 32 (i 0).val) x0 x1 x2 x3 g u d y1 := by
  unfold out0_B_12
  rw [View.read_writes_eq_canon _ _ _ (cover0_B_12 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2)]
  unfold kernelRun0_B
  dsimp only
  sl_unfold_words
  rw [View.canon_unit_zero at_origin]
  simp only [View.readAt_eq_ld, h1.read_unread, h2.read_unread, h3.read_unread, h4.read_unread, h15.read_unread, h16.read_unread, h17.read_unread, h18.read_unread, h19.read_unread, h20.read_unread, View.ld_unit_zero (S := S256x1024) at_origin, View.ld_unit_zero (S := S1x1024) at_origin, View.ld_unit_zero (S := S2816x1024) at_origin, View.ld_unit_zero (S := S1x1) at_origin]

theorem db_B (k : ¬cond0_0 i) : out0_B_13 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2
    = dbW (BitVec.ofNat 32 (i 0).val) x0 x1 x2 x3 g u d y2 := by
  unfold out0_B_13
  rw [View.read_writes_eq_canon _ _ _ (cover0_B_13 c i a1 h1 a2 h2 a3 h3 a4 h4 a8 h8 a9 h9 a10 h10 a11 h11 a12 h12 a13 h13 a14 h14 a15 h15 a16 h16 a17 h17 a18 h18 a19 h19 a20 h20 k x0 x1 x2 x3 y0 y1 y2 g u d f0 f1 f2)]
  unfold kernelRun0_B
  dsimp only
  sl_unfold_words
  rw [View.canon_unit_zero at_origin]
  simp only [View.readAt_eq_ld, h1.read_unread, h2.read_unread, h3.read_unread, h4.read_unread, h15.read_unread, h16.read_unread, h17.read_unread, h18.read_unread, h19.read_unread, h20.read_unread, View.ld_unit_zero (S := S256x1024) at_origin, View.ld_unit_zero (S := S1x1024) at_origin, View.ld_unit_zero (S := S2816x1024) at_origin, View.ld_unit_zero (S := S1x1) at_origin]

end Cert.FfnIdeal.Ffn
-- ==== Proof.Ffn.FirstPoint.lean ====
/- The first point: it fetches the weights, clears the running sums, and then does what every point does. -/
module

public import proofs.«01_k».proof.Proof.Gen.FfnIdeal.Frame
public import proofs.«01_k».proof.Proof.Ffn.Words
public import Idealize.ShloMosaic.Lib.Pipeline.ValueKit

@[expose] public section

set_option maxRecDepth 16384

noncomputable section

namespace Cert.FfnIdeal.Ffn

open Cert.FfnIdeal Cert.FfnIdeal.Gen
open Idealize.ShloMosaic hiding ix0 ix1 ix2 ix3 eq_ix1 eq_ix2
open Idealize.ShloMosaic.TcCoe Idealize.ShloMosaic.Pipeline Idealize.ShloMosaic.Tactic Idealize.SL.Sem

variable {F : FTy → Type} [FloatOps F]

variable (c : Dev nD) (i : grid0.Coords) (a1 : Memref sig .tc .vmem S256x1024 .f32) (h1 : a1.IsWhole)
  (a2 : Memref sig .tc .vmem S256x1024 .f32) (h2 : a2.IsWhole)
  (a3 : Memref sig .tc .vmem S1x1024 .f32) (h3 : a3.IsWhole)
  (a4 : Memref sig .tc .vmem S1x1024 .f32) (h4 : a4.IsWhole)
  (a8 : Memref sig .tc .vmem S256x1024 .f32) (h8 : a8.IsWhole)
  (a9 : Memref sig .tc .vmem S256x1024 .bf16) (h9 : a9.IsWhole)
  (a10 : Memref sig .tc .vmem S256x1024 .bf16) (h10 : a10.IsWhole)
  (a11 : Memref sig .tc .vmem S256x2816 .bf16) (h11 : a11.IsWhole)
  (a12 : Memref sig .tc .vmem S256x2816 .bf16) (h12 : a12.IsWhole)
  (a13 : Memref sig .tc .vmem S256x2816 .bf16) (h13 : a13.IsWhole)
  (a14 : Memref sig .tc .vmem S256x1024 .bf16) (h14 : a14.IsWhole)
  (a15 : Memref sig .tc .vmem S1x1 .f32) (h15 : a15.IsWhole)
  (a16 : Memref sig .tc .vmem S1x1024 .f32) (h16 : a16.IsWhole)
  (a17 : Memref sig .tc .vmem S1x1024 .f32) (h17 : a17.IsWhole)
  (a18 : Memref sig .tc .vmem S2816x1024 .bf16) (h18 : a18.IsWhole)
  (a19 : Memref sig .tc .vmem S2816x1024 .bf16) (h19 : a19.IsWhole)
  (a20 : Memref sig .tc .vmem S2816x1024 .bf16) (h20 : a20.IsWhole)
  (x0 x1 : Vec F S256x1024 .f32) (x2 x3 : Vec F S1x1024 .f32)
  (f0 : HbBuf0 (F := F) c hbM0_0) (f1 : HbBuf0 (F := F) c hbM0_1) (f2 : HbBuf0 (F := F) c hbM0_2)

/-- A fetched weight, as it was. -/
theorem got0 (f : HbBuf0 (F := F) c hbM0_0) : ReadAs.same.apply (View.read (Elt F) (View.whole main_arg4) f) = f := rfl

/-- A fetched weight, as it was. -/
theorem got1 (f : HbBuf0 (F := F) c hbM0_1) : ReadAs.same.apply (View.read (Elt F) (View.whole main_arg5) f) = f := rfl

/-- A fetched weight, as it was. -/
theorem got2 (f : HbBuf0 (F := F) c hbM0_2) : ReadAs.same.apply (View.read (Elt F) (View.whole main_arg6) f) = f := rfl

/-- Reading back what was fetched. -/
theorem fetched (v : View sig .tc .vmem S2816x1024 .bf16) {off : Fin 2 → ℕ} (h : off = fun _ => 0) (inb : ∀ a, off a + S2816x1024.size a ≤ S2816x1024.size a) (w : S2816x1024.Idx → Elt F .bf16) :
    v.readCov [(⟨Rect.whole S2816x1024, w⟩ : View.Piece (Elt F) S2816x1024 .bf16)] (Rect.unit off S2816x1024.size inb).toLoadRect = w := by
  subst h
  exact View.readCov_unit_zero (S := S2816x1024) v rfl inb w

theorem placed (w : S2816x1024.Idx → Elt F .bf16) : View.canon [(⟨Rect.whole S2816x1024, w⟩ : View.Piece (Elt F) S2816x1024 .bf16)] = w :=
  View.canon_unit_zero (S := S2816x1024) rfl _ w

theorem dh1_A (k : cond0_0 i) : out0_A_4 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2
    = dh1W (BitVec.ofNat 32 (i 0).val) x0 x1 x2 x3 f0 f1 f2 := by
  unfold out0_A_4
  rw [View.read_writes_eq_canon _ _ _ (cover0_A_4 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [View.canon_unit_zero at_origin]
  simp only [View.readAt_eq_ld, h1.read_unread, h2.read_unread, h3.read_unread, h4.read_unread, View.ld_unit_zero (S := S256x1024) at_origin, View.ld_unit_zero (S := S1x1024) at_origin, View.ld_unit_zero (S := S2816x1024) at_origin, View.ld_unit_zero (S := S1x1) at_origin, fetched _ at_origin, got0, got1, got2, View.readCov_unit_zero (S := S1x1) _ at_origin, View.readCov_unit_zero (S := S1x1024) _ at_origin]
    <;> rfl

theorem dh1b_A (k : cond0_0 i) : out0_A_5 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2
    = dh1bW (BitVec.ofNat 32 (i 0).val) x0 x1 x2 x3 f0 f1 f2 := by
  unfold out0_A_5
  rw [View.read_writes_eq_canon _ _ _ (cover0_A_5 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [View.canon_unit_zero at_origin]
  simp only [View.readAt_eq_ld, h1.read_unread, h2.read_unread, h3.read_unread, h4.read_unread, View.ld_unit_zero (S := S256x1024) at_origin, View.ld_unit_zero (S := S1x1024) at_origin, View.ld_unit_zero (S := S2816x1024) at_origin, View.ld_unit_zero (S := S1x1) at_origin, fetched _ at_origin, got0, got1, got2, View.readCov_unit_zero (S := S1x1) _ at_origin, View.readCov_unit_zero (S := S1x1024) _ at_origin]
    <;> rfl

theorem vb_A (k : cond0_0 i) : out0_A_6 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2
    = k0_pay10 x0 x2 := by
  unfold out0_A_6
  rw [View.read_writes_eq_canon _ _ _ (cover0_A_6 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [View.canon_unit_zero at_origin]
  simp only [View.readAt_eq_ld, h1.read_unread, h2.read_unread, h3.read_unread, h4.read_unread, View.ld_unit_zero (S := S256x1024) at_origin, View.ld_unit_zero (S := S1x1024) at_origin, View.ld_unit_zero (S := S2816x1024) at_origin, View.ld_unit_zero (S := S1x1) at_origin, fetched _ at_origin, got0, got1, got2, View.readCov_unit_zero (S := S1x1) _ at_origin, View.readCov_unit_zero (S := S1x1024) _ at_origin]
    <;> rfl

theorem hid_A (k : cond0_0 i) : out0_A_7 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2
    = hidW x0 x2 f0 f1 := by
  unfold out0_A_7
  rw [View.read_writes_eq_canon _ _ _ (cover0_A_7 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [View.canon_unit_zero at_origin]
  simp only [View.readAt_eq_ld, h1.read_unread, h2.read_unread, h3.read_unread, h4.read_unread, View.ld_unit_zero (S := S256x1024) at_origin, View.ld_unit_zero (S := S1x1024) at_origin, View.ld_unit_zero (S := S2816x1024) at_origin, View.ld_unit_zero (S := S1x1) at_origin, fetched _ at_origin, got0, got1, got2, View.readCov_unit_zero (S := S1x1) _ at_origin, View.readCov_unit_zero (S := S1x1024) _ at_origin]
    <;> rfl

theorem dgb_A (k : cond0_0 i) : out0_A_8 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2
    = dgbW (BitVec.ofNat 32 (i 0).val) x0 x1 x2 x3 f0 f1 f2 := by
  unfold out0_A_8
  rw [View.read_writes_eq_canon _ _ _ (cover0_A_8 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [View.canon_unit_zero at_origin]
  simp only [View.readAt_eq_ld, h1.read_unread, h2.read_unread, h3.read_unread, h4.read_unread, View.ld_unit_zero (S := S256x1024) at_origin, View.ld_unit_zero (S := S1x1024) at_origin, View.ld_unit_zero (S := S2816x1024) at_origin, View.ld_unit_zero (S := S1x1) at_origin, fetched _ at_origin, got0, got1, got2, View.readCov_unit_zero (S := S1x1) _ at_origin, View.readCov_unit_zero (S := S1x1024) _ at_origin]
    <;> rfl

theorem dub_A (k : cond0_0 i) : out0_A_9 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2
    = dubW (BitVec.ofNat 32 (i 0).val) x0 x1 x2 x3 f0 f1 f2 := by
  unfold out0_A_9
  rw [View.read_writes_eq_canon _ _ _ (cover0_A_9 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [View.canon_unit_zero at_origin]
  simp only [View.readAt_eq_ld, h1.read_unread, h2.read_unread, h3.read_unread, h4.read_unread, View.ld_unit_zero (S := S256x1024) at_origin, View.ld_unit_zero (S := S1x1024) at_origin, View.ld_unit_zero (S := S2816x1024) at_origin, View.ld_unit_zero (S := S1x1) at_origin, fetched _ at_origin, got0, got1, got2, View.readCov_unit_zero (S := S1x1) _ at_origin, View.readCov_unit_zero (S := S1x1024) _ at_origin]
    <;> rfl

theorem dh2b_A (k : cond0_0 i) : out0_A_10 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2
    = dh2bW (BitVec.ofNat 32 (i 0).val) x0 x1 x2 x3 f0 f1 f2 := by
  unfold out0_A_10
  rw [View.read_writes_eq_canon _ _ _ (cover0_A_10 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [View.canon_unit_zero at_origin]
  simp only [View.readAt_eq_ld, h1.read_unread, h2.read_unread, h3.read_unread, h4.read_unread, View.ld_unit_zero (S := S256x1024) at_origin, View.ld_unit_zero (S := S1x1024) at_origin, View.ld_unit_zero (S := S2816x1024) at_origin, View.ld_unit_zero (S := S1x1) at_origin, fetched _ at_origin, got0, got1, got2, View.readCov_unit_zero (S := S1x1) _ at_origin, View.readCov_unit_zero (S := S1x1024) _ at_origin]
    <;> rfl

theorem loss_A (k : cond0_0 i) : out0_A_11 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2
    = lossW (BitVec.ofNat 32 (i 0).val) x0 x1 x2 x3 f0 f1 f2 k0_pay5 := by
  unfold out0_A_11
  rw [View.read_writes_eq_canon _ _ _ (cover0_A_11 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [View.canon_cons_unit_zero (S := S1x1) at_origin]
  simp only [View.readAt_eq_ld, h1.read_unread, h2.read_unread, h3.read_unread, h4.read_unread, View.ld_unit_zero (S := S256x1024) at_origin, View.ld_unit_zero (S := S1x1024) at_origin, View.ld_unit_zero (S := S2816x1024) at_origin, View.ld_unit_zero (S := S1x1) at_origin, fetched _ at_origin, got0, got1, got2, View.readCov_unit_zero (S := S1x1) _ at_origin, View.readCov_unit_zero (S := S1x1024) _ at_origin]
    <;> rfl

theorem da_A (k : cond0_0 i) : out0_A_12 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2
    = daW (BitVec.ofNat 32 (i 0).val) x0 x1 x2 x3 f0 f1 f2 k0_pay6 := by
  unfold out0_A_12
  rw [View.read_writes_eq_canon _ _ _ (cover0_A_12 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [View.canon_cons_unit_zero (S := S1x1024) at_origin]
  simp only [View.readAt_eq_ld, h1.read_unread, h2.read_unread, h3.read_unread, h4.read_unread, View.ld_unit_zero (S := S256x1024) at_origin, View.ld_unit_zero (S := S1x1024) at_origin, View.ld_unit_zero (S := S2816x1024) at_origin, View.ld_unit_zero (S := S1x1) at_origin, fetched _ at_origin, got0, got1, got2, View.readCov_unit_zero (S := S1x1) _ at_origin, View.readCov_unit_zero (S := S1x1024) _ at_origin]
    <;> rfl

theorem db_A (k : cond0_0 i) : out0_A_13 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2
    = dbW (BitVec.ofNat 32 (i 0).val) x0 x1 x2 x3 f0 f1 f2 k0_pay7 := by
  unfold out0_A_13
  rw [View.read_writes_eq_canon _ _ _ (cover0_A_13 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [View.canon_cons_unit_zero (S := S1x1024) at_origin]
  simp only [View.readAt_eq_ld, h1.read_unread, h2.read_unread, h3.read_unread, h4.read_unread, View.ld_unit_zero (S := S256x1024) at_origin, View.ld_unit_zero (S := S1x1024) at_origin, View.ld_unit_zero (S := S2816x1024) at_origin, View.ld_unit_zero (S := S1x1) at_origin, fetched _ at_origin, got0, got1, got2, View.readCov_unit_zero (S := S1x1) _ at_origin, View.readCov_unit_zero (S := S1x1024) _ at_origin]
    <;> rfl

theorem w0_A (k : cond0_0 i) : sout0_A_0 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2 = f0 := by
  unfold sout0_A_0
  rw [View.read_writes_eq_canon _ _ _ (scover0_A_0 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [placed]
  exact got0 c f0

theorem w1_A (k : cond0_0 i) : sout0_A_1 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2 = f1 := by
  unfold sout0_A_1
  rw [View.read_writes_eq_canon _ _ _ (scover0_A_1 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [placed]
  exact got1 c f1

theorem w2_A (k : cond0_0 i) : sout0_A_2 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2 = f2 := by
  unfold sout0_A_2
  rw [View.read_writes_eq_canon _ _ _ (scover0_A_2 c i a1 h1 a2 h2 a3 h3 a4 h4 a8 h8 a9 h9 a10 h10 a11 h11 a12 h12 a13 h13 a14 h14 a15 h15 a16 h16 a17 h17 a18 h18 a19 h19 a20 h20 k x0 x1 x2 x3 f0 f1 f2)]
  unfold kernelRun0_A
  dsimp only
  sl_unfold_words
  rw [placed]
  exact got2 c f2

end Cert.FfnIdeal.Ffn
-- ==== Proof.Ffn.Points.lean ====
/- What each point of the grid leaves in its arrays and in the fetched weights, from the blocks it is given. -/
module

public import proofs.«01_k».proof.Proof.Ffn.LaterPoints
public import proofs.«01_k».proof.Proof.Ffn.FirstPoint

@[expose] public section

set_option maxRecDepth 16384

noncomputable section

namespace Cert.FfnIdeal.Ffn

open Cert.FfnIdeal Cert.FfnIdeal.Gen
open Idealize.ShloMosaic hiding ix0 ix1 ix2 ix3 eq_ix1 eq_ix2
open Idealize.ShloMosaic.TcCoe Idealize.ShloMosaic.Pipeline Idealize.ShloMosaic.Tactic Idealize.SL.Sem

variable {F : FTy → Type} [FloatOps F]

/-- The arrays a point leaves: its ten results and the three fetched weights. -/
abbrev Left (F : FTy → Type) [FloatOps F] : Type :=
  Vec F S256x1024 .f32 × Vec F S256x1024 .bf16 × Vec F S256x1024 .bf16 × Vec F S256x2816 .bf16 × Vec F S256x2816 .bf16 × Vec F S256x2816 .bf16 × Vec F S256x1024 .bf16 ×
    Vec F S1x1 .f32 × Vec F S1x1024 .f32 × Vec F S1x1024 .f32 × Vec F S2816x1024 .bf16 × Vec F S2816x1024 .bf16 × Vec F S2816x1024 .bf16

/-- What point `n` leaves, from its rows `h`, targets `t`, gains `a` and `b`, weights `g`, `u` and `d` and the running sums. -/
def left (n : BitVec 32) (h t : Vec F S256x1024 .f32) (a b : Vec F S1x1024 .f32) (g u d : Vec F S2816x1024 .bf16) (l : Vec F S1x1 .f32) (r s : Vec F S1x1024 .f32) : Left F :=
  (dh1W n h t a b g u d, dh1bW n h t a b g u d, k0_pay10 h a, hidW h a g u, dgbW n h t a b g u d, dubW n h t a b g u d, dh2bW n h t a b g u d,
    lossW n h t a b g u d l, daW n h t a b g u d r, dbW n h t a b g u d s, g, u, d)

variable (m : (ℓ : Loc nD τ sig) → Buf (Elt F) ℓ) (c : Dev nD)

/-- The number of a point, as the kernel sees it. -/
abbrev num (t : Fin cfg0.N) : BitVec 32 := BitVec.ofNat 32 (grid0.coords t 0).val

/-- What a point takes over from the one before. -/
abbrev before (t : Fin cfg0.N) : Left F := outsAt0 m c (t.val - 1) (Nat.lt_of_le_of_lt (Nat.sub_le _ _) t.isLt)

theorem at_first (t : Fin cfg0.N) (h0 : t.val % 17 = 0) : outsAt0 m c t.val t.isLt =
    left (num t) (iblk m c 0 t) (iblk m c 1 t) (iblk m c 2 t) (iblk m c 3 t) (V m c main_arg4) (V m c main_arg5) (V m c main_arg6) k0_pay5 k0_pay6 k0_pay7 := by
  rw [outsAt0_A m c t h0, dh1_A, dh1b_A, vb_A, hid_A, dgb_A, dub_A, dh2b_A, loss_A, da_A, db_A, w0_A, w1_A, w2_A]
  rfl

theorem at_later (t : Fin cfg0.N) (h0 : ¬t.val % 17 = 0) : outsAt0 m c t.val t.isLt =
    left (num t) (iblk m c 0 t) (iblk m c 1 t) (iblk m c 2 t) (iblk m c 3 t) (before m c t).2.2.2.2.2.2.2.2.2.2.1 (before m c t).2.2.2.2.2.2.2.2.2.2.2.1
      (before m c t).2.2.2.2.2.2.2.2.2.2.2.2 (before m c t).2.2.2.2.2.2.2.1 (before m c t).2.2.2.2.2.2.2.2.1 (before m c t).2.2.2.2.2.2.2.2.2.1 := by
  rw [outsAt0_B m c t h0, dh1_B, dh1b_B, vb_B, hid_B, dgb_B, dub_B, dh2b_B, loss_B, da_B, db_B]
  rfl

/-- The weights as the arguments hold them. -/
abbrev atPoint (t : Fin cfg0.N) (l : Vec F S1x1 .f32) (r s : Vec F S1x1024 .f32) : Left F :=
  left (num t) (iblk m c 0 t) (iblk m c 1 t) (iblk m c 2 t) (iblk m c 3 t) (V m c main_arg4) (V m c main_arg5) (V m c main_arg6) l r s

/-- The fetched weights stay. -/
theorem weights : ∀ (n : ℕ) (hn : n < cfg0.N), (outsAt0 m c n hn).2.2.2.2.2.2.2.2.2.2 = (V m c main_arg4, V m c main_arg5, V m c main_arg6)
  | 0, hn => congrArg (fun x : Left F => x.2.2.2.2.2.2.2.2.2.2) (at_first m c ⟨0, hn⟩ rfl)
  | n + 1, hn => by
    have h0 : ¬(n + 1) % 17 = 0 := by
      have := lt_of_lt_of_eq hn N_0
      omega
    have e := congrArg (fun x : Left F => x.2.2.2.2.2.2.2.2.2.2) (at_later m c ⟨n + 1, hn⟩ h0)
    exact e.trans (weights n (Nat.lt_of_succ_lt hn))

/-- A later point, with the weights as the arguments hold them. -/
theorem at_next (t : Fin cfg0.N) (h0 : ¬t.val % 17 = 0) : outsAt0 m c t.val t.isLt =
    atPoint m c t (before m c t).2.2.2.2.2.2.2.1 (before m c t).2.2.2.2.2.2.2.2.1 (before m c t).2.2.2.2.2.2.2.2.2.1 := by
  have w := weights m c (t.val - 1) (Nat.lt_of_le_of_lt (Nat.sub_le _ _) t.isLt)
  refine (at_later m c t h0).trans ?_
  rw [congrArg (fun x => x.1) w, congrArg (fun x => x.2.1) w, congrArg (fun x => x.2.2) w]

end Cert.FfnIdeal.Ffn
-- ==== Proof.Ffn.Tables.lean ====
/- The arrays the launch finds hold the real tables of all rows; then every point leaves the tables of its block's rows, and the
   running sums are those over the rows so far. -/
module

public import proofs.«01_k».proof.Proof.Ffn.Given
public import proofs.«01_k».proof.Proof.Ffn.Block
public import proofs.«01_k».proof.Proof.Ffn.Points

@[expose] public section

noncomputable section

namespace Cert.FfnIdeal.Ffn

open Cert.FfnIdeal Cert.FfnIdeal.Gen Cert.Rows Cert.Ffn
open Idealize.ShloMosaic hiding ix0 ix1 ix2 ix3 eq_ix1 eq_ix2
open Idealize.ShloMosaic.ValueIdx
open Idealize.ShloMosaic.TcCoe Idealize.ShloMosaic.Pipeline Idealize.SL.Sem

theorem idx_0 : ∀ t : Fin cfg0.N, win0_0.index t = ![t.val, 0] := (by decide +kernel : ∀ t : Fin grid0.N, _)
theorem idx_1 : ∀ t : Fin cfg0.N, win0_1.index t = ![t.val - 1, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)

theorem num_first : ∀ t : Fin cfg0.N, t.val % 17 = 0 → Scalar.cmpi .sgt (num t) 0#32 = 0#1 :=
  (by decide +kernel : ∀ t : Fin grid0.N, t.val % 17 = 0 → Scalar.cmpi .sgt (BitVec.ofNat 32 (grid0.coords t 0).val) 0#32 = 0#1)
theorem num_later : ∀ t : Fin cfg0.N, ¬t.val % 17 = 0 → Scalar.cmpi .sgt (num t) 0#32 = 1#1 :=
  (by decide +kernel : ∀ t : Fin grid0.N, ¬t.val % 17 = 0 → Scalar.cmpi .sgt (BitVec.ofNat 32 (grid0.coords t 0).val) 0#32 = 1#1)

variable (m : (ℓ : Loc nD τ sig) → Buf (Elt Ideal) ℓ) (c : Dev nD)

theorem lt (t : Fin cfg0.N) : t.val < 17 := lt_of_lt_of_eq t.isLt N_0

theorem read_0 (t : Fin cfg0.N) (p : Fin 256) (q : Fin 1024) : iblk m c 0 t (ix2 p q) = V m c main_arg0 (ix2 (row t.val (lt t) p) q) := by
  unfold iblk; blk_ext [idx_0, row]
  · show t.val * 256 + p.val = _; omega

theorem read_1 (t : Fin cfg0.N) (p : Fin 256) (q : Fin 1024) :
    iblk m c 1 t (ix2 p q) = V m c main_arg1 (ix2 ⟨256 * (t.val - 1) + p.val, by have := lt t; omega⟩ q) := by
  unfold iblk; blk_ext [idx_1]
  · show (t.val - 1) * 256 + p.val = _; omega

theorem read_2 (t : Fin cfg0.N) (p : Fin 1) (q : Fin 1024) : iblk m c 2 t (ix2 p q) = V m c main_arg2 (ix2 p q) := by
  unfold iblk; blk_ext [idx_2]

theorem read_3 (t : Fin cfg0.N) (p : Fin 1) (q : Fin 1024) : iblk m c 3 t (ix2 p q) = V m c main_arg3 (ix2 p q) := by
  unfold iblk; blk_ext [idx_3]

/-- The arrays the windows are cut from hold the tables. -/
structure Has (G : Given) : Prop where
  h : ∀ i j, V m c main_arg0 (ix2 i j) = ((G.h i j : ℝ) : EReal)
  t : ∀ i j, V m c main_arg1 (ix2 i j) = ((G.t i j : ℝ) : EReal)
  a : ∀ (i : Fin 1) j, V m c main_arg2 (ix2 i j) = ((G.w.a j : ℝ) : EReal)
  b : ∀ (i : Fin 1) j, V m c main_arg3 (ix2 i j) = ((G.w.b j : ℝ) : EReal)
  g : ∀ i j, V m c main_arg4 (ix2 i j) = ((G.w.g i j : ℝ) : EReal)
  u : ∀ i j, V m c main_arg5 (ix2 i j) = ((G.w.u i j : ℝ) : EReal)
  d : ∀ i j, V m c main_arg6 (ix2 i j) = ((G.w.d i j : ℝ) : EReal)

variable {m c} {G : Given} (H : Has m c G)
include H

/-- What point `t` loads. -/
theorem Has.loaded (t : Fin cfg0.N) : Loaded G.w (fun p => G.h (row t.val (lt t) p)) (iblk m c 0 t) (iblk m c 2 t) (iblk m c 3 t)
    (V m c main_arg4) (V m c main_arg5) (V m c main_arg6) where
  h p q := (read_0 m c t p q).trans (H.h _ _)
  a p q := (read_2 m c t p q).trans (H.a _ _)
  b p q := (read_3 m c t p q).trans (H.b _ _)
  g := H.g
  u := H.u
  d := H.d

/-- How far its rows are from their targets. -/
theorem Has.diff (t : Fin cfg0.N) : Tab (φ := .f32) (k0_pay19 (F := Ideal) (num t) (iblk m c 0 t) (hidW (iblk m c 0 t) (iblk m c 2 t) (V m c main_arg4) (V m c main_arg5))
    (V m c main_arg6) (iblk m c 3 t) (iblk m c 1 t)) fun p => G.e (row t.val (lt t) p) := by
  by_cases h0 : t.val % 17 = 0
  · refine (diff_first (num_first t h0)).congr fun p q => ?_
    have := lt t
    rw [G.e_first (show 256 * t.val + p.val < 256 by have := p.isLt; omega)]
  · have := lt t
    refine (diff_later (t := fun p => G.t ⟨256 * (t.val - 1) + p.val, by omega⟩) (H.loaded t) (fun p q => (read_1 m c t p q).trans (H.t _ _)) (num_later t h0)).congr fun p q => ?_
    unfold Given.e
    rw [dif_pos (show 256 ≤ (row t.val (lt t) p).val by show 256 ≤ 256 * t.val + p.val; omega)]
    exact congrArg (fun s => _ - G.t s q) (Fin.ext (show 256 * (t.val - 1) + p.val = 256 * t.val + p.val - 256 by omega))

/-- What every point leaves of its own rows. -/
theorem Has.own (t : Fin cfg0.N) : ∃ l r s, outsAt0 m c t.val t.isLt = atPoint m c t l r s := by
  by_cases h0 : t.val % 17 = 0
  · exact ⟨_, _, _, at_first m c t h0⟩
  · exact ⟨_, _, _, at_next m c t h0⟩

theorem Has.din (t : Fin cfg0.N) : Tab (φ := .f32) (outsAt0 m c t.val t.isLt).1 fun p j => G.din (row t.val (lt t) p) j := by
  obtain ⟨l, r, s, e⟩ := H.own t
  rw [e]
  exact din_tab (H.loaded t) (H.diff t)

theorem Has.dinb (t : Fin cfg0.N) : Tab (φ := .bf16) (outsAt0 m c t.val t.isLt).2.1 fun p j => G.din (row t.val (lt t) p) j := by
  obtain ⟨l, r, s, e⟩ := H.own t
  rw [e]
  exact dinb_tab (H.loaded t) (H.diff t)

theorem Has.v (t : Fin cfg0.N) : Tab (φ := .bf16) (outsAt0 m c t.val t.isLt).2.2.1 fun p j => G.v (row t.val (lt t) p) j := by
  obtain ⟨l, r, s, e⟩ := H.own t
  rw [e]
  exact v_tab (H.loaded t).h (H.loaded t).a

theorem Has.hid (t : Fin cfg0.N) : Tab (φ := .bf16) (outsAt0 m c t.val t.isLt).2.2.2.1 fun p j => G.hid (row t.val (lt t) p) j := by
  obtain ⟨l, r, s, e⟩ := H.own t
  rw [e]
  exact hid_tab (H.loaded t)

theorem Has.dgate (t : Fin cfg0.N) : Tab (φ := .bf16) (outsAt0 m c t.val t.isLt).2.2.2.2.1 fun p j => G.dgate (row t.val (lt t) p) j := by
  obtain ⟨l, r, s, e⟩ := H.own t
  rw [e]
  exact dgate_tab (H.loaded t) (H.diff t)

theorem Has.dup (t : Fin cfg0.N) : Tab (φ := .bf16) (outsAt0 m c t.val t.isLt).2.2.2.2.2.1 fun p j => G.dup (row t.val (lt t) p) j := by
  obtain ⟨l, r, s, e⟩ := H.own t
  rw [e]
  exact dup_tab (H.loaded t) (H.diff t)

theorem Has.dout (t : Fin cfg0.N) : Tab (φ := .bf16) (outsAt0 m c t.val t.isLt).2.2.2.2.2.2.1 fun p j => G.dout (row t.val (lt t) p) j := by
  obtain ⟨l, r, s, e⟩ := H.own t
  rw [e]
  exact doutb_tab (H.loaded t) (H.diff t)

/-- The three running sums, after the blocks up to `n`. -/
structure Sums (m : (ℓ : Loc nD τ sig) → Buf (Elt Ideal) ℓ) (c : Dev nD) (G : Given) (n : ℕ) (hn : n < cfg0.N) : Prop where
  loss : Tab (φ := .f32) (outsAt0 m c n hn).2.2.2.2.2.2.2.1 fun _ _ => 1 / 2 * upto (fun r => cost (G.e r)) (n + 1) (lt ⟨n, hn⟩)
  da : Tab (φ := .f32) (outsAt0 m c n hn).2.2.2.2.2.2.2.2.1 fun _ j => upto (fun r => G.w.da (G.h r) (G.e r) j) (n + 1) (lt ⟨n, hn⟩)
  db : Tab (φ := .f32) (outsAt0 m c n hn).2.2.2.2.2.2.2.2.2.1 fun _ j => upto (fun r => G.w.db (G.h r) (G.e r) j) (n + 1) (lt ⟨n, hn⟩)

theorem Has.sums : ∀ (n : ℕ) (hn : n < cfg0.N), Sums m c G n hn
  | 0, hn => by
    have e := at_first m c ⟨0, hn⟩ rfl
    refine ⟨?_, ?_, ?_⟩
    · rw [congrArg (fun x : Left Ideal => x.2.2.2.2.2.2.2.1) e]
      exact (loss_tab (k := 0) (H.diff ⟨0, hn⟩) zeros_tab).congr fun _ _ => by
        show _ = 1 / 2 * (0 + _); rw [zero_add, zero_add]
    · rw [congrArg (fun x : Left Ideal => x.2.2.2.2.2.2.2.2.1) e]
      exact da_tab (k := fun _ => 0) (H.loaded ⟨0, hn⟩) (H.diff ⟨0, hn⟩) zeros_tab
    · rw [congrArg (fun x : Left Ideal => x.2.2.2.2.2.2.2.2.2.1) e]
      exact db_tab (k := fun _ => 0) (H.loaded ⟨0, hn⟩) (H.diff ⟨0, hn⟩) zeros_tab
  | n + 1, hn => by
    have h0 : ¬(n + 1) % 17 = 0 := by
      have := lt ⟨n + 1, hn⟩
      dsimp only at this
      omega
    have e := at_next m c ⟨n + 1, hn⟩ h0
    have s := Has.sums n (Nat.lt_of_succ_lt hn)
    refine ⟨?_, ?_, ?_⟩
    · rw [congrArg (fun x : Left Ideal => x.2.2.2.2.2.2.2.1) e]
      exact (loss_tab (H.diff ⟨n + 1, hn⟩) s.loss).congr fun _ _ => (mul_add _ _ _).symm
    · rw [congrArg (fun x : Left Ideal => x.2.2.2.2.2.2.2.2.1) e]
      exact da_tab (H.loaded ⟨n + 1, hn⟩) (H.diff ⟨n + 1, hn⟩) s.da
    · rw [congrArg (fun x : Left Ideal => x.2.2.2.2.2.2.2.2.2.1) e]
      exact db_tab (H.loaded ⟨n + 1, hn⟩) (H.diff ⟨n + 1, hn⟩) s.db

end Cert.FfnIdeal.Ffn
-- ==== Proof.Ffn.Final.lean ====
/- What the launch leaves in its ten result arrays. -/
module

public import proofs.«01_k».proof.Proof.Ffn.Tables

@[expose] public section

noncomputable section

namespace Cert.FfnIdeal.Ffn

open Cert.FfnIdeal Cert.FfnIdeal.Gen Cert.Rows Cert.Ffn
open Idealize.ShloMosaic hiding ix0 ix1 ix2 ix3 eq_ix1 eq_ix2
open Idealize.ShloMosaic.ValueIdx
open Idealize.ShloMosaic.TcCoe Idealize.ShloMosaic.Pipeline Idealize.SL.Sem

theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)
theorem idx_7 : ∀ t : Fin cfg0.N, win0_7.index t = ![t.val, 0] := (by decide +kernel : ∀ t : Fin grid0.N, _)
theorem idx_8 : ∀ t : Fin cfg0.N, win0_8.index t = ![t.val, 0] := (by decide +kernel : ∀ t : Fin grid0.N, _)
theorem idx_9 : ∀ t : Fin cfg0.N, win0_9.index t = ![t.val, 0] := (by decide +kernel : ∀ t : Fin grid0.N, _)
theorem idx_10 : ∀ t : Fin cfg0.N, win0_10.index t = ![t.val, 0] := (by decide +kernel : ∀ t : Fin grid0.N, _)

variable {m : (ℓ : Loc nD τ sig) → Buf (Elt Ideal) ℓ} {c : Dev nD} {G : Given} (H : Has m c G)
include H

theorem Has.final_din : (dats m 0 c).arrAt 4 cfg0.N = fun y : S4352x1024.Idx => ((G.din (y 0) (y 1) : ℝ) : EReal) := by
  refine (dats m 0 c).arrAt_eq_of_covers 4 _ (by decide +kernel) fun t hf y => ?_
  blk_simp
  rw [after0_4]
  obtain ⟨p, q, rfl⟩ : ∃ (p : Fin 256) (q : Fin 1024), y = ix2 p q := ⟨y 0, y 1, eq_ix2 y⟩
  refine (H.din t p q).trans (congrArg (fun x : ℝ => (x : EReal)) (congrArg₂ G.din (Fin.ext ?_) (Fin.ext ?_)))
  · blk_simp [idx_4, row]; show 256 * t.val + p.val = t.val * 256 + p.val; omega
  · blk_simp [idx_4]

theorem Has.final_dinb : (dats m 0 c).arrAt 5 cfg0.N = fun y : S4352x1024.Idx => ((G.din (y 0) (y 1) : ℝ) : EReal) := by
  refine (dats m 0 c).arrAt_eq_of_covers 5 _ (by decide +kernel) fun t hf y => ?_
  blk_simp
  rw [after0_5]
  obtain ⟨p, q, rfl⟩ : ∃ (p : Fin 256) (q : Fin 1024), y = ix2 p q := ⟨y 0, y 1, eq_ix2 y⟩
  refine (H.dinb t p q).trans (congrArg (fun x : ℝ => (x : EReal)) (congrArg₂ G.din (Fin.ext ?_) (Fin.ext ?_)))
  · blk_simp [idx_5, row]; show 256 * t.val + p.val = t.val * 256 + p.val; omega
  · blk_simp [idx_5]

theorem Has.final_v : (dats m 0 c).arrAt 6 cfg0.N = fun y : S4352x1024.Idx => ((G.v (y 0) (y 1) : ℝ) : EReal) := by
  refine (dats m 0 c).arrAt_eq_of_covers 6 _ (by decide +kernel) fun t hf y => ?_
  blk_simp
  rw [after0_6]
  obtain ⟨p, q, rfl⟩ : ∃ (p : Fin 256) (q : Fin 1024), y = ix2 p q := ⟨y 0, y 1, eq_ix2 y⟩
  refine (H.v t p q).trans (congrArg (fun x : ℝ => (x : EReal)) (congrArg₂ G.v (Fin.ext ?_) (Fin.ext ?_)))
  · blk_simp [idx_6, row]; show 256 * t.val + p.val = t.val * 256 + p.val; omega
  · blk_simp [idx_6]

theorem Has.final_hid : (dats m 0 c).arrAt 7 cfg0.N = fun y : S4352x2816.Idx => ((G.hid (y 0) (y 1) : ℝ) : EReal) := by
  refine (dats m 0 c).arrAt_eq_of_covers 7 _ (by decide +kernel) fun t hf y => ?_
  blk_simp
  rw [after0_7]
  obtain ⟨p, q, rfl⟩ : ∃ (p : Fin 256) (q : Fin 2816), y = ix2 p q := ⟨y 0, y 1, eq_ix2 y⟩
  refine (H.hid t p q).trans (congrArg (fun x : ℝ => (x : EReal)) (congrArg₂ G.hid (Fin.ext ?_) (Fin.ext ?_)))
  · blk_simp [idx_7, row]; show 256 * t.val + p.val = t.val * 256 + p.val; omega
  · blk_simp [idx_7]

theorem Has.final_dgate : (dats m 0 c).arrAt 8 cfg0.N = fun y : S4352x2816.Idx => ((G.dgate (y 0) (y 1) : ℝ) : EReal) := by
  refine (dats m 0 c).arrAt_eq_of_covers 8 _ (by decide +kernel) fun t hf y => ?_
  blk_simp
  rw [after0_8]
  obtain ⟨p, q, rfl⟩ : ∃ (p : Fin 256) (q : Fin 2816), y = ix2 p q := ⟨y 0, y 1, eq_ix2 y⟩
  refine (H.dgate t p q).trans (congrArg (fun x : ℝ => (x : EReal)) (congrArg₂ G.dgate (Fin.ext ?_) (Fin.ext ?_)))
  · blk_simp [idx_8, row]; show 256 * t.val + p.val = t.val * 256 + p.val; omega
  · blk_simp [idx_8]

theorem Has.final_dup : (dats m 0 c).arrAt 9 cfg0.N = fun y : S4352x2816.Idx => ((G.dup (y 0) (y 1) : ℝ) : EReal) := by
  refine (dats m 0 c).arrAt_eq_of_covers 9 _ (by decide +kernel) fun t hf y => ?_
  blk_simp
  rw [after0_9]
  obtain ⟨p, q, rfl⟩ : ∃ (p : Fin 256) (q : Fin 2816), y = ix2 p q := ⟨y 0, y 1, eq_ix2 y⟩
  refine (H.dup t p q).trans (congrArg (fun x : ℝ => (x : EReal)) (congrArg₂ G.dup (Fin.ext ?_) (Fin.ext ?_)))
  · blk_simp [idx_9, row]; show 256 * t.val + p.val = t.val * 256 + p.val; omega
  · blk_simp [idx_9]

theorem Has.final_dout : (dats m 0 c).arrAt 10 cfg0.N = fun y : S4352x1024.Idx => ((G.dout (y 0) (y 1) : ℝ) : EReal) := by
  refine (dats m 0 c).arrAt_eq_of_covers 10 _ (by decide +kernel) fun t hf y => ?_
  blk_simp
  rw [after0_10]
  obtain ⟨p, q, rfl⟩ : ∃ (p : Fin 256) (q : Fin 1024), y = ix2 p q := ⟨y 0, y 1, eq_ix2 y⟩
  refine (H.dout t p q).trans (congrArg (fun x : ℝ => (x : EReal)) (congrArg₂ G.dout (Fin.ext ?_) (Fin.ext ?_)))
  · blk_simp [idx_10, row]; show 256 * t.val + p.val = t.val * 256 + p.val; omega
  · blk_simp [idx_10]

theorem Has.final_loss : (dats m 0 c).arrAt 11 cfg0.N = fun _ : S1x1.Idx => ((G.loss : ℝ) : EReal) := by
  refine (dats m 0 c).arrAt_eq_of_after_last 11 ⟨16, by decide⟩ (by decide +kernel) _ fun y => ?_
  obtain ⟨p, q, rfl⟩ : ∃ (p : Fin 1) (q : Fin 1), y = ix2 p q := ⟨y 0, y 1, eq_ix2 y⟩
  exact ((congrFun (after0_11 m c ⟨16, by decide⟩) (ix2 p q)).trans ((H.sums 16 (by decide)).loss p q)).trans (congrArg (fun x : ℝ => ((1 / 2 * x : ℝ) : EReal)) (upto_all _))

theorem Has.final_da : (dats m 0 c).arrAt 12 cfg0.N = fun y : S1x1024.Idx => ((G.da (y 1) : ℝ) : EReal) := by
  refine (dats m 0 c).arrAt_eq_of_after_last 12 ⟨16, by decide⟩ (by decide +kernel) _ fun y => ?_
  obtain ⟨p, q, rfl⟩ : ∃ (p : Fin 1) (q : Fin 1024), y = ix2 p q := ⟨y 0, y 1, eq_ix2 y⟩
  exact ((congrFun (after0_12 m c ⟨16, by decide⟩) (ix2 p q)).trans ((H.sums 16 (by decide)).da p q)).trans (congrArg (fun x : ℝ => (x : EReal)) (upto_all _))

theorem Has.final_db : (dats m 0 c).arrAt 13 cfg0.N = fun y : S1x1024.Idx => ((G.db (y 1) : ℝ) : EReal) := by
  refine (dats m 0 c).arrAt_eq_of_after_last 13 ⟨16, by decide⟩ (by decide +kernel) _ fun y => ?_
  obtain ⟨p, q, rfl⟩ : ∃ (p : Fin 1) (q : Fin 1024), y = ix2 p q := ⟨y 0, y 1, eq_ix2 y⟩
  exact ((congrFun (after0_13 m c ⟨16, by decide⟩) (ix2 p q)).trans ((H.sums 16 (by decide)).db p q)).trans (congrArg (fun x : ℝ => (x : EReal)) (upto_all _))

end Cert.FfnIdeal.Ffn
-- ==== Proof.Rows.Given.lean ====
/- The arguments of the backward row pass as real tables, and what the forward lines make of them. -/
module

public import proofs.«01_k».proof.Proof.Rows.Math

@[expose] public section

noncomputable section

namespace Cert.Rows

/-- The arguments: the gradient `dh`, the gates' arguments `zg`, the convolution before its offset `conv` and the offset `bdw`,
    the pooled rows `mm`, and the weights. -/
structure Given where
  dh : Fin 4352 → Fin 1024 → ℝ
  z : Fin 4352 → Fin 5120 → ℝ
  bg : Fin 2048 → ℝ
  conv : Fin 4352 → Fin 1024 → ℝ
  bdw : Fin 1024 → ℝ
  lg : Fin 1024 → ℝ
  lb : Fin 1024 → ℝ
  mm : Fin 4352 → Fin 1024 → ℝ
  wl : Fin 4 → Fin 256 → Fin 256 → ℝ
  ps : Fin 1024 → ℝ
  wo : Fin 1024 → Fin 1024 → ℝ
  wc : Fin 1024 → Fin 1024 → ℝ
  wp : Fin 1024 → Fin 1024 → ℝ

namespace Given

variable (g : Given)

/-- The mapped pool rows. -/
def mw (i : Fin 4352) (c : Fin 1024) : ℝ := ∑ k, g.wl (grp c) k (sub c) * g.mm i (gcol (grp c) k)

/-- The data before the branches' outputs. -/
def base : Data 4352 where
  dh := g.dh
  yc := fun _ _ => 0
  yp := fun _ _ => 0
  zg := fun i k => g.z i ⟨3072 + k, by omega⟩
  cv := fun i j => g.conv i j + g.bdw j
  mw := g.mw
  bg := g.bg
  lg := g.lg
  lb := g.lb
  ps := g.ps
  wo := g.wo
  wc := g.wc
  wp := g.wp
  wl := g.wl

/-- What the pass takes: the convolution branch's output is the activated normalised convolution times `wc`, the pool branch's the
    scaled mapped rows times `wp`. -/
def data : Data 4352 :=
  { g.base with
    yc := fun i j => ∑ q, g.base.ln i q * logi (g.base.ln i q) * g.wc q j
    yp := fun i j => ∑ q, g.mw i q * g.ps q * g.wp q j }

end Given

end Cert.Rows
-- ==== Proof.Rows.Pools.lean ====
/- The pool's maps in the reference: four products, one for each group of columns, read entry by entry. -/
module

public import proofs.«01_k».proof.Proof.Rows.Math
public import proofs.«01_k».proof.Proof.Gen.ReferenceIdeal
public import Idealize.ShloMosaic.Lib.Pointwise

@[expose] public section

noncomputable section

namespace Cert.ReferenceIdeal.Rows

open Cert.ReferenceIdeal Cert.ReferenceIdeal.Gen Cert.Rows
open Idealize.ShloMosaic hiding ix0 ix1 ix2 ix3 eq_ix1 eq_ix2
open Idealize.ShloMosaic.ValueIdx

attribute [local instance] Cert.ReferenceIdeal.Gen.facts

/-- An array of four matrices holds the real ones. -/
def Cube (x : FVec Ideal S4x256x256 .f32) (w : Fin 4 → Fin 256 → Fin 256 → ℝ) : Prop := ∀ g i j, x (ix3 g i j) = ((w g i j : ℝ) : EReal)

/-- The map forward. -/
theorem mw_read (w : FVec Ideal S4x256x256 .f32) (x : FVec Ideal S4352x1024 .f32) (i : Fin 4352) (c : Fin 1024) :
    (shapeCast S4352x1024 (transpose S4352x4x256 [2, 0, 1] (Host.dotGeneral dot_S4x256x256_S4352x4x256_S4x256x4352_1_2_2_0_0_1 none w (shapeCast S4352x4x256 x shapeCasts_S4352x1024_S4352x4x256)) transposes_S4x256x4352_S4352x4x256_2_0_1) shapeCasts_S4352x4x256_S4352x1024) (ix2 i c)
      = ∑ k : Fin 256, w (ix3 (grp c) k (sub c)) * x (ix2 i (gcol (grp c) k)) := by
  pointwise []
  refine Finset.sum_congr rfl fun k _ => ?_
  congr 3
  exact Fin.ext (congrArg (· + k.val) (Nat.mul_comm _ _))

/-- The map of the gradients. -/
theorem dm_read (w : FVec Ideal S4x256x256 .f32) (x : FVec Ideal S4352x1024 .f32) (i : Fin 4352) (c : Fin 1024) :
    (shapeCast S4352x1024 (transpose S4352x4x256 [1, 0, 2] (Host.dotGeneral dot_S4x256x4352_S4x256x256_S4x4352x256_1_2_2_1_0_0 none (transpose S4x256x4352 [1, 2, 0] (shapeCast S4352x4x256 x shapeCasts_S4352x1024_S4352x4x256) transposes_S4352x4x256_S4x256x4352_1_2_0) w) transposes_S4x4352x256_S4352x4x256_1_0_2) shapeCasts_S4352x4x256_S4352x1024) (ix2 i c)
      = ∑ k : Fin 256, x (ix2 i (gcol (grp c) k)) * w (ix3 (grp c) (sub c) k) := by
  pointwise []
  refine Finset.sum_congr rfl fun k _ => ?_
  congr 3
  exact Fin.ext (congrArg (· + k.val) (Nat.mul_comm _ _))

theorem mw_tab {w : FVec Ideal S4x256x256 .f32} {x : FVec Ideal S4352x1024 .f32} {a : Fin 4 → Fin 256 → Fin 256 → ℝ} {b : Fin 4352 → Fin 1024 → ℝ}
    (hw : Cube w a) (hx : Tab x b) :
    Tab (shapeCast S4352x1024 (transpose S4352x4x256 [2, 0, 1] (Host.dotGeneral dot_S4x256x256_S4352x4x256_S4x256x4352_1_2_2_0_0_1 none w (shapeCast S4352x4x256 x shapeCasts_S4352x1024_S4352x4x256)) transposes_S4x256x4352_S4352x4x256_2_0_1) shapeCasts_S4352x4x256_S4352x1024 : FVec Ideal _ .f32)
      fun i c => ∑ k, a (grp c) k (sub c) * b i (gcol (grp c) k) := fun i c => by
  rw [mw_read, ← coe_sum]
  exact Finset.sum_congr rfl fun k _ => by rw [hw, hx, EReal.coe_mul]

theorem dm_tab {w : FVec Ideal S4x256x256 .f32} {x : FVec Ideal S4352x1024 .f32} {a : Fin 4 → Fin 256 → Fin 256 → ℝ} {b : Fin 4352 → Fin 1024 → ℝ}
    (hw : Cube w a) (hx : Tab x b) :
    Tab (shapeCast S4352x1024 (transpose S4352x4x256 [1, 0, 2] (Host.dotGeneral dot_S4x256x4352_S4x256x256_S4x4352x256_1_2_2_1_0_0 none (transpose S4x256x4352 [1, 2, 0] (shapeCast S4352x4x256 x shapeCasts_S4352x1024_S4352x4x256) transposes_S4352x4x256_S4x256x4352_1_2_0) w) transposes_S4x4352x256_S4352x4x256_1_0_2) shapeCasts_S4352x4x256_S4352x1024 : FVec Ideal _ .f32)
      fun i c => ∑ k, b i (gcol (grp c) k) * a (grp c) (sub c) k := fun i c => by
  rw [dm_read, ← coe_sum]
  exact Finset.sum_congr rfl fun k _ => by rw [hw, hx, EReal.coe_mul]

/-- The two paddings of the gates' gradients, added: the two halves side by side. -/
theorem halves_tab {x y : FVec Ideal S4352x1024 .f32} {a b : Fin 4352 → Fin 1024 → ℝ} (hx : Tab x a) (hy : Tab y b) :
    Tab (addf (pad S4352x2048 ![0, 1024] ![0, 0] ![0, 0] y (constant (F := Ideal) S_ .f32 0x00000000#32) pads_S4352x1024_S4352x2048_000_102400 h_S_) (pad S4352x2048 ![0, 0] ![0, 1024] ![0, 0] x (constant (F := Ideal) S_ .f32 0x00000000#32) pads_S4352x1024_S4352x2048_000_010240 h_S_) : FVec Ideal S4352x2048 .f32)
      fun i c => halves (a i) (b i) c := fun i c => by
  have z : ∀ j : S_.Idx, constant (F := Ideal) S_ .f32 0x00000000#32 j = ((0 : ℝ) : EReal) := fun _ => zero_word
  rw [addf_apply]
  show _ + _ = ((halves (a i) (b i) c : ℝ) : EReal)
  rcases lcol_or_rcol c with ⟨j, rfl⟩ | ⟨j, rfl⟩
  · rw [halves_lcol, pad_apply_of_not_inside _ _ _ _ _ _ _ (ix2 i (lcol j)) 1 ?_, pad_apply_of_inside _ _ _ _ _ _ _ (ix2 i (lcol j)) (ix2 i j) ?_, hx, z,
      EReal.coe_zero, zero_add]
    · intro a
      fin_cases a
      · show i.val = 0 + i.val * (0 + 1); omega
      · show j.val = 0 + j.val * (0 + 1); omega
    · rintro ⟨h1, -⟩
      have h2 : 1024 ≤ j.val := h1
      omega
  · rw [halves_rcol, pad_apply_of_inside _ _ _ _ _ _ _ (ix2 i (rcol j)) (ix2 i j) ?_, pad_apply_of_not_inside _ _ _ _ _ _ _ (ix2 i (rcol j)) 1 ?_, hy, z,
      EReal.coe_zero, add_zero]
    · rintro ⟨-, -, h1⟩
      have h2 : (1024 + j.val - 0) / (0 + 1) < 1024 := h1
      omega
    · intro a
      fin_cases a
      · show i.val = 0 + i.val * (0 + 1); omega
      · show 1024 + j.val = 1024 + j.val * (0 + 1); omega

end Cert.ReferenceIdeal.Rows
-- ==== Proof.Rows.Reference.lean ====
/- The reference's values, line by line, as real tables. -/
module

public import proofs.«01_k».proof.Proof.Rows.Given
public import proofs.«01_k».proof.Proof.Rows.Pools
public import proofs.«01_k».proof.Proof.Gen.ReferenceIdeal.Run

@[expose] public section

noncomputable section

namespace Cert.ReferenceIdeal.Rows

open Cert.ReferenceIdeal Cert.ReferenceIdeal.Gen Cert.ReferenceIdeal.Value Cert.Rows
open Idealize.ShloMosaic hiding ix0 ix1 ix2 ix3 eq_ix1 eq_ix2
open Idealize.ShloMosaic.ValueIdx

attribute [local instance] Cert.ReferenceIdeal.Gen.facts

/-- The buffers hold the given arguments. -/
structure Held (V0 : Valuation τ sig (Elt Ideal)) (g : Given) : Prop where
  dh : ∀ i j, V0 (Proc.devRef .tc main_arg0) (ix2 i j) = ((g.dh i j : ℝ) : EReal)
  z : ∀ i j, V0 (Proc.devRef .tc main_arg1) (ix2 i j) = ((g.z i j : ℝ) : EReal)
  bg : ∀ (i : Fin 1) j, V0 (Proc.devRef .tc main_arg2) (ix2 i j) = ((g.bg j : ℝ) : EReal)
  conv : ∀ i j, V0 (Proc.devRef .tc main_arg3) (ix2 i j) = ((g.conv i j : ℝ) : EReal)
  bdw : ∀ (i : Fin 1) j, V0 (Proc.devRef .tc main_arg4) (ix2 i j) = ((g.bdw j : ℝ) : EReal)
  lg : ∀ (i : Fin 1) j, V0 (Proc.devRef .tc main_arg5) (ix2 i j) = ((g.lg j : ℝ) : EReal)
  lb : ∀ (i : Fin 1) j, V0 (Proc.devRef .tc main_arg6) (ix2 i j) = ((g.lb j : ℝ) : EReal)
  mm : ∀ i j, V0 (Proc.devRef .tc main_arg7) (ix2 i j) = ((g.mm i j : ℝ) : EReal)
  wl : ∀ k i j, V0 (Proc.devRef .tc main_arg8) (ix3 k i j) = ((g.wl k i j : ℝ) : EReal)
  ps : ∀ (i : Fin 1) j, V0 (Proc.devRef .tc main_arg9) (ix2 i j) = ((g.ps j : ℝ) : EReal)
  wo : ∀ i j, V0 (Proc.devRef .tc main_arg10) (ix2 i j) = ((g.wo i j : ℝ) : EReal)
  wc : ∀ i j, V0 (Proc.devRef .tc main_arg11) (ix2 i j) = ((g.wc i j : ℝ) : EReal)
  wp : ∀ i j, V0 (Proc.devRef .tc main_arg12) (ix2 i j) = ((g.wp i j : ℝ) : EReal)

variable {V0 : Valuation τ sig (Elt Ideal)} {g : Given}

/-- The literals. -/
theorem lit {w : BitVec 32} {r : ℝ} (h : Ideal.ofBits .f32 w = (r : EReal)) : ∀ i, constant (F := Ideal) S_ .f32 w i = (r : EReal) := fun _ => h

theorem one_ne (x : ℝ) : 1 + Real.exp (-x) ≠ 0 := by positivity

/-- A row of one line, written out as a list and made a row again. -/
theorem again {n : ℕ} {x : FVec Ideal ⟨2, ![1, n]⟩ .f32} {f : Fin n → ℝ} (hx : ∀ (i : Fin 1) j, x (ix2 i j) = ((f j : ℝ) : EReal))
    (hc : (⟨2, ![1, n]⟩ : Shape).ShapeCasts ⟨1, ![n]⟩) (hb : (⟨1, ![n]⟩ : Shape).BroadcastsInDim ⟨2, ![1, n]⟩ ![1]) :
    Tab (broadcastInDim (⟨2, ![1, n]⟩ : Shape) ![1] hb (shapeCast (⟨1, ![n]⟩ : Shape) x hc) : FVec Ideal _ .f32) fun _ j => f j :=
  (Lst.ofRow (g := fun _ j => f j) hx hc).inRow hb

/-- A sum over the one entry of each line. -/
theorem alone {m : ℕ} {x : FVec Ideal ⟨2, ![m, 1]⟩ .f32} {f : Fin m → ℝ} (hx : Tab x fun i _ => f i)
    (h : (⟨2, ![m, 1]⟩ : Shape).ReducesTo [1] ⟨1, ![m]⟩) (hu : 0 < S_.numel) :
    Lst (Host.reduceAdd x (constant (F := Ideal) S_ .f32 0x00000000#32) h hu) f := fun i => by
  rw [Tab.hostSumRow hx (lit zero_word) h hu i]
  simp

/-- The sum of each column, as a row. -/
theorem total {m n : ℕ} {x : FVec Ideal ⟨2, ![m, n]⟩ .f32} {f : Fin m → Fin n → ℝ} (hx : Tab x f)
    (h0 : (⟨2, ![m, n]⟩ : Shape).ReducesTo [0] ⟨1, ![n]⟩) (h1 : (⟨2, ![1, n]⟩ : Shape).ReducesTo [0] ⟨1, ![n]⟩) (hu : 0 < S_.numel)
    (hc : (⟨1, ![n]⟩ : Shape).ShapeCasts ⟨2, ![1, n]⟩) (hb : (⟨1, ![n]⟩ : Shape).BroadcastsInDim ⟨2, ![1, n]⟩ ![1]) :
    Tab (broadcastInDim (⟨2, ![1, n]⟩ : Shape) ![1] hb (Host.reduceAdd (shapeCast (⟨2, ![1, n]⟩ : Shape)
      (Host.reduceAdd x (constant (F := Ideal) S_ .f32 0x00000000#32) h0 hu) hc) (constant (F := Ideal) S_ .f32 0x00000000#32) h1 hu) : FVec Ideal _ .f32)
      fun _ j => ∑ i, f i j := fun i j => by
  rw [(((hx.hostSumCol (lit zero_word) h0 hu).toRow hc).hostSumCol (lit zero_word) h1 hu).inRow hb i j]
  simp

/-- The logistic function as the reference writes it. -/
theorem logi_tab {m n : ℕ} {x : FVec Ideal ⟨2, ![m, n]⟩ .f32} {f : Fin m → Fin n → ℝ} (hx : Tab x f)
    (hb : S_.BroadcastsInDim ⟨2, ![m, n]⟩ ![]) :
    Tab (Host.divf (broadcastInDim (⟨2, ![m, n]⟩ : Shape) ![] hb (constant (F := Ideal) S_ .f32 0x3F800000#32))
      (addf (broadcastInDim (⟨2, ![m, n]⟩ : Shape) ![] hb (constant (F := Ideal) S_ .f32 0x3F800000#32)) (Host.exp (Host.negf x))))
      fun i j => logi (f i j) :=
  (Tab.hostSplat (lit one_word) hb).hostDiv ((Tab.hostSplat (lit one_word) hb).add hx.hostNeg.hostExp) fun _ _ => one_ne _

/-- Centring each row. -/
theorem centred {x : FVec Ideal S4352x1024 .f32} {f : Fin 4352 → Fin 1024 → ℝ} (hx : Tab x f) :
    Tab (subf x (broadcastInDim S4352x1024 ![0, 1] bcast_S4352x1_S4352x1024_0_1 (Host.divf (broadcastInDim S4352x1 ![0] bcast_S4352_S4352x1_0 (Host.reduceAdd x (constant (F := Ideal) S_ .f32 0x00000000#32) reducesTo_S4352x1024_S4352_d1 h_S_)) (broadcastInDim S4352x1 ![] bcast_S_S4352x1 (constant (F := Ideal) S_ .f32 0x44800000#32)))))
      fun i j => f i j - (∑ q, f i q) / 1024 :=
  hx.sub ((((hx.hostSumRow (lit zero_word) reducesTo_S4352x1024_S4352_d1 h_S_).inCol bcast_S4352_S4352x1_0).hostDiv
    (Tab.hostSplat (lit len_word) bcast_S_S4352x1) fun _ _ => by norm_num).hostCol bcast_S4352x1_S4352x1024_0_1)

/-- The mean of each row's squares, and the small number. -/
theorem spread {x : FVec Ideal S4352x1024 .f32} {f : Fin 4352 → Fin 1024 → ℝ} (hx : Tab x f) :
    Tab (addf (Host.divf (broadcastInDim S4352x1 ![0] bcast_S4352_S4352x1_0 (Host.reduceAdd (mulf x x) (constant (F := Ideal) S_ .f32 0x00000000#32) reducesTo_S4352x1024_S4352_d1 h_S_)) (broadcastInDim S4352x1 ![] bcast_S_S4352x1 (constant (F := Ideal) S_ .f32 0x44800000#32))) (broadcastInDim S4352x1 ![] bcast_S_S4352x1 (constant (F := Ideal) S_ .f32 0x3727C5AC#32)))
      fun i _ => (∑ q, f i q * f i q) / 1024 + eps :=
  ((((hx.mul hx).hostSumRow (lit zero_word) reducesTo_S4352x1024_S4352_d1 h_S_).inCol bcast_S4352_S4352x1_0).hostDiv
    (Tab.hostSplat (lit len_word) bcast_S_S4352x1) fun _ _ => by norm_num).add (Tab.hostSplat (lit eps_word) bcast_S_S4352x1)

namespace Held

variable (h : Held V0 g)
include h

theorem v1 : Tab (φ := .f32) (res_main_v1 V0) g.mm := h.mm
theorem v2 : Cube (res_main_v2 V0) g.wl := h.wl
theorem v3 : Tab (φ := .f32) (res_main_v3 V0) g.wo := h.wo
theorem v4 : Tab (φ := .f32) (res_main_v4 V0) g.wc := h.wc
theorem v5 : Tab (φ := .f32) (res_main_v5 V0) g.wp := h.wp

theorem v9 : Tab (φ := .f32) (res_main_v9 V0) g.base.cv :=
  Tab.add (φ := .f32) (g := g.conv) h.conv ((again h.bdw shapeCasts_S1x1024_S1024 bcast_S1024_S1x1024_1).hostRow bcast_S1x1024_S4352x1024_0_1)

theorem v17 : Tab (φ := .f32) (res_main_v17 V0) g.base.xc := centred h.v9

theorem lgRow : Tab (φ := .f32) (broadcastInDim S1x1024 ![1] bcast_S1024_S1x1024_1 (shapeCast S1024 (V0 (Proc.devRef .tc main_arg5) : FVec Ideal S1x1024 .f32) shapeCasts_S1x1024_S1024)) fun _ j => g.lg j :=
  again h.lg shapeCasts_S1x1024_S1024 bcast_S1024_S1x1024_1
theorem lbRow : Tab (φ := .f32) (broadcastInDim S1x1024 ![1] bcast_S1024_S1x1024_1 (shapeCast S1024 (V0 (Proc.devRef .tc main_arg6) : FVec Ideal S1x1024 .f32) shapeCasts_S1x1024_S1024)) fun _ j => g.lb j :=
  again h.lb shapeCasts_S1x1024_S1024 bcast_S1024_S1x1024_1
theorem psRow : Tab (φ := .f32) (broadcastInDim S1x1024 ![1] bcast_S1024_S1x1024_1 (shapeCast S1024 (V0 (Proc.devRef .tc main_arg9) : FVec Ideal S1x1024 .f32) shapeCasts_S1x1024_S1024)) fun _ j => g.ps j :=
  again h.ps shapeCasts_S1x1024_S1024 bcast_S1024_S1x1024_1

theorem v33 : Tab (φ := .f32) (res_main_v33 V0) g.base.ln :=
  ((h.v17.mul (((spread h.v17).hostRsqrt fun i _ => g.base.var_pos i).hostCol bcast_S4352x1_S4352x1024_0_1)).mul
    (h.lgRow.hostRow bcast_S1x1024_S4352x1024_0_1)).add (h.lbRow.hostRow bcast_S1x1024_S4352x1024_0_1)

theorem v35 : Tab (φ := .f32) (res_main_v35 V0) g.data.yc :=
  (h.v33.mul (logi_tab h.v33 bcast_S_S4352x1024)).hostDot h.v4

theorem v39 : Tab (φ := .f32) (res_main_v39 V0) g.data.mw := mw_tab h.v2 h.v1

theorem v44 : Tab (φ := .f32) (res_main_v44 V0) g.data.yp :=
  (h.v39.mul (h.psRow.hostRow bcast_S1x1024_S4352x1024_0_1)).hostDot h.v5

theorem zg : Tab (φ := .f32) (extractStridedSlice S4352x2048 ![0, 3072] (V0 (Proc.devRef .tc main_arg1) : FVec Ideal S4352x5120 .f32) slices_S4352x5120_S4352x2048_0_3072) g.data.zg := fun i k => by
  rw [extractStridedSlice_apply ![0, 3072] _ slices_S4352x5120_S4352x2048_0_3072 (ix2 i k) (ix2 i (⟨3072 + k, by omega⟩ : Fin 5120)) ?_]
  · exact h.z i _
  · intro a
    fin_cases a
    · show i.val = 0 + i.val; omega
    · show 3072 + k.val = 3072 + k.val; rfl

theorem v55 : Tab (φ := .f32) (res_main_v55 V0) g.data.gate :=
  logi_tab (h.zg.add ((again h.bg shapeCasts_S1x2048_S2048 bcast_S2048_S1x2048_1).hostRow bcast_S1x2048_S4352x2048_0_1)) bcast_S_S4352x2048

theorem v59 : Tab (φ := .f32) (res_main_v59 V0) fun i j => g.data.gate i (lcol j) := fun i j => by
  unfold res_main_v59
  rw [extractStridedSlice_apply ![0, 0] _ slices_S4352x2048_S4352x1024_0_0 (ix2 i j) (ix2 i (lcol j)) ?_]
  · exact h.v55 i _
  · intro a
    fin_cases a
    · show i.val = 0 + i.val; omega
    · show j.val = 0 + j.val; omega

theorem v61 : Tab (φ := .f32) (res_main_v61 V0) fun i j => g.data.gate i (rcol j) := fun i j => by
  unfold res_main_v61
  rw [extractStridedSlice_apply ![0, 1024] _ slices_S4352x2048_S4352x1024_0_1024 (ix2 i j) (ix2 i (rcol j)) ?_]
  · exact h.v55 i _
  · intro a
    fin_cases a
    · show i.val = 0 + i.val; omega
    · show 1024 + j.val = 1024 + j.val; rfl

theorem v65 : Tab (φ := .f32) (res_main_v65 V0) g.data.dmg :=
  Tab.hostDotT (g := g.dh) (h := g.wo) h.dh h.v3

theorem v66 : Tab (φ := .f32) (res_main_v66 V0) g.data.dyp := (h.v61.mul h.v65).congr fun _ _ => mul_comm _ _

theorem v69 : Tab (φ := .f32) (res_main_v69 V0) g.data.dyc := (h.v59.mul h.v65).congr fun _ _ => mul_comm _ _

theorem v73 : Tab (φ := .f32) (res_main_v73 V0) g.data.dzg :=
  (halves_tab (h.v65.mul h.v35) (h.v65.mul h.v44)).mul (h.v55.mul ((Tab.hostSplat (lit one_word) bcast_S_S4352x2048).sub h.v55))

theorem v81 : Tab (φ := .f32) (res_main_v81 V0) g.data.cv := h.v9

theorem v89 : Tab (φ := .f32) (res_main_v89 V0) g.data.xc := centred h.v81

theorem v96 : Tab (φ := .f32) (res_main_v96 V0) fun i _ => g.data.var i := spread h.v89

theorem v97 : Tab (φ := .f32) (res_main_v97 V0) fun i _ => g.data.rs i := h.v96.hostRsqrt fun i _ => g.data.var_pos i

theorem v102 : Tab (φ := .f32) (res_main_v102 V0) g.data.xh := h.v89.mul (h.v97.hostCol bcast_S4352x1_S4352x1024_0_1)

theorem v103 : Tab (φ := .f32) (res_main_v103 V0) fun _ j => g.lg j := h.lgRow

theorem v108 : Tab (φ := .f32) (res_main_v108 V0) g.data.ln :=
  (h.v102.mul (h.v103.hostRow bcast_S1x1024_S4352x1024_0_1)).add (h.lbRow.hostRow bcast_S1x1024_S4352x1024_0_1)

theorem v109 : Tab (φ := .f32) (res_main_v109_2 V0) fun i j => logi (g.data.ln i j) := logi_tab h.v108 bcast_S_S4352x1024

theorem v111 : Tab (φ := .f32) (res_main_v111 V0) g.data.dca := h.v69.hostDotT h.v4

theorem v112 : Tab (φ := .f32) (res_main_v112 V0) g.data.dln :=
  ((h.v111.mul h.v109).add ((h.v108.mul h.v111).mul (h.v109.mul ((Tab.hostSplat (lit one_word) bcast_S_S4352x1024).sub h.v109)))).congr
    fun i j => by unfold Data.dln; ring

theorem v120 : Tab (φ := .f32) (res_main_v120 V0) g.data.dxh := h.v112.mul (h.v103.hostRow bcast_S1x1024_S4352x1024_0_1)

theorem v131 : Tab (φ := .f32) (res_main_v131 V0)
    fun i _ => (∑ q, g.data.xc i q * g.data.dxh i q) * (-(1 / 2) * (g.data.rs i / g.data.var i)) / 1024 :=
  (alone (((((h.v89.mul h.v120).hostSumRow (lit zero_word) reducesTo_S4352x1024_S4352_d1 h_S_).toCol shapeCasts_S4352_S4352x1).mul
    ((Tab.hostSplat (lit neg_half_word) bcast_S_S4352x1).mul (h.v97.hostDiv h.v96 fun i _ => (g.data.var_pos i).ne'))).hostDiv
    (Tab.hostSplat (lit len_word) bcast_S_S4352x1) fun _ _ => by norm_num) reducesTo_S4352x1_S4352_d1 h_S_).inCol bcast_S4352_S4352x1024_0

theorem v135 : Tab (φ := .f32) (res_main_v135 V0) fun i j =>
    g.data.dxh i j * g.data.rs i + g.data.xc i j * ((∑ q, g.data.xc i q * g.data.dxh i q) * (-(1 / 2) * (g.data.rs i / g.data.var i)) / 1024)
      + ((∑ q, g.data.xc i q * g.data.dxh i q) * (-(1 / 2) * (g.data.rs i / g.data.var i)) / 1024) * g.data.xc i j :=
  ((h.v120.mul (h.v97.hostCol bcast_S4352x1_S4352x1024_0_1)).add (h.v89.mul h.v131)).add (h.v131.mul h.v89)

theorem v143 : Tab (φ := .f32) (addf (res_main_v135 V0) (broadcastInDim S4352x1024 ![0] bcast_S4352_S4352x1024_0 (Host.reduceAdd (Host.divf (shapeCast S4352x1 (Host.reduceAdd (Host.negf (res_main_v135 V0)) (constant (F := Ideal) S_ .f32 0x00000000#32) reducesTo_S4352x1024_S4352_d1 h_S_) shapeCasts_S4352_S4352x1) (broadcastInDim S4352x1 ![] bcast_S_S4352x1 (constant (F := Ideal) S_ .f32 0x44800000#32))) (constant (F := Ideal) S_ .f32 0x00000000#32) reducesTo_S4352x1_S4352_d1 h_S_)))
    g.data.dcv :=
  (h.v135.add ((alone (((h.v135.hostNeg.hostSumRow (lit zero_word) reducesTo_S4352x1024_S4352_d1 h_S_).toCol shapeCasts_S4352_S4352x1).hostDiv
    (Tab.hostSplat (lit len_word) bcast_S_S4352x1) fun _ _ => by norm_num) reducesTo_S4352x1_S4352_d1 h_S_).inCol bcast_S4352_S4352x1024_0)).congr
    fun i j => g.data.dcv_rule i j

theorem v155 : Tab (φ := .f32) (res_main_v155 V0) g.data.dsc := h.v66.hostDotT h.v5

theorem v160 : Tab (φ := .f32) (res_main_v160 V0) g.data.dmw := h.v155.mul (h.psRow.hostRow bcast_S1x1024_S4352x1024_0_1)

end Held

end Cert.ReferenceIdeal.Rows
-- ==== Proof.Ffn.Reference.lean ====
/- The values of the reference for the feed-forward step and its gradient, line by line, as real tables. -/
module

public import proofs.«01_k».proof.Proof.Ffn.Given
public import proofs.«01_k».proof.Proof.Rows.Reference
public import proofs.«01_k».proof.Proof.Gen.FfnRefIdeal.Run

@[expose] public section

noncomputable section

namespace Cert.FfnRefIdeal.Ffn

open Cert.FfnRefIdeal Cert.FfnRefIdeal.Gen Cert.FfnRefIdeal.Value Cert.Ffn
open Cert.Rows hiding Given
open Cert.ReferenceIdeal.Rows (lit again alone total logi_tab)
open Idealize.ShloMosaic hiding ix0 ix1 ix2 ix3 eq_ix1 eq_ix2
open Idealize.ShloMosaic.ValueIdx

attribute [local instance] Cert.FfnRefIdeal.Gen.facts

/-- The buffers hold the given arguments. -/
structure Held (V0 : Valuation τ sig (Elt Ideal)) (G : Given) : Prop where
  h : ∀ i j, V0 (Proc.devRef .tc main_arg0) (ix2 i j) = ((G.h i j : ℝ) : EReal)
  t : ∀ i j, V0 (Proc.devRef .tc main_arg1) (ix2 i j) = ((G.t i j : ℝ) : EReal)
  a : ∀ (i : Fin 1) j, V0 (Proc.devRef .tc main_arg2) (ix2 i j) = ((G.w.a j : ℝ) : EReal)
  b : ∀ (i : Fin 1) j, V0 (Proc.devRef .tc main_arg3) (ix2 i j) = ((G.w.b j : ℝ) : EReal)
  g : ∀ i j, V0 (Proc.devRef .tc main_arg4) (ix2 i j) = ((G.w.g i j : ℝ) : EReal)
  u : ∀ i j, V0 (Proc.devRef .tc main_arg5) (ix2 i j) = ((G.w.u i j : ℝ) : EReal)
  d : ∀ i j, V0 (Proc.devRef .tc main_arg6) (ix2 i j) = ((G.w.d i j : ℝ) : EReal)

/-- A matrix, transposed. -/
theorem swapped {x : FVec Ideal S2816x1024 .f32} {f : Fin 2816 → Fin 1024 → ℝ} (hx : Tab x f) :
    Tab (φ := .f32) (transpose S1024x2816 [1, 0] x transposes_S2816x1024_S1024x2816_1_0) fun j i => f i j := fun j i => by
  rw [transpose_apply [1, 0] x transposes_S2816x1024_S1024x2816_1_0 (ix2 j i) (ix2 i j) ?_]
  · exact hx i j
  · intro b
    fin_cases b <;> rfl

/-- The mean of each row's squares, and the small number. -/
theorem spread_tab {x : FVec Ideal S4352x1024 .f32} {f : Fin 4352 → Fin 1024 → ℝ} (hx : Tab x f) :
    Tab (addf (Host.divf (broadcastInDim S4352x1 ![0] bcast_S4352_S4352x1_0 (Host.reduceAdd (mulf x x) (constant (F := Ideal) S_ .f32 0x00000000#32)
      reducesTo_S4352x1024_S4352_d1 h_S_)) (broadcastInDim S4352x1 ![] bcast_S_S4352x1 (constant (F := Ideal) S_ .f32 0x44800000#32)))
      (broadcastInDim S4352x1 ![] bcast_S_S4352x1 (constant (F := Ideal) S_ .f32 0x358637BD#32))) fun i _ => Cert.Ffn.spread (f i) :=
  ((((hx.mul hx).hostSumRow (lit zero_word) reducesTo_S4352x1024_S4352_d1 h_S_).inCol bcast_S4352_S4352x1_0).hostDiv
    (Tab.hostSplat (lit len_word) bcast_S_S4352x1) fun _ _ => by norm_num).add (Tab.hostSplat (lit small_word) bcast_S_S4352x1)

/-- What a row's mean square passes back. -/
theorem share_tab {x y : FVec Ideal S4352x1024 .f32} {r s : FVec Ideal S4352x1 .f32} {f k : Fin 4352 → Fin 1024 → ℝ} (hx : Tab x f) (hy : Tab y k)
    (hr : Tab r fun i _ => rms (f i)) (hs : Tab s fun i _ => Cert.Ffn.spread (f i)) :
    Tab (broadcastInDim S4352x1024 ![0] bcast_S4352_S4352x1024_0 (Host.reduceAdd (Host.divf (mulf (shapeCast S4352x1 (Host.reduceAdd (mulf x y)
      (constant (F := Ideal) S_ .f32 0x00000000#32) reducesTo_S4352x1024_S4352_d1 h_S_) shapeCasts_S4352_S4352x1)
      (mulf (broadcastInDim S4352x1 ![] bcast_S_S4352x1 (constant (F := Ideal) S_ .f32 0xBF000000#32)) (Host.divf r s)))
      (broadcastInDim S4352x1 ![] bcast_S_S4352x1 (constant (F := Ideal) S_ .f32 0x44800000#32))) (constant (F := Ideal) S_ .f32 0x00000000#32)
      reducesTo_S4352x1_S4352_d1 h_S_) : FVec Ideal S4352x1024 .f32)
      fun i _ => (∑ q, f i q * k i q) * (-(1 / 2) * (rms (f i) / Cert.Ffn.spread (f i))) / 1024 :=
  (alone (((((hx.mul hy).hostSumRow (lit zero_word) reducesTo_S4352x1024_S4352_d1 h_S_).toCol shapeCasts_S4352_S4352x1).mul
    ((Tab.hostSplat (lit neg_half_word) bcast_S_S4352x1).mul (hr.hostDiv hs fun i _ => (spread_pos (f i)).ne'))).hostDiv
    (Tab.hostSplat (lit len_word) bcast_S_S4352x1) fun _ _ => by norm_num) reducesTo_S4352x1_S4352_d1 h_S_).inCol bcast_S4352_S4352x1024_0

/-- The gradient of a normalised array, taken back. -/
theorem back_tab {x y z : FVec Ideal S4352x1024 .f32} {r : FVec Ideal S4352x1 .f32} {f k : Fin 4352 → Fin 1024 → ℝ} (hx : Tab x f) (hy : Tab y k)
    (hr : Tab r fun i _ => rms (f i)) (hz : Tab z fun i _ => (∑ q, f i q * k i q) * (-(1 / 2) * (rms (f i) / Cert.Ffn.spread (f i))) / 1024) :
    Tab (addf (addf (mulf y (broadcastInDim S4352x1024 ![0, 1] bcast_S4352x1_S4352x1024_0_1 r)) (mulf x z)) (mulf z x)) fun i j => back (f i) (k i) j :=
  (((hy.mul (hr.hostCol bcast_S4352x1_S4352x1024_0_1)).add (hx.mul hz)).add (hz.mul hx)).congr fun i j => back_rule (f i) (k i) j

variable {V0 : Valuation τ sig (Elt Ideal)} {G : Given}

namespace Held

variable (H : Held V0 G)
include H

theorem v2 : Tab (φ := .f32) (res_main_v2 V0) G.w.d := H.d

theorem v10 : Tab (φ := .f32) (res_main_v10 V0) fun i _ => Cert.Ffn.spread (G.h i) := spread_tab H.h

theorem v11 : Tab (φ := .f32) (res_main_v11 V0) fun i _ => rms (G.h i) := H.v10.hostRsqrt fun i _ => spread_pos (G.h i)

theorem v16 : Tab (φ := .f32) (res_main_v16 V0) fun i j => unit (G.h i) j :=
  Tab.mul (φ := .f32) (g := G.h) H.h (H.v11.hostCol bcast_S4352x1_S4352x1024_0_1)

theorem v17 : Tab (φ := .f32) (res_main_v17 V0) fun _ j => G.w.a j := again H.a shapeCasts_S1x1024_S1024 bcast_S1024_S1x1024_1

theorem v19 : Tab (φ := .f32) (res_main_v19 V0) G.v := H.v16.mul (H.v17.hostRow bcast_S1x1024_S4352x1024_0_1)

theorem v20 : Tab (φ := .f32) (res_main_v20 V0) fun j p => G.w.g p j := swapped H.g

theorem v22 : Tab (φ := .f32) (res_main_v22 V0) fun j p => G.w.u p j := swapped H.u

theorem v21 : Tab (φ := .f32) (res_main_v21 V0) fun i p => G.w.gate (G.h i) p := H.v19.hostDot H.v20

theorem v23 : Tab (φ := .f32) (res_main_v23 V0) fun i p => G.w.up (G.h i) p := H.v19.hostDot H.v22

theorem v24_2 : Tab (φ := .f32) (res_main_v24_2 V0) fun i p => G.w.sig (G.h i) p := logi_tab H.v21 bcast_S_S4352x2816

theorem v24_0 : Tab (φ := .f32) (res_main_v24_0 V0) fun i p => G.w.act (G.h i) p := H.v21.mul H.v24_2

theorem v25 : Tab (φ := .f32) (res_main_v25 V0) G.hid := H.v24_0.mul H.v23

theorem v27 : Tab (φ := .f32) (res_main_v27 V0) fun i j => G.w.out (G.h i) j := Tab.add (φ := .f32) (g := G.h) H.h (H.v25.hostDot H.v2)

theorem v35 : Tab (φ := .f32) (res_main_v35 V0) fun i _ => Cert.Ffn.spread (G.w.out (G.h i)) := spread_tab H.v27

theorem v36 : Tab (φ := .f32) (res_main_v36 V0) fun i _ => rms (G.w.out (G.h i)) := H.v35.hostRsqrt fun i _ => spread_pos (G.w.out (G.h i))

theorem v41 : Tab (φ := .f32) (res_main_v41 V0) fun i j => G.w.y (G.h i) j := H.v27.mul (H.v36.hostCol bcast_S4352x1_S4352x1024_0_1)

theorem v42 : Tab (φ := .f32) (res_main_v42 V0) fun _ j => G.w.b j := again H.b shapeCasts_S1x1024_S1024 bcast_S1024_S1x1024_1

/-- The rows with targets, differing from them. -/
theorem v46 : Tab (φ := .f32) (res_main_v46 V0) fun r j => G.e ⟨256 + r.val, by omega⟩ j := by
  refine (Tab.sub (φ := .f32) (g := fun r j => G.w.y (G.h ⟨256 + r.val, by omega⟩) j * G.w.b j) (h := G.t) (fun r j => ?_) H.t).congr fun r j => (G.e_later r j).symm
  rw [extractStridedSlice_apply ![256, 0] _ slices_S4352x1024_S4096x1024_256_0 (ix2 r j) (ix2 (⟨256 + r.val, by omega⟩ : Fin 4352) j) ?_]
  · exact (H.v41.mul (H.v42.hostRow bcast_S1x1024_S4352x1024_0_1)) _ j
  · intro a
    fin_cases a
    · show 256 + r.val = 256 + r.val; rfl
    · show j.val = 0 + j.val; omega

omit H in
/-- What each of those rows' difference is scaled by. -/
theorem scale : Lst (φ := .f32) (Host.divf (broadcastInDim S4096 ![] bcast_S_S4096 (mulf (constant (F := Ideal) S_ .f32 0x3F000000#32) (constant (F := Ideal) S_ .f32 0x3F800000#32)))
    (broadcastInDim S4096 ![] bcast_S_S4096 (constant (F := Ideal) S_ .f32 0x44800000#32))) fun _ => 1 / 2 / 1024 := fun i => by
  show Ideal.div (Ideal.ofBits .f32 0x3F000000#32 * Ideal.ofBits .f32 0x3F800000#32) (Ideal.ofBits .f32 0x44800000#32) = _
  rw [half_word, one_word, len_word, ← EReal.coe_mul, Ideal.div_coe (by norm_num), ← EReal.coe_mul]
  norm_num

theorem v61 : Tab (φ := .f32) (res_main_v61 V0) fun r j => Weights.dy (G.e r) j := fun r j => by
  unfold res_main_v61
  by_cases k : 256 ≤ r.val
  · rw [pad_apply_of_inside _ _ _ _ _ pads_S4096x1024_S4352x1024_25600_000 h_S_ (ix2 r j) (ix2 (⟨r.val - 256, by omega⟩ : Fin 4096) j) ?_]
    · refine (((scale.inCol bcast_S4096_S4096x1024_0).mul ((Tab.hostSplat (lit two_word) bcast_S_S4096x1024).mul H.v46)) _ j).trans ?_
      refine congrArg (fun x : ℝ => (x : EReal)) ?_
      have e : (⟨256 + (r.val - 256), by omega⟩ : Fin 4352) = r := Fin.ext (by show 256 + (r.val - 256) = r.val; omega)
      show 1 / 2 / 1024 * (2 * G.e ⟨256 + (r.val - 256), _⟩ j) = G.e r j * (1 / 1024)
      rw [e]
      ring
    · intro a
      fin_cases a
      · show r.val = 256 + (r.val - 256) * (0 + 1); omega
      · show j.val = 0 + j.val * (0 + 1); omega
  · rw [pad_apply_of_not_inside _ _ _ _ _ pads_S4096x1024_S4352x1024_25600_000 h_S_ (ix2 r j) (0 : Fin 2) (fun c => k c.1)]
    refine zero_word.trans (congrArg (fun x : ℝ => (x : EReal)) ?_)
    show 0 = G.e r j * (1 / 1024)
    rw [G.e_first (Nat.lt_of_not_le k), zero_mul]

theorem v66 : Tab (φ := .f32) (res_main_v66 V0) fun i j => Weights.dy (G.e i) j * G.w.b j := H.v61.mul (H.v42.hostRow bcast_S1x1024_S4352x1024_0_1)

theorem v81 : Tab (φ := .f32) (res_main_v81 V0) G.dout := back_tab H.v27 H.v66 H.v36 (share_tab H.v27 H.v66 H.v36 H.v35)

theorem v83 : Tab (φ := .f32) (res_main_v83 V0) fun i p => G.w.dhid (G.h i) (G.e i) p := H.v81.hostDotT H.v2

theorem v84 : Tab (φ := .f32) (res_main_v84 V0) G.dup := (H.v24_0.mul H.v83).congr fun _ _ => mul_comm _ _

theorem v85 : Tab (φ := .f32) (res_main_v85 V0) fun i p => G.w.dhid (G.h i) (G.e i) p * G.w.up (G.h i) p := H.v83.mul H.v23

theorem v86 : Tab (φ := .f32) (res_main_v86 V0) G.dgate :=
  ((H.v85.mul H.v24_2).add ((H.v21.mul H.v85).mul (H.v24_2.mul ((Tab.hostSplat (lit one_word) bcast_S_S4352x2816).sub H.v24_2)))).congr
    fun i p => by unfold Given.dgate Weights.dgate; ring

theorem v89 : Tab (φ := .f32) (res_main_v89 V0) fun i j => G.w.dv (G.h i) (G.e i) j := (H.v86.hostDotT H.v20).add (H.v84.hostDotT H.v22)

theorem v94 : Tab (φ := .f32) (res_main_v94 V0) fun i j => G.w.dv (G.h i) (G.e i) j * G.w.a j := H.v89.mul (H.v17.hostRow bcast_S1x1024_S4352x1024_0_1)

theorem v105 : Tab (φ := .f32) (res_main_v105 V0) fun i _ => (∑ q, G.h i q * (G.w.dv (G.h i) (G.e i) q * G.w.a q)) *
    (-(1 / 2) * (rms (G.h i) / Cert.Ffn.spread (G.h i))) / 1024 := share_tab H.h H.v94 H.v11 H.v10

/-- The gradient of the rows. -/
theorem v111 : Tab (φ := .f32) (addf (res_main_v81 V0) (addf (addf (mulf (res_main_v94 V0) (broadcastInDim S4352x1024 ![0, 1] bcast_S4352x1_S4352x1024_0_1 (res_main_v11 V0)))
    (mulf (V0 (Proc.devRef .tc main_arg0) : FVec Ideal S4352x1024 .f32) (res_main_v105 V0))) (mulf (res_main_v105 V0) (V0 (Proc.devRef .tc main_arg0) : FVec Ideal S4352x1024 .f32)))) G.din :=
  H.v81.add (back_tab (f := G.h) H.h H.v94 H.v11 H.v105)

omit H in
/-- A list of row sums, each over the row's length. -/
theorem means {x : FVec Ideal S4096 .f32} {f : Fin 4096 → ℝ} (hx : Lst x f) :
    Lst (Host.divf x (broadcastInDim S4096 ![] bcast_S_S4096 (constant (F := Ideal) S_ .f32 0x44800000#32))) fun r => f r / 1024 := fun r => by
  show Ideal.div (x (ix1 r)) (Ideal.ofBits .f32 0x44800000#32) = _
  rw [hx, len_word, Ideal.div_coe (by norm_num), ← EReal.coe_mul, mul_one_div]

omit H in
/-- Half the sum of a list, as an array of one entry. -/
theorem halved {x : FVec Ideal S4096 .f32} {f : Fin 4096 → ℝ} (hx : Lst x f) :
    Tab (φ := .f32) (shapeCast S1x1 (mulf (constant (F := Ideal) S_ .f32 0x3F000000#32) (Host.reduceAdd x (constant (F := Ideal) S_ .f32 0x00000000#32) reducesTo_S4096_S_d0 h_S_))
      shapeCasts_S_S1x1) fun _ _ => 1 / 2 * ∑ r, f r := fun i j => by
  rw [shapeCast_apply _ shapeCasts_S_S1x1 (ix2 i j) (Shape.Idx.first h_S_) ?_]
  · show Ideal.ofBits .f32 0x3F000000#32 * Host.reduceAdd x (constant (F := Ideal) S_ .f32 0x00000000#32) reducesTo_S4096_S_d0 h_S_ (Shape.Idx.first h_S_) = _
    rw [hostReduceAdd_apply, Ideal.hostReduceAdd_r1_a0, half_word, lit zero_word, EReal.coe_zero, zero_add, EReal.coe_mul, ← coe_sum]
    exact congrArg _ (Finset.sum_congr rfl fun r _ => hx r)
  · have a := (Shape.rowMajor S_ (Shape.Idx.first h_S_)).isLt
    have b := (Shape.rowMajor S1x1 (ix2 i j)).isLt
    have a1 : S_.numel = 1 := rfl
    have b1 : S1x1.numel = 1 := rfl
    omega

/-- The loss. -/
theorem v118 : Tab (φ := .f32) (shapeCast S1x1 (mulf (constant (F := Ideal) S_ .f32 0x3F000000#32) (Host.reduceAdd (Host.divf (Host.reduceAdd (mulf (res_main_v46 V0) (res_main_v46 V0))
    (constant (F := Ideal) S_ .f32 0x00000000#32) reducesTo_S4096x1024_S4096_d1 h_S_) (broadcastInDim S4096 ![] bcast_S_S4096 (constant (F := Ideal) S_ .f32 0x44800000#32)))
    (constant (F := Ideal) S_ .f32 0x00000000#32) reducesTo_S4096_S_d0 h_S_)) shapeCasts_S_S1x1) fun _ _ => G.loss :=
  (halved (means ((H.v46.mul H.v46).hostSumRow (lit zero_word) reducesTo_S4096x1024_S4096_d1 h_S_))).congr fun _ _ => G.loss_later.symm

/-- The gradient of the first gain. -/
theorem v110 : Tab (φ := .f32) (broadcastInDim S1x1024 ![1] bcast_S1024_S1x1024_1 (Host.reduceAdd (shapeCast S1x1024 (Host.reduceAdd (mulf (res_main_v16 V0) (res_main_v89 V0))
    (constant (F := Ideal) S_ .f32 0x00000000#32) reducesTo_S4352x1024_S1024_d0 h_S_) shapeCasts_S1024_S1x1024) (constant (F := Ideal) S_ .f32 0x00000000#32) reducesTo_S1x1024_S1024_d0 h_S_))
    fun _ j => G.da j :=
  (total (H.v16.mul H.v89) reducesTo_S4352x1024_S1024_d0 reducesTo_S1x1024_S1024_d0 h_S_ shapeCasts_S1024_S1x1024 bcast_S1024_S1x1024_1).congr
    fun _ _ => Finset.sum_congr rfl fun _ _ => mul_comm _ _

/-- The gradient of the last gain. -/
theorem v82 : Tab (φ := .f32) (broadcastInDim S1x1024 ![1] bcast_S1024_S1x1024_1 (Host.reduceAdd (shapeCast S1x1024 (Host.reduceAdd (mulf (res_main_v41 V0) (res_main_v61 V0))
    (constant (F := Ideal) S_ .f32 0x00000000#32) reducesTo_S4352x1024_S1024_d0 h_S_) shapeCasts_S1024_S1x1024) (constant (F := Ideal) S_ .f32 0x00000000#32) reducesTo_S1x1024_S1024_d0 h_S_))
    fun _ j => G.db j :=
  (total (H.v41.mul H.v61) reducesTo_S4352x1024_S1024_d0 reducesTo_S1x1024_S1024_d0 h_S_ shapeCasts_S1024_S1x1024 bcast_S1024_S1x1024_1).congr
    fun _ _ => Finset.sum_congr rfl fun _ _ => mul_comm _ _

end Held

end Cert.FfnRefIdeal.Ffn
-- ==== Proof.Rows.Finite.lean ====
/- The precondition read back: no argument has an infinite entry, so each is a table of real numbers. -/
module

public import proofs.«01_k».proof.Proof.Rows.Given
public import proofs.«01_k».proof.Proof.Gen.Pre_finite
public import proofs.«01_k».proof.Pre_finite
public import Idealize.ShloMosaic.Lib.ReduceAll

@[expose] public section

noncomputable section

namespace Cert.Rows

open Cert.Pre_finite
open Idealize.ShloMosaic hiding ix0 ix1 ix2 ix3 eq_ix1 eq_ix2
open Idealize.ShloMosaic.ValueIdx

attribute [local instance] Cert.Pre_finite.Gen.facts

/-- The one index of an array of no axes. -/
def nil : S_.Idx := fun a => a.elim0

/-- The test: the difference of each entry with itself is nothing. -/
def test {s : Shape} {axes : List (Fin s.rank)} (x : FVec Ideal s .f32) (hb : S_.BroadcastsInDim s ![]) (hr : s.ReducesTo axes S_) (hu : 0 < S_.numel) : IVec S_ 1 :=
  Host.reduce IntOp.andi (cmpf .oeq (subf x x) (broadcastInDim s ![] hb (constant (F := Ideal) S_ .f32 0x00000000#32))) (constantI S_ 1 1#1) hr hu

/-- The test says that every entry is a real number. -/
theorem test_real {s : Shape} {axes : List (Fin s.rank)} {x : FVec Ideal s .f32} {hb : S_.BroadcastsInDim s ![]} {hr : s.ReducesTo axes S_} {hu : 0 < S_.numel}
    (e : test x hb hr hu nil = 1#1) (i : s.Idx) : x i = ((EReal.toReal (x i) : ℝ) : EReal) := by
  have : Subsingleton S_.Idx := ⟨fun a b => funext fun k => k.elim0⟩
  have h : Ideal.cmp .oeq (x i - x i : EReal) (Ideal.ofBits .f32 0x00000000#32) = 1#1 := Host.reduce_andi_all _ _ hr hu nil e i
  rw [zero_word] at h
  have h0 : (x i - x i : EReal) = ((0 : ℝ) : EReal) := by
    by_contra hn
    have : Ideal.cmp .oeq (x i - x i : EReal) ((0 : ℝ) : EReal) = 0#1 := by
      show BitVec.ofBool (decide (x i - x i = ((0 : ℝ) : EReal))) = 0#1
      rw [decide_eq_false hn]
      rfl
    rw [this] at h
    exact absurd h (by decide)
  refine (EReal.coe_toReal ?_ ?_).symm
  · intro ht
    rw [ht] at h0
    exact absurd h0 (by simp)
  · intro ht
    rw [ht] at h0
    exact absurd h0 (by simp)

theorem and_one {a b : IVec S_ 1} (h : andi a b nil = 1#1) : a nil = 1#1 ∧ b nil = 1#1 := IntOp.andi_eq_one.1 h

/-- The arrays hold the given tables. -/
structure Takes (a0 : FVec Ideal S4352x1024 .bf16) (a1 : FVec Ideal S4352x5120 .f32) (a2 : FVec Ideal S1x2048 .f32) (a3 : FVec Ideal S4352x1024 .f32)
    (a4 a5 a6 : FVec Ideal S1x1024 .f32) (a7 : FVec Ideal S4352x1024 .bf16) (a8 : FVec Ideal S4x256x256 .bf16) (a9 : FVec Ideal S1x1024 .f32)
    (a10 a11 a12 : FVec Ideal S1024x1024 .bf16) (g : Given) : Prop where
  dh : ∀ i j, a0 (ix2 i j) = ((g.dh i j : ℝ) : EReal)
  z : ∀ i j, a1 (ix2 i j) = ((g.z i j : ℝ) : EReal)
  bg : ∀ (i : Fin 1) j, a2 (ix2 i j) = ((g.bg j : ℝ) : EReal)
  conv : ∀ i j, a3 (ix2 i j) = ((g.conv i j : ℝ) : EReal)
  bdw : ∀ (i : Fin 1) j, a4 (ix2 i j) = ((g.bdw j : ℝ) : EReal)
  lg : ∀ (i : Fin 1) j, a5 (ix2 i j) = ((g.lg j : ℝ) : EReal)
  lb : ∀ (i : Fin 1) j, a6 (ix2 i j) = ((g.lb j : ℝ) : EReal)
  mm : ∀ i j, a7 (ix2 i j) = ((g.mm i j : ℝ) : EReal)
  wl : ∀ k i j, a8 (ix3 k i j) = ((g.wl k i j : ℝ) : EReal)
  ps : ∀ (i : Fin 1) j, a9 (ix2 i j) = ((g.ps j : ℝ) : EReal)
  wo : ∀ i j, a10 (ix2 i j) = ((g.wo i j : ℝ) : EReal)
  wc : ∀ i j, a11 (ix2 i j) = ((g.wc i j : ℝ) : EReal)
  wp : ∀ i j, a12 (ix2 i j) = ((g.wp i j : ℝ) : EReal)

/-- The number an entry is. -/
def num (x : EReal) : ℝ := x.toReal

theorem takes {a0 : FVec Ideal S4352x1024 .bf16} {a1 : FVec Ideal S4352x5120 .f32} {a2 : FVec Ideal S1x2048 .f32} {a3 : FVec Ideal S4352x1024 .f32}
    {a4 a5 a6 : FVec Ideal S1x1024 .f32} {a7 : FVec Ideal S4352x1024 .bf16} {a8 : FVec Ideal S4x256x256 .bf16} {a9 : FVec Ideal S1x1024 .f32}
    {a10 a11 a12 : FVec Ideal S1024x1024 .bf16} {a13 : FVec Ideal S8x128 .f32}
    (h : fn (F := Ideal) a0 a1 a2 a3 a4 a5 a6 a7 a8 a9 a10 a11 a12 a13 = fun _ => 1#1) :
    ∃ g : Given, Takes a0 a1 a2 a3 a4 a5 a6 a7 a8 a9 a10 a11 a12 g := by
  have e := congrFun h nil
  obtain ⟨e, h12⟩ := and_one e
  obtain ⟨e, h11⟩ := and_one e
  obtain ⟨e, h10⟩ := and_one e
  obtain ⟨e, h9⟩ := and_one e
  obtain ⟨e, h8⟩ := and_one e
  obtain ⟨e, h7⟩ := and_one e
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  refine ⟨{ dh := fun i j => num (a0 (ix2 i j)), z := fun i j => num (a1 (ix2 i j)), bg := fun j => num (a2 (ix2 0 j)),
            conv := fun i j => num (a3 (ix2 i j)), bdw := fun j => num (a4 (ix2 0 j)), lg := fun j => num (a5 (ix2 0 j)),
            lb := fun j => num (a6 (ix2 0 j)), mm := fun i j => num (a7 (ix2 i j)), wl := fun k i j => num (a8 (ix3 k i j)),
            ps := fun j => num (a9 (ix2 0 j)), wo := fun i j => num (a10 (ix2 i j)), wc := fun i j => num (a11 (ix2 i j)),
            wp := fun i j => num (a12 (ix2 i j)) }, ?_⟩
  constructor
  · exact fun i j => test_real (x := extf .f32 a0 Facts.bitsLt_bf16_f32) h0 (ix2 i j)
  · exact fun i j => test_real h1 (ix2 i j)
  · exact fun i j => by rw [Subsingleton.elim i 0]; exact test_real h2 (ix2 0 j)
  · exact fun i j => test_real h3 (ix2 i j)
  · exact fun i j => by rw [Subsingleton.elim i 0]; exact test_real h4 (ix2 0 j)
  · exact fun i j => by rw [Subsingleton.elim i 0]; exact test_real h5 (ix2 0 j)
  · exact fun i j => by rw [Subsingleton.elim i 0]; exact test_real h6 (ix2 0 j)
  · exact fun i j => test_real (x := extf .f32 a7 Facts.bitsLt_bf16_f32) h7 (ix2 i j)
  · exact fun k i j => test_real (x := extf .f32 a8 Facts.bitsLt_bf16_f32) h8 (ix3 k i j)
  · exact fun i j => by rw [Subsingleton.elim i 0]; exact test_real h9 (ix2 0 j)
  · exact fun i j => test_real (x := extf .f32 a10 Facts.bitsLt_bf16_f32) h10 (ix2 i j)
  · exact fun i j => test_real (x := extf .f32 a11 Facts.bitsLt_bf16_f32) h11 (ix2 i j)
  · exact fun i j => test_real (x := extf .f32 a12 Facts.bitsLt_bf16_f32) h12 (ix2 i j)

end Cert.Rows
-- ==== Proof.Ffn.Finite.lean ====
/- The precondition read back: no argument of the feed-forward step has an infinite entry, so each is a table of real numbers. -/
module

public import proofs.«01_k».proof.Proof.Ffn.Given
public import proofs.«01_k».proof.Proof.Rows.Finite
public import proofs.«01_k».proof.Proof.Gen.Pre_finite_ffn
public import proofs.«01_k».proof.Pre_finite_ffn

@[expose] public section

noncomputable section

namespace Cert.Ffn

open Cert.Pre_finite_ffn
open Cert.Rows (test_real and_one num nil)
open Idealize.ShloMosaic hiding ix0 ix1 ix2 ix3 eq_ix1 eq_ix2
open Idealize.ShloMosaic.ValueIdx

attribute [local instance] Cert.Pre_finite_ffn.Gen.facts

/-- The arrays hold the given tables. -/
structure Takes (a0 : FVec Ideal S4352x1024 .f32) (a1 : FVec Ideal S4096x1024 .f32) (a2 a3 : FVec Ideal S1x1024 .f32) (a4 a5 a6 : FVec Ideal S2816x1024 .bf16)
    (G : Given) : Prop where
  h : ∀ i j, a0 (ix2 i j) = ((G.h i j : ℝ) : EReal)
  t : ∀ i j, a1 (ix2 i j) = ((G.t i j : ℝ) : EReal)
  a : ∀ (i : Fin 1) j, a2 (ix2 i j) = ((G.w.a j : ℝ) : EReal)
  b : ∀ (i : Fin 1) j, a3 (ix2 i j) = ((G.w.b j : ℝ) : EReal)
  g : ∀ i j, a4 (ix2 i j) = ((G.w.g i j : ℝ) : EReal)
  u : ∀ i j, a5 (ix2 i j) = ((G.w.u i j : ℝ) : EReal)
  d : ∀ i j, a6 (ix2 i j) = ((G.w.d i j : ℝ) : EReal)

theorem takes {a0 : FVec Ideal S4352x1024 .f32} {a1 : FVec Ideal S4096x1024 .f32} {a2 a3 : FVec Ideal S1x1024 .f32} {a4 a5 a6 : FVec Ideal S2816x1024 .bf16}
    (h : fn (F := Ideal) a0 a1 a2 a3 a4 a5 a6 = fun _ => 1#1) : ∃ G : Given, Takes a0 a1 a2 a3 a4 a5 a6 G := by
  have e := congrFun h nil
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  refine ⟨{ h := fun i j => num (a0 (ix2 i j)), t := fun i j => num (a1 (ix2 i j)),
            w := { a := fun j => num (a2 (ix2 0 j)), b := fun j => num (a3 (ix2 0 j)), g := fun i j => num (a4 (ix2 i j)),
                   u := fun i j => num (a5 (ix2 i j)), d := fun i j => num (a6 (ix2 i j)) } }, ?_⟩
  constructor
  · exact fun i j => test_real h0 (ix2 i j)
  · exact fun i j => test_real h1 (ix2 i j)
  · exact fun i j => by rw [Subsingleton.elim i 0]; exact test_real h2 (ix2 0 j)
  · exact fun i j => by rw [Subsingleton.elim i 0]; exact test_real h3 (ix2 0 j)
  · exact fun i j => test_real (x := extf .f32 a4 Facts.bitsLt_bf16_f32) h4 (ix2 i j)
  · exact fun i j => test_real (x := extf .f32 a5 Facts.bitsLt_bf16_f32) h5 (ix2 i j)
  · exact fun i j => test_real (x := extf .f32 a6 Facts.bitsLt_bf16_f32) h6 (ix2 i j)

end Cert.Ffn
-- ==== Proof.Ffn.Ends.lean ====
/- The kernel's run and the reference's, on the same finite arguments, end with the same ten arrays. -/
module

public import proofs.«01_k».proof.Proof.Ffn.Final
public import proofs.«01_k».proof.Proof.Ffn.Reference
public import proofs.«01_k».proof.Proof.Ffn.Finite

@[expose] public section

noncomputable section

namespace Cert.FfnIdeal.Ffn

open Cert.FfnIdeal Cert.FfnIdeal.Gen Cert.Ffn
open Idealize.ShloMosaic hiding ix0 ix1 ix2 ix3 eq_ix1 eq_ix2
open Idealize.ShloMosaic.ValueIdx
open Idealize.ShloMosaic.TcCoe Idealize.ShloMosaic.Pipeline Idealize.SL.Sem

attribute [local instance] Cert.FfnIdeal.Gen.facts Cert.FfnRefIdeal.Gen.facts

/-- A table of all rows, as an array. -/
def rows1024 {φ : FTy} (f : Fin 4352 → Fin 1024 → ℝ) : FVec Ideal S4352x1024 φ := fun y => ((f (y 0) (y 1) : ℝ) : EReal)
/-- The same of the hidden units. -/
def rows2816 {φ : FTy} (f : Fin 4352 → Fin 2816 → ℝ) : FVec Ideal S4352x2816 φ := fun y => ((f (y 0) (y 1) : ℝ) : EReal)
/-- One row, as an array. -/
def oneRow (f : Fin 1024 → ℝ) : FVec Ideal S1x1024 .f32 := fun y => ((f (y 1) : ℝ) : EReal)
/-- One number, as an array. -/
def oneNum (x : ℝ) : FVec Ideal S1x1 .f32 := fun _ => ((x : ℝ) : EReal)

variable (m : (ℓ : Loc nD τ sig) → Buf (Elt Ideal) ℓ) (ρ : Dev nD → PrngReg)

/-- The arguments of the kernel hold the given tables. -/
def TakesK (c : Dev nD) (G : Given) : Prop :=
  Takes (m (c.tc.loc main_arg0)) (m (c.tc.loc main_arg1)) (m (c.tc.loc main_arg2)) (m (c.tc.loc main_arg3)) (m (c.tc.loc main_arg4))
    (m (c.tc.loc main_arg5)) (m (c.tc.loc main_arg6)) G

variable {m} in
/-- What the launch finds. -/
theorem TakesK.has {c : Dev nD} {G : Given} (k : TakesK m c G) : Has m c G := ⟨k.h, k.t, k.a, k.b, k.g, k.u, k.d⟩

set_option maxHeartbeats 4000000 in
/-- The kernel's run leaves the real tables in its results. -/
theorem kernel_ends (G : Dev nD → Given) (k : ∀ c, TakesK m c (G c)) :
    θ_run defs (onTc (τ := τ) (main (F := Ideal))) ⟨m, fun _ => 0, ρ⟩ (fun r => ∀ c : Dev nD,
      r.2.mem ((c.tc : Thread nD τ).loc main_v0_0) = rows1024 (φ := .f32) (G c).din
      ∧ r.2.mem ((c.tc : Thread nD τ).loc main_v0_1) = rows1024 (φ := .bf16) (G c).din
      ∧ r.2.mem ((c.tc : Thread nD τ).loc main_v0_2) = rows1024 (φ := .bf16) (G c).v
      ∧ r.2.mem ((c.tc : Thread nD τ).loc main_v0_3) = rows2816 (φ := .bf16) (G c).hid
      ∧ r.2.mem ((c.tc : Thread nD τ).loc main_v0_4) = rows2816 (φ := .bf16) (G c).dgate
      ∧ r.2.mem ((c.tc : Thread nD τ).loc main_v0_5) = rows2816 (φ := .bf16) (G c).dup
      ∧ r.2.mem ((c.tc : Thread nD τ).loc main_v0_6) = rows1024 (φ := .bf16) (G c).dout
      ∧ r.2.mem ((c.tc : Thread nD τ).loc main_v0_7) = oneNum (G c).loss
      ∧ r.2.mem ((c.tc : Thread nD τ).loc main_v0_8) = oneRow (G c).da
      ∧ r.2.mem ((c.tc : Thread nD τ).loc main_v0_9) = oneRow (G c).db
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r hr c => ⟨(hr.1.out_eq c 4).trans (k c).has.final_din,
      (hr.1.out_eq c 5).trans (k c).has.final_dinb,
      (hr.1.out_eq c 6).trans (k c).has.final_v,
      (hr.1.out_eq c 7).trans (k c).has.final_hid,
      (hr.1.out_eq c 8).trans (k c).has.final_dgate,
      (hr.1.out_eq c 9).trans (k c).has.final_dup,
      (hr.1.out_eq c 10).trans (k c).has.final_dout,
      (hr.1.out_eq c 11).trans (k c).has.final_loss,
      (hr.1.out_eq c 12).trans (k c).has.final_da,
      (hr.1.out_eq c 13).trans (k c).has.final_db, hr.2 c⟩)
    (θ_run_and (run_main m ρ) (unchanged m ρ))

end Cert.FfnIdeal.Ffn

namespace Cert.FfnRefIdeal.Ffn

open Cert.FfnRefIdeal Cert.FfnRefIdeal.Gen Cert.Ffn
open Cert.FfnIdeal.Ffn (rows1024 rows2816 oneRow oneNum TakesK)
open Cert.Rows (Tab)
open Idealize.ShloMosaic hiding ix0 ix1 ix2 ix3 eq_ix1 eq_ix2
open Idealize.ShloMosaic.ValueIdx
open Idealize.ShloMosaic.TcCoe Idealize.SL.Sem

attribute [local instance] Cert.FfnIdeal.Gen.facts Cert.FfnRefIdeal.Gen.facts

/-- An array holding a real table is the array of its entries. -/
theorem filled {φ : FTy} {a b : ℕ} {x : FVec Ideal ⟨2, ![a, b]⟩ φ} {f : Fin a → Fin b → ℝ} (hx : Tab x f) :
    x = fun y : (⟨2, ![a, b]⟩ : Shape).Idx => ((f (y 0) (y 1) : ℝ) : EReal) := by
  funext y
  obtain ⟨p, q, rfl⟩ : ∃ (p : Fin a) (q : Fin b), y = ix2 p q := ⟨y 0, y 1, eq_ix2 y⟩
  exact hx p q

/-- The reference's buffers hold the kernel's arguments. -/
structure Passed (m : (ℓ : Loc Cert.FfnIdeal.nD Cert.FfnIdeal.τ Cert.FfnIdeal.sig) → Buf (Elt Ideal) ℓ) (c : Dev Cert.FfnIdeal.nD) (V0 : Valuation τ sig (Elt Ideal)) : Prop where
  a0 : V0 (Proc.devRef .tc main_arg0) = m (c.tc.loc Cert.FfnIdeal.main_arg0)
  a1 : V0 (Proc.devRef .tc main_arg1) = m (c.tc.loc Cert.FfnIdeal.main_arg1)
  a2 : V0 (Proc.devRef .tc main_arg2) = m (c.tc.loc Cert.FfnIdeal.main_arg2)
  a3 : V0 (Proc.devRef .tc main_arg3) = m (c.tc.loc Cert.FfnIdeal.main_arg3)
  a4 : V0 (Proc.devRef .tc main_arg4) = m (c.tc.loc Cert.FfnIdeal.main_arg4)
  a5 : V0 (Proc.devRef .tc main_arg5) = m (c.tc.loc Cert.FfnIdeal.main_arg5)
  a6 : V0 (Proc.devRef .tc main_arg6) = m (c.tc.loc Cert.FfnIdeal.main_arg6)

theorem Passed.held {m : (ℓ : Loc Cert.FfnIdeal.nD Cert.FfnIdeal.τ Cert.FfnIdeal.sig) → Buf (Elt Ideal) ℓ} {c : Dev Cert.FfnIdeal.nD} {V0 : Valuation τ sig (Elt Ideal)} {G : Given}
    (p : Passed m c V0) (k : TakesK m c G) : Held V0 G where
  h i j := (congrFun p.a0 _).trans (k.h i j)
  t i j := (congrFun p.a1 _).trans (k.t i j)
  a i j := (congrFun p.a2 _).trans (k.a i j)
  b i j := (congrFun p.a3 _).trans (k.b i j)
  g i j := (congrFun p.a4 _).trans (k.g i j)
  u i j := (congrFun p.a5 _).trans (k.u i j)
  d i j := (congrFun p.a6 _).trans (k.d i j)

variable (m : (ℓ : Loc nD τ sig) → Buf (Elt Ideal) ℓ) (ρ : Dev nD → PrngReg)

set_option maxHeartbeats 4000000 in
/-- The reference's run leaves the same. -/
theorem reference_ends (G : Dev nD → Given) (h : ∀ c, Held (StableHlo.launchContents m c) (G c)) :
    θ_run defs (onTc (τ := τ) (main (F := Ideal))) ⟨m, fun _ => 0, ρ⟩ (fun r => ∀ c : Dev nD,
      r.2.mem ((c.tc : Thread nD τ).loc main_v111) = rows1024 (φ := .f32) (G c).din
      ∧ r.2.mem ((c.tc : Thread nD τ).loc main_v112) = rows1024 (φ := .bf16) (G c).din
      ∧ r.2.mem ((c.tc : Thread nD τ).loc main_v113) = rows1024 (φ := .bf16) (G c).v
      ∧ r.2.mem ((c.tc : Thread nD τ).loc main_v114) = rows2816 (φ := .bf16) (G c).hid
      ∧ r.2.mem ((c.tc : Thread nD τ).loc main_v115) = rows2816 (φ := .bf16) (G c).dgate
      ∧ r.2.mem ((c.tc : Thread nD τ).loc main_v116) = rows2816 (φ := .bf16) (G c).dup
      ∧ r.2.mem ((c.tc : Thread nD τ).loc main_v117) = rows1024 (φ := .bf16) (G c).dout
      ∧ r.2.mem ((c.tc : Thread nD τ).loc main_v118) = oneNum (G c).loss
      ∧ r.2.mem ((c.tc : Thread nD τ).loc main_v110) = oneRow (G c).da
      ∧ r.2.mem ((c.tc : Thread nD τ).loc main_v82) = oneRow (G c).db
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r hr c => ⟨(hr c).1.trans (filled (h c).v111),
      (hr c).2.1.trans (filled ((h c).v111.trunc bitsLt_bf16_f32)),
      (hr c).2.2.1.trans (filled ((h c).v19.trunc bitsLt_bf16_f32)),
      (hr c).2.2.2.1.trans (filled ((h c).v25.trunc bitsLt_bf16_f32)),
      (hr c).2.2.2.2.1.trans (filled ((h c).v86.trunc bitsLt_bf16_f32)),
      (hr c).2.2.2.2.2.1.trans (filled ((h c).v84.trunc bitsLt_bf16_f32)),
      (hr c).2.2.2.2.2.2.1.trans (filled ((h c).v81.trunc bitsLt_bf16_f32)),
      (hr c).2.2.2.2.2.2.2.1.trans (filled (h c).v118),
      (hr c).2.2.2.2.2.2.2.2.1.trans (filled (h c).v110),
      (hr c).2.2.2.2.2.2.2.2.2.1.trans (filled (h c).v82),
      (hr c).2.2.2.2.2.2.2.2.2.2⟩)
    (Cert.FfnRefIdeal.Value.run m ρ)

end Cert.FfnRefIdeal.Ffn
-- ==== Proof.Rows.SameBody.lean ====
/- The kernel as compiled and the idealised one are the same program: here their bodies agree, at
   every reading of the floats. -/
module

public import proofs.«01_k».proof.Proof.Gen.Kernel
public import proofs.«01_k».proof.Proof.Gen.KernelIdeal

@[expose] public section

open Idealize.ShloMosaic Idealize.SL.Sem

noncomputable section

namespace Cert.Rows.Same

attribute [local instance] Cert.Kernel.Gen.facts Cert.KernelIdeal.Gen.facts

variable {F : FTy → Type} [FloatOps F]

set_option maxHeartbeats 8000000 in
/-- The same body for the launch's one grid step. -/
theorem body_table : @Cert.Kernel.defs₀ F _ _ = @Cert.KernelIdeal.defs₀ F _ _ := by
  unfold Cert.Kernel.defs₀ Cert.KernelIdeal.defs₀
  congr 1
  funext k x
  match k, x with
  | 0, (t, s) => rfl

end Cert.Rows.Same
-- ==== Proof.Rows.SameHost.lean ====
/- The kernel as compiled and the idealised one are the same program: here their host operations
   agree, at every reading of the floats. -/
module

public import proofs.«01_k».proof.Proof.Gen.Kernel
public import proofs.«01_k».proof.Proof.Gen.KernelIdeal

@[expose] public section

open Idealize.ShloMosaic Idealize.SL.Sem

noncomputable section

namespace Cert.Rows.Same

attribute [local instance] Cert.Kernel.Gen.facts Cert.KernelIdeal.Gen.facts

variable {F : FTy → Type} [FloatOps F]

set_option maxHeartbeats 8000000 in
/-- The same host operations around the launch. -/
theorem host : @Cert.Kernel.main F _ _ = @Cert.KernelIdeal.main F _ _ := rfl

end Cert.Rows.Same
-- ==== Proof.Rows.Same.lean ====
/- The kernel as compiled and the idealised one are the same program: their bodies, grids and host operations agree
   name by name, at every reading of the floats. -/
module

public import proofs.«01_k».proof.Proof.Rows.SameBody
public import proofs.«01_k».proof.Proof.Rows.SameHost

@[expose] public section

open Idealize.ShloMosaic Idealize.SL.Sem

noncomputable section

namespace Cert.Rows.Same

attribute [local instance] Cert.Kernel.Gen.facts Cert.KernelIdeal.Gen.facts

variable {F : FTy → Type} [FloatOps F]

set_option maxHeartbeats 8000000 in
/-- The same pipeline around it. -/
theorem table : @Cert.Kernel.defs F _ _ = @Cert.KernelIdeal.defs F _ _ := by
  have h := body_table (F := F)
  unfold Cert.Kernel.defs Cert.KernelIdeal.defs
  exact congrArg (Pipeline.defs (@Cert.KernelIdeal.pcfgs F _)) h

end Cert.Rows.Same
-- ==== Proof.Rows.Carry.lean ====
/- A run of the idealised kernel, at any reading of the floats, is a run of the compiled one. -/
module

public import proofs.«01_k».proof.Proof.Rows.Same

@[expose] public section

open Idealize.ShloMosaic Idealize.SL.Sem

noncomputable section

namespace Cert.Rows.Same

attribute [local instance] Cert.Kernel.Gen.facts Cert.KernelIdeal.Gen.facts

variable {F : FTy → Type} [FloatOps F]

set_option maxHeartbeats 8000000 in
/-- A run of the idealised program is a run of the compiled one: the two are the same text. -/
theorem carry {Q : PUnit × MemSt Cert.KernelIdeal.nD Cert.KernelIdeal.τ Cert.KernelIdeal.sig (Elt F) → Prop} {s}
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [table, host]; exact h

end Cert.Rows.Same
-- ==== Proof.Rows.Host.lean ====
/- What the kernel's host operations hand the launch: the convolution, the convolution branch's output, the mapped pool rows and
   the pool branch's output are the reference's own. -/
module

public import proofs.«01_k».proof.Proof.Gen.KernelIdeal
public import proofs.«01_k».proof.Proof.Gen.KernelIdeal.Frame.Runs
public import proofs.«01_k».proof.Proof.Gen.ReferenceIdeal
public import proofs.«01_k».proof.Proof.Gen.ReferenceIdeal.Run

@[expose] public section

noncomputable section

namespace Cert.Rows.Host

open Idealize.ShloMosaic Idealize.ShloMosaic.StableHlo Idealize.SL.Sem
open Cert.KernelIdeal.Gen (hostOps0 hostOps0_1 hostOps0_2)
open Cert.ReferenceIdeal.Value

attribute [local instance] Cert.KernelIdeal.Gen.facts Cert.ReferenceIdeal.Gen.facts

variable {F : FTy → Type} [FloatOps F]

/-- One line of operations after another. -/
theorem after_app {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons a l ih => exact ih _

/-- The two programs' buffers hold the same arguments. -/
structure Agree (W : Valuation Cert.KernelIdeal.τ Cert.KernelIdeal.sig (Elt F)) (V0 : Valuation Cert.ReferenceIdeal.τ Cert.ReferenceIdeal.sig (Elt F)) : Prop where
  a3 : W (Proc.devRef .tc Cert.KernelIdeal.main_arg3) = V0 (Proc.devRef .tc Cert.ReferenceIdeal.main_arg3)
  a4 : W (Proc.devRef .tc Cert.KernelIdeal.main_arg4) = V0 (Proc.devRef .tc Cert.ReferenceIdeal.main_arg4)
  a5 : W (Proc.devRef .tc Cert.KernelIdeal.main_arg5) = V0 (Proc.devRef .tc Cert.ReferenceIdeal.main_arg5)
  a6 : W (Proc.devRef .tc Cert.KernelIdeal.main_arg6) = V0 (Proc.devRef .tc Cert.ReferenceIdeal.main_arg6)
  a7 : W (Proc.devRef .tc Cert.KernelIdeal.main_arg7) = V0 (Proc.devRef .tc Cert.ReferenceIdeal.main_arg7)
  a8 : W (Proc.devRef .tc Cert.KernelIdeal.main_arg8) = V0 (Proc.devRef .tc Cert.ReferenceIdeal.main_arg8)
  a9 : W (Proc.devRef .tc Cert.KernelIdeal.main_arg9) = V0 (Proc.devRef .tc Cert.ReferenceIdeal.main_arg9)
  a11 : W (Proc.devRef .tc Cert.KernelIdeal.main_arg11) = V0 (Proc.devRef .tc Cert.ReferenceIdeal.main_arg11)
  a12 : W (Proc.devRef .tc Cert.KernelIdeal.main_arg12) = V0 (Proc.devRef .tc Cert.ReferenceIdeal.main_arg12)

variable {W : Valuation Cert.KernelIdeal.τ Cert.KernelIdeal.sig (Elt F)} {V0 : Valuation Cert.ReferenceIdeal.τ Cert.ReferenceIdeal.sig (Elt F)} (h : Agree W V0)
include h

set_option maxRecDepth 8192 in
set_option maxHeartbeats 4000000 in
theorem first_norm : after hostOps0 W (Proc.devRef .tc Cert.KernelIdeal.main_v28) = res_main_v33 V0 := by
  simp only [hostOps0]
  after_results_simp
  simp only [h.a3, h.a4, h.a5, h.a6]
  unfold res_main_v33 res_main_v17 res_main_v9
  rfl

set_option maxRecDepth 8192 in
set_option maxHeartbeats 4000000 in
theorem first_mat : after hostOps0 W (Proc.devRef .tc Cert.KernelIdeal.main_v0) = res_main_v4 V0 := by
  simp only [hostOps0]
  after_results_simp
  simp only [h.a11]
  unfold res_main_v4
  rfl

theorem first_3 : after hostOps0 W (Proc.devRef .tc Cert.KernelIdeal.main_arg3) = V0 (Proc.devRef .tc Cert.ReferenceIdeal.main_arg3) := by
  simp only [hostOps0]
  after_results_simp
  exact h.a3

theorem first_4 : after hostOps0 W (Proc.devRef .tc Cert.KernelIdeal.main_arg4) = V0 (Proc.devRef .tc Cert.ReferenceIdeal.main_arg4) := by
  simp only [hostOps0]
  after_results_simp
  exact h.a4

theorem first_7 : after hostOps0 W (Proc.devRef .tc Cert.KernelIdeal.main_arg7) = V0 (Proc.devRef .tc Cert.ReferenceIdeal.main_arg7) := by
  simp only [hostOps0]
  after_results_simp
  exact h.a7

theorem first_8 : after hostOps0 W (Proc.devRef .tc Cert.KernelIdeal.main_arg8) = V0 (Proc.devRef .tc Cert.ReferenceIdeal.main_arg8) := by
  simp only [hostOps0]
  after_results_simp
  exact h.a8

theorem first_9 : after hostOps0 W (Proc.devRef .tc Cert.KernelIdeal.main_arg9) = V0 (Proc.devRef .tc Cert.ReferenceIdeal.main_arg9) := by
  simp only [hostOps0]
  after_results_simp
  exact h.a9

theorem first_12 : after hostOps0 W (Proc.devRef .tc Cert.KernelIdeal.main_arg12) = V0 (Proc.devRef .tc Cert.ReferenceIdeal.main_arg12) := by
  simp only [hostOps0]
  after_results_simp
  exact h.a12

omit h in
set_option maxRecDepth 8192 in
set_option maxHeartbeats 4000000 in
theorem act {U : Valuation Cert.KernelIdeal.τ Cert.KernelIdeal.sig (Elt F)} (e : U (Proc.devRef .tc Cert.KernelIdeal.main_v28) = res_main_v33 V0) : after hostOps0_1 U (Proc.devRef .tc Cert.KernelIdeal.main_v29) = (mulf (res_main_v33 V0) (Host.divf (broadcastInDim Cert.ReferenceIdeal.S4352x1024 ![] Cert.ReferenceIdeal.Facts₀.bcast_S_S4352x1024 (constant Cert.ReferenceIdeal.S_ .f32 0x3F800000#32)) (addf (broadcastInDim Cert.ReferenceIdeal.S4352x1024 ![] Cert.ReferenceIdeal.Facts₀.bcast_S_S4352x1024 (constant Cert.ReferenceIdeal.S_ .f32 0x3F800000#32)) (Host.exp (Host.negf (res_main_v33 V0)))))) := by
  simp only [hostOps0_1]
  after_results_simp
  rw [e]; rfl

omit h in
set_option maxRecDepth 8192 in
set_option maxHeartbeats 4000000 in
theorem keep_v0 {U : Valuation Cert.KernelIdeal.τ Cert.KernelIdeal.sig (Elt F)}  : after hostOps0_1 U (Proc.devRef .tc Cert.KernelIdeal.main_v0) = U (Proc.devRef .tc Cert.KernelIdeal.main_v0) := by
  simp only [hostOps0_1]
  after_results_simp
  skip

omit h in
set_option maxRecDepth 8192 in
set_option maxHeartbeats 4000000 in
theorem keep_arg3 {U : Valuation Cert.KernelIdeal.τ Cert.KernelIdeal.sig (Elt F)}  : after hostOps0_1 U (Proc.devRef .tc Cert.KernelIdeal.main_arg3) = U (Proc.devRef .tc Cert.KernelIdeal.main_arg3) := by
  simp only [hostOps0_1]
  after_results_simp
  skip

omit h in
set_option maxRecDepth 8192 in
set_option maxHeartbeats 4000000 in
theorem keep_arg4 {U : Valuation Cert.KernelIdeal.τ Cert.KernelIdeal.sig (Elt F)}  : after hostOps0_1 U (Proc.devRef .tc Cert.KernelIdeal.main_arg4) = U (Proc.devRef .tc Cert.KernelIdeal.main_arg4) := by
  simp only [hostOps0_1]
  after_results_simp
  skip

omit h in
set_option maxRecDepth 8192 in
set_option maxHeartbeats 4000000 in
theorem keep_arg7 {U : Valuation Cert.KernelIdeal.τ Cert.KernelIdeal.sig (Elt F)}  : after hostOps0_1 U (Proc.devRef .tc Cert.KernelIdeal.main_arg7) = U (Proc.devRef .tc Cert.KernelIdeal.main_arg7) := by
  simp only [hostOps0_1]
  after_results_simp
  skip

omit h in
set_option maxRecDepth 8192 in
set_option maxHeartbeats 4000000 in
theorem keep_arg8 {U : Valuation Cert.KernelIdeal.τ Cert.KernelIdeal.sig (Elt F)}  : after hostOps0_1 U (Proc.devRef .tc Cert.KernelIdeal.main_arg8) = U (Proc.devRef .tc Cert.KernelIdeal.main_arg8) := by
  simp only [hostOps0_1]
  after_results_simp
  skip

omit h in
set_option maxRecDepth 8192 in
set_option maxHeartbeats 4000000 in
theorem keep_arg9 {U : Valuation Cert.KernelIdeal.τ Cert.KernelIdeal.sig (Elt F)}  : after hostOps0_1 U (Proc.devRef .tc Cert.KernelIdeal.main_arg9) = U (Proc.devRef .tc Cert.KernelIdeal.main_arg9) := by
  simp only [hostOps0_1]
  after_results_simp
  skip

omit h in
set_option maxRecDepth 8192 in
set_option maxHeartbeats 4000000 in
theorem keep_arg12 {U : Valuation Cert.KernelIdeal.τ Cert.KernelIdeal.sig (Elt F)}  : after hostOps0_1 U (Proc.devRef .tc Cert.KernelIdeal.main_arg12) = U (Proc.devRef .tc Cert.KernelIdeal.main_arg12) := by
  simp only [hostOps0_1]
  after_results_simp
  skip

omit h in
set_option maxRecDepth 8192 in
set_option maxHeartbeats 4000000 in
theorem yc {U : Valuation Cert.KernelIdeal.τ Cert.KernelIdeal.sig (Elt F)} (e : U (Proc.devRef .tc Cert.KernelIdeal.main_v29) = (mulf (res_main_v33 V0) (Host.divf (broadcastInDim Cert.ReferenceIdeal.S4352x1024 ![] Cert.ReferenceIdeal.Facts₀.bcast_S_S4352x1024 (constant Cert.ReferenceIdeal.S_ .f32 0x3F800000#32)) (addf (broadcastInDim Cert.ReferenceIdeal.S4352x1024 ![] Cert.ReferenceIdeal.Facts₀.bcast_S_S4352x1024 (constant Cert.ReferenceIdeal.S_ .f32 0x3F800000#32)) (Host.exp (Host.negf (res_main_v33 V0))))))) (e0 : U (Proc.devRef .tc Cert.KernelIdeal.main_v0) = res_main_v4 V0) : after hostOps0_2 U (Proc.devRef .tc Cert.KernelIdeal.main_v30) = res_main_v35 V0 := by
  simp only [hostOps0_2]
  after_results_simp
  rw [e, e0]; unfold res_main_v35; rfl

omit h in
set_option maxRecDepth 8192 in
set_option maxHeartbeats 4000000 in
theorem mw {U : Valuation Cert.KernelIdeal.τ Cert.KernelIdeal.sig (Elt F)} (e7 : U (Proc.devRef .tc Cert.KernelIdeal.main_arg7) = V0 (Proc.devRef .tc Cert.ReferenceIdeal.main_arg7)) (e8 : U (Proc.devRef .tc Cert.KernelIdeal.main_arg8) = V0 (Proc.devRef .tc Cert.ReferenceIdeal.main_arg8)) : after hostOps0_2 U (Proc.devRef .tc Cert.KernelIdeal.main_v36) = res_main_v39 V0 := by
  simp only [hostOps0_2]
  after_results_simp
  rw [e7, e8]; unfold res_main_v39 res_main_v1 res_main_v2; rfl

omit h in
set_option maxRecDepth 8192 in
set_option maxHeartbeats 4000000 in
theorem yp {U : Valuation Cert.KernelIdeal.τ Cert.KernelIdeal.sig (Elt F)} (e7 : U (Proc.devRef .tc Cert.KernelIdeal.main_arg7) = V0 (Proc.devRef .tc Cert.ReferenceIdeal.main_arg7)) (e8 : U (Proc.devRef .tc Cert.KernelIdeal.main_arg8) = V0 (Proc.devRef .tc Cert.ReferenceIdeal.main_arg8)) (e9 : U (Proc.devRef .tc Cert.KernelIdeal.main_arg9) = V0 (Proc.devRef .tc Cert.ReferenceIdeal.main_arg9)) (e12 : U (Proc.devRef .tc Cert.KernelIdeal.main_arg12) = V0 (Proc.devRef .tc Cert.ReferenceIdeal.main_arg12)) : after hostOps0_2 U (Proc.devRef .tc Cert.KernelIdeal.main_v42) = res_main_v44 V0 := by
  simp only [hostOps0_2]
  after_results_simp
  rw [e7, e8, e9, e12]; unfold res_main_v44 res_main_v39 res_main_v1 res_main_v2 res_main_v5; rfl

omit h in
set_option maxRecDepth 8192 in
set_option maxHeartbeats 4000000 in
theorem cv {U : Valuation Cert.KernelIdeal.τ Cert.KernelIdeal.sig (Elt F)} (e3 : U (Proc.devRef .tc Cert.KernelIdeal.main_arg3) = V0 (Proc.devRef .tc Cert.ReferenceIdeal.main_arg3)) (e4 : U (Proc.devRef .tc Cert.KernelIdeal.main_arg4) = V0 (Proc.devRef .tc Cert.ReferenceIdeal.main_arg4)) : after hostOps0_2 U (Proc.devRef .tc Cert.KernelIdeal.main_v46) = res_main_v81 V0 := by
  simp only [hostOps0_2]
  after_results_simp
  rw [e3, e4]; unfold res_main_v81; rfl

theorem third_yc : after hostOps0_2 (after hostOps0_1 (after hostOps0 W)) (Proc.devRef .tc Cert.KernelIdeal.main_v30) = res_main_v35 V0 := yc (act (first_norm h)) (keep_v0.trans (first_mat h))
theorem third_mw : after hostOps0_2 (after hostOps0_1 (after hostOps0 W)) (Proc.devRef .tc Cert.KernelIdeal.main_v36) = res_main_v39 V0 := mw (keep_arg7.trans (first_7 h)) (keep_arg8.trans (first_8 h))
theorem third_yp : after hostOps0_2 (after hostOps0_1 (after hostOps0 W)) (Proc.devRef .tc Cert.KernelIdeal.main_v42) = res_main_v44 V0 := yp (keep_arg7.trans (first_7 h)) (keep_arg8.trans (first_8 h)) (keep_arg9.trans (first_9 h)) (keep_arg12.trans (first_12 h))
theorem third_cv : after hostOps0_2 (after hostOps0_1 (after hostOps0 W)) (Proc.devRef .tc Cert.KernelIdeal.main_v46) = res_main_v81 V0 := cv (keep_arg3.trans (first_3 h)) (keep_arg4.trans (first_4 h))

omit h in
/-- The three lines one after another. -/
theorem lines (W : Valuation Cert.KernelIdeal.τ Cert.KernelIdeal.sig (Elt F)) :
    after (List.flatten [hostOps0, hostOps0_1, hostOps0_2]) W = after hostOps0_2 (after hostOps0_1 (after hostOps0 W)) := by
  rw [List.flatten_cons, List.flatten_cons, List.flatten_cons, List.flatten_nil, List.append_nil, after_app, after_app]

theorem found_yc : after (List.flatten [hostOps0, hostOps0_1, hostOps0_2]) W (Proc.devRef .tc Cert.KernelIdeal.main_v30) = res_main_v35 V0 :=
  (congrFun (lines W) _).trans (third_yc h)

theorem found_mw : after (List.flatten [hostOps0, hostOps0_1, hostOps0_2]) W (Proc.devRef .tc Cert.KernelIdeal.main_v36) = res_main_v39 V0 :=
  (congrFun (lines W) _).trans (third_mw h)

theorem found_yp : after (List.flatten [hostOps0, hostOps0_1, hostOps0_2]) W (Proc.devRef .tc Cert.KernelIdeal.main_v42) = res_main_v44 V0 :=
  (congrFun (lines W) _).trans (third_yp h)

theorem found_cv : after (List.flatten [hostOps0, hostOps0_1, hostOps0_2]) W (Proc.devRef .tc Cert.KernelIdeal.main_v46) = res_main_v81 V0 :=
  (congrFun (lines W) _).trans (third_cv h)

end Cert.Rows.Host
-- ==== Proof.Rows.Windows.lean ====
/- Where the windows lie in their arrays: what a block of the pass holds, read off the array it is cut from. -/
module

public import proofs.«01_k».proof.Proof.Rows.Data
public import Idealize.ShloMosaic.Lib.Pipeline.ValueKit

@[expose] public section

noncomputable section

namespace Cert.KernelIdeal.Rows

open Cert.KernelIdeal Cert.KernelIdeal.Gen
open Idealize.ShloMosaic hiding ix0 ix1 ix2 ix3 eq_ix1 eq_ix2
open Idealize.ShloMosaic.ValueIdx
open Idealize.ShloMosaic.TcCoe Idealize.ShloMosaic.Pipeline Idealize.SL.Sem

variable {F : FTy → Type} [FloatOps F]

variable (m : (ℓ : Loc nD τ sig) → Buf (Elt F) ℓ)

/-- Row `p` of row block `t`. -/
def row (t : Fin cfg0.N) (p : Fin 256) : Fin 4352 := ⟨256 * t.val + p.val, by have : t.val < 17 := t.isLt; omega⟩
/-- A column of the gates' arguments, first gate, among all projected columns. -/
def colA (j : Fin 1024) : Fin 5120 := ⟨3072 + j, by omega⟩
/-- The same of the second gate. -/
def colB (j : Fin 1024) : Fin 5120 := ⟨4096 + j, by omega⟩

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 3] := (by decide +kernel : ∀ t : Fin grid0.N, _)
theorem idx_4 : ∀ t : Fin cfg0.N, win0_4.index t = ![t.val, 4] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![t.val, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![t.val, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0, 0] := (by decide +kernel : ∀ t : Fin grid0.N, _)
theorem idx_15 : ∀ t : Fin cfg0.N, win0_15.index t = ![t.val, 0] := (by decide +kernel : ∀ t : Fin grid0.N, _)
theorem idx_16 : ∀ t : Fin cfg0.N, win0_16.index t = ![t.val, 0] := (by decide +kernel : ∀ t : Fin grid0.N, _)
theorem idx_17 : ∀ t : Fin cfg0.N, win0_17.index t = ![t.val, 0] := (by decide +kernel : ∀ t : Fin grid0.N, _)
theorem idx_18 : ∀ t : Fin cfg0.N, win0_18.index t = ![t.val, 0] := (by decide +kernel : ∀ t : Fin grid0.N, _)
theorem idx_19 : ∀ t : Fin cfg0.N, win0_19.index t = ![t.val, 0] := (by decide +kernel : ∀ t : Fin grid0.N, _)
theorem idx_20 : ∀ t : Fin cfg0.N, win0_20.index t = ![t.val, 0] := (by decide +kernel : ∀ t : Fin grid0.N, _)
theorem idx_21 : ∀ t : Fin cfg0.N, win0_21.index t = ![0, 0] := (by decide +kernel : ∀ t : Fin grid0.N, _)
theorem idx_22 : ∀ t : Fin cfg0.N, win0_22.index t = ![0, 0] := (by decide +kernel : ∀ t : Fin grid0.N, _)
theorem idx_23 : ∀ t : Fin cfg0.N, win0_23.index t = ![0, 0] := (by decide +kernel : ∀ t : Fin grid0.N, _)
theorem idx_24 : ∀ t : Fin cfg0.N, win0_24.index t = ![0, 0] := (by decide +kernel : ∀ t : Fin grid0.N, _)
theorem idx_25 : ∀ t : Fin cfg0.N, win0_25.index t = ![0, 0] := (by decide +kernel : ∀ t : Fin grid0.N, _)

variable (c : Dev nD) (t : Fin cfg0.N)

theorem read_dh (p : Fin 256) (q : Fin 1024) : (ins m c t).dh (ix2 p q) = V m c main_arg0 (ix2 (row t p) q) := by
  unfold ins iblk; dsimp only; blk_ext [idx_0, row, colA, colB]
  all_goals (show t.val * 256 + p.val = _; omega)

theorem read_yc (p : Fin 256) (q : Fin 1024) : (ins m c t).yc (ix2 p q) = V m c main_v30 (ix2 (row t p) q) := by
  unfold ins iblk; dsimp only; blk_ext [idx_1, row, colA, colB]
  all_goals (show t.val * 256 + p.val = _; omega)

theorem read_yp (p : Fin 256) (q : Fin 1024) : (ins m c t).yp (ix2 p q) = V m c main_v42 (ix2 (row t p) q) := by
  unfold ins iblk; dsimp only; blk_ext [idx_2, row, colA, colB]
  all_goals (show t.val * 256 + p.val = _; omega)

theorem read_za (p : Fin 256) (q : Fin 1024) : (ins m c t).za (ix2 p q) = V m c main_arg1 (ix2 (row t p) (colA q)) := by
  unfold ins iblk; dsimp only; blk_ext [idx_3, row, colA, colB]
  all_goals (show t.val * 256 + p.val = _; omega)

theorem read_zb (p : Fin 256) (q : Fin 1024) : (ins m c t).zb (ix2 p q) = V m c main_arg1 (ix2 (row t p) (colB q)) := by
  unfold ins iblk; dsimp only; blk_ext [idx_4, row, colA, colB]
  all_goals (show t.val * 256 + p.val = _; omega)

theorem read_bg (p : Fin 1) (q : Fin 2048) : (ins m c t).bg (ix2 p q) = V m c main_arg2 (ix2 p q) := by
  unfold ins iblk; dsimp only; blk_ext [idx_5, row, colA, colB]

theorem read_cv (p : Fin 256) (q : Fin 1024) : (ins m c t).cv (ix2 p q) = V m c main_v46 (ix2 (row t p) q) := by
  unfold ins iblk; dsimp only; blk_ext [idx_6, row, colA, colB]
  all_goals (show t.val * 256 + p.val = _; omega)

theorem read_lg (p : Fin 1) (q : Fin 1024) : (ins m c t).lg (ix2 p q) = V m c main_arg5 (ix2 p q) := by
  unfold ins iblk; dsimp only; blk_ext [idx_7, row, colA, colB]

theorem read_lb (p : Fin 1) (q : Fin 1024) : (ins m c t).lb (ix2 p q) = V m c main_arg6 (ix2 p q) := by
  unfold ins iblk; dsimp only; blk_ext [idx_8, row, colA, colB]

theorem read_mw (p : Fin 256) (q : Fin 1024) : (ins m c t).mw (ix2 p q) = V m c main_v36 (ix2 (row t p) q) := by
  unfold ins iblk; dsimp only; blk_ext [idx_9, row, colA, colB]
  all_goals (show t.val * 256 + p.val = _; omega)

theorem read_ps (p : Fin 1) (q : Fin 1024) : (ins m c t).ps (ix2 p q) = V m c main_arg9 (ix2 p q) := by
  unfold ins iblk; dsimp only; blk_ext [idx_10, row, colA, colB]

theorem read_wo (p q : Fin 1024) : (ins m c t).wo (ix2 p q) = V m c main_arg10 (ix2 p q) := by
  unfold ins iblk; dsimp only; blk_ext [idx_11, row, colA, colB]

theorem read_wc (p q : Fin 1024) : (ins m c t).wc (ix2 p q) = V m c main_arg11 (ix2 p q) := by
  unfold ins iblk; dsimp only; blk_ext [idx_12, row, colA, colB]

theorem read_wp (p q : Fin 1024) : (ins m c t).wp (ix2 p q) = V m c main_arg12 (ix2 p q) := by
  unfold ins iblk; dsimp only; blk_ext [idx_13, row, colA, colB]

theorem read_wl (g : Fin 4) (p q : Fin 256) : (ins m c t).wl (ix3 g p q) = V m c main_arg8 (ix3 g p q) := by
  unfold ins iblk; dsimp only; blk_ext [idx_14, row, colA, colB]

end Cert.KernelIdeal.Rows
-- ==== Proof.Rows.Block.lean ====
/- One row block of the kernel's body, over the real numbers: if the block's windows hold real tables, every array the body
   makes of them holds the table `Data` names. -/
module

public import proofs.«01_k».proof.Proof.Rows.Math
public import proofs.«01_k».proof.Proof.Rows.Blocks
public import Idealize.ShloMosaic.Lib.Pipeline.ValueKit

@[expose] public section

open Idealize.ShloMosaic hiding ix0 ix1 ix2 ix3 eq_ix1 eq_ix2
open Idealize.ShloMosaic.ValueIdx
open Cert.KernelIdeal Cert.KernelIdeal.Gen Cert.Rows

noncomputable section

namespace Cert.KernelIdeal.Rows

/-- The body's product with a transposed square matrix. -/
theorem dotT_sq {x : FVec Ideal S256x1024 .bf16} {y : FVec Ideal S1024x1024 .bf16} {g : Fin 256 → Fin 1024 → ℝ} {h : Fin 1024 → Fin 1024 → ℝ}
    (hx : Tab x g) (hy : Tab y h) :
    Tab (matmul dot_S256x1024_S1024x1024_S256x1024_1_1_0_0_n_n none x y (constant S256x1024 .f32 0x00000000#32)) fun i j => ∑ q, g i q * h j q :=
  Tab.dotT (m := 256) (k := 1024) (n := 1024) hx hy fun _ _ => zero_word

/-- The body's product with a transposed pool matrix. -/
theorem dotT_gr {x : FVec Ideal S256x256 .bf16} {y : FVec Ideal S256x256 .bf16} {g : Fin 256 → Fin 256 → ℝ} {h : Fin 256 → Fin 256 → ℝ}
    (hx : Tab x g) (hy : Tab y h) :
    Tab (matmul dot_S256x256_S256x256_S256x256_1_1_0_0_n_n none x y (constant S256x256 .f32 0x00000000#32)) fun i j => ∑ q, g i q * h j q :=
  Tab.dotT (m := 256) (k := 256) (n := 256) hx hy fun _ _ => zero_word

theorem half {m n : ℕ} : Tab (broadcast (⟨2, ![m, n]⟩ : Shape) (Scalar.ofBits .f32 0x3F000000#32 : Ideal .f32)) fun _ _ => (1 / 2 : ℝ) := Tab.splat half_word
theorem one {m n : ℕ} : Tab (broadcast (⟨2, ![m, n]⟩ : Shape) (Scalar.ofBits .f32 0x3F800000#32 : Ideal .f32)) fun _ _ => (1 : ℝ) := Tab.splat one_word
theorem len {m n : ℕ} : Tab (broadcast (⟨2, ![m, n]⟩ : Shape) (Scalar.ofBits .f32 0x44800000#32 : Ideal .f32)) fun _ _ => (1024 : ℝ) := Tab.splat len_word
theorem small {m n : ℕ} : Tab (broadcast (⟨2, ![m, n]⟩ : Shape) (Scalar.ofBits .f32 0x3727C5AC#32 : Ideal .f32)) fun _ _ => eps := Tab.splat eps_word
theorem zero {m n : ℕ} : Tab (broadcast (⟨2, ![m, n]⟩ : Shape) (Scalar.ofBits .f32 0x00000000#32 : Ideal .f32)) fun _ _ => (0 : ℝ) := Tab.splat zero_word

/-- A gate as the body computes it. -/
theorem gate_tab {x : FVec Ideal S256x1024 .f32} {g : Fin 256 → Fin 1024 → ℝ} (hx : Tab x g) :
    Tab (addf (mulf (broadcast S256x1024 (Scalar.ofBits .f32 0x3F000000#32 : Ideal .f32))
      (Idealize.ShloMosaic.tanh (mulf (broadcast S256x1024 (Scalar.ofBits .f32 0x3F000000#32 : Ideal .f32)) x)))
      (broadcast S256x1024 (Scalar.ofBits .f32 0x3F000000#32 : Ideal .f32))) fun i j => logi (g i j) :=
  ((half.mul (half.mul hx).tanh).add half).congr fun _ _ => half_tanh _

section Payloads

variable {v5 v16 v34 v66 v83 v103 v6 : FVec Ideal S256x1024 .f32} {g5 g16 g34 g66 g83 g103 g6 : Fin 256 → Fin 1024 → ℝ}
  {v3 : FVec Ideal S256x1024 .bf16} {v4 : FVec Ideal S1024x1024 .bf16} {g3 : Fin 256 → Fin 1024 → ℝ} {g4 : Fin 1024 → Fin 1024 → ℝ}
  {v7 u : FVec Ideal S1x1024 .f32} {g7 gu : Fin 1 → Fin 1024 → ℝ} {v81 : FVec Ideal S256x1 .f32} {g81 : Fin 256 → Fin 1 → ℝ}

theorem pay8_tab (h3 : Tab v3 g3) (h4 : Tab v4 g4) : Tab (k0_pay8 v3 v4) fun i j => ∑ q, g3 i q * g4 j q := dotT_sq h3 h4

theorem pay9_tab (h6 : Tab v6 g6) (h7 : Tab v7 g7) : Tab (k0_pay9 v6 v7) fun i j => logi (g6 i j + g7 0 j) := gate_tab (h6.add (h7.row _))

theorem pay10_tab (h6 : Tab v6 g6) (h7 : Tab v7 g7) : Tab (k0_pay10 v6 v7) fun i j => logi (g6 i j + g7 0 j) := gate_tab (h6.add (h7.row _))

theorem pay11_tab (h3 : Tab v3 g3) (h4 : Tab v4 g4) (h6 : Tab v6 g6) (h7 : Tab v7 g7) :
    Tab (k0_pay11 v3 v4 v6 v7) fun i j => (∑ q, g3 i q * g4 j q) * logi (g6 i j + g7 0 j) := ((pay8_tab h3 h4).mul (pay9_tab h6 h7)).trunc _

theorem pay12_tab (h3 : Tab v3 g3) (h4 : Tab v4 g4) (h6 : Tab v6 g6) (h7 : Tab v7 g7) :
    Tab (k0_pay12 v3 v4 v6 v7) fun i j => (∑ q, g3 i q * g4 j q) * logi (g6 i j + g7 0 j) := ((pay8_tab h3 h4).mul (pay10_tab h6 h7)).trunc _

theorem pay13_tab (h5 : Tab v5 g5) (h16 : Tab v16 g16) (h34 : Tab v34 g34) :
    Tab (k0_pay13 v5 v16 v34) fun i j => g5 i j * g34 i j * (g16 i j * (1 - g16 i j)) := (h5.mul (h34.same _)).mul (h16.mul (one.sub h16))

theorem pay14_tab (h5 : Tab v5 g5) (h16 : Tab v16 g16) (h34 : Tab v34 g34) :
    Tab (k0_pay14 v5 v16 v34) fun i j => g5 i j * g34 i j * (g16 i j * (1 - g16 i j)) := (h5.mul (h34.same _)).mul (h16.mul (one.sub h16))

theorem pay17_tab (h5 : Tab v5 g5) (h16 : Tab v16 g16) (h34 : Tab v34 g34) (hu : Tab u gu) :
    Tab (k0_pay17 v5 v16 v34 u) fun i j => gu i j + ∑ p, g5 p j * g34 p j * (g16 p j * (1 - g16 p j)) :=
  (hu.same _).add (((pay13_tab h5 h16 h34).sumCol _ _ _).toRow _)

theorem pay18_tab (h5 : Tab v5 g5) (h16 : Tab v16 g16) (h34 : Tab v34 g34) (hu : Tab u gu) :
    Tab (k0_pay18 v5 v16 v34 u) fun i j => gu i j + ∑ p, g5 p j * g34 p j * (g16 p j * (1 - g16 p j)) :=
  (hu.same _).add (((pay14_tab h5 h16 h34).sumCol _ _ _).toRow _)

theorem pay19_tab (h66 : Tab v66 g66) : Tab (k0_pay19 v66) fun i j => g66 i j - (∑ q, g66 i q) / 1024 :=
  (h66.same _).sub (((((h66.same _).sumRow _ _ _).toCol _).div len fun _ _ => by norm_num).col _)

theorem pay20_tab (h66 : Tab v66 g66) : Tab (k0_pay20 v66) fun i _ =>
    (Real.sqrt ((∑ j, (g66 i j - (∑ q, g66 i q) / 1024) * (g66 i j - (∑ q, g66 i q) / 1024)) / 1024 + eps))⁻¹ :=
  ((((((pay19_tab h66).mul (pay19_tab h66)).sumRow _ _ _).toCol _).div len fun _ _ => by norm_num).add small).rsqrt fun i _ => by
    have : 0 ≤ ∑ j, (g66 i j - (∑ q, g66 i q) / 1024) * (g66 i j - (∑ q, g66 i q) / 1024) := Finset.sum_nonneg fun q _ => mul_self_nonneg _
    have := eps_pos
    positivity

theorem pay22_tab (h3 : Tab v3 g3) (h4 : Tab v4 g4) (h21 : Tab (k0_pay21 v66) g66) (h7 : Tab v7 g7) (hu : Tab u gu) :
    Tab (k0_pay22 v3 v4 v66 v7 u) fun i j => (∑ q, g3 i q * g4 j q) *
      (logi (g66 i j * g7 0 j + gu 0 j) * (1 + (g66 i j * g7 0 j + gu 0 j) * (1 - logi (g66 i j * g7 0 j + gu 0 j)))) :=
  have hl := (h21.mul (h7.row broadcasts_S1x1024_S256x1024)).add (hu.row broadcasts_S1x1024_S256x1024)
  (dotT_sq h3 h4).mul ((gate_tab hl).mul (one.add (hl.mul (one.sub (gate_tab hl)))))

theorem pay24_tab (h83 : Tab v83 g83) (h103 : Tab v103 g103) (hu : Tab u gu) :
    Tab (k0_pay24 v83 v103 (k0_pay23 u)) fun i j => gu i j + ∑ p, g103 p j * g83 p j :=
  (hu.same _).add (((h103.mul h83).sumCol _ _ _).toRow _)

theorem pay25_tab (h103 : Tab v103 g103) (hu : Tab u gu) : Tab (k0_pay25 v103 u) fun i j => gu i j + ∑ p, g103 p j :=
  (hu.same _).add ((h103.sumCol _ _ _).toRow _)

theorem pay26_tab (h81 : Tab v81 g81) (h83 : Tab v83 g83) (h103 : Tab v103 g103) (h7 : Tab v7 g7) :
    Tab (k0_pay26 v81 v83 v103 v7) fun i j => g81 i 0 * (g103 i j * g7 0 j - (∑ q, g103 i q * g7 0 q) / 1024
      - g83 i j * ((∑ q, g103 i q * g7 0 q * g83 i q) / 1024)) :=
  have hx := h103.mul (h7.row broadcasts_S1x1024_S256x1024)
  (h81.col _).mul ((hx.sub ((((hx.sumRow _ _ _).toCol _).div len fun _ _ => by norm_num).col _)).sub
    (h83.mul (((((hx.mul h83).sumRow _ _ _).toCol _).div len fun _ _ => by norm_num).col _)))

theorem pay27_tab (h81 : Tab v81 g81) (h83 : Tab v83 g83) (h103 : Tab v103 g103) (h7 : Tab v7 g7) (hu : Tab u gu) :
    Tab (k0_pay27 v81 v83 v103 v7 u) fun i j => gu i j + ∑ p, g81 p 0 * (g103 p j * g7 0 j - (∑ q, g103 p q * g7 0 q) / 1024
      - g83 p j * ((∑ q, g103 p q * g7 0 q * g83 p q) / 1024)) :=
  (hu.same _).add (((pay26_tab h81 h83 h103 h7).sumCol _ _ _).toRow _)

end Payloads

end Cert.KernelIdeal.Rows
-- ==== Proof.Rows.Pieces.lean ====
/- The windows' parts over the real numbers: halves of a row, groups of columns, one of the four pool matrices, and arrays
   put together from such parts. -/
module

public import proofs.«01_k».proof.Proof.Rows.Block

@[expose] public section

open Idealize.ShloMosaic hiding ix0 ix1 ix2 ix3 eq_ix1 eq_ix2
open Idealize.ShloMosaic.ValueIdx
open Cert.KernelIdeal Cert.KernelIdeal.Gen Cert.Rows

noncomputable section

namespace Cert.KernelIdeal.Rows

/-- The four matrices hold the real tables `w`. -/
def Tab3 {a m n : ℕ} {φ : FTy} (x : FVec Ideal ⟨3, ![a, m, n]⟩ φ) (w : Fin a → Fin m → Fin n → ℝ) : Prop :=
  ∀ g i j, x (ix3 g i j) = ((w g i j : ℝ) : EReal)

theorem lo_tab {x : FVec Ideal S1x2048 .f32} {g : Fin 1 → Fin 2048 → ℝ} (hx : Tab x g) : Tab (φ := .f32) (lo (F := Ideal) x) fun i j => g i (lcol j) := fun i j => by
  refine (View.ld_unit_apply_of (Val := Elt Ideal) (e := .f32) x _ _ _ (ix2 i j) (ix2 i (lcol j)) ?_).trans (hx _ _)
  intro a
  match a with
  | ⟨0, _⟩ => exact (Nat.zero_add _).symm
  | ⟨1, _⟩ => exact (Nat.zero_add _).symm

theorem hi_tab {x : FVec Ideal S1x2048 .f32} {g : Fin 1 → Fin 2048 → ℝ} (hx : Tab x g) : Tab (φ := .f32) (hi (F := Ideal) x) fun i j => g i (rcol j) := fun i j => by
  refine (View.ld_unit_apply_of (Val := Elt Ideal) (e := .f32) x _ _ _ (ix2 i j) (ix2 i (rcol j)) ?_).trans (hx _ _)
  intro a
  match a with
  | ⟨0, _⟩ => exact (Nat.zero_add _).symm
  | ⟨1, _⟩ => rfl

/-- A group of 256 columns, cut out. -/
theorem cut_tab {x : FVec Ideal S256x1024 .bf16} {g : Fin 256 → Fin 1024 → ℝ} (hx : Tab x g) (q : Fin 4) (o : ℕ) (ho : o = 256 * q.val)
    (hs : S256x1024.Slices ![0, o] S256x256) :
    Tab (extractStridedSlice S256x256 ![0, o] x hs) fun i j => g i (gcol q j) := fun i j => by
  rw [extractStridedSlice_apply ![0, o] x hs (ix2 i j) (ix2 i (gcol q j)), hx]
  intro a
  match a with
  | ⟨0, _⟩ => exact (Nat.zero_add _).symm
  | ⟨1, _⟩ => show 256 * q.val + j.val = o + j.val; rw [ho]

/-- One of the four matrices, as a matrix. -/
theorem drop_tab {x : FVec Ideal S1x256x256 .bf16} {w : Fin 1 → Fin 256 → Fin 256 → ℝ} (hx : Tab3 x w) :
    Tab (shapeCast S256x256 x shapeCasts_S1x256x256_S256x256) (w 0) := fun i j => by
  refine (shapeCast_dropUnit_apply ![256, 256] x shapeCasts_S1x256x256_S256x256 (ix2 i j)).trans ?_
  refine (congrArg x ?_).trans (hx 0 i j)
  funext a
  match a with
  | ⟨0, _⟩ => rfl
  | ⟨1, _⟩ => rfl
  | ⟨2, _⟩ => rfl

/-- One of the four matrices, loaded. -/
theorem grp_tab {x : FVec Ideal S4x256x256 .bf16} {w : Fin 4 → Fin 256 → Fin 256 → ℝ} (hx : Tab3 x w) (q : Fin 4) (o : ℕ) (ho : o = q.val)
    (inb : ∀ a, (![o, 0, 0] : Fin 3 → ℕ) a + S1x256x256.size a ≤ S4x256x256.size a) :
    Tab3 (φ := .bf16) (a := 1) (m := 256) (n := 256) (View.ld x (Rect.unit (s := S4x256x256) ![o, 0, 0] S1x256x256.size inb) : Vec Ideal S1x256x256 .bf16) fun _ => w q := fun g i j => by
  refine (View.ld_unit_apply_of (Val := Elt Ideal) (e := .bf16) x _ _ _ (ix3 g i j) (ix3 q i j) ?_).trans (hx q i j)
  intro a
  match a with
  | ⟨0, _⟩ => show q.val = o + g.val; have := g.isLt; omega
  | ⟨1, _⟩ => exact (Nat.zero_add _).symm
  | ⟨2, _⟩ => exact (Nat.zero_add _).symm

section Payloads

variable {v31 : FVec Ideal S256x1024 .bf16} {v143 : FVec Ideal S1024x1024 .bf16} {g31 : Fin 256 → Fin 1024 → ℝ} {g143 : Fin 1024 → Fin 1024 → ℝ}
  {u : FVec Ideal S1x1024 .f32} {gu : Fin 1 → Fin 1024 → ℝ} {v147 : FVec Ideal S256x1024 .f32} {g147 : Fin 256 → Fin 1024 → ℝ}
  {v160 : FVec Ideal S1x256x256 .bf16} {w : Fin 1 → Fin 256 → Fin 256 → ℝ}

theorem pay28_tab (h31 : Tab v31 g31) (h143 : Tab v143 g143) : Tab (k0_pay28 v31 v143) fun i j => ∑ q, g31 i q * g143 j q := dotT_sq h31 h143

theorem pay29_tab (h31 : Tab v31 g31) (h143 : Tab v143 g143) (hu : Tab u gu) (h147 : Tab v147 g147) :
    Tab (k0_pay29 v31 v143 u v147) fun i j => gu i j + ∑ p, (∑ q, g31 p q * g143 j q) * g147 p j :=
  (hu.same _).add ((((pay28_tab h31 h143).mul (h147.same _)).sumCol _ _ _).toRow _)

theorem pay30_tab (h31 : Tab v31 g31) (h143 : Tab v143 g143) (hu : Tab u gu) :
    Tab (k0_pay30 v31 v143 u) fun i j => (∑ q, g31 i q * g143 j q) * gu 0 j := ((pay28_tab h31 h143).mul (hu.row _)).trunc _

/-- One group's product. -/
theorem group_tab (q : Fin 4) (o : ℕ) (ho : o = 256 * q.val) (hs : S256x1024.Slices ![0, o] S256x256) {x : FVec Ideal S256x1024 .bf16}
    {g : Fin 256 → Fin 1024 → ℝ} (hx : Tab x g) (hw : Tab3 v160 w) :
    Tab (matmul dot_S256x256_S256x256_S256x256_1_1_0_0_n_n none (extractStridedSlice S256x256 ![0, o] x hs)
      (shapeCast S256x256 v160 shapeCasts_S1x256x256_S256x256) (constant S256x256 .f32 0x00000000#32)) fun i j => ∑ c, g i (gcol q c) * w 0 j c :=
  dotT_gr (cut_tab hx q o ho hs) (drop_tab hw)

end Payloads

/-- What is left by a store over the second half of the columns after one over the first. -/
theorem halves_tab {n : ℕ} {e : EltTy} (val : ℝ → Elt Ideal e) {a b : (⟨2, ![n, 1024]⟩ : Shape).Idx → Elt Ideal e}
    {ga gb : Fin n → Fin 1024 → ℝ} (ha : ∀ i j, a (ix2 i j) = val (ga i j)) (hb : ∀ i j, b (ix2 i j) = val (gb i j))
    (ia : ∀ k, (![0, 0] : Fin 2 → ℕ) k + (![n, 1024] : Fin 2 → ℕ) k ≤ (![n, 2048] : Fin 2 → ℕ) k)
    (ib : ∀ k, (![0, 1024] : Fin 2 → ℕ) k + (![n, 1024] : Fin 2 → ℕ) k ≤ (![n, 2048] : Fin 2 → ℕ) k) :
    ∀ i c, View.canon (Val := Elt Ideal) (s := ⟨2, ![n, 2048]⟩) (e := e)
      [⟨Rect.unit (s := ⟨2, ![n, 2048]⟩) ![0, 1024] ![n, 1024] ib, b⟩, ⟨Rect.unit (s := ⟨2, ![n, 2048]⟩) ![0, 0] ![n, 1024] ia, a⟩] (ix2 i c)
      = val (halves (ga i) (gb i) c) := fun i c => by
  have hl : ∀ i j, (Rect.unit (s := ⟨2, ![n, 2048]⟩) ![0, 0] ![n, 1024] ia).emb (ix2 i j) = ix2 i (lcol j) := fun i j => by
    funext k
    match k with
    | ⟨0, _⟩ => exact Fin.ext (by show 0 + 1 * i.val = i.val; omega)
    | ⟨1, _⟩ => exact Fin.ext (by show 0 + 1 * j.val = j.val; omega)
  have hr : ∀ i j, (Rect.unit (s := ⟨2, ![n, 2048]⟩) ![0, 1024] ![n, 1024] ib).emb (ix2 i j) = ix2 i (rcol j) := fun i j => by
    funext k
    match k with
    | ⟨0, _⟩ => exact Fin.ext (by show 0 + 1 * i.val = i.val; omega)
    | ⟨1, _⟩ => exact Fin.ext (by show 1024 + 1 * j.val = 1024 + j.val; omega)
  refine View.canon_apply_of_pieces (Val := Elt Ideal) (S := ⟨2, ![n, 2048]⟩) (e := e)
    (fun y => val (halves (ga (y 0)) (gb (y 0)) (y 1))) _ ?_ (ix2 i c) ?_
  · intro p hp x
    rcases List.mem_cons.1 hp with rfl | hp
    · obtain ⟨i, j, rfl⟩ : ∃ (i : Fin n) (j : Fin 1024), x = ix2 i j := ⟨x 0, x 1, eq_ix2 x⟩
      refine (hb i j).trans ?_
      rw [hr]
      exact congrArg _ (halves_rcol _ _ j).symm
    · obtain rfl := List.mem_singleton.1 hp
      obtain ⟨i, j, rfl⟩ : ∃ (i : Fin n) (j : Fin 1024), x = ix2 i j := ⟨x 0, x 1, eq_ix2 x⟩
      refine (ha i j).trans ?_
      rw [hl]
      exact congrArg _ (halves_lcol _ _ j).symm
  · rcases lcol_or_rcol c with ⟨j, rfl⟩ | ⟨j, rfl⟩
    · exact ⟨_, List.mem_cons_of_mem _ List.mem_cons_self, hl i j ▸ LoadRect.idx_mem (Rect.unit (s := ⟨2, ![n, 2048]⟩) ![0, 0] ![n, 1024] ia).toLoadRect (ix2 i j)⟩
    · exact ⟨_, List.mem_cons_self, hr i j ▸ LoadRect.idx_mem (Rect.unit (s := ⟨2, ![n, 2048]⟩) ![0, 1024] ![n, 1024] ib).toLoadRect (ix2 i j)⟩

/-- Two column halves put side by side hold the two tables side by side. -/
theorem cols2_tab {a b : FVec Ideal S256x1024 .bf16} {ga gb : Fin 256 → Fin 1024 → ℝ} (ha : Tab a ga) (hb : Tab b gb) :
    Tab (φ := .bf16) (cols2 (F := Ideal) a b) fun i c => halves (ga i) (gb i) c :=
  halves_tab (e := .bf16) (fun r => ((r : ℝ) : EReal)) ha hb _ _

/-- The same of one row. -/
theorem row2_tab {a b : FVec Ideal S1x1024 .f32} {ga gb : Fin 1 → Fin 1024 → ℝ} (ha : Tab a ga) (hb : Tab b gb) :
    Tab (φ := .f32) (row2 (F := Ideal) a b) fun i c => halves (ga i) (gb i) c :=
  halves_tab (e := .f32) (fun r => ((r : ℝ) : EReal)) ha hb _ _

/-- Four column quarters put side by side. -/
theorem cols4_tab {a b c e : FVec Ideal S256x256 .f32} {g : Fin 4 → Fin 256 → Fin 256 → ℝ} (ha : Tab a (g 0)) (hb : Tab b (g 1)) (hc : Tab c (g 2))
    (he : Tab e (g 3)) : Tab (φ := .f32) (cols4 (F := Ideal) a b c e) fun i k => g (grp k) i (sub k) := fun i k => by
  have key : ∀ (q : Fin 4) (o : ℕ) (ho : o = 256 * q.val) (inb : ∀ a, (![0, o] : Fin 2 → ℕ) a + S256x256.size a ≤ S256x1024.size a) (i j : Fin 256),
      (Rect.unit (s := S256x1024) ![0, o] S256x256.size inb).emb (ix2 i j) = ix2 i (gcol q j) := fun q o ho inb i j => by
    funext k
    match k with
    | ⟨0, _⟩ => exact Fin.ext (by show 0 + 1 * i.val = i.val; omega)
    | ⟨1, _⟩ => exact Fin.ext (by show o + 1 * j.val = 256 * q.val + j.val; omega)
  have val : ∀ (q : Fin 4) (x : FVec Ideal S256x256 .f32) (o : ℕ) (ho : o = 256 * q.val)
      (inb : ∀ a, (![0, o] : Fin 2 → ℕ) a + S256x256.size a ≤ S256x1024.size a), Tab x (g q) → ∀ y : S256x256.Idx,
      x y = (fun z : S256x1024.Idx => ((g (grp (z 1)) (z 0) (sub (z 1)) : ℝ) : EReal)) ((Rect.unit (s := S256x1024) ![0, o] S256x256.size inb).emb y) :=
    fun q x o ho inb hx y => by
      obtain ⟨i, j, rfl⟩ : ∃ (i : Fin 256) (j : Fin 256), y = ix2 i j := ⟨y 0, y 1, eq_ix2 y⟩
      refine (hx i j).trans ?_
      rw [key q o ho inb]
      show _ = ((g (grp (gcol q j)) i (sub (gcol q j)) : ℝ) : EReal)
      rw [grp_gcol, sub_gcol]
  refine View.canon_apply_of_pieces (Val := Elt Ideal) (S := S256x1024) (e := .f32)
    (fun z => ((g (grp (z 1)) (z 0) (sub (z 1)) : ℝ) : EReal)) _ ?_ (ix2 i k) ?_
  · intro p hp x
    rcases List.mem_cons.1 hp with rfl | hp
    · exact val 3 e 768 rfl inb_S256x1024_S256x256_0_768 he x
    rcases List.mem_cons.1 hp with rfl | hp
    · exact val 2 c 512 rfl inb_S256x1024_S256x256_0_512 hc x
    rcases List.mem_cons.1 hp with rfl | hp
    · exact val 1 b 256 rfl inb_S256x1024_S256x256_0_256 hb x
    · obtain rfl := List.mem_singleton.1 hp
      exact val 0 a 0 rfl inb_S256x1024_S256x256_0_0 ha x
  · have mem : ∀ (q : Fin 4) (o : ℕ) (ho : o = 256 * q.val) (inb : ∀ a, (![0, o] : Fin 2 → ℕ) a + S256x256.size a ≤ S256x1024.size a),
        grp k = q → ix2 i k ∈ (Rect.unit (s := S256x1024) ![0, o] S256x256.size inb).set := fun q o ho inb hq => by
      have h := key q o ho inb i (sub k)
      rw [← hq, gcol_grp] at h
      exact h ▸ LoadRect.idx_mem (Rect.unit (s := S256x1024) ![0, o] S256x256.size inb).toLoadRect (ix2 i (sub k))
    obtain ⟨q, hq⟩ : ∃ q, grp k = q := ⟨_, rfl⟩
    match q, hq with
    | 0, hq => exact ⟨_, List.mem_cons_of_mem _ (List.mem_cons_of_mem _ (List.mem_cons_of_mem _ List.mem_cons_self)), mem 0 0 rfl inb_S256x1024_S256x256_0_0 hq⟩
    | 1, hq => exact ⟨_, List.mem_cons_of_mem _ (List.mem_cons_of_mem _ List.mem_cons_self), mem 1 256 rfl inb_S256x1024_S256x256_0_256 hq⟩
    | 2, hq => exact ⟨_, List.mem_cons_of_mem _ List.mem_cons_self, mem 2 512 rfl inb_S256x1024_S256x256_0_512 hq⟩
    | 3, hq => exact ⟨_, List.mem_cons_self, mem 3 768 rfl inb_S256x1024_S256x256_0_768 hq⟩

end Cert.KernelIdeal.Rows
-- ==== Proof.Rows.Reads.lean ====
/- What one row block of the pass computes, when its windows hold real numbers: the blocks of the gradients, and the running
   sums with the block's share added. -/
module

public import proofs.«01_k».proof.Proof.Rows.Pieces

@[expose] public section

open Idealize.ShloMosaic hiding ix0 ix1 ix2 ix3 eq_ix1 eq_ix2
open Idealize.ShloMosaic.ValueIdx
open Cert.KernelIdeal Cert.KernelIdeal.Gen Cert.Rows

noncomputable section

namespace Cert.KernelIdeal.Rows

/-- The block's windows hold the data `d` of its 256 rows. -/
structure Reads (b : Ins Ideal) (d : Data 256) : Prop where
  dh : Tab (φ := .bf16) b.dh d.dh
  yc : Tab (φ := .f32) b.yc d.yc
  yp : Tab (φ := .f32) b.yp d.yp
  za : Tab (φ := .f32) b.za fun i j => d.zg i (lcol j)
  zb : Tab (φ := .f32) b.zb fun i j => d.zg i (rcol j)
  bg : Tab (φ := .f32) b.bg fun _ => d.bg
  cv : Tab (φ := .f32) b.cv d.cv
  lg : Tab (φ := .f32) b.lg fun _ => d.lg
  lb : Tab (φ := .f32) b.lb fun _ => d.lb
  mw : Tab (φ := .f32) b.mw d.mw
  ps : Tab (φ := .f32) b.ps fun _ => d.ps
  wo : Tab (φ := .bf16) b.wo d.wo
  wc : Tab (φ := .bf16) b.wc d.wc
  wp : Tab (φ := .bf16) b.wp d.wp
  wl : Tab3 (φ := .bf16) b.wl d.wl

namespace Reads

variable {b : Ins Ideal} {d : Data 256} (h : Reads b d)
include h

theorem dmg : Tab (φ := .f32) b.dmg d.dmg := pay8_tab h.dh h.wo

theorem ga : Tab (φ := .f32) b.ga fun i j => d.gate i (lcol j) := pay9_tab h.za (lo_tab h.bg)

theorem gb : Tab (φ := .f32) b.gb fun i j => d.gate i (rcol j) := pay10_tab h.zb (hi_tab h.bg)

theorem dyc : Tab (φ := .bf16) b.dyc d.dyc := pay11_tab h.dh h.wo h.za (lo_tab h.bg)

theorem dyp : Tab (φ := .bf16) b.dyp d.dyp := pay12_tab h.dh h.wo h.zb (hi_tab h.bg)

theorem dzg : Tab (φ := .bf16) b.dzg d.dzg :=
  Tab.congr (cols2_tab ((pay13_tab h.dmg h.ga h.yc).trunc _) ((pay14_tab h.dmg h.gb h.yp).trunc _)) fun i c => by
    rcases lcol_or_rcol c with ⟨j, rfl⟩ | ⟨j, rfl⟩
    · unfold Data.dzg; rw [halves_lcol, halves_lcol]
    · unfold Data.dzg; rw [halves_rcol, halves_rcol]

theorem rs : Tab (φ := .f32) (k0_pay20 b.cv : FVec Ideal S256x1 .f32) fun i _ => d.rs i := pay20_tab h.cv

theorem xh : Tab (φ := .f32) (k0_pay21 b.cv : FVec Ideal S256x1024 .f32) d.xh := (pay19_tab h.cv).mul (h.rs.col _)

theorem dln : Tab (φ := .f32) b.dln d.dln :=
  Tab.congr (pay22_tab h.dyc h.wc h.xh h.lg h.lb) fun i j => by unfold Data.dln Data.dca Data.ln; rfl

theorem dcv : Tab (φ := .f32) b.dcv d.dcv :=
  Tab.congr (pay26_tab h.rs h.xh h.dln h.lg) fun i j => by unfold Data.dcv Data.dxh; rfl

theorem dmw : Tab (φ := .bf16) b.dmw d.dmw := pay30_tab h.dyp h.wp h.ps

theorem dm : Tab (φ := .f32) b.dm d.dm :=
  cols4_tab (g := fun q i j => ∑ c, d.dmw i (gcol q c) * d.wl q j c)
    (group_tab 0 0 rfl _ h.dmw (grp_tab h.wl 0 0 rfl _)) (group_tab 1 256 rfl _ h.dmw (grp_tab h.wl 1 1 rfl _))
    (group_tab 2 512 rfl slices_S256x1024_o0_512_S256x256 h.dmw (grp_tab h.wl 2 2 rfl _)) (group_tab 3 768 rfl _ h.dmw (grp_tab h.wl 3 3 rfl _))

end Reads

/-- Five rows of real numbers: what the five running sums hold. -/
structure Totals where
  bg : Fin 2048 → ℝ
  lg : Fin 1024 → ℝ
  lb : Fin 1024 → ℝ
  dw : Fin 1024 → ℝ
  ps : Fin 1024 → ℝ

/-- The sums over the `m` rows. -/
def Totals.of {m : ℕ} (d : Data m) : Totals where
  bg c := ∑ p, d.dzg p c
  lg j := ∑ p, d.dln p j * d.xh p j
  lb j := ∑ p, d.dln p j
  dw j := ∑ p, d.dcv p j
  ps j := ∑ p, d.dsc p j * d.mw p j

/-- Added row by row. -/
def Totals.add (s t : Totals) : Totals :=
  ⟨fun c => s.bg c + t.bg c, fun j => s.lg j + t.lg j, fun j => s.lb j + t.lb j, fun j => s.dw j + t.dw j, fun j => s.ps j + t.ps j⟩

/-- Nothing summed yet. -/
def Totals.none : Totals := ⟨fun _ => 0, fun _ => 0, fun _ => 0, fun _ => 0, fun _ => 0⟩

/-- The running sums hold `s`. -/
structure Sums.Holds (a : Sums Ideal) (s : Totals) : Prop where
  bg : Tab (φ := .f32) a.bg fun _ => s.bg
  lg : Tab (φ := .f32) a.lg fun _ => s.lg
  lb : Tab (φ := .f32) a.lb fun _ => s.lb
  dw : Tab (φ := .f32) a.dw fun _ => s.dw
  ps : Tab (φ := .f32) a.ps fun _ => s.ps

theorem Sums.zero_holds : (Sums.zero : Sums Ideal).Holds Totals.none := ⟨Rows.zero, Rows.zero, Rows.zero, Rows.zero, Rows.zero⟩

namespace Reads

variable {b : Ins Ideal} {d : Data 256} (h : Reads b d)
include h

theorem step_bg {x : Vec Ideal S1x2048 .f32} {s : Fin 2048 → ℝ} (hx : Tab (φ := .f32) x fun _ => s) :
    Tab (φ := .f32) (row2 (F := Ideal) (k0_pay17 b.dmg b.ga b.yc (lo x)) (k0_pay18 b.dmg b.gb b.yp (hi x))) fun _ c => s c + ∑ p, d.dzg p c :=
  Tab.congr (row2_tab (pay17_tab h.dmg h.ga h.yc (lo_tab hx)) (pay18_tab h.dmg h.gb h.yp (hi_tab hx))) fun i c => by
    rcases lcol_or_rcol c with ⟨j, rfl⟩ | ⟨j, rfl⟩
    · rw [halves_lcol]; unfold Data.dzg; simp only [halves_lcol]
    · rw [halves_rcol]; unfold Data.dzg; simp only [halves_rcol]

variable {x : Vec Ideal S1x1024 .f32} {s : Fin 1024 → ℝ} (hx : Tab (φ := .f32) x fun _ => s)
include hx

theorem step_lg : Tab (φ := .f32) (k0_pay24 (k0_pay21 b.cv) b.dln (k0_pay23 x)) fun _ j => s j + ∑ p, d.dln p j * d.xh p j :=
  pay24_tab h.xh h.dln hx

theorem step_lb : Tab (φ := .f32) (k0_pay25 b.dln x) fun _ j => s j + ∑ p, d.dln p j := pay25_tab h.dln hx

theorem step_dw : Tab (φ := .f32) (k0_pay27 (k0_pay20 b.cv) (k0_pay21 b.cv) b.dln b.lg x) fun _ j => s j + ∑ p, d.dcv p j :=
  Tab.congr (pay27_tab h.rs h.xh h.dln h.lg hx) fun i j => by unfold Data.dcv Data.dxh; rfl

theorem step_ps : Tab (φ := .f32) (k0_pay29 b.dyp b.wp x b.mw) fun _ j => s j + ∑ p, d.dsc p j * d.mw p j :=
  Tab.congr (pay29_tab h.dyp h.wp hx h.mw) fun i j => by unfold Data.dsc; rfl

end Reads

/-- One more row block adds its own sums. -/
theorem Reads.step {b : Ins Ideal} {d : Data 256} (h : Reads b d) {a : Sums Ideal} {s : Totals} (ha : a.Holds s) :
    (Sums.step b a).Holds (s.add (Totals.of d)) := by
  have h1 := h.step_bg ha.bg
  have h2 := h.step_lg ha.lg
  have h3 := h.step_lb ha.lb
  have h4 := h.step_dw ha.dw
  have h5 := h.step_ps ha.ps
  refine ⟨?_, ?_, ?_, ?_, ?_⟩
  · dsimp only [Sums.step, Totals.add, Totals.of]; exact h1
  · dsimp only [Sums.step, Totals.add, Totals.of]; exact h2
  · dsimp only [Sums.step, Totals.add, Totals.of]; exact h3
  · dsimp only [Sums.step, Totals.add, Totals.of]; exact h4
  · dsimp only [Sums.step, Totals.add, Totals.of]; exact h5

end Cert.KernelIdeal.Rows
-- ==== Proof.Rows.Totals.lean ====
/- The arrays the launch finds hold the data of all 4352 rows; then its windows hold the rows of their blocks, and the running
   sums end as the sums over all rows. -/
module

public import proofs.«01_k».proof.Proof.Rows.Windows
public import proofs.«01_k».proof.Proof.Rows.Reads

@[expose] public section

noncomputable section

namespace Cert.KernelIdeal.Rows

open Cert.KernelIdeal Cert.KernelIdeal.Gen Cert.Rows
open Idealize.ShloMosaic hiding ix0 ix1 ix2 ix3 eq_ix1 eq_ix2
open Idealize.ShloMosaic.ValueIdx
open Idealize.ShloMosaic.TcCoe Idealize.ShloMosaic.Pipeline Idealize.SL.Sem

variable (m : (ℓ : Loc nD τ sig) → Buf (Elt Ideal) ℓ) (c : Dev nD)

/-- A column of the gates' arguments among all projected columns. -/
def colG (k : Fin 2048) : Fin 5120 := ⟨3072 + k, by omega⟩

/-- The arrays the windows are cut from hold the data `d`. -/
structure Has (d : Data 4352) : Prop where
  dh : ∀ i j, V m c main_arg0 (ix2 i j) = ((d.dh i j : ℝ) : EReal)
  yc : ∀ i j, V m c main_v30 (ix2 i j) = ((d.yc i j : ℝ) : EReal)
  yp : ∀ i j, V m c main_v42 (ix2 i j) = ((d.yp i j : ℝ) : EReal)
  zg : ∀ i k, V m c main_arg1 (ix2 i (colG k)) = ((d.zg i k : ℝ) : EReal)
  bg : ∀ (i : Fin 1) j, V m c main_arg2 (ix2 i j) = ((d.bg j : ℝ) : EReal)
  cv : ∀ i j, V m c main_v46 (ix2 i j) = ((d.cv i j : ℝ) : EReal)
  lg : ∀ (i : Fin 1) j, V m c main_arg5 (ix2 i j) = ((d.lg j : ℝ) : EReal)
  lb : ∀ (i : Fin 1) j, V m c main_arg6 (ix2 i j) = ((d.lb j : ℝ) : EReal)
  mw : ∀ i j, V m c main_v36 (ix2 i j) = ((d.mw i j : ℝ) : EReal)
  ps : ∀ (i : Fin 1) j, V m c main_arg9 (ix2 i j) = ((d.ps j : ℝ) : EReal)
  wo : ∀ i j, V m c main_arg10 (ix2 i j) = ((d.wo i j : ℝ) : EReal)
  wc : ∀ i j, V m c main_arg11 (ix2 i j) = ((d.wc i j : ℝ) : EReal)
  wp : ∀ i j, V m c main_arg12 (ix2 i j) = ((d.wp i j : ℝ) : EReal)
  wl : ∀ g i j, V m c main_arg8 (ix3 g i j) = ((d.wl g i j : ℝ) : EReal)

variable {m c} {d : Data 4352} (h : Has m c d)

theorem colA_eq (j : Fin 1024) : colA j = colG (lcol j) := rfl
theorem colB_eq (j : Fin 1024) : colB j = colG (rcol j) := Fin.ext (by show 4096 + j.val = 3072 + (1024 + j.val); omega)

include h in
/-- The windows at block `t` hold the block's rows. -/
theorem Has.reads (t : Fin cfg0.N) : Reads (ins m c t) (d.rows (row t)) where
  dh p q := (read_dh m c t p q).trans (h.dh _ _)
  yc p q := (read_yc m c t p q).trans (h.yc _ _)
  yp p q := (read_yp m c t p q).trans (h.yp _ _)
  za p q := (read_za m c t p q).trans (by rw [colA_eq]; exact h.zg _ _)
  zb p q := (read_zb m c t p q).trans (by rw [colB_eq]; exact h.zg _ _)
  bg p q := (read_bg m c t p q).trans (h.bg _ _)
  cv p q := (read_cv m c t p q).trans (h.cv _ _)
  lg p q := (read_lg m c t p q).trans (h.lg _ _)
  lb p q := (read_lb m c t p q).trans (h.lb _ _)
  mw p q := (read_mw m c t p q).trans (h.mw _ _)
  ps p q := (read_ps m c t p q).trans (h.ps _ _)
  wo p q := (read_wo m c t p q).trans (h.wo _ _)
  wc p q := (read_wc m c t p q).trans (h.wc _ _)
  wp p q := (read_wp m c t p q).trans (h.wp _ _)
  wl g p q := (read_wl m c t g p q).trans (h.wl _ _ _)

/-- The sums over the rows of the blocks up to `n`. -/
def upto (d : Data 4352) : (n : ℕ) → n < cfg0.N → Totals
  | 0, hn => Totals.none.add (Totals.of (d.rows (row ⟨0, hn⟩)))
  | n + 1, hn => (upto d n (Nat.lt_of_succ_lt hn)).add (Totals.of (d.rows (row ⟨n + 1, hn⟩)))

include h in
theorem Has.sums_hold : ∀ (n : ℕ) (hn : n < cfg0.N), (sums m c n hn).Holds (upto d n hn)
  | 0, hn => (h.reads ⟨0, hn⟩).step Sums.zero_holds
  | n + 1, hn => (h.reads ⟨n + 1, hn⟩).step (Has.sums_hold n (Nat.lt_of_succ_lt hn))

/-- One entry of the sums up to block `n`, as a sum over the blocks. -/
theorem upto_entry (d : Data 4352) (π : Totals → ℝ) (h0 : π Totals.none = 0) (ha : ∀ s t, π (s.add t) = π s + π t) :
    ∀ (n : ℕ) (hn : n < cfg0.N), π (upto d n hn) = ∑ t : Fin (n + 1), π (Totals.of (d.rows (row ⟨t.val, Nat.lt_of_lt_of_le t.isLt hn⟩)))
  | 0, hn => by
    show π (Totals.none.add _) = _
    rw [ha, h0, zero_add, Fin.sum_univ_one]
    rfl
  | n + 1, hn => by
    show π ((upto d n _).add _) = _
    rw [ha, upto_entry d π h0 ha n]
    exact (Fin.sum_univ_castSucc fun t : Fin (n + 1 + 1) => π (Totals.of (d.rows (row ⟨t.val, Nat.lt_of_lt_of_le t.isLt hn⟩)))).symm

/-- All rows are the rows of the blocks. -/
theorem sum_rows (f : Fin 4352 → ℝ) : ∑ t : Fin 17, ∑ p : Fin 256, f (row t p) = ∑ i, f i := by
  rw [← Fintype.sum_prod_type']
  refine Fintype.sum_equiv (finProdFinEquiv (m := 17) (n := 256)) _ _ fun x => congrArg f (Fin.ext ?_)
  show 256 * x.1.val + x.2.val = x.2.val + 256 * x.1.val
  omega

/-- After the last block the sums are those over all rows. -/
theorem upto_last (d : Data 4352) : upto d 16 (by decide) = Totals.of d := by
  have e : ∀ (π : Totals → ℝ) (_ : π Totals.none = 0) (_ : ∀ s t, π (s.add t) = π s + π t) (f : Fin 4352 → ℝ)
      (_ : ∀ t : Fin 17, π (Totals.of (d.rows (row t))) = ∑ p, f (row t p)), π (upto d 16 (by decide)) = ∑ i, f i :=
    fun π h0 ha f hf => ((upto_entry d π h0 ha 16 (by decide)).trans (Finset.sum_congr rfl fun t _ => hf t)).trans (sum_rows f)
  have hbg : (upto d 16 (by decide)).bg = (Totals.of d).bg :=
    funext fun k => e (fun s => s.bg k) rfl (fun _ _ => rfl) (fun i => d.dzg i k) fun _ => rfl
  have hlg : (upto d 16 (by decide)).lg = (Totals.of d).lg :=
    funext fun k => e (fun s => s.lg k) rfl (fun _ _ => rfl) (fun i => d.dln i k * d.xh i k) fun _ => rfl
  have hlb : (upto d 16 (by decide)).lb = (Totals.of d).lb :=
    funext fun k => e (fun s => s.lb k) rfl (fun _ _ => rfl) (fun i => d.dln i k) fun _ => rfl
  have hdw : (upto d 16 (by decide)).dw = (Totals.of d).dw :=
    funext fun k => e (fun s => s.dw k) rfl (fun _ _ => rfl) (fun i => d.dcv i k) fun _ => rfl
  have hps : (upto d 16 (by decide)).ps = (Totals.of d).ps :=
    funext fun k => e (fun s => s.ps k) rfl (fun _ _ => rfl) (fun i => d.dsc i k * d.mw i k) fun _ => rfl
  generalize upto d 16 (by decide) = s at *
  cases s
  simp only at hbg hlg hlb hdw hps
  subst hbg hlg hlb hdw hps
  rfl

include h in
/-- After the last block the running sums hold the sums over all rows. -/
theorem Has.sums_last : (sums m c 16 (by decide)).Holds (Totals.of d) := upto_last d ▸ h.sums_hold 16 (by decide)

end Cert.KernelIdeal.Rows
-- ==== Proof.Rows.Final.lean ====
/- What the launch leaves in its eleven result arrays. -/
module

public import proofs.«01_k».proof.Proof.Rows.Totals

@[expose] public section

noncomputable section

namespace Cert.KernelIdeal.Rows

open Cert.KernelIdeal Cert.KernelIdeal.Gen Cert.Rows
open Idealize.ShloMosaic hiding ix0 ix1 ix2 ix3 eq_ix1 eq_ix2
open Idealize.ShloMosaic.ValueIdx
open Idealize.ShloMosaic.TcCoe Idealize.ShloMosaic.Pipeline Idealize.SL.Sem

variable {m : (ℓ : Loc nD τ sig) → Buf (Elt Ideal) ℓ} {c : Dev nD} {d : Data 4352} (h : Has m c d)
include h

theorem Has.final_dyc : (dats m 0 c).arrAt 15 cfg0.N = fun y : S4352x1024.Idx => ((d.dyc (y 0) (y 1) : ℝ) : EReal) := by
  refine (dats m 0 c).arrAt_eq_of_covers 15 _ (by decide +kernel) fun t hf y => ?_
  blk_simp
  rw [after_15]
  obtain ⟨p, q, rfl⟩ : ∃ (p : Fin 256) (q : Fin 1024), y = ix2 p q := ⟨y 0, y 1, eq_ix2 y⟩
  refine ((h.reads t).dyc p q).trans ?_
  show ((d.dyc (row t p) q : ℝ) : EReal) = _
  congr 2
  · apply Fin.ext; blk_simp [idx_15, row]; show 256 * t.val + p.val = t.val * 256 + p.val; omega
  · apply Fin.ext; blk_simp [idx_15]

theorem Has.final_dyp : (dats m 0 c).arrAt 16 cfg0.N = fun y : S4352x1024.Idx => ((d.dyp (y 0) (y 1) : ℝ) : EReal) := by
  refine (dats m 0 c).arrAt_eq_of_covers 16 _ (by decide +kernel) fun t hf y => ?_
  blk_simp
  rw [after_16]
  obtain ⟨p, q, rfl⟩ : ∃ (p : Fin 256) (q : Fin 1024), y = ix2 p q := ⟨y 0, y 1, eq_ix2 y⟩
  refine ((h.reads t).dyp p q).trans ?_
  show ((d.dyp (row t p) q : ℝ) : EReal) = _
  congr 2
  · apply Fin.ext; blk_simp [idx_16, row]; show 256 * t.val + p.val = t.val * 256 + p.val; omega
  · apply Fin.ext; blk_simp [idx_16]

theorem Has.final_dzg : (dats m 0 c).arrAt 17 cfg0.N = fun y : S4352x2048.Idx => ((d.dzg (y 0) (y 1) : ℝ) : EReal) := by
  refine (dats m 0 c).arrAt_eq_of_covers 17 _ (by decide +kernel) fun t hf y => ?_
  blk_simp
  rw [after_17]
  obtain ⟨p, q, rfl⟩ : ∃ (p : Fin 256) (q : Fin 2048), y = ix2 p q := ⟨y 0, y 1, eq_ix2 y⟩
  refine ((h.reads t).dzg p q).trans ?_
  show ((d.dzg (row t p) q : ℝ) : EReal) = _
  congr 2
  · apply Fin.ext; blk_simp [idx_17, row]; show 256 * t.val + p.val = t.val * 256 + p.val; omega
  · apply Fin.ext; blk_simp [idx_17]

theorem Has.final_dcv : (dats m 0 c).arrAt 18 cfg0.N = fun y : S4352x1024.Idx => ((d.dcv (y 0) (y 1) : ℝ) : EReal) := by
  refine (dats m 0 c).arrAt_eq_of_covers 18 _ (by decide +kernel) fun t hf y => ?_
  blk_simp
  rw [after_18]
  obtain ⟨p, q, rfl⟩ : ∃ (p : Fin 256) (q : Fin 1024), y = ix2 p q := ⟨y 0, y 1, eq_ix2 y⟩
  refine ((h.reads t).dcv p q).trans ?_
  show ((d.dcv (row t p) q : ℝ) : EReal) = _
  congr 2
  · apply Fin.ext; blk_simp [idx_18, row]; show 256 * t.val + p.val = t.val * 256 + p.val; omega
  · apply Fin.ext; blk_simp [idx_18]

theorem Has.final_dmw : (dats m 0 c).arrAt 19 cfg0.N = fun y : S4352x1024.Idx => ((d.dmw (y 0) (y 1) : ℝ) : EReal) := by
  refine (dats m 0 c).arrAt_eq_of_covers 19 _ (by decide +kernel) fun t hf y => ?_
  blk_simp
  rw [after_19]
  obtain ⟨p, q, rfl⟩ : ∃ (p : Fin 256) (q : Fin 1024), y = ix2 p q := ⟨y 0, y 1, eq_ix2 y⟩
  refine ((h.reads t).dmw p q).trans ?_
  show ((d.dmw (row t p) q : ℝ) : EReal) = _
  congr 2
  · apply Fin.ext; blk_simp [idx_19, row]; show 256 * t.val + p.val = t.val * 256 + p.val; omega
  · apply Fin.ext; blk_simp [idx_19]

theorem Has.final_dm : (dats m 0 c).arrAt 20 cfg0.N = fun y : S4352x1024.Idx => ((d.dm (y 0) (y 1) : ℝ) : EReal) := by
  refine (dats m 0 c).arrAt_eq_of_covers 20 _ (by decide +kernel) fun t hf y => ?_
  blk_simp
  rw [after_20]
  obtain ⟨p, q, rfl⟩ : ∃ (p : Fin 256) (q : Fin 1024), y = ix2 p q := ⟨y 0, y 1, eq_ix2 y⟩
  refine ((h.reads t).dm p q).trans ?_
  show ((d.dm (row t p) q : ℝ) : EReal) = _
  congr 2
  · apply Fin.ext; blk_simp [idx_20, row]; show 256 * t.val + p.val = t.val * 256 + p.val; omega
  · apply Fin.ext; blk_simp [idx_20]

theorem Has.final_sum_bg : (dats m 0 c).arrAt 21 cfg0.N = fun y : S1x2048.Idx => (((Totals.of d).bg (y 1) : ℝ) : EReal) := by
  refine (dats m 0 c).arrAt_eq_of_after_last 21 ⟨16, by decide⟩ (by decide +kernel) _ fun y => ?_
  obtain ⟨p, q, rfl⟩ : ∃ (p : Fin 1) (q : Fin 2048), y = ix2 p q := ⟨y 0, y 1, eq_ix2 y⟩
  exact (congrFun (after_21 m c ⟨16, by decide⟩) (ix2 p q)).trans (h.sums_last.bg p q)

theorem Has.final_sum_lg : (dats m 0 c).arrAt 22 cfg0.N = fun y : S1x1024.Idx => (((Totals.of d).lg (y 1) : ℝ) : EReal) := by
  refine (dats m 0 c).arrAt_eq_of_after_last 22 ⟨16, by decide⟩ (by decide +kernel) _ fun y => ?_
  obtain ⟨p, q, rfl⟩ : ∃ (p : Fin 1) (q : Fin 1024), y = ix2 p q := ⟨y 0, y 1, eq_ix2 y⟩
  exact (congrFun (after_22 m c ⟨16, by decide⟩) (ix2 p q)).trans (h.sums_last.lg p q)

theorem Has.final_sum_lb : (dats m 0 c).arrAt 23 cfg0.N = fun y : S1x1024.Idx => (((Totals.of d).lb (y 1) : ℝ) : EReal) := by
  refine (dats m 0 c).arrAt_eq_of_after_last 23 ⟨16, by decide⟩ (by decide +kernel) _ fun y => ?_
  obtain ⟨p, q, rfl⟩ : ∃ (p : Fin 1) (q : Fin 1024), y = ix2 p q := ⟨y 0, y 1, eq_ix2 y⟩
  exact (congrFun (after_23 m c ⟨16, by decide⟩) (ix2 p q)).trans (h.sums_last.lb p q)

theorem Has.final_sum_dw : (dats m 0 c).arrAt 24 cfg0.N = fun y : S1x1024.Idx => (((Totals.of d).dw (y 1) : ℝ) : EReal) := by
  refine (dats m 0 c).arrAt_eq_of_after_last 24 ⟨16, by decide⟩ (by decide +kernel) _ fun y => ?_
  obtain ⟨p, q, rfl⟩ : ∃ (p : Fin 1) (q : Fin 1024), y = ix2 p q := ⟨y 0, y 1, eq_ix2 y⟩
  exact (congrFun (after_24 m c ⟨16, by decide⟩) (ix2 p q)).trans (h.sums_last.dw p q)

theorem Has.final_sum_ps : (dats m 0 c).arrAt 25 cfg0.N = fun y : S1x1024.Idx => (((Totals.of d).ps (y 1) : ℝ) : EReal) := by
  refine (dats m 0 c).arrAt_eq_of_after_last 25 ⟨16, by decide⟩ (by decide +kernel) _ fun y => ?_
  obtain ⟨p, q, rfl⟩ : ∃ (p : Fin 1) (q : Fin 1024), y = ix2 p q := ⟨y 0, y 1, eq_ix2 y⟩
  exact (congrFun (after_25 m c ⟨16, by decide⟩) (ix2 p q)).trans (h.sums_last.ps p q)

end Cert.KernelIdeal.Rows
-- ==== Proof.Rows.Meet.lean ====
/- The kernel and the reference, run on the same real tables, leave the same eleven arrays. -/
module

public import proofs.«01_k».proof.Proof.Rows.Finite
public import proofs.«01_k».proof.Proof.Rows.Host
public import proofs.«01_k».proof.Proof.Rows.Final
public import proofs.«01_k».proof.Proof.Rows.Reference

@[expose] public section

noncomputable section

namespace Cert.KernelIdeal.Rows

open Cert.KernelIdeal Cert.KernelIdeal.Gen Cert.Rows
open Idealize.ShloMosaic hiding ix0 ix1 ix2 ix3 eq_ix1 eq_ix2
open Idealize.ShloMosaic.ValueIdx
open Idealize.ShloMosaic.TcCoe Idealize.ShloMosaic.Pipeline Idealize.SL.Sem

attribute [local instance] Cert.KernelIdeal.Gen.facts Cert.ReferenceIdeal.Gen.facts

/-- The arguments of the kernel hold the given tables. -/
def TakesK (m : (ℓ : Loc nD τ sig) → Buf (Elt Ideal) ℓ) (c : Dev nD) (g : Given) : Prop :=
  Takes (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12)) g

/-- The reference's buffers hold the kernel's arguments. -/
structure Passed (m : (ℓ : Loc nD τ sig) → Buf (Elt Ideal) ℓ) (c : Dev nD) (V0 : Valuation Cert.ReferenceIdeal.τ Cert.ReferenceIdeal.sig (Elt Ideal)) : Prop where
  a0 : V0 (Proc.devRef .tc Cert.ReferenceIdeal.main_arg0) = m (c.tc.loc main_arg0)
  a1 : V0 (Proc.devRef .tc Cert.ReferenceIdeal.main_arg1) = m (c.tc.loc main_arg1)
  a2 : V0 (Proc.devRef .tc Cert.ReferenceIdeal.main_arg2) = m (c.tc.loc main_arg2)
  a3 : V0 (Proc.devRef .tc Cert.ReferenceIdeal.main_arg3) = m (c.tc.loc main_arg3)
  a4 : V0 (Proc.devRef .tc Cert.ReferenceIdeal.main_arg4) = m (c.tc.loc main_arg4)
  a5 : V0 (Proc.devRef .tc Cert.ReferenceIdeal.main_arg5) = m (c.tc.loc main_arg5)
  a6 : V0 (Proc.devRef .tc Cert.ReferenceIdeal.main_arg6) = m (c.tc.loc main_arg6)
  a7 : V0 (Proc.devRef .tc Cert.ReferenceIdeal.main_arg7) = m (c.tc.loc main_arg7)
  a8 : V0 (Proc.devRef .tc Cert.ReferenceIdeal.main_arg8) = m (c.tc.loc main_arg8)
  a9 : V0 (Proc.devRef .tc Cert.ReferenceIdeal.main_arg9) = m (c.tc.loc main_arg9)
  a10 : V0 (Proc.devRef .tc Cert.ReferenceIdeal.main_arg10) = m (c.tc.loc main_arg10)
  a11 : V0 (Proc.devRef .tc Cert.ReferenceIdeal.main_arg11) = m (c.tc.loc main_arg11)
  a12 : V0 (Proc.devRef .tc Cert.ReferenceIdeal.main_arg12) = m (c.tc.loc main_arg12)

variable {m : (ℓ : Loc nD τ sig) → Buf (Elt Ideal) ℓ} {c : Dev nD} {V0 : Valuation Cert.ReferenceIdeal.τ Cert.ReferenceIdeal.sig (Elt Ideal)} {g : Given}

theorem Passed.held (p : Passed m c V0) (k : TakesK m c g) : Cert.ReferenceIdeal.Rows.Held V0 g where
  dh i j := (congrFun p.a0 _).trans (k.dh i j)
  z i j := (congrFun p.a1 _).trans (k.z i j)
  bg i j := (congrFun p.a2 _).trans (k.bg i j)
  conv i j := (congrFun p.a3 _).trans (k.conv i j)
  bdw i j := (congrFun p.a4 _).trans (k.bdw i j)
  lg i j := (congrFun p.a5 _).trans (k.lg i j)
  lb i j := (congrFun p.a6 _).trans (k.lb i j)
  mm i j := (congrFun p.a7 _).trans (k.mm i j)
  wl n i j := (congrFun p.a8 _).trans (k.wl n i j)
  ps i j := (congrFun p.a9 _).trans (k.ps i j)
  wo i j := (congrFun p.a10 _).trans (k.wo i j)
  wc i j := (congrFun p.a11 _).trans (k.wc i j)
  wp i j := (congrFun p.a12 _).trans (k.wp i j)

theorem Passed.agree (p : Passed m c V0) : Cert.Rows.Host.Agree (fun b => m (c, b)) V0 where
  a3 := p.a3.symm
  a4 := p.a4.symm
  a5 := p.a5.symm
  a6 := p.a6.symm
  a7 := p.a7.symm
  a8 := p.a8.symm
  a9 := p.a9.symm
  a11 := p.a11.symm
  a12 := p.a12.symm

/-- What the launch finds. -/
theorem Passed.has (p : Passed m c V0) (k : TakesK m c g) : Has m c g.data where
  dh i j := (congrFun (V_main_arg0 m c) _).trans (k.dh i j)
  yc i j := (congrFun (Cert.Rows.Host.found_yc p.agree) (ix2 i j)).trans ((p.held k).v35 i j)
  yp i j := (congrFun (Cert.Rows.Host.found_yp p.agree) (ix2 i j)).trans ((p.held k).v44 i j)
  zg i q := (congrFun (V_main_arg1 m c) _).trans (k.z i (colG q))
  bg i j := (congrFun (V_main_arg2 m c) _).trans (k.bg i j)
  cv i j := (congrFun (Cert.Rows.Host.found_cv p.agree) (ix2 i j)).trans ((p.held k).v81 i j)
  lg i j := (congrFun (V_main_arg5 m c) _).trans (k.lg i j)
  lb i j := (congrFun (V_main_arg6 m c) _).trans (k.lb i j)
  mw i j := (congrFun (Cert.Rows.Host.found_mw p.agree) (ix2 i j)).trans ((p.held k).v39 i j)
  ps i j := (congrFun (V_main_arg9 m c) _).trans (k.ps i j)
  wo i j := (congrFun (V_main_arg10 m c) _).trans (k.wo i j)
  wc i j := (congrFun (V_main_arg11 m c) _).trans (k.wc i j)
  wp i j := (congrFun (V_main_arg12 m c) _).trans (k.wp i j)
  wl n i j := (congrFun (V_main_arg8 m c) _).trans (k.wl n i j)

/-- An array holding a real table is the array of its entries. -/
theorem filled {φ : FTy} {a b : ℕ} {x : FVec Ideal ⟨2, ![a, b]⟩ φ} {f : Fin a → Fin b → ℝ} (hx : Tab x f) :
    x = fun y : (⟨2, ![a, b]⟩ : Shape).Idx => ((f (y 0) (y 1) : ℝ) : EReal) := by
  funext y
  obtain ⟨p, q, rfl⟩ : ∃ (p : Fin a) (q : Fin b), y = ix2 p q := ⟨y 0, y 1, eq_ix2 y⟩
  exact hx p q

end Cert.KernelIdeal.Rows
-- ==== Proof.Rows.Ends.lean ====
/- The kernel's run and the reference's, on the same finite arguments, end with the same eleven arrays. -/
module

public import proofs.«01_k».proof.Defs
public import proofs.«01_k».proof.Proof.Rows.Meet
public import proofs.«01_k».proof.Proof.Rows.Launch

@[expose] public section

noncomputable section

namespace Cert.KernelIdeal.Rows

open Cert.KernelIdeal Cert.KernelIdeal.Gen Cert.Rows
open Idealize.ShloMosaic hiding ix0 ix1 ix2 ix3 eq_ix1 eq_ix2
open Idealize.ShloMosaic.ValueIdx
open Idealize.ShloMosaic.TcCoe Idealize.ShloMosaic.Pipeline Idealize.SL.Sem

attribute [local instance] Cert.KernelIdeal.Gen.facts Cert.ReferenceIdeal.Gen.facts Cert.Pre_finite.Gen.facts

/-- Result 0. -/
def resDyc (d : Data 4352) : FVec Ideal S4352x1024 .bf16 := fun y => ((d.dyc (y 0) (y 1) : ℝ) : EReal)
/-- Result 1. -/
def resDyp (d : Data 4352) : FVec Ideal S4352x1024 .bf16 := fun y => ((d.dyp (y 0) (y 1) : ℝ) : EReal)
/-- Result 2. -/
def resDzg (d : Data 4352) : FVec Ideal S4352x2048 .bf16 := fun y => ((d.dzg (y 0) (y 1) : ℝ) : EReal)
/-- Result 3. -/
def resDcv (d : Data 4352) : FVec Ideal S4352x1024 .f32 := fun y => ((d.dcv (y 0) (y 1) : ℝ) : EReal)
/-- Result 4. -/
def resDmw (d : Data 4352) : FVec Ideal S4352x1024 .bf16 := fun y => ((d.dmw (y 0) (y 1) : ℝ) : EReal)
/-- Result 5. -/
def resDm (d : Data 4352) : FVec Ideal S4352x1024 .f32 := fun y => ((d.dm (y 0) (y 1) : ℝ) : EReal)
/-- Result 6. -/
def resBg (d : Data 4352) : FVec Ideal S1x2048 .f32 := fun y => (((Totals.of d).bg (y 1) : ℝ) : EReal)
/-- Result 7. -/
def resLg (d : Data 4352) : FVec Ideal S1x1024 .f32 := fun y => (((Totals.of d).lg (y 1) : ℝ) : EReal)
/-- Result 8. -/
def resLb (d : Data 4352) : FVec Ideal S1x1024 .f32 := fun y => (((Totals.of d).lb (y 1) : ℝ) : EReal)
/-- Result 9. -/
def resDw (d : Data 4352) : FVec Ideal S1x1024 .f32 := fun y => (((Totals.of d).dw (y 1) : ℝ) : EReal)
/-- Result 10. -/
def resPs (d : Data 4352) : FVec Ideal S1x1024 .f32 := fun y => (((Totals.of d).ps (y 1) : ℝ) : EReal)

variable (m : (ℓ : Loc nD τ sig) → Buf (Elt Ideal) ℓ) (ρ : Dev nD → PrngReg)

set_option maxHeartbeats 4000000 in
/-- The kernel's run leaves the real tables in its results. -/
theorem kernel_ends (d : Dev nD → Data 4352) (h : ∀ c, Has m c (d c)) :
    θ_run defs (onTc (τ := τ) (main (F := Ideal))) ⟨m, fun _ => 0, ρ⟩ (fun r => ∀ c : Dev nD,
      r.2.mem ((c.tc : Thread nD τ).loc main_v47_0) = resDyc (d c)
      ∧ r.2.mem ((c.tc : Thread nD τ).loc main_v47_1) = resDyp (d c)
      ∧ r.2.mem ((c.tc : Thread nD τ).loc main_v47_2) = resDzg (d c)
      ∧ r.2.mem ((c.tc : Thread nD τ).loc main_v47_3) = resDcv (d c)
      ∧ r.2.mem ((c.tc : Thread nD τ).loc main_v47_4) = resDmw (d c)
      ∧ r.2.mem ((c.tc : Thread nD τ).loc main_v47_5) = resDm (d c)
      ∧ r.2.mem ((c.tc : Thread nD τ).loc main_v47_6) = resBg (d c)
      ∧ r.2.mem ((c.tc : Thread nD τ).loc main_v47_7) = resLg (d c)
      ∧ r.2.mem ((c.tc : Thread nD τ).loc main_v47_8) = resLb (d c)
      ∧ r.2.mem ((c.tc : Thread nD τ).loc main_v47_9) = resDw (d c)
      ∧ r.2.mem ((c.tc : Thread nD τ).loc main_v47_10) = resPs (d c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono
    (fun r hr c => ⟨(hr.1.1.out_eq c 15).trans (h c).final_dyc,
      (hr.1.1.out_eq c 16).trans (h c).final_dyp,
      (hr.1.1.out_eq c 17).trans (h c).final_dzg,
      (hr.1.1.out_eq c 18).trans (h c).final_dcv,
      (hr.1.1.out_eq c 19).trans (h c).final_dmw,
      (hr.1.1.out_eq c 20).trans (h c).final_dm,
      (hr.1.1.out_eq c 21).trans (h c).final_sum_bg,
      (hr.1.1.out_eq c 22).trans (h c).final_sum_lg,
      (hr.1.1.out_eq c 23).trans (h c).final_sum_lb,
      (hr.1.1.out_eq c 24).trans (h c).final_sum_dw,
      (hr.1.1.out_eq c 25).trans (h c).final_sum_ps, hr.2.1 c⟩)
    (θ_run_and (run m ρ) (arguments_kept m ρ))

end Cert.KernelIdeal.Rows

namespace Cert.ReferenceIdeal.Rows

open Cert.ReferenceIdeal Cert.ReferenceIdeal.Gen Cert.Rows Cert.KernelIdeal.Rows
open Idealize.ShloMosaic hiding ix0 ix1 ix2 ix3 eq_ix1 eq_ix2
open Idealize.ShloMosaic.ValueIdx
open Idealize.ShloMosaic.TcCoe Idealize.SL.Sem

attribute [local instance] Cert.KernelIdeal.Gen.facts Cert.ReferenceIdeal.Gen.facts

variable (m : (ℓ : Loc nD τ sig) → Buf (Elt Ideal) ℓ) (ρ : Dev nD → PrngReg)

set_option maxHeartbeats 4000000 in
/-- The reference's run leaves the same. -/
theorem reference_ends (g : Dev nD → Given) (h : ∀ c, Held (StableHlo.launchContents m c) (g c)) :
    θ_run defs (onTc (τ := τ) (main (F := Ideal))) ⟨m, fun _ => 0, ρ⟩ (fun r => ∀ c : Dev nD,
      r.2.mem ((c.tc : Thread nD τ).loc main_v172) = resDyc (g c).data
      ∧ r.2.mem ((c.tc : Thread nD τ).loc main_v173) = resDyp (g c).data
      ∧ r.2.mem ((c.tc : Thread nD τ).loc main_v174) = resDzg (g c).data
      ∧ r.2.mem ((c.tc : Thread nD τ).loc main_v143) = resDcv (g c).data
      ∧ r.2.mem ((c.tc : Thread nD τ).loc main_v175) = resDmw (g c).data
      ∧ r.2.mem ((c.tc : Thread nD τ).loc main_v171) = resDm (g c).data
      ∧ r.2.mem ((c.tc : Thread nD τ).loc main_v77) = resBg (g c).data
      ∧ r.2.mem ((c.tc : Thread nD τ).loc main_v145) = resLg (g c).data
      ∧ r.2.mem ((c.tc : Thread nD τ).loc main_v144) = resLb (g c).data
      ∧ r.2.mem ((c.tc : Thread nD τ).loc main_v149) = resDw (g c).data
      ∧ r.2.mem ((c.tc : Thread nD τ).loc main_v162) = resPs (g c).data
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono
    (fun r hr c => ⟨(hr c).1.trans (filled ((h c).v69.trunc bitsLt_bf16_f32)),
      (hr c).2.1.trans (filled ((h c).v66.trunc bitsLt_bf16_f32)),
      (hr c).2.2.1.trans (filled ((h c).v73.trunc bitsLt_bf16_f32)),
      (hr c).2.2.2.1.trans (filled ((h c).v143)),
      (hr c).2.2.2.2.1.trans (filled ((h c).v160.trunc bitsLt_bf16_f32)),
      (hr c).2.2.2.2.2.1.trans (filled (dm_tab (h c).v2 (h c).v160)),
      (hr c).2.2.2.2.2.2.1.trans (filled (total (h c).v73 reducesTo_S4352x2048_S2048_d0 reducesTo_S1x2048_S2048_d0 h_S_ shapeCasts_S2048_S1x2048 bcast_S2048_S1x2048_1)),
      (hr c).2.2.2.2.2.2.2.1.trans (filled ((total ((h c).v102.mul (h c).v112) reducesTo_S4352x1024_S1024_d0 reducesTo_S1x1024_S1024_d0 h_S_ shapeCasts_S1024_S1x1024 bcast_S1024_S1x1024_1).congr fun _ _ => Finset.sum_congr rfl fun _ _ => mul_comm _ _)),
      (hr c).2.2.2.2.2.2.2.2.1.trans (filled (total (h c).v112 reducesTo_S4352x1024_S1024_d0 reducesTo_S1x1024_S1024_d0 h_S_ shapeCasts_S1024_S1x1024 bcast_S1024_S1x1024_1)),
      (hr c).2.2.2.2.2.2.2.2.2.1.trans (filled (total (h c).v143 reducesTo_S4352x1024_S1024_d0 reducesTo_S1x1024_S1024_d0 h_S_ shapeCasts_S1024_S1x1024 bcast_S1024_S1x1024_1)),
      (hr c).2.2.2.2.2.2.2.2.2.2.1.trans (filled ((total ((h c).v39.mul (h c).v155) reducesTo_S4352x1024_S1024_d0 reducesTo_S1x1024_S1024_d0 h_S_ shapeCasts_S1024_S1x1024 bcast_S1024_S1x1024_1).congr fun _ _ => Finset.sum_congr rfl fun _ _ => mul_comm _ _)),
      (hr c).2.2.2.2.2.2.2.2.2.2.2⟩)
    (Cert.ReferenceIdeal.Value.run m ρ)

end Cert.ReferenceIdeal.Rows
-- ==== Proof.Wgrad.Ff.lean ====
/- The gradient of a feed-forward weight: what the call leaves in its two result arrays. -/
module

public import proofs.«01_k».proof.Proof.Gen.WffIdeal.Frame
public import proofs.«01_k».proof.Proof.Wgrad.Sum
public import Idealize.ShloMosaic.Lib.Pipeline.ValueKit
public import Idealize.ShloMosaic.Lib.Pointwise

@[expose] public section

set_option maxRecDepth 16384

noncomputable section

namespace Cert.WffIdeal.Wgrad

open Cert.WffIdeal Cert.WffIdeal.Gen
open Idealize.ShloMosaic hiding ix0 ix1 ix2 ix3 eq_ix1 eq_ix2
open Idealize.ShloMosaic.ValueIdx
open Idealize.ShloMosaic.TcCoe Idealize.ShloMosaic.Pipeline Idealize.ShloMosaic.Tactic Idealize.SL.Sem

/-- No offset along either axis. -/
theorem at_origin : (![0, 0] : Fin 2 → Nat) = fun _ => 0 := funext fun a => by fin_cases a <;> rfl

section Blocks

variable {F : FTy → Type} [FloatOps F]

variable (c : Dev nD) (i : grid0.Coords) (a3 : Memref sig .tc .vmem S2176x1408 .bf16) (h3 : a3.IsWhole) (a4 : Memref sig .tc .vmem S2176x1024 .bf16)
  (h4 : a4.IsWhole) (a5 : Memref sig .tc .vmem S1408x1024 .f32) (h5 : a5.IsWhole) (a6 : Memref sig .tc .vmem S1408x1024 .bf16) (h6 : a6.IsWhole)
  (x : Vec F S2176x1408 .bf16) (y : Vec F S2176x1024 .bf16) (s : Vec F S1408x1024 .f32)

/-- The first half of the rows: the product of the two blocks, added to zeros. -/
theorem first (k0 : cond0_0 i) (k1 : ¬cond0_1 i) : out0_A_2 c i a3 h3 a4 h4 a5 h5 a6 h6 k0 k1 x y = k0_pay2 k0_pay1 x y := by
  unfold out0_A_2
  rw [View.read_writes_eq_canon _ _ _ (cover0_A_2 c i a3 h3 a4 h4 a5 h5 a6 h6 k0 k1 x y)]
  unfold kernelRun0_A
  dsimp only
  sl_unfold_words
  rw [View.canon_cons_unit_zero (S := S1408x1024) at_origin, View.readCov_unit_zero (S := S1408x1024) _ at_origin]
  simp only [View.readAt_eq_ld, h3.read_unread, h4.read_unread, View.ld_unit_zero (S := S2176x1408) at_origin, View.ld_unit_zero (S := S2176x1024) at_origin]

/-- The second half: its product, added to what is there. -/
theorem second (k0 : ¬cond0_0 i) (k1 : cond0_1 i) : out0_B_2 c i a3 h3 a4 h4 a5 h5 a6 h6 k0 k1 x y s = k0_pay2 s x y := by
  unfold out0_B_2
  rw [View.read_writes_eq_canon _ _ _ (cover0_B_2 c i a3 h3 a4 h4 a5 h5 a6 h6 k0 k1 x y s)]
  unfold kernelRun0_B
  dsimp only
  sl_unfold_words
  rw [View.canon_unit_zero at_origin]
  simp only [View.readAt_eq_ld, h3.read_unread, h4.read_unread, h5.read_unread, View.ld_unit_zero (S := S2176x1408) at_origin, View.ld_unit_zero (S := S2176x1024) at_origin,
    View.ld_unit_zero (S := S1408x1024) at_origin]

/-- The second result is the first, rounded, once all rows are in. -/
theorem second_rounded (k0 : ¬cond0_0 i) (k1 : cond0_1 i) : out0_B_3 c i a3 h3 a4 h4 a5 h5 a6 h6 k0 k1 x y s = k0_pay3 (k0_pay2 s x y) := by
  unfold out0_B_3
  rw [View.read_writes_eq_canon _ _ _ (cover0_B_3 c i a3 h3 a4 h4 a5 h5 a6 h6 k0 k1 x y s)]
  unfold kernelRun0_B
  dsimp only
  sl_unfold_words
  rw [View.canon_unit_zero at_origin, View.readCov_unit_zero (S := S1408x1024) _ at_origin]
  simp only [View.readAt_eq_ld, h3.read_unread, h4.read_unread, h5.read_unread, View.ld_unit_zero (S := S2176x1408) at_origin, View.ld_unit_zero (S := S2176x1024) at_origin,
    View.ld_unit_zero (S := S1408x1024) at_origin]

variable (m : (ℓ : Loc nD τ sig) → Buf (Elt F) ℓ)

/-- Where the two halves of the rows are summed: the last point of a block of the result. -/
theorem block_holds (t : Fin cfg0.N) (h : t.val % 2 = 1) :
    outsAt0 m c t.val t.isLt = (k0_pay2 (k0_pay2 k0_pay1 (iblk m c 0 ⟨t.val - 1, Nat.lt_of_le_of_lt (Nat.sub_le _ _) t.isLt⟩) (iblk m c 1 ⟨t.val - 1, Nat.lt_of_le_of_lt (Nat.sub_le _ _) t.isLt⟩)) (iblk m c 0 t) (iblk m c 1 t),
      k0_pay3 (k0_pay2 (k0_pay2 k0_pay1 (iblk m c 0 ⟨t.val - 1, Nat.lt_of_le_of_lt (Nat.sub_le _ _) t.isLt⟩) (iblk m c 1 ⟨t.val - 1, Nat.lt_of_le_of_lt (Nat.sub_le _ _) t.isLt⟩)) (iblk m c 0 t) (iblk m c 1 t))) := by
  rw [outsAt0_B m c t (by omega) h, second, second_rounded,
    outsAt0_A m c ⟨t.val - 1, Nat.lt_of_le_of_lt (Nat.sub_le _ _) t.isLt⟩ (by show (t.val - 1) % 2 = 0; omega) (by show ¬(t.val - 1) % 2 = 1; omega), first]

end Blocks

/-! ## The entries -/

theorem idx_0 : ∀ t : Fin cfg0.N, win0_0.index t = ![t.val % 2, t.val / 2] := (by decide +kernel : ∀ t : Fin grid0.N, _)
theorem idx_1 : ∀ t : Fin cfg0.N, win0_1.index t = ![t.val % 2, 0] := (by decide +kernel : ∀ t : Fin grid0.N, _)
theorem idx_2 : ∀ t : Fin cfg0.N, win0_2.index t = ![t.val / 2, 0] := (by decide +kernel : ∀ t : Fin grid0.N, _)
theorem idx_3 : ∀ t : Fin cfg0.N, win0_3.index t = ![t.val / 2, 0] := (by decide +kernel : ∀ t : Fin grid0.N, _)

theorem lt_four (t : Fin cfg0.N) : t.val < 4 := lt_of_lt_of_eq t.isLt N_0

/-- Row `p` of the half of the rows that point `t` takes. -/
def row (t : Fin cfg0.N) (p : Fin 2176) : Fin 4352 := ⟨2176 * (t.val % 2) + p.val, by omega⟩
/-- Row `p` of the block of the result at point `t`. -/
def out (t : Fin cfg0.N) (p : Fin 1408) : Fin 2816 := ⟨1408 * (t.val / 2) + p.val, by have := lt_four t; omega⟩

theorem add_product (s : Vec Ideal S1408x1024 .f32) (x : Vec Ideal S2176x1408 .bf16) (y : Vec Ideal S2176x1024 .bf16) (p : Fin 1408) (q : Fin 1024) :
    (k0_pay2 s x y : FVec Ideal S1408x1024 .f32) (ix2 p q) = s (ix2 p q) + ∑ r : Fin 2176, x (ix2 r p) * y (ix2 r q) := by
  unfold k0_pay2
  pointwise []
  rfl

theorem zeros (p : Fin 1408) (q : Fin 1024) : (k0_pay1 : FVec Ideal S1408x1024 .f32) (ix2 p q) = 0 := by
  unfold k0_pay1
  pointwise []

theorem rounded (s : Vec Ideal S1408x1024 .f32) (p : Fin 1408) (q : Fin 1024) : (k0_pay3 s : FVec Ideal S1408x1024 .bf16) (ix2 p q) = s (ix2 p q) := by
  unfold k0_pay3
  pointwise []

variable (m : (ℓ : Loc nD τ sig) → Buf (Elt Ideal) ℓ) (c : Dev nD)

theorem read_0 (t : Fin cfg0.N) (p : Fin 2176) (q : Fin 1408) : iblk m c 0 t (ix2 p q) = V m c main_arg0 (ix2 (row t p) (out t q)) := by
  unfold iblk; blk_ext [idx_0, row, out]
  · show t.val % 2 * 2176 + p.val = _; omega
  · show t.val / 2 * 1408 + q.val = _; omega

theorem read_1 (t : Fin cfg0.N) (p : Fin 2176) (q : Fin 1024) : iblk m c 1 t (ix2 p q) = V m c main_arg1 (ix2 (row t p) q) := by
  unfold iblk; blk_ext [idx_1, row, out]
  · show t.val % 2 * 2176 + p.val = _; omega

/-- What a block of the result holds at its last point. -/
theorem block_sum (t : Fin cfg0.N) (h : t.val % 2 = 1) (p : Fin 1408) (q : Fin 1024) :
    (outsAt0 m c t.val t.isLt).1 (ix2 p q) = Cert.Wgrad.grad (V m c main_arg0) (V m c main_arg1) (out t p) q := by
  rw [block_holds c m t h]
  dsimp only
  rw [add_product, add_product, zeros]
  simp only [read_0, read_1]
  have e : out ⟨t.val - 1, Nat.lt_of_le_of_lt (Nat.sub_le _ _) t.isLt⟩ p = out t p := Fin.ext (by
    show 1408 * ((t.val - 1) / 2) + p.val = 1408 * (t.val / 2) + p.val; omega)
  rw [e]
  have all (A : S4352x2816.Idx → EReal) (B : S4352x1024.Idx → EReal) := Cert.Wgrad.halves (fun r => A (ix2 r (out t p)) * B (ix2 r q))
    (a := row ⟨t.val - 1, Nat.lt_of_le_of_lt (Nat.sub_le _ _) t.isLt⟩) (b := row t)
    (fun r => by show 2176 * ((t.val - 1) % 2) + r.val = r.val; omega) (fun r => by show 2176 * (t.val % 2) + r.val = 2176 + r.val; omega)
  exact all _ _

theorem block_rounded (t : Fin cfg0.N) (h : t.val % 2 = 1) (p : Fin 1408) (q : Fin 1024) :
    (outsAt0 m c t.val t.isLt).2 (ix2 p q) = Cert.Wgrad.grad (V m c main_arg0) (V m c main_arg1) (out t p) q := by
  refine Eq.trans ?_ (block_sum m c t h p q)
  rw [block_holds c m t h]
  exact rounded _ p q

/-- The first result. -/
theorem final_2 : (dats m 0 c).arrAt 2 cfg0.N = fun y : S2816x1024.Idx => Cert.Wgrad.grad (V m c main_arg0) (V m c main_arg1) (y 0) (y 1) := by
  refine (dats m 0 c).arrAt_eq_of_covers 2 _ (by decide +kernel) fun t hf y => ?_
  blk_simp
  rw [after0_2]
  obtain ⟨p, q, rfl⟩ : ∃ (p : Fin 1408) (q : Fin 1024), y = ix2 p q := ⟨y 0, y 1, eq_ix2 y⟩
  refine (block_sum m c t ((flush0_2 t).mp hf) p q).trans ?_
  congr 1
  · apply Fin.ext; blk_simp [idx_2, out]; show 1408 * (t.val / 2) + p.val = t.val / 2 * 1408 + p.val; omega
  · apply Fin.ext; blk_simp [idx_2]

/-- The second result. -/
theorem final_3 : (dats m 0 c).arrAt 3 cfg0.N = fun y : S2816x1024.Idx => Cert.Wgrad.grad (V m c main_arg0) (V m c main_arg1) (y 0) (y 1) := by
  refine (dats m 0 c).arrAt_eq_of_covers 3 _ (by decide +kernel) fun t hf y => ?_
  blk_simp
  rw [after0_3]
  obtain ⟨p, q, rfl⟩ : ∃ (p : Fin 1408) (q : Fin 1024), y = ix2 p q := ⟨y 0, y 1, eq_ix2 y⟩
  refine (block_rounded m c t ((flush0_3 t).mp hf) p q).trans ?_
  congr 1
  · apply Fin.ext; blk_simp [idx_3, out]; show 1408 * (t.val / 2) + p.val = t.val / 2 * 1408 + p.val; omega
  · apply Fin.ext; blk_simp [idx_3]

variable (ρ : Dev nD → PrngReg)

/-- Every run of the call ends with both results at the gradient and the arguments as they were. -/
theorem ends : θ_run (defs (F := Ideal)) (onTc (τ := τ) (main (F := Ideal))) ⟨m, fun _ => 0, ρ⟩ (fun r => ∀ c : Dev nD,
      r.2.mem ((c.tc : Thread nD τ).loc main_v0_0) = (fun y : S2816x1024.Idx => Cert.Wgrad.grad (m ((c.tc : Thread nD τ).loc main_arg0)) (m ((c.tc : Thread nD τ).loc main_arg1)) (y 0) (y 1))
      ∧ r.2.mem ((c.tc : Thread nD τ).loc main_v0_1) = (fun y : S2816x1024.Idx => Cert.Wgrad.grad (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1.out_eq c 2).trans (final_2 m c), (h.1.out_eq c 3).trans (final_3 m c), h.2 c⟩)
    (θ_run_and (run_main m ρ) (unchanged m ρ))

end Cert.WffIdeal.Wgrad
-- ==== Proof.Wgrad.FfRef.lean ====
/- The gradient of a feed-forward weight: what the references leave. -/
module

public import proofs.«01_k».proof.Proof.Gen.WffRefIdeal.Run
public import proofs.«01_k».proof.Proof.Gen.WdownRefIdeal.Run
public import proofs.«01_k».proof.Proof.Wgrad.Sum
public import Idealize.ShloMosaic.Lib.Pointwise

@[expose] public section

set_option maxRecDepth 16384

noncomputable section

open Idealize.ShloMosaic hiding ix0 ix1 ix2 ix3 eq_ix1 eq_ix2
open Idealize.ShloMosaic.ValueIdx
open Idealize.ShloMosaic.TcCoe Idealize.SL.Sem

namespace Cert.WffRefIdeal.Wgrad

open Cert.WffRefIdeal Cert.WffRefIdeal.Gen

/-- The gradient of `w` in `y · wᵀ`, where the weight's rows go with the columns of `x`. -/
theorem value (x : FVec Ideal S4352x2816 .bf16) (y : FVec Ideal S4352x1024 .bf16) :
    transpose S2816x1024 [1, 0] (transpose S1024x2816 [1, 0] (Host.dotGeneral dot_S4352x2816_S4352x1024_S2816x1024_0_0_1_1_n_n none (extf .f32 x bitsLt_bf16_f32)
      (extf .f32 y bitsLt_bf16_f32)) transposes_S2816x1024_S1024x2816_1_0) transposes_S1024x2816_S2816x1024_1_0
      = (fun i => Cert.Wgrad.grad x y (i 0) (i 1) : FVec Ideal S2816x1024 .f32) := by
  funext i
  obtain ⟨p, q, rfl⟩ : ∃ (p : Fin 2816) (q : Fin 1024), i = ix2 p q := ⟨i 0, i 1, eq_ix2 i⟩
  pointwise []
  rfl

/-- Every run of the reference ends with both results at the gradient and the arguments as they were. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = (fun y : S2816x1024.Idx => Cert.Wgrad.grad (m ((c.tc : Thread nD τ).loc main_arg0)) (m ((c.tc : Thread nD τ).loc main_arg1)) (y 0) (y 1))
      ∧ r.2.mem ((c.tc : Thread nD τ).loc main_v8) = (fun y : S2816x1024.Idx => Cert.Wgrad.grad (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (value _ _), (h c).2.1.trans (value _ _), (h c).2.2⟩) (Value.run m ρ)

end Cert.WffRefIdeal.Wgrad

namespace Cert.WdownRefIdeal.Wgrad

open Cert.WdownRefIdeal Cert.WdownRefIdeal.Gen

/-- The gradient of `w` in `x · w`. -/
theorem value (x : FVec Ideal S4352x2816 .bf16) (y : FVec Ideal S4352x1024 .bf16) :
    transpose S2816x1024 [1, 0] (Host.dotGeneral dot_S4352x1024_S4352x2816_S1024x2816_0_0_1_1_n_n none (extf .f32 y bitsLt_bf16_f32)
      (extf .f32 x bitsLt_bf16_f32)) transposes_S1024x2816_S2816x1024_1_0
      = (fun i => Cert.Wgrad.grad x y (i 0) (i 1) : FVec Ideal S2816x1024 .f32) := by
  funext i
  obtain ⟨p, q, rfl⟩ : ∃ (p : Fin 2816) (q : Fin 1024), i = ix2 p q := ⟨i 0, i 1, eq_ix2 i⟩
  pointwise []
  exact Finset.sum_congr rfl fun _ _ => mul_comm _ _

/-- Every run of the reference ends with both results at the gradient and the arguments as they were. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = (fun y : S2816x1024.Idx => Cert.Wgrad.grad (m ((c.tc : Thread nD τ).loc main_arg0)) (m ((c.tc : Thread nD τ).loc main_arg1)) (y 0) (y 1))
      ∧ r.2.mem ((c.tc : Thread nD τ).loc main_v6) = (fun y : S2816x1024.Idx => Cert.Wgrad.grad (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (value _ _), (h c).2.1.trans (value _ _), (h c).2.2⟩) (Value.run m ρ)

end Cert.WdownRefIdeal.Wgrad
-- ==== Proof.Wgrad.Mix.lean ====
/- The gradient of a square weight of the mixers: what the call leaves in its two result arrays. -/
module

public import proofs.«01_k».proof.Proof.Gen.WmixIdeal.Frame
public import proofs.«01_k».proof.Proof.Wgrad.Sum
public import Idealize.ShloMosaic.Lib.Pipeline.ValueKit
public import Idealize.ShloMosaic.Lib.Pointwise

@[expose] public section

set_option maxRecDepth 16384

noncomputable section

namespace Cert.WmixIdeal.Wgrad

open Cert.WmixIdeal Cert.WmixIdeal.Gen
open Idealize.ShloMosaic hiding ix0 ix1 ix2 ix3 eq_ix1 eq_ix2
open Idealize.ShloMosaic.ValueIdx
open Idealize.ShloMosaic.TcCoe Idealize.ShloMosaic.Pipeline Idealize.ShloMosaic.Tactic Idealize.SL.Sem

/-- No offset along either axis. -/
theorem at_origin : (![0, 0] : Fin 2 → Nat) = fun _ => 0 := funext fun a => by fin_cases a <;> rfl

section Blocks

variable {F : FTy → Type} [FloatOps F]

variable (c : Dev nD) (i : grid0.Coords) (a3 : Memref sig .tc .vmem S2176x1024 .bf16) (h3 : a3.IsWhole) (a4 : Memref sig .tc .vmem S2176x1024 .bf16)
  (h4 : a4.IsWhole) (a5 : Memref sig .tc .vmem S1024x1024 .f32) (h5 : a5.IsWhole) (a6 : Memref sig .tc .vmem S1024x1024 .bf16) (h6 : a6.IsWhole)
  (x : Vec F S2176x1024 .bf16) (y : Vec F S2176x1024 .bf16) (s : Vec F S1024x1024 .f32)

/-- The first half of the rows: the product of the two blocks, added to zeros. -/
theorem first (k0 : cond0_0 i) (k1 : ¬cond0_1 i) : out0_A_2 c i a3 h3 a4 h4 a5 h5 a6 h6 k0 k1 x y = k0_pay2 k0_pay1 x y := by
  unfold out0_A_2
  rw [View.read_writes_eq_canon _ _ _ (cover0_A_2 c i a3 h3 a4 h4 a5 h5 a6 h6 k0 k1 x y)]
  unfold kernelRun0_A
  dsimp only
  sl_unfold_words
  rw [View.canon_cons_unit_zero (S := S1024x1024) at_origin, View.readCov_unit_zero (S := S1024x1024) _ at_origin]
  simp only [View.readAt_eq_ld, h3.read_unread, h4.read_unread, View.ld_unit_zero (S := S2176x1024) at_origin]

/-- The second half: its product, added to what is there. -/
theorem second (k0 : ¬cond0_0 i) (k1 : cond0_1 i) : out0_B_2 c i a3 h3 a4 h4 a5 h5 a6 h6 k0 k1 x y s = k0_pay2 s x y := by
  unfold out0_B_2
  rw [View.read_writes_eq_canon _ _ _ (cover0_B_2 c i a3 h3 a4 h4 a5 h5 a6 h6 k0 k1 x y s)]
  unfold kernelRun0_B
  dsimp only
  sl_unfold_words
  rw [View.canon_unit_zero at_origin]
  simp only [View.readAt_eq_ld, h3.read_unread, h4.read_unread, h5.read_unread, View.ld_unit_zero (S := S2176x1024) at_origin,
    View.ld_unit_zero (S := S1024x1024) at_origin]

/-- The second result is the first, rounded, once all rows are in. -/
theorem second_rounded (k0 : ¬cond0_0 i) (k1 : cond0_1 i) : out0_B_3 c i a3 h3 a4 h4 a5 h5 a6 h6 k0 k1 x y s = k0_pay3 (k0_pay2 s x y) := by
  unfold out0_B_3
  rw [View.read_writes_eq_canon _ _ _ (cover0_B_3 c i a3 h3 a4 h4 a5 h5 a6 h6 k0 k1 x y s)]
  unfold kernelRun0_B
  dsimp only
  sl_unfold_words
  rw [View.canon_unit_zero at_origin, View.readCov_unit_zero (S := S1024x1024) _ at_origin]
  simp only [View.readAt_eq_ld, h3.read_unread, h4.read_unread, h5.read_unread, View.ld_unit_zero (S := S2176x1024) at_origin,
    View.ld_unit_zero (S := S1024x1024) at_origin]

variable (m : (ℓ : Loc nD τ sig) → Buf (Elt F) ℓ)

/-- Where the two halves of the rows are summed: the last point of a block of the result. -/
theorem block_holds (t : Fin cfg0.N) (h : t.val % 2 = 1) :
    outsAt0 m c t.val t.isLt = (k0_pay2 (k0_pay2 k0_pay1 (iblk m c 0 ⟨t.val - 1, Nat.lt_of_le_of_lt (Nat.sub_le _ _) t.isLt⟩) (iblk m c 1 ⟨t.val - 1, Nat.lt_of_le_of_lt (Nat.sub_le _ _) t.isLt⟩)) (iblk m c 0 t) (iblk m c 1 t),
      k0_pay3 (k0_pay2 (k0_pay2 k0_pay1 (iblk m c 0 ⟨t.val - 1, Nat.lt_of_le_of_lt (Nat.sub_le _ _) t.isLt⟩) (iblk m c 1 ⟨t.val - 1, Nat.lt_of_le_of_lt (Nat.sub_le _ _) t.isLt⟩)) (iblk m c 0 t) (iblk m c 1 t))) := by
  rw [outsAt0_B m c t (by omega) h, second, second_rounded,
    outsAt0_A m c ⟨t.val - 1, Nat.lt_of_le_of_lt (Nat.sub_le _ _) t.isLt⟩ (by show (t.val - 1) % 2 = 0; omega) (by show ¬(t.val - 1) % 2 = 1; omega), first]

end Blocks

/-! ## The entries -/

theorem idx_0 : ∀ t : Fin cfg0.N, win0_0.index t = ![t.val % 2, t.val / 2] := (by decide +kernel : ∀ t : Fin grid0.N, _)
theorem idx_1 : ∀ t : Fin cfg0.N, win0_1.index t = ![t.val % 2, 0] := (by decide +kernel : ∀ t : Fin grid0.N, _)
theorem idx_2 : ∀ t : Fin cfg0.N, win0_2.index t = ![t.val / 2, 0] := (by decide +kernel : ∀ t : Fin grid0.N, _)
theorem idx_3 : ∀ t : Fin cfg0.N, win0_3.index t = ![t.val / 2, 0] := (by decide +kernel : ∀ t : Fin grid0.N, _)

theorem lt_two (t : Fin cfg0.N) : t.val < 2 := lt_of_lt_of_eq t.isLt N_0

/-- Row `p` of the half of the rows that point `t` takes. -/
def row (t : Fin cfg0.N) (p : Fin 2176) : Fin 4352 := ⟨2176 * (t.val % 2) + p.val, by omega⟩
/-- Row `p` of the block of the result at point `t`. -/
def out (t : Fin cfg0.N) (p : Fin 1024) : Fin 1024 := ⟨1024 * (t.val / 2) + p.val, by have := lt_two t; omega⟩

theorem add_product (s : Vec Ideal S1024x1024 .f32) (x : Vec Ideal S2176x1024 .bf16) (y : Vec Ideal S2176x1024 .bf16) (p : Fin 1024) (q : Fin 1024) :
    (k0_pay2 s x y : FVec Ideal S1024x1024 .f32) (ix2 p q) = s (ix2 p q) + ∑ r : Fin 2176, x (ix2 r p) * y (ix2 r q) := by
  unfold k0_pay2
  pointwise []
  rfl

theorem zeros (p : Fin 1024) (q : Fin 1024) : (k0_pay1 : FVec Ideal S1024x1024 .f32) (ix2 p q) = 0 := by
  unfold k0_pay1
  pointwise []

theorem rounded (s : Vec Ideal S1024x1024 .f32) (p : Fin 1024) (q : Fin 1024) : (k0_pay3 s : FVec Ideal S1024x1024 .bf16) (ix2 p q) = s (ix2 p q) := by
  unfold k0_pay3
  pointwise []

variable (m : (ℓ : Loc nD τ sig) → Buf (Elt Ideal) ℓ) (c : Dev nD)

theorem read_0 (t : Fin cfg0.N) (p : Fin 2176) (q : Fin 1024) : iblk m c 0 t (ix2 p q) = V m c main_arg0 (ix2 (row t p) (out t q)) := by
  unfold iblk; blk_ext [idx_0, row, out]
  · show t.val % 2 * 2176 + p.val = _; omega
  · show t.val / 2 * 1024 + q.val = _; omega

theorem read_1 (t : Fin cfg0.N) (p : Fin 2176) (q : Fin 1024) : iblk m c 1 t (ix2 p q) = V m c main_arg1 (ix2 (row t p) q) := by
  unfold iblk; blk_ext [idx_1, row, out]
  · show t.val % 2 * 2176 + p.val = _; omega

/-- What a block of the result holds at its last point. -/
theorem block_sum (t : Fin cfg0.N) (h : t.val % 2 = 1) (p : Fin 1024) (q : Fin 1024) :
    (outsAt0 m c t.val t.isLt).1 (ix2 p q) = Cert.Wgrad.grad (V m c main_arg0) (V m c main_arg1) (out t p) q := by
  rw [block_holds c m t h]
  dsimp only
  rw [add_product, add_product, zeros]
  simp only [read_0, read_1]
  have e : out ⟨t.val - 1, Nat.lt_of_le_of_lt (Nat.sub_le _ _) t.isLt⟩ p = out t p := Fin.ext (by
    show 1024 * ((t.val - 1) / 2) + p.val = 1024 * (t.val / 2) + p.val; omega)
  rw [e]
  have all (A : S4352x1024.Idx → EReal) (B : S4352x1024.Idx → EReal) := Cert.Wgrad.halves (fun r => A (ix2 r (out t p)) * B (ix2 r q))
    (a := row ⟨t.val - 1, Nat.lt_of_le_of_lt (Nat.sub_le _ _) t.isLt⟩) (b := row t)
    (fun r => by show 2176 * ((t.val - 1) % 2) + r.val = r.val; omega) (fun r => by show 2176 * (t.val % 2) + r.val = 2176 + r.val; omega)
  exact all _ _

theorem block_rounded (t : Fin cfg0.N) (h : t.val % 2 = 1) (p : Fin 1024) (q : Fin 1024) :
    (outsAt0 m c t.val t.isLt).2 (ix2 p q) = Cert.Wgrad.grad (V m c main_arg0) (V m c main_arg1) (out t p) q := by
  refine Eq.trans ?_ (block_sum m c t h p q)
  rw [block_holds c m t h]
  exact rounded _ p q

/-- The first result. -/
theorem final_2 : (dats m 0 c).arrAt 2 cfg0.N = fun y : S1024x1024.Idx => Cert.Wgrad.grad (V m c main_arg0) (V m c main_arg1) (y 0) (y 1) := by
  refine (dats m 0 c).arrAt_eq_of_covers 2 _ (by decide +kernel) fun t hf y => ?_
  blk_simp
  rw [after0_2]
  obtain ⟨p, q, rfl⟩ : ∃ (p : Fin 1024) (q : Fin 1024), y = ix2 p q := ⟨y 0, y 1, eq_ix2 y⟩
  refine (block_sum m c t ((flush0_2 t).mp hf) p q).trans ?_
  congr 1
  · apply Fin.ext; blk_simp [idx_2, out]; show 1024 * (t.val / 2) + p.val = t.val / 2 * 1024 + p.val; omega
  · apply Fin.ext; blk_simp [idx_2]

/-- The second result. -/
theorem final_3 : (dats m 0 c).arrAt 3 cfg0.N = fun y : S1024x1024.Idx => Cert.Wgrad.grad (V m c main_arg0) (V m c main_arg1) (y 0) (y 1) := by
  refine (dats m 0 c).arrAt_eq_of_covers 3 _ (by decide +kernel) fun t hf y => ?_
  blk_simp
  rw [after0_3]
  obtain ⟨p, q, rfl⟩ : ∃ (p : Fin 1024) (q : Fin 1024), y = ix2 p q := ⟨y 0, y 1, eq_ix2 y⟩
  refine (block_rounded m c t ((flush0_3 t).mp hf) p q).trans ?_
  congr 1
  · apply Fin.ext; blk_simp [idx_3, out]; show 1024 * (t.val / 2) + p.val = t.val / 2 * 1024 + p.val; omega
  · apply Fin.ext; blk_simp [idx_3]

variable (ρ : Dev nD → PrngReg)

/-- Every run of the call ends with both results at the gradient and the arguments as they were. -/
theorem ends : θ_run (defs (F := Ideal)) (onTc (τ := τ) (main (F := Ideal))) ⟨m, fun _ => 0, ρ⟩ (fun r => ∀ c : Dev nD,
      r.2.mem ((c.tc : Thread nD τ).loc main_v0_0) = (fun y : S1024x1024.Idx => Cert.Wgrad.grad (m ((c.tc : Thread nD τ).loc main_arg0)) (m ((c.tc : Thread nD τ).loc main_arg1)) (y 0) (y 1))
      ∧ r.2.mem ((c.tc : Thread nD τ).loc main_v0_1) = (fun y : S1024x1024.Idx => Cert.Wgrad.grad (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1.out_eq c 2).trans (final_2 m c), (h.1.out_eq c 3).trans (final_3 m c), h.2 c⟩)
    (θ_run_and (run_main m ρ) (unchanged m ρ))

end Cert.WmixIdeal.Wgrad
-- ==== Proof.Wgrad.MixRef.lean ====
/- The gradient of a square weight of the mixers: what the reference leaves. -/
module

public import proofs.«01_k».proof.Proof.Gen.WmixRefIdeal.Run
public import proofs.«01_k».proof.Proof.Wgrad.Sum
public import Idealize.ShloMosaic.Lib.Pointwise

@[expose] public section

set_option maxRecDepth 16384

noncomputable section

open Idealize.ShloMosaic hiding ix0 ix1 ix2 ix3 eq_ix1 eq_ix2
open Idealize.ShloMosaic.ValueIdx
open Idealize.ShloMosaic.TcCoe Idealize.SL.Sem

namespace Cert.WmixRefIdeal.Wgrad

open Cert.WmixRefIdeal Cert.WmixRefIdeal.Gen

/-- The gradient of `w` in `x · w`. -/
theorem value (x : FVec Ideal S4352x1024 .bf16) (y : FVec Ideal S4352x1024 .bf16) :
    transpose S1024x1024 [1, 0] (Host.dotGeneral dot_S4352x1024_S4352x1024_S1024x1024_0_0_1_1_n_n none (extf .f32 y bitsLt_bf16_f32)
      (extf .f32 x bitsLt_bf16_f32)) transposes_S1024x1024_S1024x1024_1_0
      = (fun i => Cert.Wgrad.grad x y (i 0) (i 1) : FVec Ideal S1024x1024 .f32) := by
  funext i
  obtain ⟨p, q, rfl⟩ : ∃ (p : Fin 1024) (q : Fin 1024), i = ix2 p q := ⟨i 0, i 1, eq_ix2 i⟩
  pointwise []
  exact Finset.sum_congr rfl fun _ _ => mul_comm _ _

/-- Every run of the reference ends with both results at the gradient and the arguments as they were. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = (fun y : S1024x1024.Idx => Cert.Wgrad.grad (m ((c.tc : Thread nD τ).loc main_arg0)) (m ((c.tc : Thread nD τ).loc main_arg1)) (y 0) (y 1))
      ∧ r.2.mem ((c.tc : Thread nD τ).loc main_v6) = (fun y : S1024x1024.Idx => Cert.Wgrad.grad (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (value _ _), (h c).2.1.trans (value _ _), (h c).2.2⟩) (Value.run m ρ)

end Cert.WmixRefIdeal.Wgrad
-- ==== Proof.Wgrad.In.lean ====
/- The gradient of the projection of the inputs: what the call leaves in its two result arrays. -/
module

public import proofs.«01_k».proof.Proof.Gen.WinIdeal.Frame
public import proofs.«01_k».proof.Proof.Wgrad.Sum
public import Idealize.ShloMosaic.Lib.Pipeline.ValueKit
public import Idealize.ShloMosaic.Lib.Pointwise

@[expose] public section

set_option maxRecDepth 16384

noncomputable section

namespace Cert.WinIdeal.Wgrad

open Cert.WinIdeal Cert.WinIdeal.Gen
open Idealize.ShloMosaic hiding ix0 ix1 ix2 ix3 eq_ix1 eq_ix2
open Idealize.ShloMosaic.ValueIdx
open Idealize.ShloMosaic.TcCoe Idealize.ShloMosaic.Pipeline Idealize.ShloMosaic.Tactic Idealize.SL.Sem

/-- No offset along any of three axes. -/
theorem at_origin3 : (![0, 0, 0] : Fin 3 → Nat) = fun _ => 0 := funext fun a => by fin_cases a <;> rfl

/-- No offset along either axis. -/
theorem at_origin : (![0, 0] : Fin 2 → Nat) = fun _ => 0 := funext fun a => by fin_cases a <;> rfl

section Blocks

variable {F : FTy → Type} [FloatOps F]

variable (c : Dev nD) (i : grid0.Coords) (a3 : Memref sig .tc .vmem S2176x1024 .bf16) (h3 : a3.IsWhole) (a4 : Memref sig .tc .vmem S2176x1280 .bf16)
  (h4 : a4.IsWhole) (a5 : Memref sig .tc .vmem S1x1024x1280 .f32) (h5 : a5.IsWhole) (a6 : Memref sig .tc .vmem S1x1024x1280 .bf16) (h6 : a6.IsWhole)
  (x : Vec F S2176x1024 .bf16) (y : Vec F S2176x1280 .bf16) (s : Vec F S1x1024x1280 .f32)

/-- The first half of the rows: the product of the two blocks, added to zeros. -/
theorem first (k0 : cond0_0 i) (k1 : ¬cond0_1 i) : out0_A_2 c i a3 h3 a4 h4 a5 h5 a6 h6 k0 k1 x y = k0_pay2 k0_pay1 x y := by
  unfold out0_A_2
  rw [View.read_writes_eq_canon _ _ _ (cover0_A_2 c i a3 h3 a4 h4 a5 h5 a6 h6 k0 k1 x y)]
  unfold kernelRun0_A
  dsimp only
  sl_unfold_words
  rw [View.canon_cons_unit_zero (S := S1x1024x1280) at_origin3, View.readCov_unit_zero (S := S1x1024x1280) _ at_origin3]
  simp only [View.readAt_eq_ld, h3.read_unread, h4.read_unread, View.ld_unit_zero (S := S2176x1024) at_origin, View.ld_unit_zero (S := S2176x1280) at_origin]

/-- The second half: its product, added to what is there. -/
theorem second (k0 : ¬cond0_0 i) (k1 : cond0_1 i) : out0_B_2 c i a3 h3 a4 h4 a5 h5 a6 h6 k0 k1 x y s = k0_pay2 s x y := by
  unfold out0_B_2
  rw [View.read_writes_eq_canon _ _ _ (cover0_B_2 c i a3 h3 a4 h4 a5 h5 a6 h6 k0 k1 x y s)]
  unfold kernelRun0_B
  dsimp only
  sl_unfold_words
  rw [View.canon_unit_zero at_origin3]
  simp only [View.readAt_eq_ld, h3.read_unread, h4.read_unread, h5.read_unread, View.ld_unit_zero (S := S2176x1024) at_origin, View.ld_unit_zero (S := S2176x1280) at_origin,
    View.ld_unit_zero (S := S1x1024x1280) at_origin3]

/-- The second result is the first, rounded, once all rows are in. -/
theorem second_rounded (k0 : ¬cond0_0 i) (k1 : cond0_1 i) : out0_B_3 c i a3 h3 a4 h4 a5 h5 a6 h6 k0 k1 x y s = k0_pay3 (k0_pay2 s x y) := by
  unfold out0_B_3
  rw [View.read_writes_eq_canon _ _ _ (cover0_B_3 c i a3 h3 a4 h4 a5 h5 a6 h6 k0 k1 x y s)]
  unfold kernelRun0_B
  dsimp only
  sl_unfold_words
  rw [View.canon_unit_zero at_origin3, View.readCov_unit_zero (S := S1x1024x1280) _ at_origin3]
  simp only [View.readAt_eq_ld, h3.read_unread, h4.read_unread, h5.read_unread, View.ld_unit_zero (S := S2176x1024) at_origin, View.ld_unit_zero (S := S2176x1280) at_origin,
    View.ld_unit_zero (S := S1x1024x1280) at_origin3]

variable (m : (ℓ : Loc nD τ sig) → Buf (Elt F) ℓ)

/-- Where the two halves of the rows are summed: the last point of a block of the result. -/
theorem block_holds (t : Fin cfg0.N) (h : t.val % 2 = 1) :
    outsAt0 m c t.val t.isLt = (k0_pay2 (k0_pay2 k0_pay1 (iblk m c 0 ⟨t.val - 1, Nat.lt_of_le_of_lt (Nat.sub_le _ _) t.isLt⟩) (iblk m c 1 ⟨t.val - 1, Nat.lt_of_le_of_lt (Nat.sub_le _ _) t.isLt⟩)) (iblk m c 0 t) (iblk m c 1 t),
      k0_pay3 (k0_pay2 (k0_pay2 k0_pay1 (iblk m c 0 ⟨t.val - 1, Nat.lt_of_le_of_lt (Nat.sub_le _ _) t.isLt⟩) (iblk m c 1 ⟨t.val - 1, Nat.lt_of_le_of_lt (Nat.sub_le _ _) t.isLt⟩)) (iblk m c 0 t) (iblk m c 1 t))) := by
  rw [outsAt0_B m c t (by omega) h, second, second_rounded,
    outsAt0_A m c ⟨t.val - 1, Nat.lt_of_le_of_lt (Nat.sub_le _ _) t.isLt⟩ (by show (t.val - 1) % 2 = 0; omega) (by show ¬(t.val - 1) % 2 = 1; omega), first]

end Blocks

/-! ## The entries -/

theorem idx_0 : ∀ t : Fin cfg0.N, win0_0.index t = ![t.val % 2, 0] := (by decide +kernel : ∀ t : Fin grid0.N, _)
theorem idx_1 : ∀ t : Fin cfg0.N, win0_1.index t = ![t.val % 2, t.val / 2] := (by decide +kernel : ∀ t : Fin grid0.N, _)
theorem idx_2 : ∀ t : Fin cfg0.N, win0_2.index t = ![t.val / 2, 0, 0] := (by decide +kernel : ∀ t : Fin grid0.N, _)
theorem idx_3 : ∀ t : Fin cfg0.N, win0_3.index t = ![t.val / 2, 0, 0] := (by decide +kernel : ∀ t : Fin grid0.N, _)

theorem lt_eight (t : Fin cfg0.N) : t.val < 8 := lt_of_lt_of_eq t.isLt N_0

/-- Row `p` of the half of the rows that point `t` takes. -/
def row (t : Fin cfg0.N) (p : Fin 2176) : Fin 4352 := ⟨2176 * (t.val % 2) + p.val, by omega⟩
/-- The part of the result that point `t` belongs to. -/
def part (t : Fin cfg0.N) : Fin 4 := ⟨t.val / 2, by have := lt_eight t; omega⟩
/-- The column of the weight that is column `q` of part `g`. -/
def col (g : Fin 4) (q : Fin 1280) : Fin 5120 := ⟨g.val * 1280 + q.val, by omega⟩

theorem add_product (s : Vec Ideal S1x1024x1280 .f32) (x : Vec Ideal S2176x1024 .bf16) (y : Vec Ideal S2176x1280 .bf16) (o : Fin 1) (p : Fin 1024) (q : Fin 1280) :
    (k0_pay2 s x y : FVec Ideal S1x1024x1280 .f32) (ix3 o p q) = s (ix3 o p q) + ∑ r : Fin 2176, x (ix2 r p) * y (ix2 r q) := by
  obtain rfl : o = 0 := Subsingleton.elim _ _
  unfold k0_pay2
  pointwise []
  rfl

theorem zeros (o : Fin 1) (p : Fin 1024) (q : Fin 1280) : (k0_pay1 : FVec Ideal S1x1024x1280 .f32) (ix3 o p q) = 0 := by
  unfold k0_pay1
  pointwise []

theorem rounded (s : Vec Ideal S1x1024x1280 .f32) (o : Fin 1) (p : Fin 1024) (q : Fin 1280) : (k0_pay3 s : FVec Ideal S1x1024x1280 .bf16) (ix3 o p q) = s (ix3 o p q) := by
  obtain rfl : o = 0 := Subsingleton.elim _ _
  unfold k0_pay3
  pointwise []

variable (m : (ℓ : Loc nD τ sig) → Buf (Elt Ideal) ℓ) (c : Dev nD)

theorem read_0 (t : Fin cfg0.N) (p : Fin 2176) (q : Fin 1024) : iblk m c 0 t (ix2 p q) = V m c main_arg0 (ix2 (row t p) q) := by
  unfold iblk; blk_ext [idx_0, row]
  · show t.val % 2 * 2176 + p.val = _; omega

theorem read_1 (t : Fin cfg0.N) (p : Fin 2176) (q : Fin 1280) : iblk m c 1 t (ix2 p q) = V m c main_arg1 (ix2 (row t p) (col (part t) q)) := by
  unfold iblk; blk_ext [idx_1, row, part, col]
  · show t.val % 2 * 2176 + p.val = _; omega

/-- What a block of the result holds at its last point. -/
theorem block_sum (t : Fin cfg0.N) (h : t.val % 2 = 1) (o : Fin 1) (p : Fin 1024) (q : Fin 1280) :
    (outsAt0 m c t.val t.isLt).1 (ix3 o p q) = Cert.Wgrad.grad (V m c main_arg0) (V m c main_arg1) p (col (part t) q) := by
  rw [block_holds c m t h]
  dsimp only
  rw [add_product, add_product, zeros]
  simp only [read_0, read_1]
  have e : part ⟨t.val - 1, Nat.lt_of_le_of_lt (Nat.sub_le _ _) t.isLt⟩ = part t := Fin.ext (by
    show (t.val - 1) / 2 = t.val / 2; omega)
  rw [e]
  have all (A : S4352x1024.Idx → EReal) (B : S4352x5120.Idx → EReal) := Cert.Wgrad.halves (fun r => A (ix2 r p) * B (ix2 r (col (part t) q)))
    (a := row ⟨t.val - 1, Nat.lt_of_le_of_lt (Nat.sub_le _ _) t.isLt⟩) (b := row t)
    (fun r => by show 2176 * ((t.val - 1) % 2) + r.val = r.val; omega) (fun r => by show 2176 * (t.val % 2) + r.val = 2176 + r.val; omega)
  exact all _ _

theorem block_rounded (t : Fin cfg0.N) (h : t.val % 2 = 1) (o : Fin 1) (p : Fin 1024) (q : Fin 1280) :
    (outsAt0 m c t.val t.isLt).2 (ix3 o p q) = Cert.Wgrad.grad (V m c main_arg0) (V m c main_arg1) p (col (part t) q) := by
  refine Eq.trans ?_ (block_sum m c t h o p q)
  rw [block_holds c m t h]
  dsimp only
  exact rounded _ o p q

/-- The first result: the weight's columns are laid out in four parts. -/
theorem final_2 : (dats m 0 c).arrAt 2 cfg0.N = fun y : S4x1024x1280.Idx => Cert.Wgrad.grad (V m c main_arg0) (V m c main_arg1) (y 1) (col (y 0) (y 2)) := by
  refine (dats m 0 c).arrAt_eq_of_covers 2 _ (by decide +kernel) fun t hf y => ?_
  blk_simp
  rw [after0_2]
  obtain ⟨o, p, q, rfl⟩ : ∃ (o : Fin 1) (p : Fin 1024) (q : Fin 1280), y = ix3 o p q := ⟨y 0, y 1, y 2, ValueIdx.eq_ix3 y⟩
  refine (block_sum m c t ((flush0_2 t).mp hf) o p q).trans ?_
  have e1 : p = (win0_2.blk t).view.emb (ix3 o p q) 1 := Fin.ext (by blk_simp [idx_2]; rfl)
  have e0 : part t = (win0_2.blk t).view.emb (ix3 o p q) 0 := Fin.ext (by blk_simp [idx_2, part])
  have e2 : q = (win0_2.blk t).view.emb (ix3 o p q) 2 := Fin.ext (by blk_simp [idx_2]; rfl)
  exact congrArg₂ (Cert.Wgrad.grad (V m c main_arg0) (V m c main_arg1)) e1 (congrArg₂ col e0 e2)

/-- The second result. -/
theorem final_3 : (dats m 0 c).arrAt 3 cfg0.N = fun y : S4x1024x1280.Idx => Cert.Wgrad.grad (V m c main_arg0) (V m c main_arg1) (y 1) (col (y 0) (y 2)) := by
  refine (dats m 0 c).arrAt_eq_of_covers 3 _ (by decide +kernel) fun t hf y => ?_
  blk_simp
  rw [after0_3]
  obtain ⟨o, p, q, rfl⟩ : ∃ (o : Fin 1) (p : Fin 1024) (q : Fin 1280), y = ix3 o p q := ⟨y 0, y 1, y 2, ValueIdx.eq_ix3 y⟩
  refine (block_rounded m c t ((flush0_3 t).mp hf) o p q).trans ?_
  have e1 : p = (win0_3.blk t).view.emb (ix3 o p q) 1 := Fin.ext (by blk_simp [idx_3]; rfl)
  have e0 : part t = (win0_3.blk t).view.emb (ix3 o p q) 0 := Fin.ext (by blk_simp [idx_3, part])
  have e2 : q = (win0_3.blk t).view.emb (ix3 o p q) 2 := Fin.ext (by blk_simp [idx_3]; rfl)
  exact congrArg₂ (Cert.Wgrad.grad (V m c main_arg0) (V m c main_arg1)) e1 (congrArg₂ col e0 e2)

variable (ρ : Dev nD → PrngReg)

/-- Every run of the call ends with both results at the gradient and the arguments as they were. -/
theorem ends : θ_run (defs (F := Ideal)) (onTc (τ := τ) (main (F := Ideal))) ⟨m, fun _ => 0, ρ⟩ (fun r => ∀ c : Dev nD,
      r.2.mem ((c.tc : Thread nD τ).loc main_v0_0) = (fun y : S4x1024x1280.Idx => Cert.Wgrad.grad (m ((c.tc : Thread nD τ).loc main_arg0)) (m ((c.tc : Thread nD τ).loc main_arg1)) (y 1) (col (y 0) (y 2)))
      ∧ r.2.mem ((c.tc : Thread nD τ).loc main_v0_1) = (fun y : S4x1024x1280.Idx => Cert.Wgrad.grad (m ((c.tc : Thread nD τ).loc main_arg0)) (m ((c.tc : Thread nD τ).loc main_arg1)) (y 1) (col (y 0) (y 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.out_eq c 2).trans (final_2 m c), (h.1.out_eq c 3).trans (final_3 m c), h.2 c⟩)
    (θ_run_and (run_main m ρ) (unchanged m ρ))

end Cert.WinIdeal.Wgrad
-- ==== Proof.Wgrad.InRef.lean ====
/- The gradient of the projection of the inputs: what the reference leaves. -/
module

public import proofs.«01_k».proof.Proof.Gen.WinRefIdeal.Run
public import proofs.«01_k».proof.Proof.Wgrad.Sum
public import Idealize.ShloMosaic.Lib.Pointwise

@[expose] public section

set_option maxRecDepth 16384

noncomputable section

open Idealize.ShloMosaic hiding ix0 ix1 ix2 ix3 eq_ix1 eq_ix2
open Idealize.ShloMosaic.ValueIdx
open Idealize.ShloMosaic.TcCoe Idealize.SL.Sem

namespace Cert.WinRefIdeal.Wgrad

open Cert.WinRefIdeal Cert.WinRefIdeal.Gen

/-- The column of the weight that is column `q` of part `g`. -/
def col (g : Fin 4) (q : Fin 1280) : Fin 5120 := ⟨g.val * 1280 + q.val, by omega⟩

/-- The gradient of `w` in `x · w`, where the weight's columns are laid out in four parts. -/
theorem value (x : FVec Ideal S4352x1024 .bf16) (y : FVec Ideal S4352x5120 .bf16) :
    transpose S4x1024x1280 [1, 0, 2] (shapeCast S1024x4x1280 (transpose S1024x5120 [1, 0] (Host.dotGeneral dot_S4352x5120_S4352x1024_S5120x1024_0_0_1_1_n_n none (extf .f32 y bitsLt_bf16_f32)
      (extf .f32 x bitsLt_bf16_f32)) transposes_S5120x1024_S1024x5120_1_0) shapeCasts_S1024x5120_S1024x4x1280) transposes_S1024x4x1280_S4x1024x1280_1_0_2
      = (fun i => Cert.Wgrad.grad x y (i 1) (col (i 0) (i 2)) : FVec Ideal S4x1024x1280 .f32) := by
  funext i
  obtain ⟨g, p, q, rfl⟩ : ∃ (g : Fin 4) (p : Fin 1024) (q : Fin 1280), i = ix3 g p q := ⟨i 0, i 1, i 2, ValueIdx.eq_ix3 i⟩
  pointwise []
  exact Finset.sum_congr rfl fun _ _ => mul_comm _ _

/-- Every run of the reference ends with both results at the gradient and the arguments as they were. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = (fun y : S4x1024x1280.Idx => Cert.Wgrad.grad (m ((c.tc : Thread nD τ).loc main_arg0)) (m ((c.tc : Thread nD τ).loc main_arg1)) (y 1) (col (y 0) (y 2)))
      ∧ r.2.mem ((c.tc : Thread nD τ).loc main_v10) = (fun y : S4x1024x1280.Idx => Cert.Wgrad.grad (m ((c.tc : Thread nD τ).loc main_arg0)) (m ((c.tc : Thread nD τ).loc main_arg1)) (y 1) (col (y 0) (y 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (value _ _), (h c).2.1.trans (value _ _), (h c).2.2⟩) (Value.run m ρ)

end Cert.WinRefIdeal.Wgrad
-- ==== Proof.lean ====
/- The claims about the calls of the backward pass, put together from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.WffRefIdeal
public import proofs.«01_k».proof.Proof.Gen.WffRefIdeal.Run
public import proofs.«01_k».proof.Proof.Gen.WdownRefIdeal
public import proofs.«01_k».proof.Proof.Gen.WdownRefIdeal.Run
public import proofs.«01_k».proof.Proof.Gen.WmixRefIdeal
public import proofs.«01_k».proof.Proof.Gen.WmixRefIdeal.Run
public import proofs.«01_k».proof.Proof.Gen.WinRefIdeal
public import proofs.«01_k».proof.Proof.Gen.WinRefIdeal.Run
public import proofs.«01_k».proof.Proof.Gen.FfnRefIdeal
public import proofs.«01_k».proof.Proof.Gen.FfnRefIdeal.Run
public import proofs.«01_k».proof.Proof.Gen.Pre_finite_ffn
public import proofs.«01_k».proof.Proof.Gen.Wff.Frame
public import proofs.«01_k».proof.Proof.Gen.WffIdeal.Frame
public import proofs.«01_k».proof.Proof.Gen.Wmix.Frame
public import proofs.«01_k».proof.Proof.Gen.WmixIdeal.Frame
public import proofs.«01_k».proof.Proof.Gen.Win.Frame
public import proofs.«01_k».proof.Proof.Gen.WinIdeal.Frame
public import proofs.«01_k».proof.Proof.Gen.Ffn.Frame
public import proofs.«01_k».proof.Proof.Gen.FfnIdeal.Frame
public import proofs.«01_k».proof.Proof.Gen.WpoolRefIdeal
public import proofs.«01_k».proof.Proof.Gen.WpoolRefIdeal.Run
public import proofs.«01_k».proof.Proof.Gen.Wpool.Frame
public import proofs.«01_k».proof.Proof.Gen.WpoolIdeal.Frame
public import proofs.«01_k».proof.Proof.Gen.InProj
public import proofs.«01_k».proof.Proof.Gen.InProjIdeal
public import proofs.«01_k».proof.Proof.Gen.InProj.Frame
public import proofs.«01_k».proof.Proof.Gen.InProjIdeal.Frame
public import proofs.«01_k».proof.Proof.Gen.InProjRefIdeal
public import proofs.«01_k».proof.Proof.Gen.InProjRefIdeal.Run
public import proofs.«01_k».proof.Proof.Gen.Pre_slots
public import proofs.«01_k».proof.Proof.Wgrad.Pool
public import proofs.«01_k».proof.Proof.Wgrad.PoolRef
public import proofs.«01_k».proof.Proof.Slabs.Admits
public import proofs.«01_k».proof.Proof.Slabs.AdmitsIdeal
public import proofs.«01_k».proof.Proof.Slabs.Ends
public import proofs.«01_k».proof.Proof.Slabs.Ref
public import proofs.«01_k».proof.Proof.Rows.Launch
public import proofs.«01_k».proof.Proof.Ffn.Ends
public import proofs.«01_k».proof.Proof.Rows.Carry
public import proofs.«01_k».proof.Proof.Rows.Ends
public import proofs.«01_k».proof.Proof.Wgrad.Ff
public import proofs.«01_k».proof.Proof.Wgrad.FfRef
public import proofs.«01_k».proof.Proof.Wgrad.Mix
public import proofs.«01_k».proof.Proof.Wgrad.MixRef
public import proofs.«01_k».proof.Proof.Wgrad.In
public import proofs.«01_k».proof.Proof.Wgrad.InRef

@[expose] public section

noncomputable section

namespace Cert.Proof

open Idealize.ShloMosaic Idealize.SL.Sem

attribute [local instance] Cert.Kernel.Gen.facts Cert.KernelIdeal.Gen.facts Cert.ReferenceIdeal.Gen.facts Cert.Wff.Gen.facts Cert.WffIdeal.Gen.facts Cert.WffRefIdeal.Gen.facts Cert.WdownRefIdeal.Gen.facts Cert.Wmix.Gen.facts Cert.WmixIdeal.Gen.facts Cert.WmixRefIdeal.Gen.facts Cert.Win.Gen.facts Cert.WinIdeal.Gen.facts Cert.WinRefIdeal.Gen.facts Cert.Ffn.Gen.facts Cert.FfnIdeal.Gen.facts Cert.FfnRefIdeal.Gen.facts Cert.Wpool.Gen.facts Cert.WpoolIdeal.Gen.facts Cert.WpoolRefIdeal.Gen.facts Cert.InProj.Gen.facts Cert.InProjIdeal.Gen.facts Cert.InProjRefIdeal.Gen.facts

theorem frame_kernel : Cert.quiescent_Kernel (hKernel := Cert.Kernel.Gen.facts) (hPre_finite := Cert.Pre_finite.Gen.facts) :=
  fun m ρ _ => Rows.Same.carry (F := Bits) (Cert.KernelIdeal.Rows.arguments_kept (F := Bits) m ρ)

theorem frame_kernelIdeal : Cert.quiescent_KernelIdeal (hKernelIdeal := Cert.KernelIdeal.Gen.facts) (hPre_finite := Cert.Pre_finite.Gen.facts) :=
  fun m ρ _ => Cert.KernelIdeal.Rows.arguments_kept m ρ

theorem frame_referenceIdeal : Cert.quiescent_ReferenceIdeal (hReferenceIdeal := Cert.ReferenceIdeal.Gen.facts) (hPre_finite := Cert.Pre_finite.Gen.facts) :=
  fun m ρ _ => (θ_run Cert.ReferenceIdeal.defs _ _).mono
    (fun r h => ⟨fun c => (h c).2.2.2.2.2.2.2.2.2.2.2, sem_eq_zero_of_no_sems (by decide) r.2⟩)
    (Cert.ReferenceIdeal.Value.run m ρ)

open Cert.KernelIdeal.Rows in
theorem algebraic : Cert.algebraic_KernelIdeal_ReferenceIdeal (hKernelIdeal := Cert.KernelIdeal.Gen.facts)
    (hReferenceIdeal := Cert.ReferenceIdeal.Gen.facts) (hPre_finite := Cert.Pre_finite.Gen.facts) := fun m ρ m' ρ' hp h => by
  have ht : ∀ c, ∃ g, TakesK m c g := fun c => Rows.takes (hp c)
  choose g hg using ht
  have p : ∀ c, Passed m c (StableHlo.launchContents m' c) := fun c =>
    ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1⟩
  exact ⟨fun c => Cert.KernelIdeal.Rows.resDyc (g c).data, fun c => Cert.KernelIdeal.Rows.resDyp (g c).data, fun c => Cert.KernelIdeal.Rows.resDzg (g c).data, fun c => Cert.KernelIdeal.Rows.resDcv (g c).data, fun c => Cert.KernelIdeal.Rows.resDmw (g c).data, fun c => Cert.KernelIdeal.Rows.resDm (g c).data, fun c => Cert.KernelIdeal.Rows.resBg (g c).data, fun c => Cert.KernelIdeal.Rows.resLg (g c).data, fun c => Cert.KernelIdeal.Rows.resLb (g c).data, fun c => Cert.KernelIdeal.Rows.resDw (g c).data, fun c => Cert.KernelIdeal.Rows.resPs (g c).data,
    kernel_ends m ρ (fun c => (g c).data) fun c => (p c).has (hg c),
    Cert.ReferenceIdeal.Rows.reference_ends m' ρ' g fun c => (p c).held (hg c)⟩

theorem frame_wff : Cert.quiescent_Wff (hWff := Cert.Wff.Gen.facts) :=
  fun m ρ _ => Cert.Wff.Gen.frame m ρ

theorem frame_wffIdeal : Cert.quiescent_WffIdeal (hWffIdeal := Cert.WffIdeal.Gen.facts) :=
  fun m ρ _ => Cert.WffIdeal.Gen.frame m ρ

theorem frame_wffRefIdeal : Cert.quiescent_WffRefIdeal (hWffRefIdeal := Cert.WffRefIdeal.Gen.facts) :=
  fun m ρ _ => (θ_run Cert.WffRefIdeal.defs _ _).mono (fun r h => ⟨fun c => (h c).2.2, sem_eq_zero_of_no_sems (by decide) r.2⟩) (Cert.WffRefIdeal.Value.run m ρ)

theorem frame_wdownRefIdeal : Cert.quiescent_WdownRefIdeal (hWdownRefIdeal := Cert.WdownRefIdeal.Gen.facts) :=
  fun m ρ _ => (θ_run Cert.WdownRefIdeal.defs _ _).mono (fun r h => ⟨fun c => (h c).2.2, sem_eq_zero_of_no_sems (by decide) r.2⟩) (Cert.WdownRefIdeal.Value.run m ρ)

theorem algebraic_wff : Cert.algebraic_WffIdeal_WffRefIdeal (hWffIdeal := Cert.WffIdeal.Gen.facts) (hWffRefIdeal := Cert.WffRefIdeal.Gen.facts) := fun m ρ m' ρ' _ h =>
  ⟨_, _, Cert.WffIdeal.Wgrad.ends m ρ, (θ_run Cert.WffRefIdeal.defs _ _).mono (fun r g c =>
    ⟨(g c).1.trans (by rw [(h c).1, (h c).2]), (g c).2.1.trans (by rw [(h c).1, (h c).2]), (g c).2.2⟩) (Cert.WffRefIdeal.Wgrad.ends m' ρ')⟩

theorem algebraic_wdown : Cert.algebraic_WffIdeal_WdownRefIdeal (hWffIdeal := Cert.WffIdeal.Gen.facts) (hWdownRefIdeal := Cert.WdownRefIdeal.Gen.facts) := fun m ρ m' ρ' _ h =>
  ⟨_, _, Cert.WffIdeal.Wgrad.ends m ρ, (θ_run Cert.WdownRefIdeal.defs _ _).mono (fun r g c =>
    ⟨(g c).1.trans (by rw [(h c).1, (h c).2]), (g c).2.1.trans (by rw [(h c).1, (h c).2]), (g c).2.2⟩) (Cert.WdownRefIdeal.Wgrad.ends m' ρ')⟩

theorem frame_wmix : Cert.quiescent_Wmix (hWmix := Cert.Wmix.Gen.facts) :=
  fun m ρ _ => Cert.Wmix.Gen.frame m ρ

theorem frame_wmixIdeal : Cert.quiescent_WmixIdeal (hWmixIdeal := Cert.WmixIdeal.Gen.facts) :=
  fun m ρ _ => Cert.WmixIdeal.Gen.frame m ρ

theorem frame_wmixRefIdeal : Cert.quiescent_WmixRefIdeal (hWmixRefIdeal := Cert.WmixRefIdeal.Gen.facts) :=
  fun m ρ _ => (θ_run Cert.WmixRefIdeal.defs _ _).mono (fun r h => ⟨fun c => (h c).2.2, sem_eq_zero_of_no_sems (by decide) r.2⟩) (Cert.WmixRefIdeal.Value.run m ρ)

theorem algebraic_wmix : Cert.algebraic_WmixIdeal_WmixRefIdeal (hWmixIdeal := Cert.WmixIdeal.Gen.facts) (hWmixRefIdeal := Cert.WmixRefIdeal.Gen.facts) := fun m ρ m' ρ' _ h =>
  ⟨_, _, Cert.WmixIdeal.Wgrad.ends m ρ, (θ_run Cert.WmixRefIdeal.defs _ _).mono (fun r g c =>
    ⟨(g c).1.trans (by rw [(h c).1, (h c).2]), (g c).2.1.trans (by rw [(h c).1, (h c).2]), (g c).2.2⟩) (Cert.WmixRefIdeal.Wgrad.ends m' ρ')⟩

theorem frame_win : Cert.quiescent_Win (hWin := Cert.Win.Gen.facts) :=
  fun m ρ _ => Cert.Win.Gen.frame m ρ

theorem frame_winIdeal : Cert.quiescent_WinIdeal (hWinIdeal := Cert.WinIdeal.Gen.facts) :=
  fun m ρ _ => Cert.WinIdeal.Gen.frame m ρ

theorem frame_winRefIdeal : Cert.quiescent_WinRefIdeal (hWinRefIdeal := Cert.WinRefIdeal.Gen.facts) :=
  fun m ρ _ => (θ_run Cert.WinRefIdeal.defs _ _).mono (fun r h => ⟨fun c => (h c).2.2, sem_eq_zero_of_no_sems (by decide) r.2⟩) (Cert.WinRefIdeal.Value.run m ρ)

theorem algebraic_win : Cert.algebraic_WinIdeal_WinRefIdeal (hWinIdeal := Cert.WinIdeal.Gen.facts) (hWinRefIdeal := Cert.WinRefIdeal.Gen.facts) := fun m ρ m' ρ' _ h =>
  ⟨_, _, Cert.WinIdeal.Wgrad.ends m ρ, (θ_run Cert.WinRefIdeal.defs _ _).mono (fun r g c =>
    ⟨(g c).1.trans (by rw [(h c).1, (h c).2.1]; rfl), (g c).2.1.trans (by rw [(h c).1, (h c).2.1]; rfl), (g c).2.2⟩) (Cert.WinRefIdeal.Wgrad.ends m' ρ')⟩

theorem frame_ffn : Cert.quiescent_Ffn (hFfn := Cert.Ffn.Gen.facts) (hPre_finite_ffn := Cert.Pre_finite_ffn.Gen.facts) :=
  fun m ρ _ => Cert.Ffn.Gen.frame m ρ

theorem frame_ffnIdeal : Cert.quiescent_FfnIdeal (hFfnIdeal := Cert.FfnIdeal.Gen.facts) (hPre_finite_ffn := Cert.Pre_finite_ffn.Gen.facts) :=
  fun m ρ _ => Cert.FfnIdeal.Gen.frame m ρ

theorem frame_ffnRefIdeal : Cert.quiescent_FfnRefIdeal (hFfnRefIdeal := Cert.FfnRefIdeal.Gen.facts) (hPre_finite_ffn := Cert.Pre_finite_ffn.Gen.facts) :=
  fun m ρ _ => (θ_run Cert.FfnRefIdeal.defs _ _).mono (fun r h => ⟨fun c => (h c).2.2.2.2.2.2.2.2.2.2, sem_eq_zero_of_no_sems (by decide) r.2⟩) (Cert.FfnRefIdeal.Value.run m ρ)

open Cert.FfnIdeal.Ffn in
theorem algebraic_ffn : Cert.algebraic_FfnIdeal_FfnRefIdeal (hFfnIdeal := Cert.FfnIdeal.Gen.facts) (hFfnRefIdeal := Cert.FfnRefIdeal.Gen.facts)
    (hPre_finite_ffn := Cert.Pre_finite_ffn.Gen.facts) := fun m ρ m' ρ' hp h => by
  have ht : ∀ c, ∃ G, TakesK m c G := fun c => Cert.Ffn.takes (hp c)
  choose G hG using ht
  have p : ∀ c, Cert.FfnRefIdeal.Ffn.Passed m c (StableHlo.launchContents m' c) := fun c =>
    ⟨(h c).1, (h c).2.1, (h c).2.2.1, (h c).2.2.2.1, (h c).2.2.2.2.1, (h c).2.2.2.2.2.1, (h c).2.2.2.2.2.2⟩
  exact ⟨fun c => rows1024 (φ := .f32) (G c).din, fun c => rows1024 (φ := .bf16) (G c).din, fun c => rows1024 (φ := .bf16) (G c).v, fun c => rows2816 (φ := .bf16) (G c).hid, fun c => rows2816 (φ := .bf16) (G c).dgate, fun c => rows2816 (φ := .bf16) (G c).dup, fun c => rows1024 (φ := .bf16) (G c).dout, fun c => oneNum (G c).loss, fun c => oneRow (G c).da, fun c => oneRow (G c).db,
    kernel_ends m ρ G hG, Cert.FfnRefIdeal.Ffn.reference_ends m' ρ' G fun c => (p c).held (hG c)⟩

theorem frame_wpool : Cert.quiescent_Wpool (hWpool := Cert.Wpool.Gen.facts) :=
  fun m ρ _ => Cert.Wpool.Gen.frame m ρ

theorem frame_wpoolIdeal : Cert.quiescent_WpoolIdeal (hWpoolIdeal := Cert.WpoolIdeal.Gen.facts) :=
  fun m ρ _ => Cert.WpoolIdeal.Gen.frame m ρ

theorem frame_wpoolRefIdeal : Cert.quiescent_WpoolRefIdeal (hWpoolRefIdeal := Cert.WpoolRefIdeal.Gen.facts) :=
  fun m ρ _ => (θ_run Cert.WpoolRefIdeal.defs _ _).mono (fun r h => ⟨fun c => (h c).2.2, sem_eq_zero_of_no_sems (by decide) r.2⟩) (Cert.WpoolRefIdeal.Value.run m ρ)

theorem algebraic_wpool : Cert.algebraic_WpoolIdeal_WpoolRefIdeal (hWpoolIdeal := Cert.WpoolIdeal.Gen.facts) (hWpoolRefIdeal := Cert.WpoolRefIdeal.Gen.facts) := fun m ρ m' ρ' _ h =>
  ⟨_, _, Cert.WpoolIdeal.Wgrad.ends m ρ, (θ_run Cert.WpoolRefIdeal.defs _ _).mono (fun r g c =>
    ⟨(g c).1.trans (by rw [(h c).1, (h c).2]; rfl), (g c).2.1.trans (by rw [(h c).1, (h c).2]; rfl), (g c).2.2⟩) (Cert.WpoolRefIdeal.Wgrad.ends m' ρ')⟩

theorem frame_inproj : Cert.quiescent_InProj (hInProj := Cert.InProj.Gen.facts) (hPre_slots := Cert.Pre_slots.Gen.facts) :=
  fun m ρ h => Cert.InProj.Gen.frame m ρ (Cert.InProj.Slabs.ok m _ _ _ _ (h 0))

theorem frame_inprojIdeal : Cert.quiescent_InProjIdeal (hInProjIdeal := Cert.InProjIdeal.Gen.facts) (hPre_slots := Cert.Pre_slots.Gen.facts) :=
  fun m ρ h => Cert.InProjIdeal.Gen.frame m ρ (Cert.InProjIdeal.Slabs.ok m _ _ _ _ (h 0))

theorem frame_inprojRefIdeal : Cert.quiescent_InProjRefIdeal (hInProjRefIdeal := Cert.InProjRefIdeal.Gen.facts) (hPre_slots := Cert.Pre_slots.Gen.facts) :=
  fun m ρ _ => (θ_run Cert.InProjRefIdeal.defs _ _).mono (fun r h => ⟨fun c => (h c).2, sem_eq_zero_of_no_sems (by decide) r.2⟩) (Cert.InProjRefIdeal.Value.run m ρ)

theorem algebraic_inproj : Cert.algebraic_InProjIdeal_InProjRefIdeal (hInProjIdeal := Cert.InProjIdeal.Gen.facts) (hInProjRefIdeal := Cert.InProjRefIdeal.Gen.facts)
    (hPre_slots := Cert.Pre_slots.Gen.facts) := fun m ρ m' ρ' hp h =>
  ⟨_, Cert.InProjIdeal.Slabs.ends m (Cert.InProjIdeal.Slabs.ok m _ _ _ _ (hp 0)) ρ, (θ_run Cert.InProjRefIdeal.defs _ _).mono (fun r g c =>
    ⟨(g c).1.trans (by rw [(h c).1, (h c).2.1, (h c).2.2.1, (h c).2.2.2.1]), (g c).2⟩) (Cert.InProjRefIdeal.Slabs.ends m' ρ')⟩

theorem claim : Cert.Claim :=
  ⟨Cert.Kernel.Gen.facts, Cert.KernelIdeal.Gen.facts, Cert.ReferenceIdeal.Gen.facts, Cert.Wff.Gen.facts, Cert.WffIdeal.Gen.facts, Cert.WffRefIdeal.Gen.facts, Cert.WdownRefIdeal.Gen.facts, Cert.Wmix.Gen.facts, Cert.WmixIdeal.Gen.facts, Cert.WmixRefIdeal.Gen.facts, Cert.Win.Gen.facts, Cert.WinIdeal.Gen.facts, Cert.WinRefIdeal.Gen.facts, Cert.Ffn.Gen.facts, Cert.FfnIdeal.Gen.facts, Cert.FfnRefIdeal.Gen.facts, Cert.Wpool.Gen.facts, Cert.WpoolIdeal.Gen.facts, Cert.WpoolRefIdeal.Gen.facts, Cert.InProj.Gen.facts, Cert.InProjIdeal.Gen.facts, Cert.InProjRefIdeal.Gen.facts, Cert.Pre_finite.Gen.facts, Cert.Pre_finite_ffn.Gen.facts, Cert.Pre_slots.Gen.facts,
    frame_kernel, frame_kernelIdeal, frame_referenceIdeal, frame_wff, frame_wffIdeal, frame_wffRefIdeal, frame_wdownRefIdeal, frame_wmix, frame_wmixIdeal, frame_wmixRefIdeal, frame_win, frame_winIdeal, frame_winRefIdeal, frame_ffn, frame_ffnIdeal, frame_ffnRefIdeal, frame_wpool, frame_wpoolIdeal, frame_wpoolRefIdeal, frame_inproj, frame_inprojIdeal, frame_inprojRefIdeal,
    trivial, algebraic, trivial, algebraic_wff, algebraic_wdown, trivial, algebraic_wmix, trivial, algebraic_win, trivial, algebraic_ffn, trivial, algebraic_wpool, trivial, algebraic_inproj⟩

end Cert.Proof
